-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutTwo (m : (ℓ : Loc Cert.OutTwo.nD Cert.OutTwo.τ Cert.OutTwo.sig) → Buf (Elt Bits) ℓ) : Prop :=
  True

def Pre_OutTwoIdeal (m : (ℓ : Loc Cert.OutTwoIdeal.nD Cert.OutTwoIdeal.τ Cert.OutTwoIdeal.sig) → Buf (Elt Ideal) ℓ) : Prop :=
  True

def Pre_OutTwoRefIdeal (m : (ℓ : Loc Cert.OutTwoRefIdeal.nD Cert.OutTwoRefIdeal.τ Cert.OutTwoRefIdeal.sig) → Buf (Elt Ideal) ℓ) : Prop :=
  True

def Pre_OutOne (m : (ℓ : Loc Cert.OutOne.nD Cert.OutOne.τ Cert.OutOne.sig) → Buf (Elt Bits) ℓ) : Prop :=
  True

def Pre_OutOneIdeal (m : (ℓ : Loc Cert.OutOneIdeal.nD Cert.OutOneIdeal.τ Cert.OutOneIdeal.sig) → Buf (Elt Ideal) ℓ) : Prop :=
  True

def Pre_OutOneRefIdeal (m : (ℓ : Loc Cert.OutOneRefIdeal.nD Cert.OutOneRefIdeal.τ Cert.OutOneRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_inputs [hPre_finite_inputs : Cert.Pre_finite_inputs.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_inputs.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite_inputs [hPre_finite_inputs : Cert.Pre_finite_inputs.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite_inputs.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3)) (m ((c.tc : Thread Cert.HgrnRefIdeal.nD Cert.HgrnRefIdeal.τ).loc Cert.HgrnRefIdeal.main_arg4)) (m ((c.tc : Thread Cert.HgrnRefIdeal.nD Cert.HgrnRefIdeal.τ).loc Cert.HgrnRefIdeal.main_arg5))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_lb_range [hPre_lb_range : Cert.Pre_lb_range.Facts] (m : (ℓ : Loc Cert.GatesIdeal.nD Cert.GatesIdeal.τ Cert.GatesIdeal.sig) → Buf (Elt Ideal) ℓ) : Prop :=
  ∀ c : Dev Cert.GatesIdeal.nD,
    (Cert.Pre_lb_range.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_lb_range [hPre_lb_range : Cert.Pre_lb_range.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_lb_range.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutTwo [hOutTwo : Cert.OutTwo.Facts] : Prop :=
  ∀ (m : (ℓ : Loc Cert.OutTwo.nD Cert.OutTwo.τ Cert.OutTwo.sig) → Buf (Elt Bits) ℓ) (g : Dev Cert.OutTwo.nD → PrngReg), Pre_OutTwo m →
    θ_run (Cert.OutTwo.defs (F := Bits)) (onTc (τ := Cert.OutTwo.τ) (Cert.OutTwo.main (F := Bits))) ⟨m, fun _ => 0, g⟩ (fun r => (∀ c : Dev Cert.OutTwo.nD,
      r.2.mem ((c.tc : Thread Cert.OutTwo.nD Cert.OutTwo.τ).loc Cert.OutTwo.main_arg0) = m ((c.tc : Thread Cert.OutTwo.nD Cert.OutTwo.τ).loc Cert.OutTwo.main_arg0)
      ∧ r.2.mem ((c.tc : Thread Cert.OutTwo.nD Cert.OutTwo.τ).loc Cert.OutTwo.main_arg1) = m ((c.tc : Thread Cert.OutTwo.nD Cert.OutTwo.τ).loc Cert.OutTwo.main_arg1)
      ∧ r.2.mem ((c.tc : Thread Cert.OutTwo.nD Cert.OutTwo.τ).loc Cert.OutTwo.main_arg2) = m ((c.tc : Thread Cert.OutTwo.nD Cert.OutTwo.τ).loc Cert.OutTwo.main_arg2)
      ∧ r.2.mem ((c.tc : Thread Cert.OutTwo.nD Cert.OutTwo.τ).loc Cert.OutTwo.main_arg3) = m ((c.tc : Thread Cert.OutTwo.nD Cert.OutTwo.τ).loc Cert.OutTwo.main_arg3))
      ∧ r.2.sem = fun _ => 0)

def quiescent_OutTwoIdeal [hOutTwoIdeal : Cert.OutTwoIdeal.Facts] : Prop :=
  ∀ (m : (ℓ : Loc Cert.OutTwoIdeal.nD Cert.OutTwoIdeal.τ Cert.OutTwoIdeal.sig) → Buf (Elt Ideal) ℓ) (g : Dev Cert.OutTwoIdeal.nD → PrngReg), Pre_OutTwoIdeal m →
    θ_run (Cert.OutTwoIdeal.defs (F := Ideal)) (onTc (τ := Cert.OutTwoIdeal.τ) (Cert.OutTwoIdeal.main (F := Ideal))) ⟨m, fun _ => 0, g⟩ (fun r => (∀ c : Dev Cert.OutTwoIdeal.nD,
      r.2.mem ((c.tc : Thread Cert.OutTwoIdeal.nD Cert.OutTwoIdeal.τ).loc Cert.OutTwoIdeal.main_arg0) = m ((c.tc : Thread Cert.OutTwoIdeal.nD Cert.OutTwoIdeal.τ).loc Cert.OutTwoIdeal.main_arg0)
      ∧ r.2.mem ((c.tc : Thread Cert.OutTwoIdeal.nD Cert.OutTwoIdeal.τ).loc Cert.OutTwoIdeal.main_arg1) = m ((c.tc : Thread Cert.OutTwoIdeal.nD Cert.OutTwoIdeal.τ).loc Cert.OutTwoIdeal.main_arg1)
      ∧ r.2.mem ((c.tc : Thread Cert.OutTwoIdeal.nD Cert.OutTwoIdeal.τ).loc Cert.OutTwoIdeal.main_arg2) = m ((c.tc : Thread Cert.OutTwoIdeal.nD Cert.OutTwoIdeal.τ).loc Cert.OutTwoIdeal.main_arg2)
      ∧ r.2.mem ((c.tc : Thread Cert.OutTwoIdeal.nD Cert.OutTwoIdeal.τ).loc Cert.OutTwoIdeal.main_arg3) = m ((c.tc : Thread Cert.OutTwoIdeal.nD Cert.OutTwoIdeal.τ).loc Cert.OutTwoIdeal.main_arg3))
      ∧ r.2.sem = fun _ => 0)

def quiescent_OutTwoRefIdeal [hOutTwoRefIdeal : Cert.OutTwoRefIdeal.Facts] : Prop :=
  ∀ (m : (ℓ : Loc Cert.OutTwoRefIdeal.nD Cert.OutTwoRefIdeal.τ Cert.OutTwoRefIdeal.sig) → Buf (Elt Ideal) ℓ) (g : Dev Cert.OutTwoRefIdeal.nD → PrngReg), Pre_OutTwoRefIdeal m →
    θ_run (Cert.OutTwoRefIdeal.defs (F := Ideal)) (onTc (τ := Cert.OutTwoRefIdeal.τ) (Cert.OutTwoRefIdeal.main (F := Ideal))) ⟨m, fun _ => 0, g⟩ (fun r => (∀ c : Dev Cert.OutTwoRefIdeal.nD,
      r.2.mem ((c.tc : Thread Cert.OutTwoRefIdeal.nD Cert.OutTwoRefIdeal.τ).loc Cert.OutTwoRefIdeal.main_arg0) = m ((c.tc : Thread Cert.OutTwoRefIdeal.nD Cert.OutTwoRefIdeal.τ).loc Cert.OutTwoRefIdeal.main_arg0)
      ∧ r.2.mem ((c.tc : Thread Cert.OutTwoRefIdeal.nD Cert.OutTwoRefIdeal.τ).loc Cert.OutTwoRefIdeal.main_arg1) = m ((c.tc : Thread Cert.OutTwoRefIdeal.nD Cert.OutTwoRefIdeal.τ).loc Cert.OutTwoRefIdeal.main_arg1)
      ∧ r.2.mem ((c.tc : Thread Cert.OutTwoRefIdeal.nD Cert.OutTwoRefIdeal.τ).loc Cert.OutTwoRefIdeal.main_arg2) = m ((c.tc : Thread Cert.OutTwoRefIdeal.nD Cert.OutTwoRefIdeal.τ).loc Cert.OutTwoRefIdeal.main_arg2)
      ∧ r.2.mem ((c.tc : Thread Cert.OutTwoRefIdeal.nD Cert.OutTwoRefIdeal.τ).loc Cert.OutTwoRefIdeal.main_arg3) = m ((c.tc : Thread Cert.OutTwoRefIdeal.nD Cert.OutTwoRefIdeal.τ).loc Cert.OutTwoRefIdeal.main_arg3))
      ∧ r.2.sem = fun _ => 0)

def quiescent_OutOne [hOutOne : Cert.OutOne.Facts] : Prop :=
  ∀ (m : (ℓ : Loc Cert.OutOne.nD Cert.OutOne.τ Cert.OutOne.sig) → Buf (Elt Bits) ℓ) (g : Dev Cert.OutOne.nD → PrngReg), Pre_OutOne m →
    θ_run (Cert.OutOne.defs (F := Bits)) (onTc (τ := Cert.OutOne.τ) (Cert.OutOne.main (F := Bits))) ⟨m, fun _ => 0, g⟩ (fun r => (∀ c : Dev Cert.OutOne.nD,
      r.2.mem ((c.tc : Thread Cert.OutOne.nD Cert.OutOne.τ).loc Cert.OutOne.main_arg0) = m ((c.tc : Thread Cert.OutOne.nD Cert.OutOne.τ).loc Cert.OutOne.main_arg0)
      ∧ r.2.mem ((c.tc : Thread Cert.OutOne.nD Cert.OutOne.τ).loc Cert.OutOne.main_arg1) = m ((c.tc : Thread Cert.OutOne.nD Cert.OutOne.τ).loc Cert.OutOne.main_arg1)
      ∧ r.2.mem ((c.tc : Thread Cert.OutOne.nD Cert.OutOne.τ).loc Cert.OutOne.main_arg2) = m ((c.tc : Thread Cert.OutOne.nD Cert.OutOne.τ).loc Cert.OutOne.main_arg2))
      ∧ r.2.sem = fun _ => 0)

def quiescent_OutOneIdeal [hOutOneIdeal : Cert.OutOneIdeal.Facts] : Prop :=
  ∀ (m : (ℓ : Loc Cert.OutOneIdeal.nD Cert.OutOneIdeal.τ Cert.OutOneIdeal.sig) → Buf (Elt Ideal) ℓ) (g : Dev Cert.OutOneIdeal.nD → PrngReg), Pre_OutOneIdeal m →
    θ_run (Cert.OutOneIdeal.defs (F := Ideal)) (onTc (τ := Cert.OutOneIdeal.τ) (Cert.OutOneIdeal.main (F := Ideal))) ⟨m, fun _ => 0, g⟩ (fun r => (∀ c : Dev Cert.OutOneIdeal.nD,
      r.2.mem ((c.tc : Thread Cert.OutOneIdeal.nD Cert.OutOneIdeal.τ).loc Cert.OutOneIdeal.main_arg0) = m ((c.tc : Thread Cert.OutOneIdeal.nD Cert.OutOneIdeal.τ).loc Cert.OutOneIdeal.main_arg0)
      ∧ r.2.mem ((c.tc : Thread Cert.OutOneIdeal.nD Cert.OutOneIdeal.τ).loc Cert.OutOneIdeal.main_arg1) = m ((c.tc : Thread Cert.OutOneIdeal.nD Cert.OutOneIdeal.τ).loc Cert.OutOneIdeal.main_arg1)
      ∧ r.2.mem ((c.tc : Thread Cert.OutOneIdeal.nD Cert.OutOneIdeal.τ).loc Cert.OutOneIdeal.main_arg2) = m ((c.tc : Thread Cert.OutOneIdeal.nD Cert.OutOneIdeal.τ).loc Cert.OutOneIdeal.main_arg2))
      ∧ r.2.sem = fun _ => 0)

def quiescent_OutOneRefIdeal [hOutOneRefIdeal : Cert.OutOneRefIdeal.Facts] : Prop :=
  ∀ (m : (ℓ : Loc Cert.OutOneRefIdeal.nD Cert.OutOneRefIdeal.τ Cert.OutOneRefIdeal.sig) → Buf (Elt Ideal) ℓ) (g : Dev Cert.OutOneRefIdeal.nD → PrngReg), Pre_OutOneRefIdeal m →
    θ_run (Cert.OutOneRefIdeal.defs (F := Ideal)) (onTc (τ := Cert.OutOneRefIdeal.τ) (Cert.OutOneRefIdeal.main (F := Ideal))) ⟨m, fun _ => 0, g⟩ (fun r => (∀ c : Dev Cert.OutOneRefIdeal.nD,
      r.2.mem ((c.tc : Thread Cert.OutOneRefIdeal.nD Cert.OutOneRefIdeal.τ).loc Cert.OutOneRefIdeal.main_arg0) = m ((c.tc : Thread Cert.OutOneRefIdeal.nD Cert.OutOneRefIdeal.τ).loc Cert.OutOneRefIdeal.main_arg0)
      ∧ r.2.mem ((c.tc : Thread Cert.OutOneRefIdeal.nD Cert.OutOneRefIdeal.τ).loc Cert.OutOneRefIdeal.main_arg1) = m ((c.tc : Thread Cert.OutOneRefIdeal.nD Cert.OutOneRefIdeal.τ).loc Cert.OutOneRefIdeal.main_arg1)
      ∧ r.2.mem ((c.tc : Thread Cert.OutOneRefIdeal.nD Cert.OutOneRefIdeal.τ).loc Cert.OutOneRefIdeal.main_arg2) = m ((c.tc : Thread Cert.OutOneRefIdeal.nD Cert.OutOneRefIdeal.τ).loc Cert.OutOneRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_HgrnIdeal_pre_finite_inputs [hHgrnIdeal : Cert.HgrnIdeal.Facts] [hPre_finite_inputs : Cert.Pre_finite_inputs.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_inputs m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5))
      ∧ r.2.sem = fun _ => 0)

def quiescent_HgrnRefIdeal_pre_finite_inputs [hHgrnRefIdeal : Cert.HgrnRefIdeal.Facts] [hPre_finite_inputs : Cert.Pre_finite_inputs.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite_inputs m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesIdeal_pre_lb_range [hGatesIdeal : Cert.GatesIdeal.Facts] [hPre_lb_range : Cert.Pre_lb_range.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_lb_range m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_GatesRefIdeal_pre_lb_range [hGatesRefIdeal : Cert.GatesRefIdeal.Facts] [hPre_lb_range : Cert.Pre_lb_range.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_lb_range m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutTwo_OutTwoIdeal : Prop :=
  True

def algebraic_OutTwoIdeal_OutTwoRefIdeal [hOutTwoIdeal : Cert.OutTwoIdeal.Facts] [hOutTwoRefIdeal : Cert.OutTwoRefIdeal.Facts] : Prop :=
  ∀ (m : (ℓ : Loc Cert.OutTwoIdeal.nD Cert.OutTwoIdeal.τ Cert.OutTwoIdeal.sig) → Buf (Elt Ideal) ℓ) (g : Dev Cert.OutTwoIdeal.nD → PrngReg)
    (m' : (ℓ : Loc Cert.OutTwoRefIdeal.nD Cert.OutTwoRefIdeal.τ Cert.OutTwoRefIdeal.sig) → Buf (Elt Ideal) ℓ) (g' : Dev Cert.OutTwoRefIdeal.nD → PrngReg), Pre_OutTwoIdeal m →
    (∀ c : Dev Cert.OutTwoIdeal.nD,
      m' ((c.tc : Thread Cert.OutTwoRefIdeal.nD Cert.OutTwoRefIdeal.τ).loc Cert.OutTwoRefIdeal.main_arg0) = m ((c.tc : Thread Cert.OutTwoIdeal.nD Cert.OutTwoIdeal.τ).loc Cert.OutTwoIdeal.main_arg0)
      ∧ m' ((c.tc : Thread Cert.OutTwoRefIdeal.nD Cert.OutTwoRefIdeal.τ).loc Cert.OutTwoRefIdeal.main_arg1) = m ((c.tc : Thread Cert.OutTwoIdeal.nD Cert.OutTwoIdeal.τ).loc Cert.OutTwoIdeal.main_arg1)
      ∧ m' ((c.tc : Thread Cert.OutTwoRefIdeal.nD Cert.OutTwoRefIdeal.τ).loc Cert.OutTwoRefIdeal.main_arg2) = m ((c.tc : Thread Cert.OutTwoIdeal.nD Cert.OutTwoIdeal.τ).loc Cert.OutTwoIdeal.main_arg2)
      ∧ m' ((c.tc : Thread Cert.OutTwoRefIdeal.nD Cert.OutTwoRefIdeal.τ).loc Cert.OutTwoRefIdeal.main_arg3) = m ((c.tc : Thread Cert.OutTwoIdeal.nD Cert.OutTwoIdeal.τ).loc Cert.OutTwoIdeal.main_arg3)) →
    ∃ (v0 : (c : Dev Cert.OutTwoIdeal.nD) → Buf (Elt Ideal) ((c.tc : Thread Cert.OutTwoIdeal.nD Cert.OutTwoIdeal.τ).loc Cert.OutTwoIdeal.main_v3)),
      θ_run (Cert.OutTwoIdeal.defs (F := Ideal)) (onTc (τ := Cert.OutTwoIdeal.τ) (Cert.OutTwoIdeal.main (F := Ideal))) ⟨m, fun _ => 0, g⟩ (fun r => ∀ c : Dev Cert.OutTwoIdeal.nD,
          r.2.mem ((c.tc : Thread Cert.OutTwoIdeal.nD Cert.OutTwoIdeal.τ).loc Cert.OutTwoIdeal.main_v3) = v0 c
          ∧ r.2.mem ((c.tc : Thread Cert.OutTwoIdeal.nD Cert.OutTwoIdeal.τ).loc Cert.OutTwoIdeal.main_arg0) = m ((c.tc : Thread Cert.OutTwoIdeal.nD Cert.OutTwoIdeal.τ).loc Cert.OutTwoIdeal.main_arg0)
          ∧ r.2.mem ((c.tc : Thread Cert.OutTwoIdeal.nD Cert.OutTwoIdeal.τ).loc Cert.OutTwoIdeal.main_arg1) = m ((c.tc : Thread Cert.OutTwoIdeal.nD Cert.OutTwoIdeal.τ).loc Cert.OutTwoIdeal.main_arg1)
          ∧ r.2.mem ((c.tc : Thread Cert.OutTwoIdeal.nD Cert.OutTwoIdeal.τ).loc Cert.OutTwoIdeal.main_arg2) = m ((c.tc : Thread Cert.OutTwoIdeal.nD Cert.OutTwoIdeal.τ).loc Cert.OutTwoIdeal.main_arg2)
          ∧ r.2.mem ((c.tc : Thread Cert.OutTwoIdeal.nD Cert.OutTwoIdeal.τ).loc Cert.OutTwoIdeal.main_arg3) = m ((c.tc : Thread Cert.OutTwoIdeal.nD Cert.OutTwoIdeal.τ).loc Cert.OutTwoIdeal.main_arg3))
      ∧ θ_run (Cert.OutTwoRefIdeal.defs (F := Ideal)) (onTc (τ := Cert.OutTwoRefIdeal.τ) (Cert.OutTwoRefIdeal.main (F := Ideal))) ⟨m', fun _ => 0, g'⟩ (fun r => ∀ c : Dev Cert.OutTwoRefIdeal.nD,
          r.2.mem ((c.tc : Thread Cert.OutTwoRefIdeal.nD Cert.OutTwoRefIdeal.τ).loc Cert.OutTwoRefIdeal.main_v6) = v0 c
          ∧ r.2.mem ((c.tc : Thread Cert.OutTwoRefIdeal.nD Cert.OutTwoRefIdeal.τ).loc Cert.OutTwoRefIdeal.main_arg0) = m' ((c.tc : Thread Cert.OutTwoRefIdeal.nD Cert.OutTwoRefIdeal.τ).loc Cert.OutTwoRefIdeal.main_arg0)
          ∧ r.2.mem ((c.tc : Thread Cert.OutTwoRefIdeal.nD Cert.OutTwoRefIdeal.τ).loc Cert.OutTwoRefIdeal.main_arg1) = m' ((c.tc : Thread Cert.OutTwoRefIdeal.nD Cert.OutTwoRefIdeal.τ).loc Cert.OutTwoRefIdeal.main_arg1)
          ∧ r.2.mem ((c.tc : Thread Cert.OutTwoRefIdeal.nD Cert.OutTwoRefIdeal.τ).loc Cert.OutTwoRefIdeal.main_arg2) = m' ((c.tc : Thread Cert.OutTwoRefIdeal.nD Cert.OutTwoRefIdeal.τ).loc Cert.OutTwoRefIdeal.main_arg2)
          ∧ r.2.mem ((c.tc : Thread Cert.OutTwoRefIdeal.nD Cert.OutTwoRefIdeal.τ).loc Cert.OutTwoRefIdeal.main_arg3) = m' ((c.tc : Thread Cert.OutTwoRefIdeal.nD Cert.OutTwoRefIdeal.τ).loc Cert.OutTwoRefIdeal.main_arg3))

def preserves_OutOne_OutOneIdeal : Prop :=
  True

def algebraic_OutOneIdeal_OutOneRefIdeal [hOutOneIdeal : Cert.OutOneIdeal.Facts] [hOutOneRefIdeal : Cert.OutOneRefIdeal.Facts] : Prop :=
  ∀ (m : (ℓ : Loc Cert.OutOneIdeal.nD Cert.OutOneIdeal.τ Cert.OutOneIdeal.sig) → Buf (Elt Ideal) ℓ) (g : Dev Cert.OutOneIdeal.nD → PrngReg)
    (m' : (ℓ : Loc Cert.OutOneRefIdeal.nD Cert.OutOneRefIdeal.τ Cert.OutOneRefIdeal.sig) → Buf (Elt Ideal) ℓ) (g' : Dev Cert.OutOneRefIdeal.nD → PrngReg), Pre_OutOneIdeal m →
    (∀ c : Dev Cert.OutOneIdeal.nD,
      m' ((c.tc : Thread Cert.OutOneRefIdeal.nD Cert.OutOneRefIdeal.τ).loc Cert.OutOneRefIdeal.main_arg0) = m ((c.tc : Thread Cert.OutOneIdeal.nD Cert.OutOneIdeal.τ).loc Cert.OutOneIdeal.main_arg0)
      ∧ m' ((c.tc : Thread Cert.OutOneRefIdeal.nD Cert.OutOneRefIdeal.τ).loc Cert.OutOneRefIdeal.main_arg1) = m ((c.tc : Thread Cert.OutOneIdeal.nD Cert.OutOneIdeal.τ).loc Cert.OutOneIdeal.main_arg1)
      ∧ m' ((c.tc : Thread Cert.OutOneRefIdeal.nD Cert.OutOneRefIdeal.τ).loc Cert.OutOneRefIdeal.main_arg2) = m ((c.tc : Thread Cert.OutOneIdeal.nD Cert.OutOneIdeal.τ).loc Cert.OutOneIdeal.main_arg2)) →
    ∃ (v0 : (c : Dev Cert.OutOneIdeal.nD) → Buf (Elt Ideal) ((c.tc : Thread Cert.OutOneIdeal.nD Cert.OutOneIdeal.τ).loc Cert.OutOneIdeal.main_v2)),
      θ_run (Cert.OutOneIdeal.defs (F := Ideal)) (onTc (τ := Cert.OutOneIdeal.τ) (Cert.OutOneIdeal.main (F := Ideal))) ⟨m, fun _ => 0, g⟩ (fun r => ∀ c : Dev Cert.OutOneIdeal.nD,
          r.2.mem ((c.tc : Thread Cert.OutOneIdeal.nD Cert.OutOneIdeal.τ).loc Cert.OutOneIdeal.main_v2) = v0 c
          ∧ r.2.mem ((c.tc : Thread Cert.OutOneIdeal.nD Cert.OutOneIdeal.τ).loc Cert.OutOneIdeal.main_arg0) = m ((c.tc : Thread Cert.OutOneIdeal.nD Cert.OutOneIdeal.τ).loc Cert.OutOneIdeal.main_arg0)
          ∧ r.2.mem ((c.tc : Thread Cert.OutOneIdeal.nD Cert.OutOneIdeal.τ).loc Cert.OutOneIdeal.main_arg1) = m ((c.tc : Thread Cert.OutOneIdeal.nD Cert.OutOneIdeal.τ).loc Cert.OutOneIdeal.main_arg1)
          ∧ r.2.mem ((c.tc : Thread Cert.OutOneIdeal.nD Cert.OutOneIdeal.τ).loc Cert.OutOneIdeal.main_arg2) = m ((c.tc : Thread Cert.OutOneIdeal.nD Cert.OutOneIdeal.τ).loc Cert.OutOneIdeal.main_arg2))
      ∧ θ_run (Cert.OutOneRefIdeal.defs (F := Ideal)) (onTc (τ := Cert.OutOneRefIdeal.τ) (Cert.OutOneRefIdeal.main (F := Ideal))) ⟨m', fun _ => 0, g'⟩ (fun r => ∀ c : Dev Cert.OutOneRefIdeal.nD,
          r.2.mem ((c.tc : Thread Cert.OutOneRefIdeal.nD Cert.OutOneRefIdeal.τ).loc Cert.OutOneRefIdeal.main_v4) = v0 c
          ∧ r.2.mem ((c.tc : Thread Cert.OutOneRefIdeal.nD Cert.OutOneRefIdeal.τ).loc Cert.OutOneRefIdeal.main_arg0) = m' ((c.tc : Thread Cert.OutOneRefIdeal.nD Cert.OutOneRefIdeal.τ).loc Cert.OutOneRefIdeal.main_arg0)
          ∧ r.2.mem ((c.tc : Thread Cert.OutOneRefIdeal.nD Cert.OutOneRefIdeal.τ).loc Cert.OutOneRefIdeal.main_arg1) = m' ((c.tc : Thread Cert.OutOneRefIdeal.nD Cert.OutOneRefIdeal.τ).loc Cert.OutOneRefIdeal.main_arg1)
          ∧ r.2.mem ((c.tc : Thread Cert.OutOneRefIdeal.nD Cert.OutOneRefIdeal.τ).loc Cert.OutOneRefIdeal.main_arg2) = m' ((c.tc : Thread Cert.OutOneRefIdeal.nD Cert.OutOneRefIdeal.τ).loc Cert.OutOneRefIdeal.main_arg2))

def preserves_Hgrn_HgrnIdeal : Prop :=
  IdealRules.named_const.Statement Cert.HgrnIdeal.κ "log2e" .f32 0x3FB8AA3B#32 (((Real.log 2)⁻¹ : ℝ) : EReal)

def algebraic_HgrnIdeal_HgrnRefIdeal_pre_finite_inputs [hHgrnIdeal : Cert.HgrnIdeal.Facts] [hHgrnRefIdeal : Cert.HgrnRefIdeal.Facts] [hPre_finite_inputs : Cert.Pre_finite_inputs.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite_inputs m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)
      ∧ m' ((c.tc : Thread Cert.HgrnRefIdeal.nD Cert.HgrnRefIdeal.τ).loc Cert.HgrnRefIdeal.main_arg4) = m ((c.tc : Thread Cert.HgrnIdeal.nD Cert.HgrnIdeal.τ).loc Cert.HgrnIdeal.main_arg4)
      ∧ m' ((c.tc : Thread Cert.HgrnRefIdeal.nD Cert.HgrnRefIdeal.τ).loc Cert.HgrnRefIdeal.main_arg5) = m ((c.tc : Thread Cert.HgrnIdeal.nD Cert.HgrnIdeal.τ).loc Cert.HgrnIdeal.main_arg5)) →
    ∃ (v0 : (c : Dev Cert.HgrnIdeal.nD) → Buf (Elt Ideal) ((c.tc : Thread Cert.HgrnIdeal.nD Cert.HgrnIdeal.τ).loc Cert.HgrnIdeal.main_v1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v1) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
          ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
          ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v36) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3)
          ∧ r.2.mem ((c.tc : Thread Cert.HgrnRefIdeal.nD Cert.HgrnRefIdeal.τ).loc Cert.HgrnRefIdeal.main_arg4) = m' ((c.tc : Thread Cert.HgrnRefIdeal.nD Cert.HgrnRefIdeal.τ).loc Cert.HgrnRefIdeal.main_arg4)
          ∧ r.2.mem ((c.tc : Thread Cert.HgrnRefIdeal.nD Cert.HgrnRefIdeal.τ).loc Cert.HgrnRefIdeal.main_arg5) = m' ((c.tc : Thread Cert.HgrnRefIdeal.nD Cert.HgrnRefIdeal.τ).loc Cert.HgrnRefIdeal.main_arg5))

def preserves_Gates_GatesIdeal : Prop :=
  True

def algebraic_GatesIdeal_GatesRefIdeal_pre_lb_range [hGatesIdeal : Cert.GatesIdeal.Facts] [hGatesRefIdeal : Cert.GatesRefIdeal.Facts] [hPre_lb_range : Cert.Pre_lb_range.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_lb_range m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v4_0)) (v1 : (c : Dev Cert.GatesIdeal.nD) → Buf (Elt Ideal) ((c.tc : Thread Cert.GatesIdeal.nD Cert.GatesIdeal.τ).loc Cert.GatesIdeal.main_v4_1)) (v2 : (c : Dev Cert.GatesIdeal.nD) → Buf (Elt Ideal) ((c.tc : Thread Cert.GatesIdeal.nD Cert.GatesIdeal.τ).loc Cert.GatesIdeal.main_v4_2)) (v3 : (c : Dev Cert.GatesIdeal.nD) → Buf (Elt Ideal) ((c.tc : Thread Cert.GatesIdeal.nD Cert.GatesIdeal.τ).loc Cert.GatesIdeal.main_v4_3)) (v4 : (c : Dev Cert.GatesIdeal.nD) → Buf (Elt Ideal) ((c.tc : Thread Cert.GatesIdeal.nD Cert.GatesIdeal.τ).loc Cert.GatesIdeal.main_v4_4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4_0) = v0 c
          ∧ r.2.mem ((c.tc : Thread Cert.GatesIdeal.nD Cert.GatesIdeal.τ).loc Cert.GatesIdeal.main_v4_1) = v1 c
          ∧ r.2.mem ((c.tc : Thread Cert.GatesIdeal.nD Cert.GatesIdeal.τ).loc Cert.GatesIdeal.main_v4_2) = v2 c
          ∧ r.2.mem ((c.tc : Thread Cert.GatesIdeal.nD Cert.GatesIdeal.τ).loc Cert.GatesIdeal.main_v4_3) = v3 c
          ∧ r.2.mem ((c.tc : Thread Cert.GatesIdeal.nD Cert.GatesIdeal.τ).loc Cert.GatesIdeal.main_v4_4) = v4 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v56) = v0 c
          ∧ r.2.mem ((c.tc : Thread Cert.GatesRefIdeal.nD Cert.GatesRefIdeal.τ).loc Cert.GatesRefIdeal.main_v58) = v1 c
          ∧ r.2.mem ((c.tc : Thread Cert.GatesRefIdeal.nD Cert.GatesRefIdeal.τ).loc Cert.GatesRefIdeal.main_v59) = v2 c
          ∧ r.2.mem ((c.tc : Thread Cert.GatesRefIdeal.nD Cert.GatesRefIdeal.τ).loc Cert.GatesRefIdeal.main_v61) = v3 c
          ∧ r.2.mem ((c.tc : Thread Cert.GatesRefIdeal.nD Cert.GatesRefIdeal.τ).loc Cert.GatesRefIdeal.main_v64) = v4 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)) →
    ∃ (v0 : (c : Dev Cert.ConvIdeal.nD) → Buf (Elt Ideal) ((c.tc : Thread Cert.ConvIdeal.nD Cert.ConvIdeal.τ).loc Cert.ConvIdeal.main_v6_0)) (v1 : (c : Dev Cert.ConvIdeal.nD) → Buf (Elt Ideal) ((c.tc : Thread Cert.ConvIdeal.nD Cert.ConvIdeal.τ).loc Cert.ConvIdeal.main_v6_1)) (v2 : (c : Dev Cert.ConvIdeal.nD) → Buf (Elt Ideal) ((c.tc : Thread Cert.ConvIdeal.nD Cert.ConvIdeal.τ).loc Cert.ConvIdeal.main_v6_2)) (v3 : (c : Dev Cert.ConvIdeal.nD) → Buf (Elt Ideal) ((c.tc : Thread Cert.ConvIdeal.nD Cert.ConvIdeal.τ).loc Cert.ConvIdeal.main_v6_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6_0) = v0 c
          ∧ r.2.mem ((c.tc : Thread Cert.ConvIdeal.nD Cert.ConvIdeal.τ).loc Cert.ConvIdeal.main_v6_1) = v1 c
          ∧ r.2.mem ((c.tc : Thread Cert.ConvIdeal.nD Cert.ConvIdeal.τ).loc Cert.ConvIdeal.main_v6_2) = v2 c
          ∧ r.2.mem ((c.tc : Thread Cert.ConvIdeal.nD Cert.ConvIdeal.τ).loc Cert.ConvIdeal.main_v6_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v256) = v0 c
          ∧ r.2.mem ((c.tc : Thread Cert.ConvRefIdeal.nD Cert.ConvRefIdeal.τ).loc Cert.ConvRefIdeal.main_v259) = v1 c
          ∧ r.2.mem ((c.tc : Thread Cert.ConvRefIdeal.nD Cert.ConvRefIdeal.τ).loc Cert.ConvRefIdeal.main_v262) = v2 c
          ∧ r.2.mem ((c.tc : Thread Cert.ConvRefIdeal.nD Cert.ConvRefIdeal.τ).loc Cert.ConvRefIdeal.main_v264) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7))

def Claim : Prop :=
  ∃ (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutTwo : Cert.OutTwo.Facts) (hOutTwoIdeal : Cert.OutTwoIdeal.Facts) (hOutTwoRefIdeal : Cert.OutTwoRefIdeal.Facts) (hOutOne : Cert.OutOne.Facts) (hOutOneIdeal : Cert.OutOneIdeal.Facts) (hOutOneRefIdeal : Cert.OutOneRefIdeal.Facts) (hHgrn : Cert.Hgrn.Facts) (hHgrnIdeal : Cert.HgrnIdeal.Facts) (hHgrnRefIdeal : Cert.HgrnRefIdeal.Facts) (hGates : Cert.Gates.Facts) (hGatesIdeal : Cert.GatesIdeal.Facts) (hGatesRefIdeal : Cert.GatesRefIdeal.Facts) (hConv : Cert.Conv.Facts) (hConvIdeal : Cert.ConvIdeal.Facts) (hConvRefIdeal : Cert.ConvRefIdeal.Facts) (hPre_finite_inputs : Cert.Pre_finite_inputs.Facts) (hPre_lb_range : Cert.Pre_lb_range.Facts),
    quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutTwo (hOutTwo := hOutTwo)
    ∧ quiescent_OutTwoIdeal (hOutTwoIdeal := hOutTwoIdeal)
    ∧ quiescent_OutTwoRefIdeal (hOutTwoRefIdeal := hOutTwoRefIdeal)
    ∧ quiescent_OutOne (hOutOne := hOutOne)
    ∧ quiescent_OutOneIdeal (hOutOneIdeal := hOutOneIdeal)
    ∧ quiescent_OutOneRefIdeal (hOutOneRefIdeal := hOutOneRefIdeal)
    ∧ quiescent_Hgrn (hHgrn := hHgrn)
    ∧ quiescent_HgrnIdeal (hHgrnIdeal := hHgrnIdeal)
    ∧ quiescent_HgrnIdeal_pre_finite_inputs (hHgrnIdeal := hHgrnIdeal) (hPre_finite_inputs := hPre_finite_inputs)
    ∧ quiescent_HgrnRefIdeal (hHgrnRefIdeal := hHgrnRefIdeal)
    ∧ quiescent_HgrnRefIdeal_pre_finite_inputs (hHgrnRefIdeal := hHgrnRefIdeal) (hPre_finite_inputs := hPre_finite_inputs)
    ∧ quiescent_Gates (hGates := hGates)
    ∧ quiescent_GatesIdeal (hGatesIdeal := hGatesIdeal)
    ∧ quiescent_GatesIdeal_pre_lb_range (hGatesIdeal := hGatesIdeal) (hPre_lb_range := hPre_lb_range)
    ∧ quiescent_GatesRefIdeal (hGatesRefIdeal := hGatesRefIdeal)
    ∧ quiescent_GatesRefIdeal_pre_lb_range (hGatesRefIdeal := hGatesRefIdeal) (hPre_lb_range := hPre_lb_range)
    ∧ quiescent_Conv (hConv := hConv)
    ∧ quiescent_ConvIdeal (hConvIdeal := hConvIdeal)
    ∧ quiescent_ConvRefIdeal (hConvRefIdeal := hConvRefIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutTwo_OutTwoIdeal
    ∧ algebraic_OutTwoIdeal_OutTwoRefIdeal (hOutTwoIdeal := hOutTwoIdeal) (hOutTwoRefIdeal := hOutTwoRefIdeal)
    ∧ preserves_OutOne_OutOneIdeal
    ∧ algebraic_OutOneIdeal_OutOneRefIdeal (hOutOneIdeal := hOutOneIdeal) (hOutOneRefIdeal := hOutOneRefIdeal)
    ∧ preserves_Hgrn_HgrnIdeal
    ∧ algebraic_HgrnIdeal_HgrnRefIdeal_pre_finite_inputs (hHgrnIdeal := hHgrnIdeal) (hHgrnRefIdeal := hHgrnRefIdeal) (hPre_finite_inputs := hPre_finite_inputs)
    ∧ preserves_Gates_GatesIdeal
    ∧ algebraic_GatesIdeal_GatesRefIdeal_pre_lb_range (hGatesIdeal := hGatesIdeal) (hGatesRefIdeal := hGatesRefIdeal) (hPre_lb_range := hPre_lb_range)
    ∧ preserves_Conv_ConvIdeal
    ∧ algebraic_ConvIdeal_ConvRefIdeal (hConvIdeal := hConvIdeal) (hConvRefIdeal := hConvRefIdeal)
-- ==== Pre_finite_inputs.lean ====
abbrev S4x4096x2048 : Shape := ⟨3, ![4, 4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel

variable [Facts]

def fn_part1 {F : FTy → Type} [FloatOps F] (main_v15 : IVec S_ 1) (main_v17 : FVec F S4x4096x2048 .f32) : IVec S_ 1 :=
  let main_cst_4 : FVec F S_ .f32 := constant S_ .f32 0x7F800000#32
  let main_v18 : FVec F S4x4096x2048 .f32 := broadcastInDim S4x4096x2048 ![] bcast_S_S4x4096x2048 main_cst_4
  let main_v19 : IVec S4x4096x2048 1 := cmpf .olt main_v17 main_v18
  let main_c_5 : IVec S_ 1 := constantI S_ 1 1#1
  let main_v20 : IVec S_ 1 := (fun x v => Host.reduce IntOp.andi x v reducesTo_S4x4096x2048_S_d0_1_2 h_S_) main_v19 main_c_5
  let main_v21 : IVec S_ 1 := andi main_v15 main_v20
  main_v21

def fn {F : FTy → Type} [FloatOps F] (main_arg0 : FVec F S4x4096x2048 .bf16) (main_arg1 : FVec F S4x4096x2048 .bf16) (main_arg2 : FVec F S4x4096x2048 .f32) (main_arg3 : FVec F S4x4096x2048 .bf16) (main_arg4 : FVec F S4x4096x2048 .bf16) (main_arg5 : FVec F S1x2048 .f32) : IVec S_ 1 :=
  let main_v0 : FVec F S4x4096x2048 .f32 := (extf .f32 · bitsLt_bf16_f32) main_arg0
  let main_v1 : FVec F S4x4096x2048 .f32 := Host.absf main_v0
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v1 main_v2
  let main_c : IVec S_ 1 := constantI S_ 1 1#1
  let main_v4 : IVec S_ 1 := (fun x v => Host.reduce IntOp.andi x v reducesTo_S4x4096x2048_S_d0_1_2 h_S_) main_v3 main_c
  let main_v5 : FVec F S4x4096x2048 .f32 := (extf .f32 · bitsLt_bf16_f32) main_arg1
  let main_v6 : FVec F S4x4096x2048 .f32 := Host.absf main_v5
  let main_cst_0 : FVec F S_ .f32 := constant S_ .f32 0x7F800000#32
  let main_v7 : FVec F S4x4096x2048 .f32 := broadcastInDim S4x4096x2048 ![] bcast_S_S4x4096x2048 main_cst_0
  let main_v8 : IVec S4x4096x2048 1 := cmpf .olt main_v6 main_v7
  let main_c_1 : IVec S_ 1 := constantI S_ 1 1#1
  let main_v9 : IVec S_ 1 := (fun x v => Host.reduce IntOp.andi x v reducesTo_S4x4096x2048_S_d0_1_2 h_S_) main_v8 main_c_1
  let main_v10 : IVec S_ 1 := andi main_v4 main_v9
  let main_v11 : FVec F S4x4096x2048 .f32 := Host.absf main_arg2
  let main_cst_2 : FVec F S_ .f32 := constant S_ .f32 0x7F800000#32
  let main_v12 : FVec F S4x4096x2048 .f32 := broadcastInDim S4x4096x2048 ![] bcast_S_S4x4096x2048 main_cst_2
  let main_v13 : IVec S4x4096x2048 1 := cmpf .olt main_v11 main_v12
  let main_c_3 : IVec S_ 1 := constantI S_ 1 1#1
  let main_v14 : IVec S_ 1 := (fun x v => Host.reduce IntOp.andi x v reducesTo_S4x4096x2048_S_d0_1_2 h_S_) main_v13 main_c_3
  let main_v15 : IVec S_ 1 := andi main_v10 main_v14
  let main_v16 : FVec F S4x4096x2048 .f32 := (extf .f32 · bitsLt_bf16_f32) main_arg3
  let main_v17 : FVec F S4x4096x2048 .f32 := Host.absf main_v16
  fn_part1 (F := F) main_v15 main_v17
-- ==== Pre_lb_range.lean ====
abbrev S4x4096x2048 : Shape := ⟨3, ![4, 4096, 2048]⟩
abbrev S2x2048 : Shape := ⟨2, ![2, 2048]⟩
abbrev S1x2048x8192 : Shape := ⟨3, ![1, 2048, 8192]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S4x4096x2048 .f32) (main_arg1 : FVec F S2x2048 .f32) (main_arg2 : FVec F S1x2048x8192 .f32) (main_arg3 : FVec F S2048 .f32) : IVec S_ 1 :=
  let main_cst : FVec F S_ .f32 := constant S_ .f32 0x00800000#32
  let main_v0 : FVec F S2048 .f32 := broadcastInDim S2048 ![] bcast_S_S2048 main_cst
  let main_v1 : IVec S2048 1 := cmpf .oge main_arg3 main_v0
  let main_c : IVec S_ 1 := constantI S_ 1 1#1
  let main_v2 : IVec S_ 1 := (fun x v => Host.reduce IntOp.andi x v reducesTo_S2048_S_d0 h_S_) main_v1 main_c
  let main_cst_0 : FVec F S_ .f32 := constant S_ .f32 0x3F800000#32
  let main_v3 : FVec F S2048 .f32 := broadcastInDim S2048 ![] bcast_S_S2048 main_cst_0
  let main_v4 : IVec S2048 1 := cmpf .ole main_arg3 main_v3
  let main_c_1 : IVec S_ 1 := constantI S_ 1 1#1
  let main_v5 : IVec S_ 1 := (fun x v => Host.reduce IntOp.andi x v reducesTo_S2048_S_d0 h_S_) main_v4 main_c_1
  let main_v6 : IVec S_ 1 := andi main_v2 main_v5
  main_v6
-- ==== Ffn.lean ====
abbrev S4x4096x2048 : Shape := ⟨3, ![4, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S16384x2048 : Shape := ⟨2, ![16384, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S1x2048 : Shape := ⟨2, ![1, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S16384x2048, .f32⟩
  | .hbm, ⟨6, _⟩ => ⟨S2x1x2048, .f32⟩
  | .hbm, ⟨7, _⟩ => ⟨S2x2048x5632, .bf16⟩
  | .hbm, ⟨8, _⟩ => ⟨S2x2048x5632, .bf16⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .f32⟩
  | .local _ .vmem, ⟨8, _⟩ => ⟨S1x512x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S4x4096x2048 : Shape := ⟨3, ![4, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x4096x5632 : Shape := ⟨3, ![4, 4096, 5632]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S_, .f32⟩
  | .hbm, ⟨36, _⟩ => ⟨S4x4096x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S4x4096x2048, .f32⟩
  | .hbm, ⟨42, _⟩ => ⟨S_, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== InProj.lean ====
abbrev S4x4096x2048 : Shape := ⟨3, ![4, 4096, 2048]⟩
abbrev S2x2048 : Shape := ⟨2, ![2, 2048]⟩
abbrev S1x2048x5120 : Shape := ⟨3, ![1, 2048, 5120]⟩
abbrev S16384x2048 : Shape := ⟨2, ![16384, 2048]⟩
abbrev S2x1x2048 : Shape := ⟨3, ![2, 1, 2048]⟩
abbrev S16384x5120 : Shape := ⟨2, ![16384, 5120]⟩
abbrev S1024x2048 : Shape := ⟨2, ![1024, 2048]⟩
abbrev S1x1x2048 : Shape := ⟨3, ![1, 1, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S1x2048 : Shape := ⟨2, ![1, 2048]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x5120, .f32⟩
  | .hbm, ⟨3, _⟩ => ⟨S16384x2048, .f32⟩
  | .hbm, ⟨4, _⟩ => ⟨S2x1x2048, .f32⟩
  | .hbm, ⟨5, _⟩ => ⟨S1x2048x5120, .bf16⟩
  | .hbm, ⟨6, _⟩ => ⟨S16384x5120, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S4x4096x2048 : Shape := ⟨3, ![4, 4096, 2048]⟩
abbrev S2x2048 : Shape := ⟨2, ![2, 2048]⟩
abbrev S1x2048x5120 : Shape := ⟨3, ![1, 2048, 5120]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5120 : Shape := ⟨2, ![2048, 5120]⟩
abbrev S4x4096x5120 : Shape := ⟨3, ![4, 4096, 5120]⟩
abbrev S16384x5120 : Shape := ⟨2, ![16384, 5120]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x5120, .f32⟩
  | .hbm, ⟨3, _⟩ => ⟨S1x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S2048x5120, .f32⟩
  | .hbm, ⟨22, _⟩ => ⟨S4x4096x5120, .f32⟩
  | .hbm, ⟨23, _⟩ => ⟨S16384x5120, .f32⟩
  | .hbm, ⟨24, _⟩ => ⟨S16384x5120, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== OutTwo.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S16384x2048 : Shape := ⟨2, ![16384, 2048]⟩
abbrev S16384x1024 : Shape := ⟨2, ![16384, 1024]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x1024, .bf16⟩
  | .hbm, ⟨3, _⟩ => ⟨S1x2048x2048, .f32⟩
  | .hbm, ⟨4, _⟩ => ⟨S16384x2048, .f32⟩
  | .hbm, ⟨5, _⟩ => ⟨S16384x1024, .bf16⟩
  | .hbm, ⟨6, _⟩ => ⟨S16384x1024, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x2048, .f32⟩
  | .local _ .vmem, ⟨7, _⟩ => ⟨S1x1024x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutTwoRefIdeal.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x1024, .bf16⟩
  | .hbm, ⟨3, _⟩ => ⟨S1x2048x2048, .f32⟩
  | .hbm, ⟨4, _⟩ => ⟨S4x4096x1024, .f32⟩
  | .hbm, ⟨5, _⟩ => ⟨S4x4096x1024, .f32⟩
  | .hbm, ⟨6, _⟩ => ⟨S4x4096x2048, .f32⟩
  | .hbm, ⟨7, _⟩ => ⟨S2048x2048, .f32⟩
  | .hbm, ⟨8, _⟩ => ⟨S4x4096x2048, .f32⟩
  | .hbm, ⟨9, _⟩ => ⟨S4x4096x2048, .f32⟩
  | .hbm, ⟨10, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutOne.lean ====
abbrev S4x4096x2048 : Shape := ⟨3, ![4, 4096, 2048]⟩
abbrev S1x2048x2048 : Shape := ⟨3, ![1, 2048, 2048]⟩
abbrev S16384x2048 : Shape := ⟨2, ![16384, 2048]⟩
abbrev S512x2048 : Shape := ⟨2, ![512, 2048]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .bf16⟩
  | .hbm, ⟨2, _⟩ => ⟨S1x2048x2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .f32⟩
  | .local _ .vmem, ⟨5, _⟩ => ⟨S512x2048, .f32⟩
  | .local _ .vmem, ⟨6, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutOneRefIdeal.lean ====
abbrev S4x4096x2048 : Shape := ⟨3, ![4, 4096, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .bf16⟩
  | .hbm, ⟨2, _⟩ => ⟨S1x2048x2048, .f32⟩
  | .hbm, ⟨3, _⟩ => ⟨S4x4096x2048, .f32⟩
  | .hbm, ⟨4, _⟩ => ⟨S2048x2048, .f32⟩
  | .hbm, ⟨5, _⟩ => ⟨S4x4096x2048, .f32⟩
  | .hbm, ⟨6, _⟩ => ⟨S4x4096x2048, .f32⟩
  | .hbm, ⟨7, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Hgrn.lean ====
abbrev S4x4096x2048 : Shape := ⟨3, ![4, 4096, 2048]⟩
abbrev S1x2048 : Shape := ⟨2, ![1, 2048]⟩
abbrev S1x1x2048 : Shape := ⟨3, ![1, 1, 2048]⟩
abbrev S1x2048x512 : Shape := ⟨3, ![1, 2048, 512]⟩
abbrev S1x1x512 : Shape := ⟨3, ![1, 1, 512]⟩
abbrev S4x128x128 : Shape := ⟨3, ![4, 128, 128]⟩
abbrev S4x256x128 : Shape := ⟨3, ![4, 256, 128]⟩
abbrev S256x256 : Shape := ⟨2, ![256, 256]⟩
abbrev S7x128x128 : Shape := ⟨3, ![7, 128, 128]⟩
abbrev S7x256x128 : Shape := ⟨3, ![7, 256, 128]⟩
abbrev S256x128 : Shape := ⟨2, ![256, 128]⟩
abbrev S128x128 : Shape := ⟨2, ![128, 128]⟩
abbrev S1x128x128 : Shape := ⟨3, ![1, 128, 128]⟩
abbrev S1x256x128 : Shape := ⟨3, ![1, 256, 128]⟩
abbrev S256x384 : Shape := ⟨2, ![256, 384]⟩
abbrev S1x1x128 : Shape := ⟨3, ![1, 1, 128]⟩
abbrev S1x128 : Shape := ⟨2, ![1, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S256 : Shape := ⟨1, ![256]⟩
abbrev S256x1 : Shape := ⟨2, ![256, 1]⟩
abbrev S128x256 : Shape := ⟨2, ![128, 256]⟩

abbrev nBuf : Space → Nat
  | .hbm => 8
  | .vmem => 19
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x2048, .f32⟩
  | .hbm, ⟨3, _⟩ => ⟨S4x4096x2048, .bf16⟩
  | .hbm, ⟨4, _⟩ => ⟨S4x4096x2048, .bf16⟩
  | .hbm, ⟨5, _⟩ => ⟨S1x2048, .f32⟩
  | .hbm, ⟨6, _⟩ => ⟨S1x1x2048, .f32⟩
  | .hbm, ⟨7, _⟩ => ⟨S4x4096x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1x512, .f32⟩
  | .local _ .vmem, ⟨11, _⟩ => ⟨S1x1x512, .f32⟩
  | .local _ .vmem, ⟨12, _⟩ => ⟨S1x2048x512, .bf16⟩
  | .local _ .vmem, ⟨13, _⟩ => ⟨S1x2048x512, .bf16⟩
  | .local _ .vmem, ⟨14, _⟩ => ⟨S4x128x128, .f32⟩
  | .local _ .vmem, ⟨15, _⟩ => ⟨S4x256x128, .f32⟩
  | .local _ .vmem, ⟨16, _⟩ => ⟨S256x256, .bf16⟩
  | .local _ .vmem, ⟨17, _⟩ => ⟨S7x128x128, .f32⟩
  | .local _ .vmem, ⟨18, _⟩ => ⟨S7x256x128, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

@[reducible] def k0_t1_loop : Scf.Loop 32 :=
  let c0_i32_177 : BitVec 32 := 0#32
  let c8_i32_178 : BitVec 32 := 8#32
  let v533 : BitVec 32 := Scalar.addi c0_i32_177 c8_i32_178
  let c1_i32_179 : BitVec 32 := 1#32
  ⟨c0_i32_177, v533, c1_i32_179⟩
def k0_mult1 (k0_t1 : Fin k0_t1_loop.trips) : BitVec 32 :=
  let c0_i32_177 : BitVec 32 := 0#32
  let c1_i32_179 : BitVec 32 := 1#32
  let arg15 : BitVec 32 := Scf.iv c0_i32_177 c1_i32_179 k0_t1
  let c256_i32 : BitVec 32 := 256#32
  let v534 : BitVec 32 := Scalar.muli arg15 c256_i32
  v534
def k0_off1 (k0_t1 : Fin k0_t1_loop.trips) : Fin 3 → Nat :=
  let c0_181 : Index := 0#32
  let c0_i32_177 : BitVec 32 := 0#32
  let c1_i32_179 : BitVec 32 := 1#32
  let arg15 : BitVec 32 := Scf.iv c0_i32_177 c1_i32_179 k0_t1
  let c256_i32 : BitVec 32 := 256#32
  let v534 : BitVec 32 := Scalar.muli arg15 c256_i32
  let v535 : BitVec 32 := v534
  let v536 : Index := Scalar.indexCast v535
  let c0_182 : Index := 0#32
  ![0, v536.toNat, 0]
def k0_off2 (k0_t1 : Fin k0_t1_loop.trips) : Fin 3 → Nat :=
  let c0_183 : Index := 0#32
  let c0_i32_177 : BitVec 32 := 0#32
  let c1_i32_179 : BitVec 32 := 1#32
  let arg15 : BitVec 32 := Scf.iv c0_i32_177 c1_i32_179 k0_t1
  let c256_i32 : BitVec 32 := 256#32
  let v534 : BitVec 32 := Scalar.muli arg15 c256_i32
  let v535 : BitVec 32 := v534
  let v540 : Index := Scalar.indexCast v535
  let c128 : Index := 128#32
  ![0, v540.toNat, 128]
def k0_off3 (k0_t1 : Fin k0_t1_loop.trips) : Fin 3 → Nat :=
  let c0_184 : Index := 0#32
  let c0_i32_177 : BitVec 32 := 0#32
  let c1_i32_179 : BitVec 32 := 1#32
  let arg15 : BitVec 32 := Scf.iv c0_i32_177 c1_i32_179 k0_t1
  let c256_i32 : BitVec 32 := 256#32
  let v534 : BitVec 32 := Scalar.muli arg15 c256_i32
  let v535 : BitVec 32 := v534
  let v544 : Index := Scalar.indexCast v535
  let c256 : Index := 256#32
  ![0, v544.toNat, 256]
def k0_off4 (k0_t1 : Fin k0_t1_loop.trips) : Fin 3 → Nat :=
  let c0_185 : Index := 0#32
  let c0_i32_177 : BitVec 32 := 0#32
  let c1_i32_179 : BitVec 32 := 1#32
  let arg15 : BitVec 32 := Scf.iv c0_i32_177 c1_i32_179 k0_t1
  let c256_i32 : BitVec 32 := 256#32
  let v534 : BitVec 32 := Scalar.muli arg15 c256_i32
  let v535 : BitVec 32 := v534
  let v548 : Index := Scalar.indexCast v535
  let c384 : Index := 384#32
  ![0, v548.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== HgrnIdeal.lean ====
variable {F : FTy → Type} [FloatOps F] [Named F]
def κ : String → Option EReal := fun
  | "log2e" => some (((Real.log 2)⁻¹ : ℝ) : EReal)
  | _ => none
-- ==== HgrnRefIdeal.lean ====
abbrev S4x4096x2048 : Shape := ⟨3, ![4, 4096, 2048]⟩
abbrev S1x2048 : Shape := ⟨2, ![1, 2048]⟩
abbrev S4x64x64x16x128 : Shape := ⟨5, ![4, 64, 64, 16, 128]⟩
abbrev S64x4x16x64x128 : Shape := ⟨5, ![64, 4, 16, 64, 128]⟩
abbrev S_ : Shape := ⟨0, ![]⟩
abbrev S64x64 : Shape := ⟨2, ![64, 64]⟩
abbrev S4x16x128x128 : Shape := ⟨4, ![4, 16, 128, 128]⟩
abbrev S1x4x16x64x128 : Shape := ⟨5, ![1, 4, 16, 64, 128]⟩
abbrev S4x16x64x128 : Shape := ⟨4, ![4, 16, 64, 128]⟩
abbrev S4x16x64x1x128 : Shape := ⟨5, ![4, 16, 64, 1, 128]⟩
abbrev S4x16x1x64x128 : Shape := ⟨5, ![4, 16, 1, 64, 128]⟩
abbrev S4x16x64x64x128 : Shape := ⟨5, ![4, 16, 64, 64, 128]⟩
abbrev S64x64x1 : Shape := ⟨3, ![64, 64, 1]⟩
abbrev S4x16x64x64 : Shape := ⟨4, ![4, 16, 64, 64]⟩
abbrev S4x16x1x128 : Shape := ⟨4, ![4, 16, 1, 128]⟩
abbrev S4x16x128 : Shape := ⟨3, ![4, 16, 128]⟩
abbrev S4x16x128x1 : Shape := ⟨4, ![4, 16, 128, 1]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩
abbrev S2048 : Shape := ⟨1, ![2048]⟩
abbrev S1x1x2048 : Shape := ⟨3, ![1, 1, 2048]⟩

abbrev nBuf : Space → Nat
  | .hbm => 138
  | .vmem => 0
  | .smem => 0
  | _ => 0

abbrev hbmTy0_0 (i : Nat) : BufTy := match i % 128 with
  | 0 => ⟨S4x4096x2048, .bf16⟩
  | 1 => ⟨S4x4096x2048, .bf16⟩
  | 2 => ⟨S4x4096x2048, .f32⟩
  | 3 => ⟨S4x4096x2048, .bf16⟩
  | 4 => ⟨S4x4096x2048, .bf16⟩
  | 5 => ⟨S1x2048, .f32⟩
  | 6 => ⟨S4x4096x2048, .f32⟩
  | 7 => ⟨S4x64x64x16x128, .f32⟩
  | 8 => ⟨S64x4x16x64x128, .f32⟩
  | 9 => ⟨S4x4096x2048, .f32⟩
  | 10 => ⟨S4x64x64x16x128, .f32⟩
  | 11 => ⟨S64x4x16x64x128, .f32⟩
  | 12 => ⟨S4x4096x2048, .f32⟩
  | 13 => ⟨S4x64x64x16x128, .f32⟩
  | 14 => ⟨S64x4x16x64x128, .f32⟩
  | 15 => ⟨S4x64x64x16x128, .f32⟩
  | 16 => ⟨S64x4x16x64x128, .f32⟩
  | 17 => ⟨S_, .f32⟩
  | 18 => ⟨S_, .f32⟩
  | 19 => ⟨S64x4x16x64x128, .f32⟩
  | 20 => ⟨S_, .i1⟩
  | 21 => ⟨S64x64, .i1⟩
  | 22 => ⟨S64x64, .i32⟩
  | 23 => ⟨S_, .i32⟩
  | 24 => ⟨S64x64, .i32⟩
  | 25 => ⟨S64x64, .i32⟩
  | 26 => ⟨S64x64, .i32⟩
  | 27 => ⟨S64x64, .i1⟩
  | 28 => ⟨S_, .i1⟩
  | 29 => ⟨S64x64, .i1⟩
  | 30 => ⟨S64x64, .i1⟩
  | 31 => ⟨S_, .f32⟩
  | 32 => ⟨S4x16x128x128, .f32⟩
  | 33 => ⟨S_, .f32⟩
  | 34 => ⟨S64x4x16x64x128, .f32⟩
  | 35 => ⟨S_, .i32⟩
  | 36 => ⟨S64x4x16x64x128, .f32⟩
  | 37 => ⟨S64x4x16x64x128, .f32⟩
  | 38 => ⟨S64x4x16x64x128, .f32⟩
  | 39 => ⟨S64x4x16x64x128, .f32⟩
  | 40 => ⟨S64x64, .i1⟩
  | 41 => ⟨S_, .i32⟩
  | 42 => ⟨S4x16x128x128, .f32⟩
  | 43 => ⟨S64x4x16x64x128, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S1x4x16x64x128, .f32⟩
  | 51 => ⟨S4x16x64x128, .f32⟩
  | 52 => ⟨S_, .i32⟩
  | 53 => ⟨S_, .i32⟩
  | 54 => ⟨S_, .i32⟩
  | 55 => ⟨S_, .i32⟩
  | 56 => ⟨S1x4x16x64x128, .f32⟩
  | 57 => ⟨S4x16x64x128, .f32⟩
  | 58 => ⟨S_, .i32⟩
  | 59 => ⟨S_, .i32⟩
  | 60 => ⟨S_, .i32⟩
  | 61 => ⟨S_, .i32⟩
  | 62 => ⟨S1x4x16x64x128, .f32⟩
  | 63 => ⟨S4x16x64x128, .f32⟩
  | 64 => ⟨S_, .i32⟩
  | 65 => ⟨S_, .i32⟩
  | 66 => ⟨S_, .i32⟩
  | 67 => ⟨S_, .i32⟩
  | 68 => ⟨S1x4x16x64x128, .f32⟩
  | 69 => ⟨S4x16x64x128, .f32⟩
  | 70 => ⟨S4x16x64x1x128, .f32⟩
  | 71 => ⟨S4x16x1x64x128, .f32⟩
  | 72 => ⟨S4x16x64x64x128, .f32⟩
  | 73 => ⟨S4x16x64x64x128, .f32⟩
  | 74 => ⟨S4x16x64x64x128, .f32⟩
  | 75 => ⟨S64x64x1, .i1⟩
  | 76 => ⟨S_, .f32⟩
  | 77 => ⟨S_, .f32⟩
  | 78 => ⟨S4x16x64x64x128, .i1⟩
  | 79 => ⟨S4x16x64x64x128, .f32⟩
  | 80 => ⟨S4x16x64x64x128, .f32⟩
  | 81 => ⟨S4x16x64x64x128, .f32⟩
  | 82 => ⟨S4x16x64x1x128, .f32⟩
  | 83 => ⟨S4x16x1x64x128, .f32⟩
  | 84 => ⟨S4x16x64x64x128, .f32⟩
  | 85 => ⟨S4x16x64x64x128, .f32⟩
  | 86 => ⟨S4x16x64x64x128, .f32⟩
  | 87 => ⟨S4x16x64x64x128, .f32⟩
  | 88 => ⟨S_, .f32⟩
  | 89 => ⟨S4x16x64x64, .f32⟩
  | 90 => ⟨S4x16x64x128, .f32⟩
  | 91 => ⟨S4x16x64x128, .f32⟩
  | 92 => ⟨S4x16x64x128, .f32⟩
  | 93 => ⟨S4x16x64x128, .f32⟩
  | 94 => ⟨S4x16x64x128, .f32⟩
  | 95 => ⟨S4x16x1x128, .f32⟩
  | 96 => ⟨S4x16x128, .f32⟩
  | 97 => ⟨S4x16x128, .f32⟩
  | 98 => ⟨S4x16x128x1, .f32⟩
  | 99 => ⟨S4x16x128x128, .f32⟩
  | 100 => ⟨S4x16x128x128, .f32⟩
  | 101 => ⟨S4x16x64x128, .f32⟩
  | 102 => ⟨S4x16x64x128, .f32⟩
  | 103 => ⟨S4x16x64x128, .f32⟩
  | 104 => ⟨S4x16x64x128, .f32⟩
  | 105 => ⟨S4x16x128x128, .f32⟩
  | 106 => ⟨S4x16x128x128, .f32⟩
  | 107 => ⟨S1x4x16x64x128, .f32⟩
  | 108 => ⟨S_, .i32⟩
  | 109 => ⟨S_, .i32⟩
  | 110 => ⟨S_, .i32⟩
  | 111 => ⟨S_, .i32⟩
  | 112 => ⟨S64x4x16x64x128, .f32⟩
  | 113 => ⟨S_, .i32⟩
  | 114 => ⟨S_, .i32⟩
  | 115 => ⟨S4x64x64x16x128, .f32⟩
  | 116 => ⟨S4x4096x16x128, .f32⟩
  | 117 => ⟨S4x4096x16x128, .f32⟩
  | 118 => ⟨S_, .f32⟩
  | 119 => ⟨S4x4096x16, .f32⟩
  | 120 => ⟨S4x4096x16x1, .f32⟩
  | 121 => ⟨S_, .f32⟩
  | 122 => ⟨S4x4096x16x1, .f32⟩
  | 123 => ⟨S4x4096x16x1, .f32⟩
  | 124 => ⟨S_, .f32⟩
  | 125 => ⟨S4x4096x16x1, .f32⟩
  | 126 => ⟨S4x4096x16x1, .f32⟩
  | 127 => ⟨S4x4096x16x1, .f32⟩
  | _ => ⟨S4x4096x2048, .bf16⟩

abbrev hbmTy0_1 (i : Nat) : BufTy := match i % 128 with
  | 0 => ⟨S4x4096x16x128, .f32⟩
  | 1 => ⟨S4x4096x16x128, .f32⟩
  | 2 => ⟨S4x4096x2048, .f32⟩
  | 3 => ⟨S2048, .f32⟩
  | 4 => ⟨S1x1x2048, .f32⟩
  | 5 => ⟨S4x4096x2048, .f32⟩
  | 6 => ⟨S4x4096x2048, .f32⟩
  | 7 => ⟨S4x4096x2048, .f32⟩
  | 8 => ⟨S4x4096x2048, .f32⟩
  | 9 => ⟨S4x4096x2048, .bf16⟩
  | _ => ⟨S4x4096x2048, .bf16⟩

abbrev hbmTy (i : Nat) : BufTy := match i / 128 with
  | 0 => hbmTy0_0 i
  | 1 => hbmTy0_1 i
  | _ => ⟨S4x4096x2048, .bf16⟩

abbrev bufTy : (tb : Table) → Fin (tcTables nBuf tb) → BufTy
  | .hbm, ⟨i, _⟩ => hbmTy i
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_0 : Ref sig .tc := ⟨.hbm, 28, rfl⟩
abbrev main_call1_v5 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_c_1 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev main_v16_4 : Ref sig .tc := ⟨.hbm, 40, rfl⟩
abbrev main_v16_5 : Ref sig .tc := ⟨.hbm, 41, rfl⟩
abbrev main_v16_6 : Ref sig .tc := ⟨.hbm, 42, rfl⟩
abbrev main_v16_7 : Ref sig .tc := ⟨.hbm, 43, rfl⟩
abbrev main_while0c_c_12 : Ref sig .tc := ⟨.hbm, 44, rfl⟩
abbrev main_while0c_v37 : Ref sig .tc := ⟨.hbm, 45, rfl⟩
abbrev main_while0b_call2_c : Ref sig .tc := ⟨.hbm, 46, rfl⟩
abbrev main_while0b_call2_c_0 : Ref sig .tc := ⟨.hbm, 47, rfl⟩
abbrev main_while0b_call2_c_1 : Ref sig .tc := ⟨.hbm, 48, rfl⟩
abbrev main_while0b_call2_c_2 : Ref sig .tc := ⟨.hbm, 49, rfl⟩
abbrev main_while0b_call2_v0 : Ref sig .tc := ⟨.hbm, 50, rfl⟩
abbrev main_while0b_v37 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_c_1 : Ref sig .tc := ⟨.hbm, 54, rfl⟩
abbrev main_while0b_call3_c_2 : Ref sig .tc := ⟨.hbm, 55, rfl⟩
abbrev main_while0b_call3_v0 : Ref sig .tc := ⟨.hbm, 56, rfl⟩
abbrev main_while0b_v38 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_c_1 : Ref sig .tc := ⟨.hbm, 60, rfl⟩
abbrev main_while0b_call4_c_2 : Ref sig .tc := ⟨.hbm, 61, rfl⟩
abbrev main_while0b_call4_v0 : Ref sig .tc := ⟨.hbm, 62, rfl⟩
abbrev main_while0b_v39 : Ref sig .tc := ⟨.hbm, 63, rfl⟩
abbrev main_while0b_call5_c : Ref sig .tc := ⟨.hbm, 64, rfl⟩
abbrev main_while0b_call5_c_0 : Ref sig .tc := ⟨.hbm, 65, rfl⟩
abbrev main_while0b_call5_c_1 : Ref sig .tc := ⟨.hbm, 66, rfl⟩
abbrev main_while0b_call5_c_2 : Ref sig .tc := ⟨.hbm, 67, rfl⟩
abbrev main_while0b_call5_v0 : Ref sig .tc := ⟨.hbm, 68, rfl⟩
abbrev main_while0b_v40 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_cst_12 : Ref sig .tc := ⟨.hbm, 76, rfl⟩
abbrev main_while0b_call6_v0 : Ref sig .tc := ⟨.hbm, 77, rfl⟩
abbrev main_while0b_call6_v1 : Ref sig .tc := ⟨.hbm, 78, rfl⟩
abbrev main_while0b_call6_v2 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_cst_13 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_call7_v0 : Ref sig .tc := ⟨.hbm, 107, rfl⟩
abbrev main_while0b_call7_c : Ref sig .tc := ⟨.hbm, 108, rfl⟩
abbrev main_while0b_call7_c_0 : Ref sig .tc := ⟨.hbm, 109, rfl⟩
abbrev main_while0b_call7_c_1 : Ref sig .tc := ⟨.hbm, 110, rfl⟩
abbrev main_while0b_call7_c_2 : Ref sig .tc := ⟨.hbm, 111, rfl⟩
abbrev main_while0b_v73 : Ref sig .tc := ⟨.hbm, 112, rfl⟩
abbrev main_while0b_c_14 : Ref sig .tc := ⟨.hbm, 113, rfl⟩
abbrev main_while0b_v74 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_cst_2 : Ref sig .tc := ⟨.hbm, 118, rfl⟩
abbrev main_v20 : Ref sig .tc := ⟨.hbm, 119, rfl⟩
abbrev main_v21 : Ref sig .tc := ⟨.hbm, 120, rfl⟩
abbrev main_cst_3 : Ref sig .tc := ⟨.hbm, 121, rfl⟩
abbrev main_v22 : Ref sig .tc := ⟨.hbm, 122, rfl⟩
abbrev main_v23 : Ref sig .tc := ⟨.hbm, 123, rfl⟩
abbrev main_cst_4 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩

abbrev nD : Nat := 1
abbrev τ : Topo := Topo.v7x

variable {F : FTy → Type} [FloatOps F]

abbrev main_while0_count : Scf.Loop 32 := ⟨0#32, 64#32, 1#32⟩
-- ==== Gates.lean ====
abbrev S4x4096x2048 : Shape := ⟨3, ![4, 4096, 2048]⟩
abbrev S2x2048 : Shape := ⟨2, ![2, 2048]⟩
abbrev S1x2048x8192 : Shape := ⟨3, ![1, 2048, 8192]⟩
abbrev S2048 : Shape := ⟨1, ![2048]⟩
abbrev S16384x2048 : Shape := ⟨2, ![16384, 2048]⟩
abbrev S2x1x2048 : Shape := ⟨3, ![2, 1, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 13
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x8192, .f32⟩
  | .hbm, ⟨3, _⟩ => ⟨S2048, .f32⟩
  | .hbm, ⟨4, _⟩ => ⟨S16384x2048, .f32⟩
  | .hbm, ⟨5, _⟩ => ⟨S2x1x2048, .f32⟩
  | .hbm, ⟨6, _⟩ => ⟨S1x2048x8192, .bf16⟩
  | .hbm, ⟨7, _⟩ => ⟨S1x2048, .f32⟩
  | .hbm, ⟨8, _⟩ => ⟨S16384x2048, .bf16⟩
  | .hbm, ⟨9, _⟩ => ⟨S16384x2048, .bf16⟩
  | .hbm, ⟨10, _⟩ => ⟨S16384x2048, .f32⟩
  | .hbm, ⟨11, _⟩ => ⟨S16384x2048, .bf16⟩
  | .hbm, ⟨12, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let c4_i32 : BitVec 32 := 4#32
  let v7 : BitVec 1 := Scalar.cmpi .slt arg1 c4_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c4_i32_4 : BitVec 32 := 4#32
  let v11 : BitVec 1 := Scalar.cmpi .sge arg1 c4_i32_4
  let c6_i32 : BitVec 32 := 6#32
  let v12 : BitVec 1 := Scalar.cmpi .slt arg1 c6_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c6_i32_6 : BitVec 32 := 6#32
  let v16 : BitVec 1 := Scalar.cmpi .sge arg1 c6_i32_6
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GatesRefIdeal.lean ====
abbrev S4x4096x2048 : Shape := ⟨3, ![4, 4096, 2048]⟩
abbrev S2x2048 : Shape := ⟨2, ![2, 2048]⟩
abbrev S1x2048x8192 : Shape := ⟨3, ![1, 2048, 8192]⟩
abbrev S2048 : Shape := ⟨1, ![2048]⟩
abbrev S1x2048 : Shape := ⟨2, ![1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x8192 : Shape := ⟨2, ![2048, 8192]⟩
abbrev S4x4096x8192 : Shape := ⟨3, ![4, 4096, 8192]⟩
abbrev S16384x2048 : Shape := ⟨2, ![16384, 2048]⟩

abbrev nBuf : Space → Nat
  | .hbm => 106
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x8192, .f32⟩
  | .hbm, ⟨3, _⟩ => ⟨S2048, .f32⟩
  | .hbm, ⟨4, _⟩ => ⟨S1x2048, .f32⟩
  | .hbm, ⟨5, _⟩ => ⟨S2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S2048x8192, .f32⟩
  | .hbm, ⟨23, _⟩ => ⟨S4x4096x8192, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S4x4096x2048, .f32⟩
  | .hbm, ⟨41, _⟩ => ⟨S_, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S4x4096x2048, .i1⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S1x1x2048, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S4x4096x2048, .i1⟩
  | .hbm, ⟨65, _⟩ => ⟨S4x4096x2048, .f32⟩
  | .hbm, ⟨66, _⟩ => ⟨S4x4096x2048, .f32⟩
  | .hbm, ⟨67, _⟩ => ⟨S4x4096x2048, .f32⟩
  | .hbm, ⟨68, _⟩ => ⟨S4x4096x2048, .f32⟩
  | .hbm, ⟨69, _⟩ => ⟨S4x4096x2048, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S4x4096x2048, .f32⟩
  | .hbm, ⟨77, _⟩ => ⟨S4x4096x2048, .f32⟩
  | .hbm, ⟨78, _⟩ => ⟨S4x4096x2048, .f32⟩
  | .hbm, ⟨79, _⟩ => ⟨S_, .f32⟩
  | .hbm, ⟨80, _⟩ => ⟨S4x4096x2048, .f32⟩
  | .hbm, ⟨81, _⟩ => ⟨S4x4096x2048, .f32⟩
  | .hbm, ⟨82, _⟩ => ⟨S_, .f32⟩
  | .hbm, ⟨83, _⟩ => ⟨S4x4096x2048, .f32⟩
  | .hbm, ⟨84, _⟩ => ⟨S4x4096x2048, .f32⟩
  | .hbm, ⟨85, _⟩ => ⟨S1x1x2048, .f32⟩
  | .hbm, ⟨86, _⟩ => ⟨S4x4096x2048, .f32⟩
  | .hbm, ⟨87, _⟩ => ⟨S4x4096x2048, .f32⟩
  | .hbm, ⟨88, _⟩ => ⟨S16384x2048, .f32⟩
  | .hbm, ⟨89, _⟩ => ⟨S16384x2048, .bf16⟩
  | .hbm, ⟨90, _⟩ => ⟨S16384x2048, .f32⟩
  | .hbm, ⟨91, _⟩ => ⟨S16384x2048, .bf16⟩
  | .hbm, ⟨92, _⟩ => ⟨S16384x2048, .f32⟩
  | .hbm, ⟨93, _⟩ => ⟨S16384x2048, .f32⟩
  | .hbm, ⟨94, _⟩ => ⟨S16384x2048, .bf16⟩
  | .hbm, ⟨95, _⟩ => ⟨S4x4096x2048, .f32⟩
  | .hbm, ⟨96, _⟩ => ⟨S4x4096x2048, .f32⟩
  | .hbm, ⟨97, _⟩ => ⟨S_, .f32⟩
  | .hbm, ⟨98, _⟩ => ⟨S4x4096x2048, .f32⟩
  | .hbm, ⟨99, _⟩ => ⟨S4x4096x2048, .f32⟩
  | .hbm, ⟨100, _⟩ => ⟨S_, .f32⟩
  | .hbm, ⟨101, _⟩ => ⟨S4x4096x2048, .f32⟩
  | .hbm, ⟨102, _⟩ => ⟨S4x4096x2048, .f32⟩
  | .hbm, ⟨103, _⟩ => ⟨S4x4096x2048, .f32⟩
  | .hbm, ⟨104, _⟩ => ⟨S16384x2048, .f32⟩
  | .hbm, ⟨105, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_2 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_3 : Ref sig .tc := ⟨.hbm, 79, rfl⟩
abbrev main_v48 : Ref sig .tc := ⟨.hbm, 80, rfl⟩
abbrev main_v49 : Ref sig .tc := ⟨.hbm, 81, rfl⟩
abbrev main_cst_4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩

abbrev nD : Nat := 1
abbrev τ : Topo := Topo.v7x

variable {F : FTy → Type} [FloatOps F]
-- ==== Conv.lean ====
abbrev S4x4096x5120 : Shape := ⟨3, ![4, 4096, 5120]⟩
abbrev S1x31x1024 : Shape := ⟨3, ![1, 31, 1024]⟩
abbrev S1x1024 : Shape := ⟨2, ![1, 1024]⟩
abbrev S2x2048x5632 : Shape := ⟨3, ![2, 2048, 5632]⟩
abbrev S1x2048x8192 : Shape := ⟨3, ![1, 2048, 8192]⟩
abbrev S4096x5632 : Shape := ⟨2, ![4096, 5632]⟩
abbrev S2048x8192 : Shape := ⟨2, ![2048, 8192]⟩
abbrev S1x1x1024 : Shape := ⟨3, ![1, 1, 1024]⟩
abbrev S4x4096x1024 : Shape := ⟨3, ![4, 4096, 1024]⟩
abbrev S2048x5632 : Shape := ⟨2, ![2048, 5632]⟩
abbrev S1x512x1024 : Shape := ⟨3, ![1, 512, 1024]⟩
abbrev S1x32x1024 : Shape := ⟨3, ![1, 32, 1024]⟩
abbrev S64x5632 : Shape := ⟨2, ![64, 5632]⟩
abbrev S64x8192 : Shape := ⟨2, ![64, 8192]⟩
abbrev S544x1024 : Shape := ⟨2, ![544, 1024]⟩
abbrev S7x536x1024 : Shape := ⟨3, ![7, 536, 1024]⟩
abbrev S512x1024 : Shape := ⟨2, ![512, 1024]⟩
abbrev S32x1024 : Shape := ⟨2, ![32, 1024]⟩
abbrev S536x1024 : Shape := ⟨2, ![536, 1024]⟩
abbrev S1x536x1024 : Shape := ⟨3, ![1, 536, 1024]⟩
abbrev S1x1x128 : Shape := ⟨3, ![1, 1, 128]⟩
abbrev S1x128 : Shape := ⟨2, ![1, 128]⟩
abbrev S16x128 : Shape := ⟨2, ![16, 128]⟩
abbrev S1x16x128 : Shape := ⟨3, ![1, 16, 128]⟩
abbrev S128x1024 : Shape := ⟨2, ![128, 1024]⟩
abbrev S128 : Shape := ⟨1, ![128]⟩
abbrev S128x1 : Shape := ⟨2, ![128, 1]⟩
abbrev S1x128x1024 : Shape := ⟨3, ![1, 128, 1024]⟩

abbrev nBuf : Space → Nat
  | .hbm => 18
  | .vmem => 29
  | .smem => 0
  | _ => 0

abbrev bufTy : (tb : Table) → Fin (tcTables nBuf tb) → BufTy
  | .hbm, ⟨0, _⟩ => ⟨S4x4096x5120, .bf16⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2048x5632, .f32⟩
  | .hbm, ⟨6, _⟩ => ⟨S2x2048x5632, .f32⟩
  | .hbm, ⟨7, _⟩ => ⟨S1x2048x8192, .f32⟩
  | .hbm, ⟨8, _⟩ => ⟨S4096x5632, .f32⟩
  | .hbm, ⟨9, _⟩ => ⟨S4096x5632, .f32⟩
  | .hbm, ⟨10, _⟩ => ⟨S2048x8192, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S4x4096x1024, .bf16⟩
  | .hbm, ⟨15, _⟩ => ⟨S2048x5632, .bf16⟩
  | .hbm, ⟨16, _⟩ => ⟨S2048x5632, .bf16⟩
  | .hbm, ⟨17, _⟩ => ⟨S2048x8192, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x31x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S64x5632, .f32⟩
  | .local _ .vmem, ⟨13, _⟩ => ⟨S64x5632, .f32⟩
  | .local _ .vmem, ⟨14, _⟩ => ⟨S64x5632, .f32⟩
  | .local _ .vmem, ⟨15, _⟩ => ⟨S64x5632, .f32⟩
  | .local _ .vmem, ⟨16, _⟩ => ⟨S64x8192, .f32⟩
  | .local _ .vmem, ⟨17, _⟩ => ⟨S64x8192, .f32⟩
  | .local _ .vmem, ⟨18, _⟩ => ⟨S1x512x1024, .bf16⟩
  | .local _ .vmem, ⟨19, _⟩ => ⟨S1x512x1024, .bf16⟩
  | .local _ .vmem, ⟨20, _⟩ => ⟨S64x5632, .bf16⟩
  | .local _ .vmem, ⟨21, _⟩ => ⟨S64x5632, .bf16⟩
  | .local _ .vmem, ⟨22, _⟩ => ⟨S64x5632, .bf16⟩
  | .local _ .vmem, ⟨23, _⟩ => ⟨S64x5632, .bf16⟩
  | .local _ .vmem, ⟨24, _⟩ => ⟨S64x8192, .bf16⟩
  | .local _ .vmem, ⟨25, _⟩ => ⟨S64x8192, .bf16⟩
  | .local _ .vmem, ⟨26, _⟩ => ⟨S544x1024, .f32⟩
  | .local _ .vmem, ⟨27, _⟩ => ⟨S7x536x1024, .f32⟩
  | .local _ .vmem, ⟨28, _⟩ => ⟨S512x1024, .f32⟩
  | _, _ => ⟨S4x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_60 : BitVec 32 := 0#32
  let c32_i32 : BitVec 32 := 32#32
  let v77 : BitVec 32 := Scalar.addi c0_i32_60 c32_i32
  let c1_i32 : BitVec 32 := 1#32
  ⟨c0_i32_60, v77, c1_i32⟩
def k0_mult1 (k0_t1 : Fin k0_t1_loop.trips) : BitVec 32 :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  v79
def k0_off1 (k0_t1 : Fin k0_t1_loop.trips) (c0_i32_68 : BitVec 32) : Fin 3 → Nat :=
  let c1_69 : Index := 1#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v85 : BitVec 32 := Scalar.addi v80 c0_i32_68
  let v86 : Index := Scalar.indexCast v85
  let c0_70 : Index := 0#32
  ![1, v86.toNat, 0]
def k0_off2 (k0_t1 : Fin k0_t1_loop.trips) (c0_i32_74 : BitVec 32) : Fin 3 → Nat :=
  let c2_75 : Index := 2#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v94 : BitVec 32 := Scalar.addi v80 c0_i32_74
  let v95 : Index := Scalar.indexCast v94
  let c0_76 : Index := 0#32
  ![2, v95.toNat, 0]
def k0_off3 (k0_t1 : Fin k0_t1_loop.trips) (c0_i32_80 : BitVec 32) : Fin 3 → Nat :=
  let c3_81 : Index := 3#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v103 : BitVec 32 := Scalar.addi v80 c0_i32_80
  let v104 : Index := Scalar.indexCast v103
  let c0_82 : Index := 0#32
  ![3, v104.toNat, 0]
def k0_off4 (k0_t1 : Fin k0_t1_loop.trips) (c0_i32_86 : BitVec 32) : Fin 3 → Nat :=
  let c4_87 : Index := 4#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v112 : BitVec 32 := Scalar.addi v80 c0_i32_86
  let v113 : Index := Scalar.indexCast v112
  let c0_88 : Index := 0#32
  ![4, v113.toNat, 0]
def k0_off5 (k0_t1 : Fin k0_t1_loop.trips) (c0_i32_92 : BitVec 32) : Fin 3 → Nat :=
  let c5_93 : Index := 5#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v121 : BitVec 32 := Scalar.addi v80 c0_i32_92
  let v122 : Index := Scalar.indexCast v121
  let c0_94 : Index := 0#32
  ![5, v122.toNat, 0]
def k0_off6 (k0_t1 : Fin k0_t1_loop.trips) (c0_i32_98 : BitVec 32) : Fin 3 → Nat :=
  let c6_99 : Index := 6#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v130 : BitVec 32 := Scalar.addi v80 c0_i32_98
  let v131 : Index := Scalar.indexCast v130
  let c0_100 : Index := 0#32
  ![6, v131.toNat, 0]
def k0_off7 (k0_t1 : Fin k0_t1_loop.trips) (c8_i32 : BitVec 32) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v139 : BitVec 32 := Scalar.addi v80 c8_i32
  let v140 : Index := Scalar.indexCast v139
  let c0_104 : Index := 0#32
  ![v140.toNat, 0]
def k0_off8 (k0_t1 : Fin k0_t1_loop.trips) (c8_i32_108 : BitVec 32) : Fin 3 → Nat :=
  let c0_109 : Index := 0#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v147 : BitVec 32 := Scalar.addi v80 c8_i32_108
  let v148 : Index := Scalar.indexCast v147
  let c0_110 : Index := 0#32
  ![0, v148.toNat, 0]
def k0_off9 (k0_t1 : Fin k0_t1_loop.trips) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v360 : Index := Scalar.indexCast v80
  let c0_225 : Index := 0#32
  ![v360.toNat, 0]
def k0_off10 (k0_t1 : Fin k0_t1_loop.trips) (c0_i32_228 : BitVec 32) : Fin 3 → Nat :=
  let c1_229 : Index := 1#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v368 : BitVec 32 := Scalar.addi v80 c0_i32_228
  let v369 : Index := Scalar.indexCast v368
  let c128_230 : Index := 128#32
  ![1, v369.toNat, 128]
def k0_off11 (k0_t1 : Fin k0_t1_loop.trips) (c0_i32_234 : BitVec 32) : Fin 3 → Nat :=
  let c2_235 : Index := 2#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v377 : BitVec 32 := Scalar.addi v80 c0_i32_234
  let v378 : Index := Scalar.indexCast v377
  let c128_236 : Index := 128#32
  ![2, v378.toNat, 128]
def k0_off12 (k0_t1 : Fin k0_t1_loop.trips) (c0_i32_240 : BitVec 32) : Fin 3 → Nat :=
  let c3_241 : Index := 3#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v386 : BitVec 32 := Scalar.addi v80 c0_i32_240
  let v387 : Index := Scalar.indexCast v386
  let c128_242 : Index := 128#32
  ![3, v387.toNat, 128]
def k0_off13 (k0_t1 : Fin k0_t1_loop.trips) (c0_i32_246 : BitVec 32) : Fin 3 → Nat :=
  let c4_247 : Index := 4#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v395 : BitVec 32 := Scalar.addi v80 c0_i32_246
  let v396 : Index := Scalar.indexCast v395
  let c128_248 : Index := 128#32
  ![4, v396.toNat, 128]
def k0_off14 (k0_t1 : Fin k0_t1_loop.trips) (c0_i32_252 : BitVec 32) : Fin 3 → Nat :=
  let c5_253 : Index := 5#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v404 : BitVec 32 := Scalar.addi v80 c0_i32_252
  let v405 : Index := Scalar.indexCast v404
  let c128_254 : Index := 128#32
  ![5, v405.toNat, 128]
def k0_off15 (k0_t1 : Fin k0_t1_loop.trips) (c0_i32_258 : BitVec 32) : Fin 3 → Nat :=
  let c6_259 : Index := 6#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v413 : BitVec 32 := Scalar.addi v80 c0_i32_258
  let v414 : Index := Scalar.indexCast v413
  let c128_260 : Index := 128#32
  ![6, v414.toNat, 128]
def k0_off16 (k0_t1 : Fin k0_t1_loop.trips) (c8_i32_264 : BitVec 32) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v422 : BitVec 32 := Scalar.addi v80 c8_i32_264
  let v423 : Index := Scalar.indexCast v422
  let c128_265 : Index := 128#32
  ![v423.toNat, 128]
def k0_off17 (k0_t1 : Fin k0_t1_loop.trips) (c8_i32_269 : BitVec 32) : Fin 3 → Nat :=
  let c0_270 : Index := 0#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v430 : BitVec 32 := Scalar.addi v80 c8_i32_269
  let v431 : Index := Scalar.indexCast v430
  let c128_271 : Index := 128#32
  ![0, v431.toNat, 128]
def k0_off18 (k0_t1 : Fin k0_t1_loop.trips) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v643 : Index := Scalar.indexCast v80
  let c128_410 : Index := 128#32
  ![v643.toNat, 128]
def k0_off19 (k0_t1 : Fin k0_t1_loop.trips) (c0_i32_413 : BitVec 32) : Fin 3 → Nat :=
  let c1_414 : Index := 1#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v651 : BitVec 32 := Scalar.addi v80 c0_i32_413
  let v652 : Index := Scalar.indexCast v651
  let c256_415 : Index := 256#32
  ![1, v652.toNat, 256]
def k0_off20 (k0_t1 : Fin k0_t1_loop.trips) (c0_i32_419 : BitVec 32) : Fin 3 → Nat :=
  let c2_420 : Index := 2#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v660 : BitVec 32 := Scalar.addi v80 c0_i32_419
  let v661 : Index := Scalar.indexCast v660
  let c256_421 : Index := 256#32
  ![2, v661.toNat, 256]
def k0_off21 (k0_t1 : Fin k0_t1_loop.trips) (c0_i32_425 : BitVec 32) : Fin 3 → Nat :=
  let c3_426 : Index := 3#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v669 : BitVec 32 := Scalar.addi v80 c0_i32_425
  let v670 : Index := Scalar.indexCast v669
  let c256_427 : Index := 256#32
  ![3, v670.toNat, 256]
def k0_off22 (k0_t1 : Fin k0_t1_loop.trips) (c0_i32_431 : BitVec 32) : Fin 3 → Nat :=
  let c4_432 : Index := 4#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v678 : BitVec 32 := Scalar.addi v80 c0_i32_431
  let v679 : Index := Scalar.indexCast v678
  let c256_433 : Index := 256#32
  ![4, v679.toNat, 256]
def k0_off23 (k0_t1 : Fin k0_t1_loop.trips) (c0_i32_437 : BitVec 32) : Fin 3 → Nat :=
  let c5_438 : Index := 5#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v687 : BitVec 32 := Scalar.addi v80 c0_i32_437
  let v688 : Index := Scalar.indexCast v687
  let c256_439 : Index := 256#32
  ![5, v688.toNat, 256]
def k0_off24 (k0_t1 : Fin k0_t1_loop.trips) (c0_i32_443 : BitVec 32) : Fin 3 → Nat :=
  let c6_444 : Index := 6#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v696 : BitVec 32 := Scalar.addi v80 c0_i32_443
  let v697 : Index := Scalar.indexCast v696
  let c256_445 : Index := 256#32
  ![6, v697.toNat, 256]
def k0_off25 (k0_t1 : Fin k0_t1_loop.trips) (c8_i32_449 : BitVec 32) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v705 : BitVec 32 := Scalar.addi v80 c8_i32_449
  let v706 : Index := Scalar.indexCast v705
  let c256_450 : Index := 256#32
  ![v706.toNat, 256]
def k0_off26 (k0_t1 : Fin k0_t1_loop.trips) (c8_i32_454 : BitVec 32) : Fin 3 → Nat :=
  let c0_455 : Index := 0#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v713 : BitVec 32 := Scalar.addi v80 c8_i32_454
  let v714 : Index := Scalar.indexCast v713
  let c256_456 : Index := 256#32
  ![0, v714.toNat, 256]
def k0_off27 (k0_t1 : Fin k0_t1_loop.trips) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v926 : Index := Scalar.indexCast v80
  let c256_595 : Index := 256#32
  ![v926.toNat, 256]
def k0_off28 (k0_t1 : Fin k0_t1_loop.trips) (c0_i32_598 : BitVec 32) : Fin 3 → Nat :=
  let c1_599 : Index := 1#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v934 : BitVec 32 := Scalar.addi v80 c0_i32_598
  let v935 : Index := Scalar.indexCast v934
  let c384_600 : Index := 384#32
  ![1, v935.toNat, 384]
def k0_off29 (k0_t1 : Fin k0_t1_loop.trips) (c0_i32_604 : BitVec 32) : Fin 3 → Nat :=
  let c2_605 : Index := 2#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v943 : BitVec 32 := Scalar.addi v80 c0_i32_604
  let v944 : Index := Scalar.indexCast v943
  let c384_606 : Index := 384#32
  ![2, v944.toNat, 384]
def k0_off30 (k0_t1 : Fin k0_t1_loop.trips) (c0_i32_610 : BitVec 32) : Fin 3 → Nat :=
  let c3_611 : Index := 3#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v952 : BitVec 32 := Scalar.addi v80 c0_i32_610
  let v953 : Index := Scalar.indexCast v952
  let c384_612 : Index := 384#32
  ![3, v953.toNat, 384]
def k0_off31 (k0_t1 : Fin k0_t1_loop.trips) (c0_i32_616 : BitVec 32) : Fin 3 → Nat :=
  let c4_617 : Index := 4#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v961 : BitVec 32 := Scalar.addi v80 c0_i32_616
  let v962 : Index := Scalar.indexCast v961
  let c384_618 : Index := 384#32
  ![4, v962.toNat, 384]
def k0_off32 (k0_t1 : Fin k0_t1_loop.trips) (c0_i32_622 : BitVec 32) : Fin 3 → Nat :=
  let c5_623 : Index := 5#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v970 : BitVec 32 := Scalar.addi v80 c0_i32_622
  let v971 : Index := Scalar.indexCast v970
  let c384_624 : Index := 384#32
  ![5, v971.toNat, 384]
def k0_off33 (k0_t1 : Fin k0_t1_loop.trips) (c0_i32_628 : BitVec 32) : Fin 3 → Nat :=
  let c6_629 : Index := 6#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v979 : BitVec 32 := Scalar.addi v80 c0_i32_628
  let v980 : Index := Scalar.indexCast v979
  let c384_630 : Index := 384#32
  ![6, v980.toNat, 384]
def k0_off34 (k0_t1 : Fin k0_t1_loop.trips) (c8_i32_634 : BitVec 32) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v988 : BitVec 32 := Scalar.addi v80 c8_i32_634
  let v989 : Index := Scalar.indexCast v988
  let c384_635 : Index := 384#32
  ![v989.toNat, 384]
def k0_off35 (k0_t1 : Fin k0_t1_loop.trips) (c8_i32_639 : BitVec 32) : Fin 3 → Nat :=
  let c0_640 : Index := 0#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v996 : BitVec 32 := Scalar.addi v80 c8_i32_639
  let v997 : Index := Scalar.indexCast v996
  let c384_641 : Index := 384#32
  ![0, v997.toNat, 384]
def k0_off36 (k0_t1 : Fin k0_t1_loop.trips) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1209 : Index := Scalar.indexCast v80
  let c384_780 : Index := 384#32
  ![v1209.toNat, 384]
def k0_off37 (k0_t1 : Fin k0_t1_loop.trips) (c0_i32_783 : BitVec 32) : Fin 3 → Nat :=
  let c1_784 : Index := 1#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1217 : BitVec 32 := Scalar.addi v80 c0_i32_783
  let v1218 : Index := Scalar.indexCast v1217
  let c512_785 : Index := 512#32
  ![1, v1218.toNat, 512]
def k0_off38 (k0_t1 : Fin k0_t1_loop.trips) (c0_i32_789 : BitVec 32) : Fin 3 → Nat :=
  let c2_790 : Index := 2#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1226 : BitVec 32 := Scalar.addi v80 c0_i32_789
  let v1227 : Index := Scalar.indexCast v1226
  let c512_791 : Index := 512#32
  ![2, v1227.toNat, 512]
def k0_off39 (k0_t1 : Fin k0_t1_loop.trips) (c0_i32_795 : BitVec 32) : Fin 3 → Nat :=
  let c3_796 : Index := 3#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1235 : BitVec 32 := Scalar.addi v80 c0_i32_795
  let v1236 : Index := Scalar.indexCast v1235
  let c512_797 : Index := 512#32
  ![3, v1236.toNat, 512]
def k0_off40 (k0_t1 : Fin k0_t1_loop.trips) (c0_i32_801 : BitVec 32) : Fin 3 → Nat :=
  let c4_802 : Index := 4#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1244 : BitVec 32 := Scalar.addi v80 c0_i32_801
  let v1245 : Index := Scalar.indexCast v1244
  let c512_803 : Index := 512#32
  ![4, v1245.toNat, 512]
def k0_off41 (k0_t1 : Fin k0_t1_loop.trips) (c0_i32_807 : BitVec 32) : Fin 3 → Nat :=
  let c5_808 : Index := 5#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1253 : BitVec 32 := Scalar.addi v80 c0_i32_807
  let v1254 : Index := Scalar.indexCast v1253
  let c512_809 : Index := 512#32
  ![5, v1254.toNat, 512]
def k0_off42 (k0_t1 : Fin k0_t1_loop.trips) (c0_i32_813 : BitVec 32) : Fin 3 → Nat :=
  let c6_814 : Index := 6#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1262 : BitVec 32 := Scalar.addi v80 c0_i32_813
  let v1263 : Index := Scalar.indexCast v1262
  let c512_815 : Index := 512#32
  ![6, v1263.toNat, 512]
def k0_off43 (k0_t1 : Fin k0_t1_loop.trips) (c8_i32_819 : BitVec 32) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1271 : BitVec 32 := Scalar.addi v80 c8_i32_819
  let v1272 : Index := Scalar.indexCast v1271
  let c512_820 : Index := 512#32
  ![v1272.toNat, 512]
def k0_off44 (k0_t1 : Fin k0_t1_loop.trips) (c8_i32_824 : BitVec 32) : Fin 3 → Nat :=
  let c0_825 : Index := 0#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1279 : BitVec 32 := Scalar.addi v80 c8_i32_824
  let v1280 : Index := Scalar.indexCast v1279
  let c512_826 : Index := 512#32
  ![0, v1280.toNat, 512]
def k0_off45 (k0_t1 : Fin k0_t1_loop.trips) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1492 : Index := Scalar.indexCast v80
  let c512_965 : Index := 512#32
  ![v1492.toNat, 512]
def k0_off46 (k0_t1 : Fin k0_t1_loop.trips) (c0_i32_968 : BitVec 32) : Fin 3 → Nat :=
  let c1_969 : Index := 1#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1500 : BitVec 32 := Scalar.addi v80 c0_i32_968
  let v1501 : Index := Scalar.indexCast v1500
  let c640_970 : Index := 640#32
  ![1, v1501.toNat, 640]
def k0_off47 (k0_t1 : Fin k0_t1_loop.trips) (c0_i32_974 : BitVec 32) : Fin 3 → Nat :=
  let c2_975 : Index := 2#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1509 : BitVec 32 := Scalar.addi v80 c0_i32_974
  let v1510 : Index := Scalar.indexCast v1509
  let c640_976 : Index := 640#32
  ![2, v1510.toNat, 640]
def k0_off48 (k0_t1 : Fin k0_t1_loop.trips) (c0_i32_980 : BitVec 32) : Fin 3 → Nat :=
  let c3_981 : Index := 3#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1518 : BitVec 32 := Scalar.addi v80 c0_i32_980
  let v1519 : Index := Scalar.indexCast v1518
  let c640_982 : Index := 640#32
  ![3, v1519.toNat, 640]
def k0_off49 (k0_t1 : Fin k0_t1_loop.trips) (c0_i32_986 : BitVec 32) : Fin 3 → Nat :=
  let c4_987 : Index := 4#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1527 : BitVec 32 := Scalar.addi v80 c0_i32_986
  let v1528 : Index := Scalar.indexCast v1527
  let c640_988 : Index := 640#32
  ![4, v1528.toNat, 640]
def k0_off50 (k0_t1 : Fin k0_t1_loop.trips) (c0_i32_992 : BitVec 32) : Fin 3 → Nat :=
  let c5_993 : Index := 5#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1536 : BitVec 32 := Scalar.addi v80 c0_i32_992
  let v1537 : Index := Scalar.indexCast v1536
  let c640_994 : Index := 640#32
  ![5, v1537.toNat, 640]
def k0_off51 (k0_t1 : Fin k0_t1_loop.trips) (c0_i32_998 : BitVec 32) : Fin 3 → Nat :=
  let c6_999 : Index := 6#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1545 : BitVec 32 := Scalar.addi v80 c0_i32_998
  let v1546 : Index := Scalar.indexCast v1545
  let c640_1000 : Index := 640#32
  ![6, v1546.toNat, 640]
def k0_off52 (k0_t1 : Fin k0_t1_loop.trips) (c8_i32_1004 : BitVec 32) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1554 : BitVec 32 := Scalar.addi v80 c8_i32_1004
  let v1555 : Index := Scalar.indexCast v1554
  let c640_1005 : Index := 640#32
  ![v1555.toNat, 640]
def k0_off53 (k0_t1 : Fin k0_t1_loop.trips) (c8_i32_1009 : BitVec 32) : Fin 3 → Nat :=
  let c0_1010 : Index := 0#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1562 : BitVec 32 := Scalar.addi v80 c8_i32_1009
  let v1563 : Index := Scalar.indexCast v1562
  let c640_1011 : Index := 640#32
  ![0, v1563.toNat, 640]
def k0_off54 (k0_t1 : Fin k0_t1_loop.trips) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1775 : Index := Scalar.indexCast v80
  let c640_1150 : Index := 640#32
  ![v1775.toNat, 640]
def k0_off55 (k0_t1 : Fin k0_t1_loop.trips) (c0_i32_1153 : BitVec 32) : Fin 3 → Nat :=
  let c1_1154 : Index := 1#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1783 : BitVec 32 := Scalar.addi v80 c0_i32_1153
  let v1784 : Index := Scalar.indexCast v1783
  let c768_1155 : Index := 768#32
  ![1, v1784.toNat, 768]
def k0_off56 (k0_t1 : Fin k0_t1_loop.trips) (c0_i32_1159 : BitVec 32) : Fin 3 → Nat :=
  let c2_1160 : Index := 2#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1792 : BitVec 32 := Scalar.addi v80 c0_i32_1159
  let v1793 : Index := Scalar.indexCast v1792
  let c768_1161 : Index := 768#32
  ![2, v1793.toNat, 768]
def k0_off57 (k0_t1 : Fin k0_t1_loop.trips) (c0_i32_1165 : BitVec 32) : Fin 3 → Nat :=
  let c3_1166 : Index := 3#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1801 : BitVec 32 := Scalar.addi v80 c0_i32_1165
  let v1802 : Index := Scalar.indexCast v1801
  let c768_1167 : Index := 768#32
  ![3, v1802.toNat, 768]
def k0_off58 (k0_t1 : Fin k0_t1_loop.trips) (c0_i32_1171 : BitVec 32) : Fin 3 → Nat :=
  let c4_1172 : Index := 4#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1810 : BitVec 32 := Scalar.addi v80 c0_i32_1171
  let v1811 : Index := Scalar.indexCast v1810
  let c768_1173 : Index := 768#32
  ![4, v1811.toNat, 768]
def k0_off59 (k0_t1 : Fin k0_t1_loop.trips) (c0_i32_1177 : BitVec 32) : Fin 3 → Nat :=
  let c5_1178 : Index := 5#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1819 : BitVec 32 := Scalar.addi v80 c0_i32_1177
  let v1820 : Index := Scalar.indexCast v1819
  let c768_1179 : Index := 768#32
  ![5, v1820.toNat, 768]
def k0_off60 (k0_t1 : Fin k0_t1_loop.trips) (c0_i32_1183 : BitVec 32) : Fin 3 → Nat :=
  let c6_1184 : Index := 6#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1828 : BitVec 32 := Scalar.addi v80 c0_i32_1183
  let v1829 : Index := Scalar.indexCast v1828
  let c768_1185 : Index := 768#32
  ![6, v1829.toNat, 768]
def k0_off61 (k0_t1 : Fin k0_t1_loop.trips) (c8_i32_1189 : BitVec 32) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1837 : BitVec 32 := Scalar.addi v80 c8_i32_1189
  let v1838 : Index := Scalar.indexCast v1837
  let c768_1190 : Index := 768#32
  ![v1838.toNat, 768]
def k0_off62 (k0_t1 : Fin k0_t1_loop.trips) (c8_i32_1194 : BitVec 32) : Fin 3 → Nat :=
  let c0_1195 : Index := 0#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v1845 : BitVec 32 := Scalar.addi v80 c8_i32_1194
  let v1846 : Index := Scalar.indexCast v1845
  let c768_1196 : Index := 768#32
  ![0, v1846.toNat, 768]
def k0_off63 (k0_t1 : Fin k0_t1_loop.trips) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2058 : Index := Scalar.indexCast v80
  let c768_1335 : Index := 768#32
  ![v2058.toNat, 768]
def k0_off64 (k0_t1 : Fin k0_t1_loop.trips) (c0_i32_1338 : BitVec 32) : Fin 3 → Nat :=
  let c1_1339 : Index := 1#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2066 : BitVec 32 := Scalar.addi v80 c0_i32_1338
  let v2067 : Index := Scalar.indexCast v2066
  let c896_1340 : Index := 896#32
  ![1, v2067.toNat, 896]
def k0_off65 (k0_t1 : Fin k0_t1_loop.trips) (c0_i32_1344 : BitVec 32) : Fin 3 → Nat :=
  let c2_1345 : Index := 2#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2075 : BitVec 32 := Scalar.addi v80 c0_i32_1344
  let v2076 : Index := Scalar.indexCast v2075
  let c896_1346 : Index := 896#32
  ![2, v2076.toNat, 896]
def k0_off66 (k0_t1 : Fin k0_t1_loop.trips) (c0_i32_1350 : BitVec 32) : Fin 3 → Nat :=
  let c3_1351 : Index := 3#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2084 : BitVec 32 := Scalar.addi v80 c0_i32_1350
  let v2085 : Index := Scalar.indexCast v2084
  let c896_1352 : Index := 896#32
  ![3, v2085.toNat, 896]
def k0_off67 (k0_t1 : Fin k0_t1_loop.trips) (c0_i32_1356 : BitVec 32) : Fin 3 → Nat :=
  let c4_1357 : Index := 4#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2093 : BitVec 32 := Scalar.addi v80 c0_i32_1356
  let v2094 : Index := Scalar.indexCast v2093
  let c896_1358 : Index := 896#32
  ![4, v2094.toNat, 896]
def k0_off68 (k0_t1 : Fin k0_t1_loop.trips) (c0_i32_1362 : BitVec 32) : Fin 3 → Nat :=
  let c5_1363 : Index := 5#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2102 : BitVec 32 := Scalar.addi v80 c0_i32_1362
  let v2103 : Index := Scalar.indexCast v2102
  let c896_1364 : Index := 896#32
  ![5, v2103.toNat, 896]
def k0_off69 (k0_t1 : Fin k0_t1_loop.trips) (c0_i32_1368 : BitVec 32) : Fin 3 → Nat :=
  let c6_1369 : Index := 6#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2111 : BitVec 32 := Scalar.addi v80 c0_i32_1368
  let v2112 : Index := Scalar.indexCast v2111
  let c896_1370 : Index := 896#32
  ![6, v2112.toNat, 896]
def k0_off70 (k0_t1 : Fin k0_t1_loop.trips) (c8_i32_1374 : BitVec 32) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2120 : BitVec 32 := Scalar.addi v80 c8_i32_1374
  let v2121 : Index := Scalar.indexCast v2120
  let c896_1375 : Index := 896#32
  ![v2121.toNat, 896]
def k0_off71 (k0_t1 : Fin k0_t1_loop.trips) (c8_i32_1379 : BitVec 32) : Fin 3 → Nat :=
  let c0_1380 : Index := 0#32
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2128 : BitVec 32 := Scalar.addi v80 c8_i32_1379
  let v2129 : Index := Scalar.indexCast v2128
  let c896_1381 : Index := 896#32
  ![0, v2129.toNat, 896]
def k0_off72 (k0_t1 : Fin k0_t1_loop.trips) : Fin 2 → Nat :=
  let c0_i32_60 : BitVec 32 := 0#32
  let c1_i32 : BitVec 32 := 1#32
  let arg20 : BitVec 32 := Scf.iv c0_i32_60 c1_i32 k0_t1
  let c16_i32 : BitVec 32 := 16#32
  let v79 : BitVec 32 := Scalar.muli arg20 c16_i32
  let v80 : BitVec 32 := v79
  let v2341 : Index := Scalar.indexCast v80
  let c896_1520 : Index := 896#32
  ![v2341.toNat, 896]
@[reducible] def k0_t2_loop : Scf.Loop 32 :=
  let c0_i32_62 : BitVec 32 := 0#32
  let c4_i32 : BitVec 32 := 4#32
  let v78 : BitVec 32 := Scalar.addi c0_i32_62 c4_i32
  let c1_i32_63 : BitVec 32 := 1#32
  ⟨c0_i32_62, v78, c1_i32_63⟩
def k0_mult2 (k0_t2 : Fin k0_t2_loop.trips) : BitVec 32 :=
  let c0_i32_62 : BitVec 32 := 0#32
  let c1_i32_63 : BitVec 32 := 1#32
  let arg20 : BitVec 32 := Scf.iv c0_i32_62 c1_i32_63 k0_t2
  let c128_i32 : BitVec 32 := 128#32
  let v79 : BitVec 32 := Scalar.muli arg20 c128_i32
  v79
def k0_off73 (k0_t2 : Fin k0_t2_loop.trips) : Fin 2 → Nat :=
  let c0_i32_62 : BitVec 32 := 0#32
  let c1_i32_63 : BitVec 32 := 1#32
  let arg20 : BitVec 32 := Scf.iv c0_i32_62 c1_i32_63 k0_t2
  let c128_i32 : BitVec 32 := 128#32
  let v79 : BitVec 32 := Scalar.muli arg20 c128_i32
  let v80 : BitVec 32 := v79
  let v81 : Index := Scalar.indexCast v80
  let c0_65 : Index := 0#32
  ![v81.toNat, 0]
def k0_off74 (k0_t2 : Fin k0_t2_loop.trips) : Fin 3 → Nat :=
  let c0_80 : Index := 0#32
  let c0_i32_62 : BitVec 32 := 0#32
  let c1_i32_63 : BitVec 32 := 1#32
  let arg20 : BitVec 32 := Scf.iv c0_i32_62 c1_i32_63 k0_t2
  let c128_i32 : BitVec 32 := 128#32
  let v79 : BitVec 32 := Scalar.muli arg20 c128_i32
  let v80 : BitVec 32 := v79
  let v116 : Index := Scalar.indexCast v80
  let c0_81 : Index := 0#32
  ![0, v116.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.addi v1 c32_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.addi v1 c32_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ConvRefIdeal.lean ====
abbrev S4x4096x5120 : Shape := ⟨3, ![4, 4096, 5120]⟩
abbrev S1x31x1024 : Shape := ⟨3, ![1, 31, 1024]⟩
abbrev S1x1024 : Shape := ⟨2, ![1, 1024]⟩
abbrev S2x2048x5632 : Shape := ⟨3, ![2, 2048, 5632]⟩
abbrev S1x2048x8192 : Shape := ⟨3, ![1, 2048, 8192]⟩
abbrev S4x4096x1024 : Shape := ⟨3, ![4, 4096, 1024]⟩
abbrev S_ : Shape := ⟨0, ![]⟩
abbrev S4x4126x1024 : Shape := ⟨3, ![4, 4126, 1024]⟩
abbrev S1x1x1024 : Shape := ⟨3, ![1, 1, 1024]⟩
abbrev S1024 : Shape := ⟨1, ![1024]⟩
abbrev S4x4096 : Shape := ⟨2, ![4, 4096]⟩
abbrev S4x4096x1 : Shape := ⟨3, ![4, 4096, 1]⟩
abbrev S1x2048x5632 : Shape := ⟨3, ![1, 2048, 5632]⟩
abbrev S2048x5632 : Shape := ⟨2, ![2048, 5632]⟩
abbrev S2048x8192 : Shape := ⟨2, ![2048, 8192]⟩

abbrev nBuf : Space → Nat
  | .hbm => 290
  | .vmem => 0
  | .smem => 0
  | _ => 0

abbrev hbmTy0_0 (i : Nat) : BufTy := match i % 128 with
  | 0 => ⟨S4x4096x5120, .bf16⟩
  | 1 => ⟨S1x31x1024, .f32⟩
  | 2 => ⟨S1x1024, .f32⟩
  | 3 => ⟨S1x1024, .f32⟩
  | 4 => ⟨S1x1024, .f32⟩
  | 5 => ⟨S2x2048x5632, .f32⟩
  | 6 => ⟨S2x2048x5632, .f32⟩
  | 7 => ⟨S1x2048x8192, .f32⟩
  | 8 => ⟨S4x4096x5120, .f32⟩
  | 9 => ⟨S4x4096x1024, .f32⟩
  | 10 => ⟨S4x4096x1024, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S_, .f32⟩
  | 17 => ⟨S4x4096x1024, .f32⟩
  | 18 => ⟨S4x4096x1024, .f32⟩
  | 19 => ⟨S4x4096x1024, .f32⟩
  | 20 => ⟨S_, .i32⟩
  | 21 => ⟨S_, .f32⟩
  | 22 => ⟨S4x4126x1024, .f32⟩
  | 23 => ⟨S4x4096x1024, .f32⟩
  | 24 => ⟨S1x1x1024, .f32⟩
  | 25 => ⟨S1024, .f32⟩
  | 26 => ⟨S1x1x1024, .f32⟩
  | 27 => ⟨S4x4096x1024, .f32⟩
  | 28 => ⟨S4x4096x1024, .f32⟩
  | 29 => ⟨S4x4096x1024, .f32⟩
  | 30 => ⟨S1x1x1024, .f32⟩
  | 31 => ⟨S1024, .f32⟩
  | 32 => ⟨S1x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S1x1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S1x1x1024, .f32⟩
  | 45 => ⟨S1024, .f32⟩
  | 46 => ⟨S1x1x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S1x1x1024, .f32⟩
  | 52 => ⟨S1024, .f32⟩
  | 53 => ⟨S1x1x1024, .f32⟩
  | 54 => ⟨S4x4096x1024, .f32⟩
  | 55 => ⟨S4x4096x1024, .f32⟩
  | 56 => ⟨S4x4096x1024, .f32⟩
  | 57 => ⟨S4x4096x1024, .f32⟩
  | 58 => ⟨S1x1x1024, .f32⟩
  | 59 => ⟨S1024, .f32⟩
  | 60 => ⟨S1x1x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S1x1x1024, .f32⟩
  | 66 => ⟨S1024, .f32⟩
  | 67 => ⟨S1x1x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S1x1x1024, .f32⟩
  | 73 => ⟨S1024, .f32⟩
  | 74 => ⟨S1x1x1024, .f32⟩
  | 75 => ⟨S4x4096x1024, .f32⟩
  | 76 => ⟨S4x4096x1024, .f32⟩
  | 77 => ⟨S4x4096x1024, .f32⟩
  | 78 => ⟨S4x4096x1024, .f32⟩
  | 79 => ⟨S1x1x1024, .f32⟩
  | 80 => ⟨S1024, .f32⟩
  | 81 => ⟨S1x1x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S1x1x1024, .f32⟩
  | 87 => ⟨S1024, .f32⟩
  | 88 => ⟨S1x1x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S1x1x1024, .f32⟩
  | 94 => ⟨S1024, .f32⟩
  | 95 => ⟨S1x1x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S1x1x1024, .f32⟩
  | 101 => ⟨S1024, .f32⟩
  | 102 => ⟨S1x1x1024, .f32⟩
  | 103 => ⟨S4x4096x1024, .f32⟩
  | 104 => ⟨S4x4096x1024, .f32⟩
  | 105 => ⟨S4x4096x1024, .f32⟩
  | 106 => ⟨S4x4096x1024, .f32⟩
  | 107 => ⟨S1x1x1024, .f32⟩
  | 108 => ⟨S1024, .f32⟩
  | 109 => ⟨S1x1x1024, .f32⟩
  | 110 => ⟨S4x4096x1024, .f32⟩
  | 111 => ⟨S4x4096x1024, .f32⟩
  | 112 => ⟨S4x4096x1024, .f32⟩
  | 113 => ⟨S4x4096x1024, .f32⟩
  | 114 => ⟨S1x1x1024, .f32⟩
  | 115 => ⟨S1024, .f32⟩
  | 116 => ⟨S1x1x1024, .f32⟩
  | 117 => ⟨S4x4096x1024, .f32⟩
  | 118 => ⟨S4x4096x1024, .f32⟩
  | 119 => ⟨S4x4096x1024, .f32⟩
  | 120 => ⟨S4x4096x1024, .f32⟩
  | 121 => ⟨S1x1x1024, .f32⟩
  | 122 => ⟨S1024, .f32⟩
  | 123 => ⟨S1x1x1024, .f32⟩
  | 124 => ⟨S4x4096x1024, .f32⟩
  | 125 => ⟨S4x4096x1024, .f32⟩
  | 126 => ⟨S4x4096x1024, .f32⟩
  | 127 => ⟨S4x4096x1024, .f32⟩
  | _ => ⟨S4x4096x5120, .bf16⟩

abbrev hbmTy0_1 (i : Nat) : BufTy := match i % 128 with
  | 0 => ⟨S1x1x1024, .f32⟩
  | 1 => ⟨S1024, .f32⟩
  | 2 => ⟨S1x1x1024, .f32⟩
  | 3 => ⟨S4x4096x1024, .f32⟩
  | 4 => ⟨S4x4096x1024, .f32⟩
  | 5 => ⟨S4x4096x1024, .f32⟩
  | 6 => ⟨S4x4096x1024, .f32⟩
  | 7 => ⟨S1x1x1024, .f32⟩
  | 8 => ⟨S1024, .f32⟩
  | 9 => ⟨S1x1x1024, .f32⟩
  | 10 => ⟨S4x4096x1024, .f32⟩
  | 11 => ⟨S4x4096x1024, .f32⟩
  | 12 => ⟨S4x4096x1024, .f32⟩
  | 13 => ⟨S4x4096x1024, .f32⟩
  | 14 => ⟨S1x1x1024, .f32⟩
  | 15 => ⟨S1024, .f32⟩
  | 16 => ⟨S1x1x1024, .f32⟩
  | 17 => ⟨S4x4096x1024, .f32⟩
  | 18 => ⟨S4x4096x1024, .f32⟩
  | 19 => ⟨S4x4096x1024, .f32⟩
  | 20 => ⟨S4x4096x1024, .f32⟩
  | 21 => ⟨S1x1x1024, .f32⟩
  | 22 => ⟨S1024, .f32⟩
  | 23 => ⟨S1x1x1024, .f32⟩
  | 24 => ⟨S4x4096x1024, .f32⟩
  | 25 => ⟨S4x4096x1024, .f32⟩
  | 26 => ⟨S4x4096x1024, .f32⟩
  | 27 => ⟨S4x4096x1024, .f32⟩
  | 28 => ⟨S1x1x1024, .f32⟩
  | 29 => ⟨S1024, .f32⟩
  | 30 => ⟨S1x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S1x1x1024, .f32⟩
  | 36 => ⟨S1024, .f32⟩
  | 37 => ⟨S1x1x1024, .f32⟩
  | 38 => ⟨S4x4096x1024, .f32⟩
  | 39 => ⟨S4x4096x1024, .f32⟩
  | 40 => ⟨S4x4096x1024, .f32⟩
  | 41 => ⟨S4x4096x1024, .f32⟩
  | 42 => ⟨S1x1x1024, .f32⟩
  | 43 => ⟨S1024, .f32⟩
  | 44 => ⟨S1x1x1024, .f32⟩
  | 45 => ⟨S4x4096x1024, .f32⟩
  | 46 => ⟨S4x4096x1024, .f32⟩
  | 47 => ⟨S4x4096x1024, .f32⟩
  | 48 => ⟨S4x4096x1024, .f32⟩
  | 49 => ⟨S1x1x1024, .f32⟩
  | 50 => ⟨S1024, .f32⟩
  | 51 => ⟨S1x1x1024, .f32⟩
  | 52 => ⟨S4x4096x1024, .f32⟩
  | 53 => ⟨S4x4096x1024, .f32⟩
  | 54 => ⟨S4x4096x1024, .f32⟩
  | 55 => ⟨S4x4096x1024, .f32⟩
  | 56 => ⟨S1x1x1024, .f32⟩
  | 57 => ⟨S1024, .f32⟩
  | 58 => ⟨S1x1x1024, .f32⟩
  | 59 => ⟨S4x4096x1024, .f32⟩
  | 60 => ⟨S4x4096x1024, .f32⟩
  | 61 => ⟨S4x4096x1024, .f32⟩
  | 62 => ⟨S4x4096x1024, .f32⟩
  | 63 => ⟨S1x1x1024, .f32⟩
  | 64 => ⟨S1024, .f32⟩
  | 65 => ⟨S1x1x1024, .f32⟩
  | 66 => ⟨S4x4096x1024, .f32⟩
  | 67 => ⟨S4x4096x1024, .f32⟩
  | 68 => ⟨S4x4096x1024, .f32⟩
  | 69 => ⟨S4x4096x1024, .f32⟩
  | 70 => ⟨S1x1x1024, .f32⟩
  | 71 => ⟨S1024, .f32⟩
  | 72 => ⟨S1x1x1024, .f32⟩
  | 73 => ⟨S4x4096x1024, .f32⟩
  | 74 => ⟨S4x4096x1024, .f32⟩
  | 75 => ⟨S4x4096x1024, .f32⟩
  | 76 => ⟨S4x4096x1024, .f32⟩
  | 77 => ⟨S1x1x1024, .f32⟩
  | 78 => ⟨S1024, .f32⟩
  | 79 => ⟨S1x1x1024, .f32⟩
  | 80 => ⟨S4x4096x1024, .f32⟩
  | 81 => ⟨S4x4096x1024, .f32⟩
  | 82 => ⟨S4x4096x1024, .f32⟩
  | 83 => ⟨S4x4096x1024, .f32⟩
  | 84 => ⟨S1x1x1024, .f32⟩
  | 85 => ⟨S1024, .f32⟩
  | 86 => ⟨S1x1x1024, .f32⟩
  | 87 => ⟨S4x4096x1024, .f32⟩
  | 88 => ⟨S4x4096x1024, .f32⟩
  | 89 => ⟨S4x4096x1024, .f32⟩
  | 90 => ⟨S4x4096x1024, .f32⟩
  | 91 => ⟨S1x1x1024, .f32⟩
  | 92 => ⟨S1024, .f32⟩
  | 93 => ⟨S1x1x1024, .f32⟩
  | 94 => ⟨S4x4096x1024, .f32⟩
  | 95 => ⟨S4x4096x1024, .f32⟩
  | 96 => ⟨S4x4096x1024, .f32⟩
  | 97 => ⟨S4x4096x1024, .f32⟩
  | 98 => ⟨S1x1x1024, .f32⟩
  | 99 => ⟨S1024, .f32⟩
  | 100 => ⟨S1x1x1024, .f32⟩
  | 101 => ⟨S4x4096x1024, .f32⟩
  | 102 => ⟨S4x4096x1024, .f32⟩
  | 103 => ⟨S4x4096x1024, .f32⟩
  | 104 => ⟨S4x4096x1024, .f32⟩
  | 105 => ⟨S1x1x1024, .f32⟩
  | 106 => ⟨S1024, .f32⟩
  | 107 => ⟨S1x1x1024, .f32⟩
  | 108 => ⟨S4x4096x1024, .f32⟩
  | 109 => ⟨S4x4096x1024, .f32⟩
  | 110 => ⟨S4x4096x1024, .f32⟩
  | 111 => ⟨S1024, .f32⟩
  | 112 => ⟨S1x1x1024, .f32⟩
  | 113 => ⟨S4x4096x1024, .f32⟩
  | 114 => ⟨S4x4096x1024, .f32⟩
  | 115 => ⟨S1024, .f32⟩
  | 116 => ⟨S1024, .f32⟩
  | 117 => ⟨S_, .f32⟩
  | 118 => ⟨S4x4096, .f32⟩
  | 119 => ⟨S4x4096x1, .f32⟩
  | 120 => ⟨S_, .f32⟩
  | 121 => ⟨S4x4096x1, .f32⟩
  | 122 => ⟨S4x4096x1, .f32⟩
  | 123 => ⟨S4x4096x1024, .f32⟩
  | 124 => ⟨S4x4096x1024, .f32⟩
  | 125 => ⟨S4x4096x1024, .f32⟩
  | 126 => ⟨S_, .f32⟩
  | 127 => ⟨S4x4096, .f32⟩
  | _ => ⟨S4x4096x5120, .bf16⟩

abbrev hbmTy0_2 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S_, .f32⟩
  | 5 => ⟨S4x4096x1, .f32⟩
  | 6 => ⟨S4x4096x1, .f32⟩
  | 7 => ⟨S4x4096x1, .f32⟩
  | 8 => ⟨S4x4096x1024, .f32⟩
  | 9 => ⟨S4x4096x1024, .f32⟩
  | 10 => ⟨S1x1x1024, .f32⟩
  | 11 => ⟨S4x4096x1024, .f32⟩
  | 12 => ⟨S4x4096x1024, .f32⟩
  | 13 => ⟨S1x1x1024, .f32⟩
  | 14 => ⟨S4x4096x1024, .f32⟩
  | 15 => ⟨S4x4096x1024, .f32⟩
  | 16 => ⟨S4x4096x1024, .f32⟩
  | 17 => ⟨S4x4096x1024, .f32⟩
  | 18 => ⟨S_, .f32⟩
  | 19 => ⟨S4x4096x1024, .f32⟩
  | 20 => ⟨S4x4096x1024, .f32⟩
  | 21 => ⟨S_, .f32⟩
  | 22 => ⟨S4x4096x1024, .f32⟩
  | 23 => ⟨S4x4096x1024, .f32⟩
  | 24 => ⟨S4x4096x1024, .f32⟩
  | 25 => ⟨S4x4096x1024, .bf16⟩
  | 26 => ⟨S1x2048x5632, .f32⟩
  | 27 => ⟨S2048x5632, .f32⟩
  | 28 => ⟨S2048x5632, .bf16⟩
  | 29 => ⟨S1x2048x5632, .f32⟩
  | 30 => ⟨S2048x5632, .f32⟩
  | 31 => ⟨S2048x5632, .bf16⟩
  | 32 => ⟨S2048x8192, .f32⟩
  | 33 => ⟨S2048x8192, .bf16⟩
  | _ => ⟨S4x4096x5120, .bf16⟩

abbrev hbmTy (i : Nat) : BufTy := match i / 128 with
  | 0 => hbmTy0_0 i
  | 1 => hbmTy0_1 i
  | 2 => hbmTy0_2 i
  | _ => ⟨S4x4096x5120, .bf16⟩

abbrev bufTy : (tb : Table) → Fin (tcTables nBuf tb) → BufTy
  | .hbm, ⟨i, _⟩ => hbmTy i
  | _, _ => ⟨S4x4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_cst_1 : Ref sig .tc := ⟨.hbm, 245, rfl⟩
abbrev main_v233 : Ref sig .tc := ⟨.hbm, 246, rfl⟩
abbrev main_v234 : Ref sig .tc := ⟨.hbm, 247, rfl⟩
abbrev main_cst_2 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_cst_3 : Ref sig .tc := ⟨.hbm, 254, rfl⟩
abbrev main_v240 : Ref sig .tc := ⟨.hbm, 255, rfl⟩
abbrev main_v241 : Ref sig .tc := ⟨.hbm, 256, rfl⟩
abbrev main_cst_4 : Ref sig .tc := ⟨.hbm, 257, rfl⟩
abbrev main_v242 : Ref sig .tc := ⟨.hbm, 258, rfl⟩
abbrev main_v243 : Ref sig .tc := ⟨.hbm, 259, rfl⟩
abbrev main_cst_5 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_call1_v0 : Ref sig .tc := ⟨.hbm, 272, rfl⟩
abbrev main_call1_v1 : Ref sig .tc := ⟨.hbm, 273, rfl⟩
abbrev main_call1_cst : Ref sig .tc := ⟨.hbm, 274, rfl⟩
abbrev main_call1_v2 : Ref sig .tc := ⟨.hbm, 275, rfl⟩
abbrev main_call1_v3 : Ref sig .tc := ⟨.hbm, 276, rfl⟩
abbrev main_call1_cst_0 : Ref sig .tc := ⟨.hbm, 277, rfl⟩
abbrev main_call1_v4 : Ref sig .tc := ⟨.hbm, 278, rfl⟩
abbrev main_call1_v5 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩

abbrev nD : Nat := 1
abbrev τ : Topo := Topo.v7x

variable {F : FTy → Type} [FloatOps F]
-- ==== Proof.Swish.lean ====
/-
  Facts of the extended reals that the layer's programs meet, none of them about a program: the gate written with a
  hyperbolic tangent is the logistic function, and a half goes into a sum.
-/
module

public import Idealize.ShloMosaic.Lib.Pointwise
public import Idealize.ShloMosaic.Lib.Pipeline.Value

@[expose] public section

noncomputable section

open Idealize.ShloMosaic

namespace Cert.Swish

/-- The number one half, as the programs print it. -/
abbrev half : EReal := Ideal.ofBits .f32 0x3F000000#32

/-- The printed constant is the real number one half. -/
theorem half_eq : half = (((1 : ℝ) / 2 : ℝ) : EReal) := by
  simp [half, Ideal.ofBits, Ideal.ieee, -EReal.coe_mul]; norm_num

/-- On the reals, half the hyperbolic tangent of half the argument, plus a half, is one over one plus the exponential of
    minus the argument. -/
theorem real_gate (x : ℝ) : 1 / 2 * Real.tanh (1 / 2 * x) + 1 / 2 = (1 + Real.exp (-x))⁻¹ := by
  have h1 : Real.exp (-x) = Real.exp (-(1 / 2 * x)) * Real.exp (-(1 / 2 * x)) := by
    rw [← Real.exp_add]; congr 1; ring
  have hp : Real.exp (1 / 2 * x) * Real.exp (-(1 / 2 * x)) = 1 := by rw [← Real.exp_add]; simp
  rw [Real.tanh_eq_sinh_div_cosh, Real.sinh_eq, Real.cosh_eq, h1]
  set a := Real.exp (1 / 2 * x) with ha
  set b := Real.exp (-(1 / 2 * x)) with hb
  have pa : 0 < a := Real.exp_pos _
  have pb : 0 < b := Real.exp_pos _
  have : b * b + 1 ≠ 0 := by positivity
  field_simp
  nlinarith

/-- The gate the kernels compute, `½·tanh(½·x) + ½`, is `1 / (1 + e⁻ˣ)` at every extended real. -/
theorem gate_eq (x : EReal) : half * Ideal.tanh (half * x) + half = Ideal.div 1 (1 + Ideal.exp (-x)) := by
  change _ = Ideal.logistic x
  rw [half_eq]
  have hpos : (0 : ℝ) < 1 / 2 := by norm_num
  induction x using EReal.rec with
  | bot =>
    rw [EReal.coe_mul_bot_of_pos hpos, Ideal.tanh_bot, Ideal.logistic_bot, ← EReal.coe_one, ← EReal.coe_neg,
      ← EReal.coe_mul, ← EReal.coe_add]
    norm_num
  | top =>
    rw [EReal.coe_mul_top_of_pos hpos, Ideal.tanh_top, Ideal.logistic_top, ← EReal.coe_one,
      ← EReal.coe_mul, ← EReal.coe_add]
    norm_num
  | coe x =>
    rw [← EReal.coe_mul, Ideal.tanh_coe, Ideal.logistic_coe, ← EReal.coe_mul, ← EReal.coe_add, real_gate]

/-- A half goes into a finite sum of extended reals. -/
theorem half_mul_sum {ι : Type*} (s : Finset ι) (f : ι → EReal) : half * ∑ i ∈ s, f i = ∑ i ∈ s, half * f i := by
  classical
  have hn : (0 : EReal) ≤ half := by rw [half_eq]; exact_mod_cast (by norm_num : (0 : ℝ) ≤ 1 / 2)
  have ht : half ≠ ⊤ := by rw [half_eq]; exact EReal.coe_ne_top _
  induction s using Finset.induction_on with
  | empty => simp
  | insert a s ha ih => rw [Finset.sum_insert ha, Finset.sum_insert ha, EReal.left_distrib_of_nonneg_of_ne_top hn ht, ih]

end Cert.Swish

end
-- ==== Proof.Layer.lean ====
/-
  The feed-forward layer as plain functions of rows of extended reals, naming no program: what one row's root-mean-square
  normalization, its gated hidden units and its result are.
-/
module

public import proofs.«01_k».proof.Proof.Swish
public import Idealize.ShloMosaic.Lib.Pipeline.ValueKit.Acc

@[expose] public section

noncomputable section

open Idealize.ShloMosaic

namespace Cert.Layer

/-- One row scaled by the reciprocal root of its mean square (with the printed small constant), then by the gain. -/
def normed (x g : Fin 2048 → EReal) (d : Fin 2048) : EReal :=
  x d * Ideal.rsqrt (Ideal.div (∑ k : Fin 2048, x k * x k) (Ideal.ofBits .f32 0x45000000#32) + Ideal.ofBits .f32 0x358637BD#32) * g d

/-- One hidden unit: the gate product through the logistic gate, times the up product. -/
def hidden (y wg wu : Fin 2048 → EReal) : EReal :=
  (∑ d : Fin 2048, y d * wg d) * Ideal.div 1 (1 + Ideal.exp (-∑ d : Fin 2048, y d * wg d)) * ∑ d : Fin 2048, y d * wu d

/-- The unit as the kernel spells it, its gate by the hyperbolic tangent, is the same unit. -/
theorem hidden_tanh (y wg wu : Fin 2048 → EReal) :
    (∑ d : Fin 2048, y d * wg d) * (Swish.half * Ideal.tanh (Swish.half * ∑ d : Fin 2048, y d * wg d) + Swish.half) * ∑ d : Fin 2048, y d * wu d
      = hidden y wg wu := by
  rw [Swish.gate_eq]; rfl

/-- What hidden unit `k` adds to column `n` of the result: the unit, halved, times the down weight. -/
def share (y : Fin 2048 → EReal) (wg wu : Fin 2048 → Fin 5632 → EReal) (wd : Fin 5632 → EReal) (k : Fin 5632) : EReal :=
  hidden y (fun d => wg d k) (fun d => wu d k) * Swish.half * wd k

/-- What the `s`-th stretch of 512 hidden units adds. -/
def stretch (T : Fin 5632 → EReal) (s : ℕ) : EReal :=
  if h : s < 11 then ∑ q : Fin 512, T ⟨s * 512 + q.val, by omega⟩ else 0

/-- The eleven stretches together are the sum over all the hidden units. -/
theorem sum_stretch (T : Fin 5632 → EReal) : ∑ s ∈ Finset.range 11, stretch T s = ∑ k : Fin 5632, T k := by
  rw [← Fin.sum_univ_eq_sum_range (stretch T) 11]
  rw [← Fin.sum_mul_add_fin 11 512 T]
  exact Finset.sum_congr rfl fun s _ => dif_pos s.isLt

/-- The whole sum with the halves taken out. -/
theorem sum_share (y : Fin 2048 → EReal) (wg wu : Fin 2048 → Fin 5632 → EReal) (wd : Fin 5632 → EReal) :
    ∑ k, share y wg wu wd k = Swish.half * ∑ k, hidden y (fun d => wg d k) (fun d => wu d k) * wd k := by
  rw [Swish.half_mul_sum]
  refine Finset.sum_congr rfl fun k _ => ?_
  unfold share
  rw [mul_comm (hidden _ _ _) Swish.half, mul_assoc]

end Cert.Layer

end
-- ==== Proof.FfnValue.lean ====
/-
  The feed-forward kernel's result. Its run leaves, at row `R` and column `n`, the input there plus what each of the eleven
  stretches of 512 hidden units adds; the normalized row is computed at the first stretch and kept in scratch.
-/
module

public import proofs.«01_k».proof.Proof.Gen.FfnIdeal.Value
public import proofs.«01_k».proof.Proof.Layer
public import Idealize.ShloMosaic.Lib.Claim
public import Idealize.ShloMosaic.Lib.Tactic
public import Idealize.ShloMosaic.Lib.Pipeline.ValueKit.Point
@[expose] public section

set_option maxRecDepth 16384

noncomputable section
open Idealize.ShloMosaic Idealize.ShloMosaic.TcCoe Idealize.SL.Sem
namespace Cert.FfnIdeal.Row

open Cert.FfnIdeal Cert.FfnIdeal.Gen Cert.FfnIdeal.Value Cert.Layer

/-- The offsets of a whole block of two axes are zero. -/
theorem hz2 : (![0, 0] : Fin 2 → Nat) = fun _ => 0 := funext fun a => by fin_cases a <;> rfl
/-- The offsets of a whole block of three axes are zero. -/
theorem hz3 : (![0, 0, 0] : Fin 3 → Nat) = fun _ => 0 := funext fun a => by fin_cases a <;> rfl
variable {F : FTy → Type} [FloatOps F]

/-- At a row block's first point the output block is the input block plus the first stretch's product. -/
theorem out_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .f32) (harg6 : arg6.IsWhole) (arg7 : Memref sig .tc .vmem S1024x2048 .f32) (harg7 : arg7.IsWhole) (arg8 : Memref sig .tc .vmem S1024x2048 .bf16) (harg8 : arg8.IsWhole) (hc0 : cond0_0 i) (hc1 : ¬cond0_1 i)
    (x0 : Vec F S1024x2048 .f32) (x1 : Vec F S1x1x2048 .f32) (x2 : Vec F S1x2048x512 .bf16) (x3 : Vec F S1x2048x512 .bf16) (x4 : Vec F S1x512x2048 .f32) :
    out0_A_5 c i arg2 harg2 arg3 harg3 arg4 harg4 arg5 harg5 arg6 harg6 arg7 harg7 arg8 harg8 hc0 hc1 x0 x1 x2 x3 x4
      = k0_pay1 (k0_pay3 x0) (k0_pay6 x0 x1 x2 x3) x4 := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread,
    View.ld_unit_zero (S := S1024x2048) hz2, View.ld_unit_zero (S := S1x1x2048) hz3, View.ld_unit_zero (S := S1x2048x512) hz3, View.ld_unit_zero (S := S1x512x2048) hz3]

/-- At a row block's first point the scratch is left at the normalized rows. -/
theorem sout_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .f32) (harg6 : arg6.IsWhole) (arg7 : Memref sig .tc .vmem S1024x2048 .f32) (harg7 : arg7.IsWhole) (arg8 : Memref sig .tc .vmem S1024x2048 .bf16) (harg8 : arg8.IsWhole) (hc0 : cond0_0 i) (hc1 : ¬cond0_1 i)
    (x0 : Vec F S1024x2048 .f32) (x1 : Vec F S1x1x2048 .f32) (x2 : Vec F S1x2048x512 .bf16) (x3 : Vec F S1x2048x512 .bf16) (x4 : Vec F S1x512x2048 .f32) :
    sout0_A_0 c i arg2 harg2 arg3 harg3 arg4 harg4 arg5 harg5 arg6 harg6 arg7 harg7 arg8 harg8 hc0 hc1 x0 x1 x2 x3 x4
      = k0_pay5 x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread,
    View.ld_unit_zero (S := S1024x2048) hz2, View.ld_unit_zero (S := S1x1x2048) hz3, View.ld_unit_zero (S := S1x2048x512) hz3, View.ld_unit_zero (S := S1x512x2048) hz3]

/-- At a later point the output block is what it was plus the point's stretch. -/
theorem out_B (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .f32) (harg6 : arg6.IsWhole) (arg7 : Memref sig .tc .vmem S1024x2048 .f32) (harg7 : arg7.IsWhole) (arg8 : Memref sig .tc .vmem S1024x2048 .bf16) (harg8 : arg8.IsWhole) (hc0 : ¬cond0_0 i) (hc1 : cond0_1 i)
    (x0 : Vec F S1024x2048 .f32) (x1 : Vec F S1x1x2048 .f32) (x2 : Vec F S1x2048x512 .bf16) (x3 : Vec F S1x2048x512 .bf16) (x4 : Vec F S1x512x2048 .f32) (xo5 : Vec F S1024x2048 .f32) (xs0 : Vec F S1024x2048 .bf16) :
    out0_B_5 c i arg2 harg2 arg3 harg3 arg4 harg4 arg5 harg5 arg6 harg6 arg7 harg7 arg8 harg8 hc0 hc1 x0 x1 x2 x3 x4 xo5 xs0
      = k0_pay2 xo5 xs0 x2 x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo5 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread,
    View.ld_unit_zero (S := S1024x2048) hz2, View.ld_unit_zero (S := S1x1x2048) hz3, View.ld_unit_zero (S := S1x2048x512) hz3, View.ld_unit_zero (S := S1x512x2048) hz3]

/-- Which block each window reads at a point: the row block `t / 11`, the stretch `t % 11`, layer 1 of the weights. -/
theorem idx : ∀ t : Fin cfg0.N, win0_0.index t = ![t.val / 11, 0] ∧ win0_1.index t = ![1, 0, 0] ∧ win0_2.index t = ![1, 0, t.val % 11]
    ∧ win0_3.index t = ![1, 0, t.val % 11] ∧ win0_4.index t = ![1, t.val % 11, 0] :=
  (by decide +kernel : ∀ t : Fin grid0.N, _)

variable (m : (ℓ : Loc nD τ sig) → Buf (Elt Ideal) ℓ) (ρ : Dev nD → PrngReg)
/-- The input block's row is the input's, its position split into batch and sequence. -/
theorem blk0 (c : Dev nD) (t : Fin cfg0.N) (r : Fin 1024) (d : Fin 2048) (b : Fin 4) (s : Fin 4096) (h : 1024 * (t.val / 11) + r.val = 4096 * b.val + s.val) :
   iblk m c 0 t (ix2 r d) = m ((c : Thread nD τ).loc main_arg0) (ix3 b s d) := by
  blk_ext! [iblk, V, (idx t).1]
/-- The gain block is layer 1 of the gains. -/
theorem blk1 (c : Dev nD) (t : Fin cfg0.N) (d : Fin 2048) :
   iblk m c 1 t (ix3 0 0 d) = m ((c : Thread nD τ).loc main_arg1) (ix2 1 d) := by
  blk_ext! [iblk, V, (idx t).2.1]
/-- The gate weights' block is the point's stretch of columns of layer 1. -/
theorem blk2 (c : Dev nD) (t : Fin cfg0.N) (d : Fin 2048) (f : Fin 512) (k : Fin 5632) (h : (t.val % 11) * 512 + f.val = k.val) :
   iblk m c 2 t (ix3 0 d f) = m ((c : Thread nD τ).loc main_arg2) (ix3 1 d k) := by
  blk_ext [iblk, V, (idx t).2.2.1]
/-- The up weights' block is the point's stretch of columns of layer 1. -/
theorem blk3 (c : Dev nD) (t : Fin cfg0.N) (d : Fin 2048) (f : Fin 512) (k : Fin 5632) (h : (t.val % 11) * 512 + f.val = k.val) :
   iblk m c 3 t (ix3 0 d f) = m ((c : Thread nD τ).loc main_arg3) (ix3 1 d k) := by
  blk_ext [iblk, V, (idx t).2.2.2.1]
/-- The down weights' block is the point's stretch of rows of layer 1. -/
theorem blk4 (c : Dev nD) (t : Fin cfg0.N) (d : Fin 2048) (f : Fin 512) (k : Fin 5632) (h : (t.val % 11) * 512 + f.val = k.val) :
   iblk m c 4 t (ix3 0 f d) = m ((c : Thread nD τ).loc main_arg4) (ix3 1 k d) := by
  blk_ext [iblk, V, (idx t).2.2.2.2]

/-- The first stretch's payload at an index. -/
theorem pay1_at (x : FVec Ideal S1024x2048 .f32) (h : FVec Ideal S1024x512 .f32) (wd : Vec Ideal S1x512x2048 .f32) (r : Fin 1024) (n : Fin 2048) :
    k0_pay1 x h wd (ix2 r n) = x (ix2 r n) + ∑ q : Fin 512, h (ix2 r q) * wd (ix3 0 q n) := by
  pointwise [k0_pay1]

/-- The copy of the input block is the block. -/
theorem pay3_at (x : Vec Ideal S1024x2048 .f32) (r : Fin 1024) (d : Fin 2048) : k0_pay3 x (ix2 r d) = x (ix2 r d) := by
  pointwise [k0_pay3]

/-- The normalized block at an index: one row normalized. -/
theorem pay4_at (x : Vec Ideal S1024x2048 .f32) (g : Vec Ideal S1x1x2048 .f32) (r : Fin 1024) (d : Fin 2048) :
    k0_pay4 x g (ix2 r d) = normed (fun k => x (ix2 r k)) (fun k => g (ix3 0 0 k)) d := by
  pointwise [k0_pay4, k0_pay3]
  rfl

/-- The scratch's payload is the normalized block. -/
theorem pay5_at (x : Vec Ideal S1024x2048 .f32) (g : Vec Ideal S1x1x2048 .f32) (r : Fin 1024) (d : Fin 2048) :
    k0_pay5 x g (ix2 r d) = normed (fun k => x (ix2 r k)) (fun k => g (ix3 0 0 k)) d := by
  rw [← pay4_at]
  pointwise [k0_pay5]

/-- The halved hidden units of the first stretch. -/
theorem pay6_at (x : Vec Ideal S1024x2048 .f32) (g : Vec Ideal S1x1x2048 .f32) (wg wu : Vec Ideal S1x2048x512 .bf16) (r : Fin 1024) (q : Fin 512) :
    k0_pay6 x g wg wu (ix2 r q) = hidden (normed (fun k => x (ix2 r k)) (fun k => g (ix3 0 0 k)))
      (fun d => wg (ix3 0 d q)) (fun d => wu (ix3 0 d q)) * Swish.half := by
  pointwise [k0_pay6]
  rw [hidden_tanh]
  simp only [pay4_at]

/-- A later point's payload at an index: what was there plus the stretch's halved hidden units times the down weights. -/
theorem pay2_at (o : Vec Ideal S1024x2048 .f32) (y : Vec Ideal S1024x2048 .bf16) (wg wu : Vec Ideal S1x2048x512 .bf16) (wd : Vec Ideal S1x512x2048 .f32)
    (r : Fin 1024) (n : Fin 2048) :
    k0_pay2 o y wg wu wd (ix2 r n) = o (ix2 r n) + ∑ q : Fin 512, hidden (fun d => y (ix2 r d)) (fun d => wg (ix3 0 d q)) (fun d => wu (ix3 0 d q)) * Swish.half * wd (ix3 0 q n) := by
  pointwise [k0_pay2]
  refine congrArg _ (Finset.sum_congr rfl fun q _ => ?_)
  rw [hidden_tanh]

/-- The row at batch `b` and position `s` of the input. -/
abbrev row (c : Dev nD) (b : Fin 4) (s : Fin 4096) : Fin 2048 → EReal := fun d => m ((c : Thread nD τ).loc main_arg0) (ix3 b s d)
/-- Layer 1's gain. -/
abbrev gain (c : Dev nD) : Fin 2048 → EReal := fun d => m ((c : Thread nD τ).loc main_arg1) (ix2 1 d)
/-- What hidden unit `k` adds at column `n` of that row. -/
abbrev adds (c : Dev nD) (b : Fin 4) (s : Fin 4096) (n : Fin 2048) : Fin 5632 → EReal :=
  share (normed (row m c b s) (gain m c)) (fun d k => m ((c : Thread nD τ).loc main_arg2) (ix3 1 d k))
    (fun d k => m ((c : Thread nD τ).loc main_arg3) (ix3 1 d k)) (fun k => m ((c : Thread nD τ).loc main_arg4) (ix3 1 k n))

/-- The normalized row of a block is the normalized row of the input. -/
theorem normed_blk (c : Dev nD) (t : Fin cfg0.N) (r : Fin 1024) (b : Fin 4) (s : Fin 4096) (h : 1024 * (t.val / 11) + r.val = 4096 * b.val + s.val) :
    normed (fun k => iblk m c 0 t (ix2 r k)) (fun k => iblk m c 1 t (ix3 0 0 k)) = normed (row m c b s) (gain m c) := by
  rw [show (fun k => iblk m c 0 t (ix2 r k)) = row m c b s from funext fun k => blk0 m c t r k b s h,
    show (fun k => iblk m c 1 t (ix3 0 0 k)) = gain m c from funext fun k => blk1 m c t k]

/-- What a point adds is its stretch. -/
theorem stretch_blk (c : Dev nD) (t : Fin cfg0.N) (b : Fin 4) (s : Fin 4096) (n : Fin 2048) :
    ∑ q : Fin 512, hidden (normed (row m c b s) (gain m c)) (fun d => iblk m c 2 t (ix3 0 d q)) (fun d => iblk m c 3 t (ix3 0 d q)) * Swish.half
        * iblk m c 4 t (ix3 0 q n) = stretch (adds m c b s n) (t.val % 11) := by
  unfold stretch
  rw [dif_pos (Nat.mod_lt _ (by decide))]
  refine Finset.sum_congr rfl fun q _ => ?_
  have hk : (t.val % 11) * 512 + q.val < 5632 := by have := Nat.mod_lt t.val (by decide : 0 < 11); omega
  rw [show (fun d => iblk m c 2 t (ix3 0 d q)) = fun d => m ((c : Thread nD τ).loc main_arg2) (ix3 1 d ⟨_, hk⟩) from funext fun d => blk2 m c t d q ⟨_, hk⟩ rfl,
    show (fun d => iblk m c 3 t (ix3 0 d q)) = fun d => m ((c : Thread nD τ).loc main_arg3) (ix3 1 d ⟨_, hk⟩) from funext fun d => blk3 m c t d q ⟨_, hk⟩ rfl,
    blk4 m c t n q ⟨_, hk⟩ rfl]
  rfl

/-- What output block and scratch hold after point `t`: the scratch the normalized rows, the output the input plus the
    stretches up to the point's own. -/
def Holds (c : Dev nD) (n : ℕ) (S : Vec Ideal S1024x2048 .f32 × Vec Ideal S1024x2048 .bf16) : Prop :=
  ∀ (r : Fin 1024) (b : Fin 4) (s : Fin 4096), 1024 * (n / 11) + r.val = 4096 * b.val + s.val →
    (fun d => S.2 (ix2 r d)) = normed (row m c b s) (gain m c)
    ∧ ∀ k : Fin 2048, S.1 (ix2 r k) = row m c b s k + ∑ j ∈ Finset.range (n % 11 + 1), stretch (adds m c b s k) j

/-- A row block's first point makes it hold, whatever was there. -/
theorem holds_first (c : Dev nD) (t : Fin cfg0.N) (S : Vec Ideal S1024x2048 .f32 × Vec Ideal S1024x2048 .bf16) (h0 : t.val % 11 = 0) :
    Holds m c t.val (stAt0 m c t.val t.isLt S) := by
  intro r b s h
  rw [stAt0_A m c t S h0 (by omega), out_A, sout_A]
  refine ⟨funext fun d => ?_, fun k => ?_⟩
  · dsimp only
    rw [pay5_at, normed_blk m c t r b s h]
  · dsimp only
    rw [pay1_at, pay3_at, blk0 m c t r k b s h, h0, Finset.sum_range_one,
      show stretch (adds m c b s k) 0 = stretch (adds m c b s k) (t.val % 11) from congrArg _ h0.symm, ← stretch_blk m c t b s k]
    refine congrArg _ (Finset.sum_congr rfl fun q _ => ?_)
    rw [pay6_at, normed_blk m c t r b s h]

/-- A later point keeps it. -/
theorem holds_next (c : Dev nD) (n : ℕ) (hn : n + 1 < cfg0.N) (S : Vec Ideal S1024x2048 .f32 × Vec Ideal S1024x2048 .bf16) (h0 : ¬(n + 1) % 11 = 0)
    (hS : Holds m c n S) : Holds m c (n + 1) (stAt0 m c (n + 1) hn S) := by
  intro r b s h
  obtain ⟨h2, h1⟩ := hS r b s (by omega)
  rw [stAt0_B m c ⟨n + 1, hn⟩ S h0 (by dsimp only; omega), out_B]
  refine ⟨?_, fun k => ?_⟩
  · exact h2
  · dsimp only
    rw [pay2_at, h1 k, h2, stretch_blk m c ⟨n + 1, hn⟩ b s k, add_assoc]
    dsimp only
    rw [show (n + 1) % 11 = n % 11 + 1 by omega, Finset.sum_range_succ _ (n % 11 + 1)]

/-- After every point it holds. -/
theorem holds_all (c : Dev nD) : ∀ (n : ℕ) (hn : n < cfg0.N), Holds m c n (outsAt0 m c n hn)
  | 0, hn => by rw [outsAt0_zero]; exact holds_first m c ⟨0, hn⟩ _ rfl
  | n + 1, hn => by
    rw [outsAt0_succ]
    by_cases h0 : (n + 1) % 11 = 0
    · exact holds_first m c ⟨n + 1, hn⟩ _ h0
    · exact holds_next m c n hn _ h0 (holds_all c n _)

/-- The result at a row and a column: the input there plus half the sum over the hidden units. -/
theorem result_at (c : Dev nD) (R : Fin 16384) (n : Fin 2048) (b : Fin 4) (s : Fin 4096) (h : R.val = 4096 * b.val + s.val) :
    G5 m c (ix2 R n) = row m c b s n + Swish.half * ∑ k : Fin 5632, hidden (normed (row m c b s) (gain m c))
      (fun d => m ((c : Thread nD τ).loc main_arg2) (ix3 1 d k)) (fun d => m ((c : Thread nD τ).loc main_arg3) (ix3 1 d k))
        * m ((c : Thread nD τ).loc main_arg4) (ix3 1 k n) := by
  have hp : pt5Of (ix2 R n) = 11 * (R.val / 1024) + 10 := by
    show 11 * (1 * (R.val / 1024 - 0) + 1 * (n.val / 2048 - 0)) + 10 = _
    have := n.isLt; omega
  have hN : cfg0.N = 176 := N_0
  have hlt : pt5Of (ix2 R n) < cfg0.N := by rw [hp, hN]; have := R.isLt; omega
  unfold G5
  rw [dif_pos hlt, ← outsAt0_sweep m c _ hlt]
  have hl : loc5Of (ix2 R n) = ix2 (⟨R.val % 1024, Nat.mod_lt _ (by decide)⟩ : Fin 1024) n := by
    funext a
    match a with
    | ⟨0, _⟩ => rfl
    | ⟨1, _⟩ => exact Fin.ext (Nat.mod_eq_of_lt n.isLt)
  rw [hl, (holds_all m c _ hlt ⟨R.val % 1024, Nat.mod_lt _ (by decide)⟩ b s (by rw [hp]; dsimp only; omega)).2 n, hp,
    show (11 * (R.val / 1024) + 10) % 11 + 1 = 11 by omega, sum_stretch, sum_share]

end Cert.FfnIdeal.Row

end
-- ==== Proof.FfnRefValue.lean ====
/-
  The reference's feed-forward result at a row and a column: the input there plus half the sum over the hidden units.
-/
module

public import proofs.«01_k».proof.Proof.Gen.FfnRefIdeal.Read
public import proofs.«01_k».proof.Proof.Layer

@[expose] public section

set_option maxRecDepth 16384

noncomputable section

open Idealize.ShloMosaic Idealize.ShloMosaic.TcCoe

namespace Cert.FfnRefIdeal.Row

open Cert.FfnRefIdeal Cert.FfnRefIdeal.Gen Cert.FfnRefIdeal.Read Cert.Layer

/-- The reference normalizes each row. -/
theorem normed_at (x : (⟨S4x4096x2048, .f32⟩ : BufTy).Contents (Elt Ideal)) (g : (⟨S2x2048, .f32⟩ : BufTy).Contents (Elt Ideal))
    (b : Fin 4) (s : Fin 4096) (d : Fin 2048) :
    val_main_v14 (F := Ideal) x g (ix3 b s d) = normed (fun d => x (ix3 b s d)) (fun d => g (ix2 1 d)) d := by
  pointwise [val_main_v0, val_main_v1, val_main_v2, val_main_cst, val_main_v3, val_main_v4, val_main_cst_0, val_main_v5, val_main_v6,
    val_main_cst_1, val_main_v7, val_main_v8, val_main_v9, val_main_v10, val_main_v11, val_main_v12, val_main_v13, val_main_v14]
  rfl

/-- The reference's result at row `R`, column `n`. -/
theorem result_at (x : (⟨S4x4096x2048, .f32⟩ : BufTy).Contents (Elt Ideal)) (g : (⟨S2x2048, .f32⟩ : BufTy).Contents (Elt Ideal))
    (wg wu : (⟨S2x2048x5632, .f32⟩ : BufTy).Contents (Elt Ideal)) (wd : (⟨S2x5632x2048, .f32⟩ : BufTy).Contents (Elt Ideal))
    (R : Fin 16384) (n : Fin 2048) (b : Fin 4) (s : Fin 4096) (h : R.val = 4096 * b.val + s.val) :
    val_main_v29 (F := Ideal) x g wg wu wd (ix2 R n) = x (ix3 b s n) + Swish.half * ∑ k : Fin 5632,
      hidden (normed (fun d => x (ix3 b s d)) (fun d => g (ix2 1 d))) (fun d => wg (ix3 1 d k)) (fun d => wu (ix3 1 d k)) * wd (ix3 1 k n) := by
  have hb : (⟨R.val / 4096, by omega⟩ : Fin 4) = b := Fin.ext (by show R.val / 4096 = b.val; omega)
  have hs : (⟨R.val % 4096, by omega⟩ : Fin 4096) = s := Fin.ext (by show R.val % 4096 = s.val; omega)
  pointwise [val_main_v15, val_main_v16, val_main_v17, val_main_v18, val_main_v19, val_main_v20, val_main_v21, val_main_call0_v0,
    val_main_call0_v1, val_main_call0_cst, val_main_call0_v2, val_main_call0_v3, val_main_call0_cst_0, val_main_call0_v4,
    val_main_call0_v5, val_main_v22, val_main_v23, val_main_v24, val_main_v25, val_main_cst_2, val_main_v26, val_main_v27,
    val_main_v28, val_main_v29]
  rw [hb, hs]
  simp only [normed_at]
  rfl

end Cert.FfnRefIdeal.Row

end
-- ==== Proof.InProjValue.lean ====
/-
  The input projection of the even layer's mixer: each row normalized, then times layer 0's weights. The kernel normalizes
  a block of rows at its first point, keeps it in scratch and uses it at the block's five column blocks.
-/
module

public import proofs.«01_k».proof.Proof.Gen.InProjIdeal.Value
public import proofs.«01_k».proof.Proof.Gen.InProjRefIdeal.Read
public import proofs.«01_k».proof.Proof.Layer
public import Idealize.ShloMosaic.Lib.Claim
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem

namespace Cert.InProjIdeal.Row

open Cert.InProjIdeal Cert.InProjIdeal.Gen Cert.InProjIdeal.Value Cert.Layer

/-- The offsets of a whole block of two axes are zero. -/
theorem hz2 : (![0, 0] : Fin 2 → Nat) = fun _ => 0 := funext fun a => by fin_cases a <;> rfl
/-- The offsets of a whole block of three axes are zero. -/
theorem hz3 : (![0, 0, 0] : Fin 3 → Nat) = fun _ => 0 := funext fun a => by fin_cases a <;> rfl

variable {F : FTy → Type} [FloatOps F]

/-- At a row block's first point the scratch is left at the normalized rows. -/
theorem sout_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : cond0_0 i)
    (x0 : Vec F S1024x2048 .f32) (x1 : Vec F S1x1x2048 .f32) (x2 : Vec F S1x2048x1024 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, harg4.read_unread, harg6.read_unread,
    View.ld_unit_zero (S := S1024x2048) hz2, View.ld_unit_zero (S := S1x1x2048) hz3, View.ld_unit_zero (S := S1x2048x1024) hz3]

/-- At a row block's first point the output block is the normalized rows' product. -/
theorem out_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : cond0_0 i)
    (x0 : Vec F S1024x2048 .f32) (x1 : Vec F S1x1x2048 .f32) (x2 : Vec F S1x2048x1024 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz2, View.readCov_unit_zero (S := S1024x2048) _ hz2]
  simp only [View.readAt_eq_ld, harg2.read_unread, harg3.read_unread, harg4.read_unread, harg6.read_unread,
    View.ld_unit_zero (S := S1024x2048) hz2, View.ld_unit_zero (S := S1x1x2048) hz3, View.ld_unit_zero (S := S1x2048x1024) hz3]

/-- At a later point the output block is the scratch's product. -/
theorem out_B (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : ¬cond0_0 i)
    (x0 : Vec F S1024x2048 .f32) (x1 : Vec F S1x1x2048 .f32) (x2 : Vec F S1x2048x1024 .bf16) (xs0 : Vec F S1024x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S1024x2048) hz2, View.ld_unit_zero (S := S1x1x2048) hz3, View.ld_unit_zero (S := S1x2048x1024) hz3]

/-- Which block each window reads at a point: the row block `t / 5`, layer 0's gain, the column block `t % 5`. -/
theorem idx : ∀ t : Fin cfg0.N, win0_0.index t = ![t.val / 5, 0] ∧ win0_1.index t = ![0, 0, 0] ∧ win0_2.index t = ![0, 0, t.val % 5] :=
  (by decide +kernel : ∀ t : Fin grid0.N, _)

variable (m : (ℓ : Loc nD τ sig) → Buf (Elt Ideal) ℓ)

/-- The input block's row is the input's, its position split into batch and sequence. -/
theorem blk0 (c : Dev nD) (t : Fin cfg0.N) (r : Fin 1024) (d : Fin 2048) (b : Fin 4) (s : Fin 4096) (h : 1024 * (t.val / 5) + r.val = 4096 * b.val + s.val) :
   iblk m c 0 t (ix2 r d) = m ((c : Thread nD τ).loc main_arg0) (ix3 b s d) := by
  blk_ext! [iblk, V, (idx t).1]
/-- The gain block is layer 0 of the gains. -/
theorem blk1 (c : Dev nD) (t : Fin cfg0.N) (d : Fin 2048) :
   iblk m c 1 t (ix3 0 0 d) = m ((c : Thread nD τ).loc main_arg1) (ix2 0 d) := by
  blk_ext! [iblk, V, (idx t).2.1]
/-- The weights' block is the point's block of columns. -/
theorem blk2 (c : Dev nD) (t : Fin cfg0.N) (d : Fin 2048) (f : Fin 1024) (k : Fin 5120) (h : 1024 * (t.val % 5) + f.val = k.val) :
   iblk m c 2 t (ix3 0 d f) = m ((c : Thread nD τ).loc main_arg2) (ix3 0 d k) := by
  blk_ext [iblk, V, (idx t).2.2]

/-- The normalized block at an index: one row normalized. -/
theorem pay1_at (x : Vec Ideal S1024x2048 .f32) (g : Vec Ideal S1x1x2048 .f32) (r : Fin 1024) (d : Fin 2048) :
    k0_pay1 x g (ix2 r d) = normed (fun k => x (ix2 r k)) (fun k => g (ix3 0 0 k)) d := by
  pointwise [k0_pay1]
  rfl

/-- The product at an index. -/
theorem pay2_at (y : Vec Ideal S1024x2048 .bf16) (w : Vec Ideal S1x2048x1024 .bf16) (r : Fin 1024) (q : Fin 1024) :
    k0_pay2 y w (ix2 r q) = ∑ d : Fin 2048, y (ix2 r d) * w (ix3 0 d q) := by
  pointwise [k0_pay2]

/-- The row at batch `b` and position `s` of the input. -/
abbrev row (c : Dev nD) (b : Fin 4) (s : Fin 4096) : Fin 2048 → EReal := fun d => m ((c : Thread nD τ).loc main_arg0) (ix3 b s d)
/-- Layer 0's gain. -/
abbrev gain (c : Dev nD) : Fin 2048 → EReal := fun d => m ((c : Thread nD τ).loc main_arg1) (ix2 0 d)

/-- The normalized row of a block is the normalized row of the input. -/
theorem normed_blk (c : Dev nD) (t : Fin cfg0.N) (r : Fin 1024) (b : Fin 4) (s : Fin 4096) (h : 1024 * (t.val / 5) + r.val = 4096 * b.val + s.val) :
    normed (fun k => iblk m c 0 t (ix2 r k)) (fun k => iblk m c 1 t (ix3 0 0 k)) = normed (row m c b s) (gain m c) := by
  rw [show (fun k => iblk m c 0 t (ix2 r k)) = row m c b s from funext fun k => blk0 m c t r k b s h,
    show (fun k => iblk m c 1 t (ix3 0 0 k)) = gain m c from funext fun k => blk1 m c t k]

/-- What output block and scratch hold after point `n`: the scratch the normalized rows, the output their products with
    the point's columns. -/
def Holds (c : Dev nD) (n : ℕ) (S : Vec Ideal S1024x1024 .bf16 × Vec Ideal S1024x2048 .bf16) : Prop :=
  ∀ (r : Fin 1024) (b : Fin 4) (s : Fin 4096), 1024 * (n / 5) + r.val = 4096 * b.val + s.val →
    (fun d => S.2 (ix2 r d)) = normed (row m c b s) (gain m c)
    ∧ ∀ (q : Fin 1024) (k : Fin 5120), 1024 * (n % 5) + q.val = k.val →
      S.1 (ix2 r q) = ∑ d : Fin 2048, normed (row m c b s) (gain m c) d * m ((c : Thread nD τ).loc main_arg2) (ix3 0 d k)

/-- A row block's first point makes it hold, whatever was there. -/
theorem holds_first (c : Dev nD) (t : Fin cfg0.N) (S : Vec Ideal S1024x1024 .bf16 × Vec Ideal S1024x2048 .bf16) (h0 : t.val % 5 = 0) :
    Holds m c t.val (stAt0 m c t.val t.isLt S) := by
  intro r b s h
  rw [stAt0_A m c t S h0, out_A, sout_A]
  refine ⟨funext fun d => ?_, fun q k hk => ?_⟩
  · dsimp only
    rw [pay1_at, normed_blk m c t r b s h]
  · dsimp only
    rw [pay2_at]
    refine Finset.sum_congr rfl fun d _ => ?_
    rw [pay1_at, normed_blk m c t r b s h, blk2 m c t d q k hk]

/-- A later point keeps it. -/
theorem holds_next (c : Dev nD) (n : ℕ) (hn : n + 1 < cfg0.N) (S : Vec Ideal S1024x1024 .bf16 × Vec Ideal S1024x2048 .bf16) (h0 : ¬(n + 1) % 5 = 0)
    (hS : Holds m c n S) : Holds m c (n + 1) (stAt0 m c (n + 1) hn S) := by
  intro r b s h
  obtain ⟨h2, -⟩ := hS r b s (by omega)
  rw [stAt0_B m c ⟨n + 1, hn⟩ S h0, out_B]
  refine ⟨h2, fun q k hk => ?_⟩
  dsimp only
  rw [pay2_at]
  refine Finset.sum_congr rfl fun d _ => ?_
  rw [← h2, blk2 m c ⟨n + 1, hn⟩ d q k hk]

/-- After every point it holds. -/
theorem holds_all (c : Dev nD) : ∀ (n : ℕ) (hn : n < cfg0.N), Holds m c n (outsAt0 m c n hn)
  | 0, hn => by rw [outsAt0_zero]; exact holds_first m c ⟨0, hn⟩ _ rfl
  | n + 1, hn => by
    rw [outsAt0_succ]
    by_cases h0 : (n + 1) % 5 = 0
    · exact holds_first m c ⟨n + 1, hn⟩ _ h0
    · exact holds_next m c n hn _ h0 (holds_all c n _)

/-- The kernel's result at a row and a column: the normalized row times the column. -/
theorem result_at (c : Dev nD) (R : Fin 16384) (n : Fin 5120) (b : Fin 4) (s : Fin 4096) (h : R.val = 4096 * b.val + s.val) :
    G3 m c (ix2 R n) = ∑ d : Fin 2048, normed (row m c b s) (gain m c) d * m ((c : Thread nD τ).loc main_arg2) (ix3 0 d n) := by
  have hp : pt3Of (ix2 R n) = 5 * (R.val / 1024) + n.val / 1024 := by
    show 5 * (R.val / 1024 - 0) + 1 * (n.val / 1024 - 0) = _
    omega
  have hN : cfg0.N = 80 := N_0
  have := R.isLt; have := n.isLt
  have hlt : pt3Of (ix2 R n) < cfg0.N := by rw [hp, hN]; omega
  unfold G3
  rw [dif_pos hlt, ← outsAt0_sweep m c _ hlt]
  have hl : loc3Of (ix2 R n) = ix2 (⟨R.val % 1024, Nat.mod_lt _ (by decide)⟩ : Fin 1024) (⟨n.val % 1024, Nat.mod_lt _ (by decide)⟩ : Fin 1024) := by
    funext a
    match a with
    | ⟨0, _⟩ => rfl
    | ⟨1, _⟩ => rfl
  rw [hl]
  exact (holds_all m c _ hlt ⟨R.val % 1024, Nat.mod_lt _ (by decide)⟩ b s (by rw [hp]; dsimp only; omega)).2 _ n (by rw [hp]; dsimp only; omega)

end Cert.InProjIdeal.Row

namespace Cert.InProjRefIdeal.Row

open Cert.InProjRefIdeal Cert.InProjRefIdeal.Gen Cert.InProjRefIdeal.Read Cert.Layer

/-- The reference normalizes each row. -/
theorem normed_at (x : (⟨S4x4096x2048, .f32⟩ : BufTy).Contents (Elt Ideal)) (g : (⟨S2x2048, .f32⟩ : BufTy).Contents (Elt Ideal))
    (b : Fin 4) (s : Fin 4096) (d : Fin 2048) :
    val_main_v14 (F := Ideal) x g (ix3 b s d) = normed (fun d => x (ix3 b s d)) (fun d => g (ix2 0 d)) d := by
  pointwise [val_main_v0, val_main_v1, val_main_v2, val_main_cst, val_main_v3, val_main_v4, val_main_cst_0, val_main_v5, val_main_v6,
    val_main_cst_1, val_main_v7, val_main_v8, val_main_v9, val_main_v10, val_main_v11, val_main_v12, val_main_v13, val_main_v14]
  rfl

/-- The reference's result at row `R`, column `n`. -/
theorem result_at (x : (⟨S4x4096x2048, .f32⟩ : BufTy).Contents (Elt Ideal)) (g : (⟨S2x2048, .f32⟩ : BufTy).Contents (Elt Ideal))
    (w : (⟨S1x2048x5120, .f32⟩ : BufTy).Contents (Elt Ideal))
    (R : Fin 16384) (n : Fin 5120) (b : Fin 4) (s : Fin 4096) (h : R.val = 4096 * b.val + s.val) :
    val_main_v18 (F := Ideal) x g w (ix2 R n)
      = ∑ d : Fin 2048, normed (fun d => x (ix3 b s d)) (fun d => g (ix2 0 d)) d * w (ix3 0 d n) := by
  have hb : (⟨R.val / 4096, by omega⟩ : Fin 4) = b := Fin.ext (by show R.val / 4096 = b.val; omega)
  have hs : (⟨R.val % 4096, by omega⟩ : Fin 4096) = s := Fin.ext (by show R.val % 4096 = s.val; omega)
  pointwise [val_main_v15, val_main_v16, val_main_v17, val_main_v18]
  rw [hb, hs]
  simp only [normed_at]

end Cert.InProjRefIdeal.Row

end
-- ==== Proof.OutValue.lean ====
/-
  The two output projections: the residual plus the mixer's result times the layer's weights. The even layer's mixer has
  two parts side by side, which the kernel multiplies by the two halves of the weights.
-/
module

public import proofs.«01_k».proof.Proof.Gen.OutTwoIdeal.Value
public import proofs.«01_k».proof.Proof.Gen.OutTwoRefIdeal.Read
public import proofs.«01_k».proof.Proof.Gen.OutOneIdeal.Value
public import proofs.«01_k».proof.Proof.Gen.OutOneRefIdeal.Read
public import Idealize.ShloMosaic.Lib.Claim
public import Idealize.ShloMosaic.Lib.Tactic
public import Idealize.ShloMosaic.Lib.Pipeline.ValueKit
public import Idealize.ShloMosaic.Lib.Pipeline.ValueKit.Point

@[expose] public section

set_option maxRecDepth 16384

noncomputable section

open Idealize.ShloMosaic Idealize.ShloMosaic.TcCoe Idealize.SL.Sem

namespace Cert.OutTwoIdeal.Row

open Cert.OutTwoIdeal Cert.OutTwoIdeal.Gen Cert.OutTwoIdeal.Value

/-- The stored block at an index: the residual and the two parts' products. -/
theorem pay1_at (x : Vec Ideal S512x2048 .f32) (a : Vec Ideal S512x1024 .bf16) (w : Vec Ideal S1x1024x2048 .f32)
    (o : Vec Ideal S512x1024 .bf16) (w' : Vec Ideal S1x1024x2048 .f32) (r : Fin 512) (q : Fin 2048) :
    k0_pay1 x a w o w' (ix2 r q) = x (ix2 r q) + (∑ d : Fin 1024, a (ix2 r d) * w (ix3 0 d q)) + ∑ d : Fin 1024, o (ix2 r d) * w' (ix3 0 d q) := by
  pointwise [k0_pay1]

/-- Which block each window reads at a point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 1, 0] ∧ win0_5.index t = ![t.val, 0] :=
  (by decide +kernel : ∀ t : Fin grid0.N, _)

variable (m : (ℓ : Loc nD τ sig) → Buf (Elt Ideal) ℓ)

/-- The residual's block. -/
theorem blk0 (c : Dev nD) (t : Fin cfg0.N) (r : Fin 512) (d : Fin 2048) (b : Fin 4) (s : Fin 4096) (h : 512 * t.val + r.val = 4096 * b.val + s.val) :
   iblk m c 0 t (ix2 r d) = m ((c : Thread nD τ).loc main_arg0) (ix3 b s d) := by
  blk_ext! [iblk, V, (idx t).1]
/-- The first part's block. -/
theorem blk1 (c : Dev nD) (t : Fin cfg0.N) (r : Fin 512) (d : Fin 1024) (b : Fin 4) (s : Fin 4096) (h : 512 * t.val + r.val = 4096 * b.val + s.val) :
   iblk m c 1 t (ix2 r d) = m ((c : Thread nD τ).loc main_arg1) (ix3 b s d) := by
  blk_ext! [iblk, V, (idx t).2.1]
/-- The second part's block. -/
theorem blk2 (c : Dev nD) (t : Fin cfg0.N) (r : Fin 512) (d : Fin 1024) (b : Fin 4) (s : Fin 4096) (h : 512 * t.val + r.val = 4096 * b.val + s.val) :
   iblk m c 2 t (ix2 r d) = m ((c : Thread nD τ).loc main_arg2) (ix3 b s d) := by
  blk_ext! [iblk, V, (idx t).2.2.1]
/-- The weights' upper half. -/
theorem blk3 (c : Dev nD) (t : Fin cfg0.N) (d : Fin 1024) (q : Fin 2048) :
   iblk m c 3 t (ix3 0 d q) = m ((c : Thread nD τ).loc main_arg3) (ix3 0 (⟨d.val, by omega⟩ : Fin 2048) q) := by
  blk_ext [iblk, V, (idx t).2.2.2.1]
/-- The weights' lower half. -/
theorem blk4 (c : Dev nD) (t : Fin cfg0.N) (d : Fin 1024) (q : Fin 2048) :
   iblk m c 4 t (ix3 0 d q) = m ((c : Thread nD τ).loc main_arg3) (ix3 0 (⟨1024 + d.val, by omega⟩ : Fin 2048) q) := by
  blk_ext [iblk, V, (idx t).2.2.2.2.1]

/-- The reference at row `R`, column `n`, the two parts' sums apart. -/
theorem ref_at (x : (⟨S4x4096x2048, .f32⟩ : BufTy).Contents (Elt Ideal)) (a o : (⟨S4x4096x1024, .bf16⟩ : BufTy).Contents (Elt Ideal))
    (w : (⟨S1x2048x2048, .f32⟩ : BufTy).Contents (Elt Ideal)) (R : Fin 16384) (n : Fin 2048) (b : Fin 4) (s : Fin 4096) (h : R.val = 4096 * b.val + s.val) :
    Cert.OutTwoRefIdeal.Read.val_main_v6 (F := Ideal) x a o w (ix2 R n)
      = x (ix3 b s n) + (∑ d : Fin 1024, a (ix3 b s d) * w (ix3 0 (⟨d.val, by omega⟩ : Fin 2048) n))
        + ∑ d : Fin 1024, o (ix3 b s d) * w (ix3 0 (⟨1024 + d.val, by omega⟩ : Fin 2048) n) := by
  have h1 : R.val / 4096 < 4 := by have := R.isLt; clear h; omega
  have h2 : R.val % 4096 < 4096 := Nat.mod_lt _ (by decide)
  obtain rfl : b = ⟨R.val / 4096, h1⟩ := Fin.ext (by show b.val = R.val / 4096; omega)
  obtain rfl : s = ⟨R.val % 4096, h2⟩ := Fin.ext (by show s.val = R.val % 4096; omega)
  pointwise [Cert.OutTwoRefIdeal.Read.val_main_v0, Cert.OutTwoRefIdeal.Read.val_main_v1, Cert.OutTwoRefIdeal.Read.val_main_v2, Cert.OutTwoRefIdeal.Read.val_main_v3,
    Cert.OutTwoRefIdeal.Read.val_main_v4, Cert.OutTwoRefIdeal.Read.val_main_v5, Cert.OutTwoRefIdeal.Read.val_main_v6]
  exact (add_assoc _ _ _).symm

/-- The kernel's output array after the run is the reference's value of the arguments. -/
theorem final (c : Dev nD) : (dats m 0 c).arrAt 5 cfg0.N
    = Cert.OutTwoRefIdeal.Read.val_main_v6 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, q, rfl⟩ : ∃ (r : Fin 512) (q : Fin 2048), y = ix2 r q := ⟨y 0, y 1, eq_ix2 y⟩
  have ht : t.val < 32 := lt_of_lt_of_eq t.isLt N_0
  have hr := r.isLt
  have he : ((cfg0.win 5).blk t).view.emb (ix2 r q) = ix2 (⟨512 * t.val + r.val, by omega⟩ : Fin 16384) q := by
    funext a
    apply Fin.ext
    match a with
    | ⟨0, _⟩ =>
      show win0_5.index t (0 : Fin 2) * 512 + 1 * r.val = 512 * t.val + r.val
      rw [(idx t).2.2.2.2.2]
      show t.val * 512 + 1 * r.val = _
      omega
    | ⟨1, _⟩ =>
      show win0_5.index t (1 : Fin 2) * 2048 + 1 * q.val = q.val
      rw [(idx t).2.2.2.2.2]
      show 0 * 2048 + 1 * q.val = _
      omega
  refine Eq.trans ?_ (congrArg _ he).symm
  obtain ⟨b, s, hb⟩ : ∃ (b : Fin 4) (s : Fin 4096), 512 * t.val + r.val = 4096 * b.val + s.val :=
    ⟨⟨(512 * t.val + r.val) / 4096, by omega⟩, ⟨(512 * t.val + r.val) % 4096, by omega⟩, (Nat.div_add_mod _ _).symm⟩
  rw [pay1_at, ref_at _ _ _ _ _ _ b s hb, blk0 m c t r q _ _ hb]
  simp only [fun d => blk1 m c t r d _ _ hb, fun d => blk2 m c t r d _ _ hb, blk3 m c t, blk4 m c t]

end Cert.OutTwoIdeal.Row

namespace Cert.OutOneIdeal.Row

open Cert.OutOneIdeal Cert.OutOneIdeal.Gen Cert.OutOneIdeal.Value

/-- The stored block at an index: the residual and the product. -/
theorem pay1_at (x : Vec Ideal S512x2048 .f32) (o : Vec Ideal S512x2048 .bf16) (w : Vec Ideal S1x2048x2048 .f32) (r : Fin 512) (q : Fin 2048) :
    k0_pay1 x o w (ix2 r q) = x (ix2 r q) + ∑ d : Fin 2048, o (ix2 r d) * w (ix3 0 d q) := by
  pointwise [k0_pay1]

/-- Which block each window reads at a point. -/
theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, _)

variable (m : (ℓ : Loc nD τ sig) → Buf (Elt Ideal) ℓ)

/-- The residual's block. -/
theorem blk0 (c : Dev nD) (t : Fin cfg0.N) (r : Fin 512) (d : Fin 2048) (b : Fin 4) (s : Fin 4096) (h : 512 * t.val + r.val = 4096 * b.val + s.val) :
   iblk m c 0 t (ix2 r d) = m ((c : Thread nD τ).loc main_arg0) (ix3 b s d) := by
  blk_ext! [iblk, V, (idx t).1]
/-- The mixer's block. -/
theorem blk1 (c : Dev nD) (t : Fin cfg0.N) (r : Fin 512) (d : Fin 2048) (b : Fin 4) (s : Fin 4096) (h : 512 * t.val + r.val = 4096 * b.val + s.val) :
   iblk m c 1 t (ix2 r d) = m ((c : Thread nD τ).loc main_arg1) (ix3 b s d) := by
  blk_ext! [iblk, V, (idx t).2.1]
/-- The weights. -/
theorem blk2 (c : Dev nD) (t : Fin cfg0.N) (d : Fin 2048) (q : Fin 2048) :
   iblk m c 2 t (ix3 0 d q) = m ((c : Thread nD τ).loc main_arg2) (ix3 0 d q) := by
  blk_ext [iblk, V, (idx t).2.2.1]

/-- The reference at row `R`, column `n`. -/
theorem ref_at (x : (⟨S4x4096x2048, .f32⟩ : BufTy).Contents (Elt Ideal)) (o : (⟨S4x4096x2048, .bf16⟩ : BufTy).Contents (Elt Ideal))
    (w : (⟨S1x2048x2048, .f32⟩ : BufTy).Contents (Elt Ideal)) (R : Fin 16384) (n : Fin 2048) (b : Fin 4) (s : Fin 4096) (h : R.val = 4096 * b.val + s.val) :
    Cert.OutOneRefIdeal.Read.val_main_v4 (F := Ideal) x o w (ix2 R n)
      = x (ix3 b s n) + ∑ d : Fin 2048, o (ix3 b s d) * w (ix3 0 d n) := by
  have h1 : R.val / 4096 < 4 := by have := R.isLt; clear h; omega
  have h2 : R.val % 4096 < 4096 := Nat.mod_lt _ (by decide)
  obtain rfl : b = ⟨R.val / 4096, h1⟩ := Fin.ext (by show b.val = R.val / 4096; omega)
  obtain rfl : s = ⟨R.val % 4096, h2⟩ := Fin.ext (by show s.val = R.val % 4096; omega)
  pointwise [Cert.OutOneRefIdeal.Read.val_main_v0, Cert.OutOneRefIdeal.Read.val_main_v1, Cert.OutOneRefIdeal.Read.val_main_v2, Cert.OutOneRefIdeal.Read.val_main_v3,
    Cert.OutOneRefIdeal.Read.val_main_v4]

/-- The kernel's output array after the run is the reference's value of the arguments. -/
theorem final (c : Dev nD) : (dats m 0 c).arrAt 3 cfg0.N
    = Cert.OutOneRefIdeal.Read.val_main_v4 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  frame_out
  obtain ⟨r, q, rfl⟩ : ∃ (r : Fin 512) (q : Fin 2048), y = ix2 r q := ⟨y 0, y 1, eq_ix2 y⟩
  have ht : t.val < 32 := lt_of_lt_of_eq t.isLt N_0
  have hr := r.isLt
  have he : ((cfg0.win 3).blk t).view.emb (ix2 r q) = ix2 (⟨512 * t.val + r.val, by omega⟩ : Fin 16384) q := by
    funext a
    apply Fin.ext
    match a with
    | ⟨0, _⟩ =>
      show win0_3.index t (0 : Fin 2) * 512 + 1 * r.val = 512 * t.val + r.val
      rw [(idx t).2.2.2]
      show t.val * 512 + 1 * r.val = _
      omega
    | ⟨1, _⟩ =>
      show win0_3.index t (1 : Fin 2) * 2048 + 1 * q.val = q.val
      rw [(idx t).2.2.2]
      show 0 * 2048 + 1 * q.val = _
      omega
  refine Eq.trans ?_ (congrArg _ he).symm
  obtain ⟨b, s, hb⟩ : ∃ (b : Fin 4) (s : Fin 4096), 512 * t.val + r.val = 4096 * b.val + s.val :=
    ⟨⟨(512 * t.val + r.val) / 4096, by omega⟩, ⟨(512 * t.val + r.val) % 4096, by omega⟩, (Nat.div_add_mod _ _).symm⟩
  rw [pay1_at, ref_at _ _ _ _ _ b s hb, blk0 m c t r q _ _ hb]
  simp only [fun d => blk1 m c t r d _ _ hb, blk2 m c t]

end Cert.OutOneIdeal.Row

end
-- ==== Proof.HgrnFrame.lean ====
/-
  The recurrence (the state kept over the sequence in chunks): both cases of the body run, and the frame.
-/
module

public import proofs.«01_k».proof.Proof.Gen.Hgrn.Frame
public import proofs.«01_k».proof.Proof.Gen.Hgrn.Loops
public import Idealize.ShloMosaic.Lib.Pipeline.Frame
public import Idealize.ShloMosaic.Lib.Pipeline.DatRel
public import Idealize.ShloMosaic.Lib.Pipeline.ArrRel

@[expose] public section

set_option maxRecDepth 16384

noncomputable section

namespace Cert.Hgrn.Hand

open Cert.Hgrn Cert.Hgrn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ
/-- A memref of thread `c` holding `X`. -/
local notation "⟪" a ", " c ", " X "⟫" => (View.loc (c : Thread nD τ) (Memref.view a) ↦[View.set (Memref.view a)]{fullShare} X)

section Runs

variable (c : Dev nD) (i : grid0.Coords) (arg3 : Memref sig .tc .vmem S1x2048x512 .bf16) (harg3 : arg3.IsWhole) (arg4 : Memref sig .tc .vmem S1x2048x512 .bf16) (harg4 : arg4.IsWhole) (arg5 : Memref sig .tc .vmem S1x2048x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x2048x512 .bf16) (harg9 : arg9.IsWhole) (arg10 : Memref sig .tc .vmem S4x128x128 .f32) (harg10 : arg10.IsWhole) (arg11 : Memref sig .tc .vmem S4x256x128 .f32) (harg11 : arg11.IsWhole) (arg12 : Memref sig .tc .vmem S256x256 .bf16) (harg12 : arg12.IsWhole) (arg13 : Memref sig .tc .vmem S7x128x128 .f32) (harg13 : arg13.IsWhole) (arg14 : Memref sig .tc .vmem S7x256x128 .f32) (harg14 : arg14.IsWhole)

set_option maxHeartbeats 40000000 in
/-- The body at a point that opens a row of the sequence (the state is cleared). -/
theorem run_A (hc : Scalar.cmpi .ne (Scalar.extui (Scalar.cmpi .eq (BitVec.ofNat 32 (i 2).val) 0#32)) 0#32 = 1#1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (E : Set ℕ) (K : PUnit → sProp 𝕄) :
    iprop(⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ⟪arg12, c, X12⟫ ∗ ⟪arg13, c, X13⟫ ∗ ⟪arg14, c, X14⟫
      ∗ (iprop(⟪arg3, c, X3⟫ ∗ ⟪arg4, c, X4⟫ ∗ ⟪arg5, c, X5⟫ ∗ ⟪arg6, c, X6⟫ ∗ ⟪arg7, c, X7⟫ ∗ ⟪arg8, c, X8⟫ ∗ (∃ f, ⟪arg9, c, f⟫) ∗ (∃ f, ⟪arg10, c, f⟫) ∗ (∃ f, ⟪arg11, c, f⟫) ∗ (∃ f, ⟪arg12, c, f⟫) ∗ (∃ f, ⟪arg13, c, f⟫) ∗ (∃ f, ⟪arg14, c, f⟫)) -∗ K ⟨⟩))
      ⊢ wp frame (wpE (defs₀ (F := F)) Variants.none c none) E (cc0_hgrn2 i arg3 harg3 arg4 harg4 arg5 harg5 arg6 harg6 arg7 harg7 arg8 harg8 arg9 harg9 arg10 harg10 arg11 harg11 arg12 harg12 arg13 harg13 arg14 harg14) K := by
  simp only [cc0_hgrn2_eq_skeleton]; unfold cc0_hgrn2_skel
  simp only [k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
  iintro ⟨H3, H4, H5, H6, H7, H8, H9, H10, H11, H12, H13, H14, Hk⟩
  sl_exec (disch := sl_exact hc)
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 40000000 in
/-- The body at a point that goes on with a row of the sequence (the state is kept). -/
theorem run_B (hc : ¬(Scalar.cmpi .ne (Scalar.extui (Scalar.cmpi .eq (BitVec.ofNat 32 (i 2).val) 0#32)) 0#32 = 1#1))
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (E : Set ℕ) (K : PUnit → sProp 𝕄) :
    iprop(⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ⟪arg12, c, X12⟫ ∗ ⟪arg13, c, X13⟫ ∗ ⟪arg14, c, X14⟫
      ∗ (iprop(⟪arg3, c, X3⟫ ∗ ⟪arg4, c, X4⟫ ∗ ⟪arg5, c, X5⟫ ∗ ⟪arg6, c, X6⟫ ∗ ⟪arg7, c, X7⟫ ∗ ⟪arg8, c, X8⟫ ∗ (∃ f, ⟪arg9, c, f⟫) ∗ (∃ f, ⟪arg10, c, f⟫) ∗ (∃ f, ⟪arg11, c, f⟫) ∗ (∃ f, ⟪arg12, c, f⟫) ∗ (∃ f, ⟪arg13, c, f⟫) ∗ (∃ f, ⟪arg14, c, f⟫)) -∗ K ⟨⟩))
      ⊢ wp frame (wpE (defs₀ (F := F)) Variants.none c none) E (cc0_hgrn2 i arg3 harg3 arg4 harg4 arg5 harg5 arg6 harg6 arg7 harg7 arg8 harg8 arg9 harg9 arg10 harg10 arg11 harg11 arg12 harg12 arg13 harg13 arg14 harg14) K := by
  simp only [cc0_hgrn2_eq_skeleton]; unfold cc0_hgrn2_skel
  simp only [k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
  iintro ⟨H3, H4, H5, H6, H7, H8, H9, H10, H11, H12, H13, H14, Hk⟩
  sl_exec (disch := sl_exact hc)
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Runs

abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x512 .bf16 := win0_6.stage (cfg0.slots t 6)
abbrev hs0_6 (t : Fin cfg0.N) : (ms0_6 t).IsWhole := hstage0_6 ((cfg0.slots t 6).cast nbuf0_6)
abbrev sc0_0 : Memref sig .tc .vmem S4x128x128 .f32 := Memref.whole cc0_scratch0
abbrev sc0_1 : Memref sig .tc .vmem S4x256x128 .f32 := Memref.whole cc0_scratch1
abbrev sc0_2 : Memref sig .tc .vmem S256x256 .bf16 := Memref.whole cc0_scratch2
abbrev sc0_3 : Memref sig .tc .vmem S7x128x128 .f32 := Memref.whole cc0_scratch3
abbrev sc0_4 : Memref sig .tc .vmem S7x256x128 .f32 := Memref.whole cc0_scratch4

/-- The launch's invariant, buffer by buffer: the scratch at some contents, the generator register at some state. -/
theorem PhiA0_eq (c : Dev nD) :
    (Pipeline.ΦA spec0 c : sProp 𝕄) = iprop(iprop((∃ d, owns (c : Thread nD τ) sc0_0 fullShare d) ∗ (∃ d, owns (c : Thread nD τ) sc0_1 fullShare d) ∗ (∃ d, owns (c : Thread nD τ) sc0_2 fullShare d) ∗ (∃ d, owns (c : Thread nD τ) sc0_3 fullShare d) ∗ (∃ d, owns (c : Thread nD τ) sc0_4 fullShare d)) ∗ (∃ r, prngReg c r)) := by
  unfold Pipeline.ΦA; rw [scopedRest0_eq]; simp only [sc0_0, sc0_1, sc0_2, sc0_3, sc0_4, owns_whole]; try rfl

variable (m : (ℓ : Loc nD τ sig) → Buf (Elt F) ℓ) (ρ : Dev nD → PrngReg)

/-- The result's window is the only one whose contents the data leave unnamed. -/
def fgt0 : Fin 7 → Bool := fun w => decide (w = 6)

/-- The proof data: the arrays as the region finds them, each input's block left as it is, the result unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ t := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 3200000 in
/-- The body at a point, whichever of its two cases the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  unfold owns
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩⟩
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases HS0 with ⟨%g0, %k0, HS0⟩
  icases HS1 with ⟨%g1, %k1, HS1⟩
  icases HS2 with ⟨%g2, %k2, HS2⟩
  icases HS3 with ⟨%g3, %k3, HS3⟩
  icases HS4 with ⟨%g4, %k4, HS4⟩
  by_cases hc : Scalar.cmpi .ne (Scalar.extui (Scalar.cmpi .eq (BitVec.ofNat 32 (grid0.coords t 2).val) 0#32)) 0#32 = 1#1
  · iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) sc0_0 (Memref.isWhole_whole _) sc0_1 (Memref.isWhole_whole _) sc0_2 (Memref.isWhole_whole _) sc0_3 (Memref.isWhole_whole _) sc0_4 (Memref.isWhole_whole _) hc f0 f1 f2 f3 f4 f5 f6 g0 g1 g2 g3 g4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, ⟨%f6', H6⟩, ⟨%g0', HS0⟩, ⟨%g1', HS1⟩, ⟨%g2', HS2⟩, ⟨%g3', HS3⟩, ⟨%g4', HS4⟩⟩
    isplitl [HS0 HS1 HS2 HS3 HS4 Hg]
    · isplitl [HS0 HS1 HS2 HS3 HS4]
      · isplitl [HS0]
        · iexists _; iexists _; isplitr; swap; · iexact HS0
          ipureintro; rfl
        isplitl [HS1]
        · iexists _; iexists _; isplitr; swap; · iexact HS1
          ipureintro; rfl
        isplitl [HS2]
        · iexists _; iexists _; isplitr; swap; · iexact HS2
          ipureintro; rfl
        isplitl [HS3]
        · iexists _; iexists _; isplitr; swap; · iexact HS3
          ipureintro; rfl
        iexists _; iexists _; isplitr; swap; · iexact HS4
        ipureintro; rfl
      iexact Hg
    isplitl [Ho]; · iexact Ho
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    iexists _; iexists _; isplitr; swap; · iexact H6
    ipureintro; rfl
  · iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) sc0_0 (Memref.isWhole_whole _) sc0_1 (Memref.isWhole_whole _) sc0_2 (Memref.isWhole_whole _) sc0_3 (Memref.isWhole_whole _) sc0_4 (Memref.isWhole_whole _) hc f0 f1 f2 f3 f4 f5 f6 g0 g1 g2 g3 g4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, ⟨%f6', H6⟩, ⟨%g0', HS0⟩, ⟨%g1', HS1⟩, ⟨%g2', HS2⟩, ⟨%g3', HS3⟩, ⟨%g4', HS4⟩⟩
    isplitl [HS0 HS1 HS2 HS3 HS4 Hg]
    · isplitl [HS0 HS1 HS2 HS3 HS4]
      · isplitl [HS0]
        · iexists _; iexists _; isplitr; swap; · iexact HS0
          ipureintro; rfl
        isplitl [HS1]
        · iexists _; iexists _; isplitr; swap; · iexact HS1
          ipureintro; rfl
        isplitl [HS2]
        · iexists _; iexists _; isplitr; swap; · iexact HS2
          ipureintro; rfl
        isplitl [HS3]
        · iexists _; iexists _; isplitr; swap; · iexact HS3
          ipureintro; rfl
        iexists _; iexists _; isplitr; swap; · iexact HS4
        ipureintro; rfl
      iexact Hg
    isplitl [Ho]; · iexact Ho
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    iexists _; iexists _; isplitr; swap; · iexact H6
    ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
/-- The run of the whole program; nothing is said of the result. -/
theorem run_main :
    θ_run defs (onTc (τ := τ) (main (F := F))) (s₀ m ρ)
      (fun r => Pipeline.RDat.FramePost (cfgs 0) (fun c => (dats m 0 c).toRForget fgt0) (V m) r ∧ r.2.sem = fun _ => 0) :=
  Pipeline.θ_run_frame_forget (Q' := _) cfgs (dats m) (0 : Fin 1) launch0 defs₀ Variants.none fgt0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments after the run. -/
theorem args_kept {r : PUnit × MemSt nD τ sig (Elt F)}
    (h : Pipeline.RDat.FramePost (cfgs 0) (fun c => (dats (F := F) m 0 c).toRForget fgt0) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  ⟨(Pipeline.RDat.FramePost.arr_in h c 0 rfl).trans (V_main_arg0 m c), (Pipeline.RDat.FramePost.arr_in h c 1 rfl).trans (V_main_arg1 m c),
    (Pipeline.RDat.FramePost.arr_in h c 2 rfl).trans (V_main_arg2 m c), (Pipeline.RDat.FramePost.arr_in h c 3 rfl).trans (V_main_arg3 m c),
    (Pipeline.RDat.FramePost.arr_in h c 4 rfl).trans (V_main_arg4 m c),
    ((h c).2 main_arg5 (Pipeline.mem_restRefs_of main_arg5 (by decide) (by decide))).trans (V_main_arg5 m c)⟩

end Cert.Hgrn.Hand

end
-- ==== Proof.HgrnIdealRun.lean ====
/-
  The idealized recurrence: both cases of the body run to named contents, and the frame with the
  carried state and the result tracked by two relations.
-/
module

public import proofs.«01_k».proof.Proof.Gen.HgrnIdeal.Frame
public import proofs.«01_k».proof.Proof.Gen.HgrnIdeal.Loops
public import Idealize.ShloMosaic.Lib.Pipeline.Frame
public import Idealize.ShloMosaic.Lib.Pipeline.DatRel
public import Idealize.ShloMosaic.Lib.Pipeline.ArrRel

@[expose] public section

set_option maxRecDepth 16384

noncomputable section

namespace Cert.HgrnIdeal.Hand

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ
/-- A memref of thread `c` holding `X`. -/
local notation "⟪" a ", " c ", " X "⟫" => (View.loc (c : Thread nD τ) (Memref.view a) ↦[View.set (Memref.view a)]{fullShare} X)

/-- The pieces of the chunk's lower triangle of ones. -/
def cumL : List (View.Piece (Elt F) S256x256 .bf16) := [⟨Rect.unit ![0, 0] S256x256.size inb_S256x256_S256x256_0_0, k0_pay423⟩]
/-- The pieces of the seven levels' masks. -/
def mskL : List (View.Piece (Elt F) S7x128x128 .f32) := [⟨Rect.unit ![6, 0, 0] S1x128x128.size inb_S7x128x128_S1x128x128_6_0_0, k0_pay1 (iota .tc S128x128 32 [1]) (k0_pay466 (iota .tc S128x128 32 [0]) (iota .tc S128x128 32 [1]) 2#32 (k0_pay464 (iota .tc S128x128 32 [0])) (k0_pay465 (iota .tc S128x128 32 [0]))) k0_pay467⟩,
    ⟨Rect.unit ![5, 0, 0] S1x128x128.size inb_S7x128x128_S1x128x128_5_0_0, k0_pay462 (iota .tc S128x128 32 [0]) (iota .tc S128x128 32 [1]) (k0_pay457 (iota .tc S128x128 32 [0])) (k0_pay458 (iota .tc S128x128 32 [1])) (k0_pay459 (iota .tc S128x128 32 [1])) (k0_pay460 (iota .tc S128x128 32 [1])) k0_pay461⟩,
    ⟨Rect.unit ![4, 0, 0] S1x128x128.size inb_S7x128x128_S1x128x128_4_0_0, k0_pay454 (iota .tc S128x128 32 [0]) (iota .tc S128x128 32 [1]) (k0_pay450 (iota .tc S128x128 32 [0])) 8#32 (k0_pay451 (iota .tc S128x128 32 [1])) (k0_pay452 (iota .tc S128x128 32 [1])) k0_pay453⟩,
    ⟨Rect.unit ![3, 0, 0] S1x128x128.size inb_S7x128x128_S1x128x128_3_0_0, k0_pay448 (k0_pay447 (iota .tc S128x128 32 [0]) (iota .tc S128x128 32 [1]) (k0_pay444 (iota .tc S128x128 32 [0])) (k0_pay445 (iota .tc S128x128 32 [0])) (k0_pay446 (iota .tc S128x128 32 [0])) 0#32)⟩,
    ⟨Rect.unit ![2, 0, 0] S1x128x128.size inb_S7x128x128_S1x128x128_2_0_0, k0_pay442 (iota .tc S128x128 32 [1]) (k0_pay439 (iota .tc S128x128 32 [0]) (iota .tc S128x128 32 [1]) 32#32 (k0_pay437 (iota .tc S128x128 32 [0])) (k0_pay438 (iota .tc S128x128 32 [0])) 0#32) (k0_pay440 (iota .tc S128x128 32 [0])) k0_pay441⟩,
    ⟨Rect.unit ![1, 0, 0] S1x128x128.size inb_S7x128x128_S1x128x128_1_0_0, k0_pay435 (iota .tc S128x128 32 [0]) (iota .tc S128x128 32 [1]) (k0_pay432 (iota .tc S128x128 32 [0])) 64#32 (k0_pay433 (iota .tc S128x128 32 [1])) (k0_pay434 (iota .tc S128x128 32 [1]))⟩,
    ⟨Rect.unit ![0, 0, 0] S1x128x128.size inb_S7x128x128_S1x128x128_0_0_0, k0_pay427 (iota .tc S128x128 32 [0]) (iota .tc S128x128 32 [1]) k0_pay424 128#32 k0_pay425 k0_pay426⟩]
/-- The pieces of the seven levels' signs. -/
def sgnL : List (View.Piece (Elt F) S7x256x128 .f32) := [⟨Rect.unit ![6, 0, 0] S1x256x128.size inb_S7x256x128_S1x256x128_6_0_0, k0_pay2 (iota .tc S256x128 32 [0])⟩,
    ⟨Rect.unit ![5, 0, 0] S1x256x128.size inb_S7x256x128_S1x256x128_5_0_0, k0_pay463 (iota .tc S256x128 32 [0])⟩,
    ⟨Rect.unit ![4, 0, 0] S1x256x128.size inb_S7x256x128_S1x256x128_4_0_0, k0_pay456 (k0_pay455 (iota .tc S256x128 32 [0]))⟩,
    ⟨Rect.unit ![3, 0, 0] S1x256x128.size inb_S7x256x128_S1x256x128_3_0_0, k0_pay449 (iota .tc S256x128 32 [0])⟩,
    ⟨Rect.unit ![2, 0, 0] S1x256x128.size inb_S7x256x128_S1x256x128_2_0_0, k0_pay443 (iota .tc S256x128 32 [0])⟩,
    ⟨Rect.unit ![1, 0, 0] S1x256x128.size inb_S7x256x128_S1x256x128_1_0_0, k0_pay436 (iota .tc S256x128 32 [0])⟩,
    ⟨Rect.unit ![0, 0, 0] S1x256x128.size inb_S7x256x128_S1x256x128_0_0_0, k0_pay431 (k0_pay428 (iota .tc S256x128 32 [0])) k0_pay429 k0_pay430⟩]
/-- The pieces of the cleared state. -/
def zeroL : List (View.Piece (Elt F) S4x128x128 .f32) := [⟨Rect.unit ![0, 0, 0] S4x128x128.size inb_S4x128x128_S4x128x128_0_0_0, k0_pay422⟩]

def Cum (arg12 : Memref sig .tc .vmem S256x256 .bf16) (X : BufTy.Contents (Elt F) arg12.view.ty) : Prop := ∃ G, X = arg12.view.writes (Elt F) G cumL
def Msk (arg13 : Memref sig .tc .vmem S7x128x128 .f32) (X : BufTy.Contents (Elt F) arg13.view.ty) : Prop := ∃ G, X = arg13.view.writes (Elt F) G mskL
def Sgn (arg14 : Memref sig .tc .vmem S7x256x128 .f32) (X : BufTy.Contents (Elt F) arg14.view.ty) : Prop := ∃ G, X = arg14.view.writes (Elt F) G sgnL
def Zero (arg10 : Memref sig .tc .vmem S4x128x128 .f32) (X : BufTy.Contents (Elt F) arg10.view.ty) : Prop := ∃ G, X = arg10.view.writes (Elt F) G zeroL

section Runs

variable (c : Dev nD) (i : grid0.Coords) (arg3 : Memref sig .tc .vmem S1x2048x512 .bf16) (harg3 : arg3.IsWhole) (arg4 : Memref sig .tc .vmem S1x2048x512 .bf16) (harg4 : arg4.IsWhole) (arg5 : Memref sig .tc .vmem S1x2048x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x2048x512 .bf16) (harg9 : arg9.IsWhole) (arg10 : Memref sig .tc .vmem S4x128x128 .f32) (harg10 : arg10.IsWhole) (arg11 : Memref sig .tc .vmem S4x256x128 .f32) (harg11 : arg11.IsWhole) (arg12 : Memref sig .tc .vmem S256x256 .bf16) (harg12 : arg12.IsWhole) (arg13 : Memref sig .tc .vmem S7x128x128 .f32) (harg13 : arg13.IsWhole) (arg14 : Memref sig .tc .vmem S7x256x128 .f32) (harg14 : arg14.IsWhole)

set_option maxHeartbeats 40000000 in
/-- The body at a point that opens a row of the sequence (the state is cleared). -/
theorem run_A (hc : Scalar.cmpi .ne (Scalar.extui (Scalar.cmpi .eq (BitVec.ofNat 32 (i 2).val) 0#32)) 0#32 = 1#1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (Q : BufTy.Contents (Elt F) arg9.view.ty → BufTy.Contents (Elt F) arg10.view.ty → Prop)
    (hQ : ∀ X10' X12' X13' X14', Cum arg12 X12' → Msk arg13 X13' → Sgn arg14 X14' → Zero arg10 X10' →
      Q (arg9.view.writes (Elt F) X9 (pb_k0_t1 (F := F) Variants.none c none i arg3 harg3 arg4 harg4 arg5 harg5 arg6 harg6 arg7 harg7 arg8 harg8 arg9 harg9 arg10 harg10 arg11 harg11 arg12 harg12 arg13 harg13 arg14 harg14 (iota .tc S256x128 32 [0]) X3 X4 X5 X6 X7 X8 X12' X13' X14' X9 X10' X11 (Scf.trips k0_t1_loop.lb k0_t1_loop.ub k0_t1_loop.st)).1)
        (arg10.view.writes (Elt F) X10' (pb_k0_t1 (F := F) Variants.none c none i arg3 harg3 arg4 harg4 arg5 harg5 arg6 harg6 arg7 harg7 arg8 harg8 arg9 harg9 arg10 harg10 arg11 harg11 arg12 harg12 arg13 harg13 arg14 harg14 (iota .tc S256x128 32 [0]) X3 X4 X5 X6 X7 X8 X12' X13' X14' X9 X10' X11 (Scf.trips k0_t1_loop.lb k0_t1_loop.ub k0_t1_loop.st)).2.1))
    (E : Set ℕ) (K : PUnit → sProp 𝕄) :
    iprop(⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ⟪arg12, c, X12⟫ ∗ ⟪arg13, c, X13⟫ ∗ ⟪arg14, c, X14⟫
      ∗ (iprop(∃ f9 f10, ⌜Q f9 f10⌝ ∗ ⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, f9⟫ ∗ ⟪arg10, c, f10⟫ ∗ (∃ f, ⟪arg11, c, f⟫) ∗ (∃ f, ⟪arg12, c, f⟫) ∗ (∃ f, ⟪arg13, c, f⟫) ∗ (∃ f, ⟪arg14, c, f⟫)) -∗ K ⟨⟩))
      ⊢ wp frame (wpE (defs₀ (F := F)) Variants.none c none) E (cc0_hgrn2 i arg3 harg3 arg4 harg4 arg5 harg5 arg6 harg6 arg7 harg7 arg8 harg8 arg9 harg9 arg10 harg10 arg11 harg11 arg12 harg12 arg13 harg13 arg14 harg14) K := by
  simp only [cc0_hgrn2_eq_skeleton]; unfold cc0_hgrn2_skel
  simp only [k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
  iintro ⟨H3, H4, H5, H6, H7, H8, H9, H10, H11, H12, H13, H14, Hk⟩
  sl_exec (disch := sl_exact hc)
  sl_step
  iapply Hk
  iexists _; iexists _; isplitr; swap
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14
  ipureintro
  rw [View.writes_append]
  sl_unfold_words
  exact hQ _ _ _ _ ⟨arg12.view.junk, rfl⟩ ⟨arg13.view.junk, rfl⟩ ⟨arg14.view.junk, rfl⟩ ⟨arg10.view.junk, rfl⟩

set_option maxHeartbeats 40000000 in
/-- The body at a point that goes on with a row of the sequence (the state is kept). -/
theorem run_B (hc : ¬(Scalar.cmpi .ne (Scalar.extui (Scalar.cmpi .eq (BitVec.ofNat 32 (i 2).val) 0#32)) 0#32 = 1#1))
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (Q : BufTy.Contents (Elt F) arg9.view.ty → BufTy.Contents (Elt F) arg10.view.ty → Prop)
    (hQ : ∀ X10' X12' X13' X14', Cum arg12 X12' → Msk arg13 X13' → Sgn arg14 X14' → X10' = X10 →
      Q (arg9.view.writes (Elt F) X9 (pb_k0_t1 (F := F) Variants.none c none i arg3 harg3 arg4 harg4 arg5 harg5 arg6 harg6 arg7 harg7 arg8 harg8 arg9 harg9 arg10 harg10 arg11 harg11 arg12 harg12 arg13 harg13 arg14 harg14 (iota .tc S256x128 32 [0]) X3 X4 X5 X6 X7 X8 X12' X13' X14' X9 X10' X11 (Scf.trips k0_t1_loop.lb k0_t1_loop.ub k0_t1_loop.st)).1)
        (arg10.view.writes (Elt F) X10' (pb_k0_t1 (F := F) Variants.none c none i arg3 harg3 arg4 harg4 arg5 harg5 arg6 harg6 arg7 harg7 arg8 harg8 arg9 harg9 arg10 harg10 arg11 harg11 arg12 harg12 arg13 harg13 arg14 harg14 (iota .tc S256x128 32 [0]) X3 X4 X5 X6 X7 X8 X12' X13' X14' X9 X10' X11 (Scf.trips k0_t1_loop.lb k0_t1_loop.ub k0_t1_loop.st)).2.1))
    (E : Set ℕ) (K : PUnit → sProp 𝕄) :
    iprop(⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ⟪arg12, c, X12⟫ ∗ ⟪arg13, c, X13⟫ ∗ ⟪arg14, c, X14⟫
      ∗ (iprop(∃ f9 f10, ⌜Q f9 f10⌝ ∗ ⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, f9⟫ ∗ ⟪arg10, c, f10⟫ ∗ (∃ f, ⟪arg11, c, f⟫) ∗ (∃ f, ⟪arg12, c, f⟫) ∗ (∃ f, ⟪arg13, c, f⟫) ∗ (∃ f, ⟪arg14, c, f⟫)) -∗ K ⟨⟩))
      ⊢ wp frame (wpE (defs₀ (F := F)) Variants.none c none) E (cc0_hgrn2 i arg3 harg3 arg4 harg4 arg5 harg5 arg6 harg6 arg7 harg7 arg8 harg8 arg9 harg9 arg10 harg10 arg11 harg11 arg12 harg12 arg13 harg13 arg14 harg14) K := by
  simp only [cc0_hgrn2_eq_skeleton]; unfold cc0_hgrn2_skel
  simp only [k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
  iintro ⟨H3, H4, H5, H6, H7, H8, H9, H10, H11, H12, H13, H14, Hk⟩
  sl_exec (disch := sl_exact hc)
  sl_step
  iapply Hk
  iexists _; iexists _; isplitr; swap
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14
  ipureintro
  sl_unfold_words
  exact hQ _ _ _ _ ⟨arg12.view.junk, rfl⟩ ⟨arg13.view.junk, rfl⟩ ⟨arg14.view.junk, rfl⟩ rfl

end Runs

/-- The loop: what every trip keeps holds of what the loop leaves. -/
theorem loop_inv (c : Dev nD) (i : grid0.Coords) (arg3 : Memref sig .tc .vmem S1x2048x512 .bf16) (harg3 : arg3.IsWhole) (arg4 : Memref sig .tc .vmem S1x2048x512 .bf16) (harg4 : arg4.IsWhole) (arg5 : Memref sig .tc .vmem S1x2048x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x2048x512 .bf16) (harg9 : arg9.IsWhole) (arg10 : Memref sig .tc .vmem S4x128x128 .f32) (harg10 : arg10.IsWhole) (arg11 : Memref sig .tc .vmem S4x256x128 .f32) (harg11 : arg11.IsWhole) (arg12 : Memref sig .tc .vmem S256x256 .bf16) (harg12 : arg12.IsWhole) (arg13 : Memref sig .tc .vmem S7x128x128 .f32) (harg13 : arg13.IsWhole) (arg14 : Memref sig .tc .vmem S7x256x128 .f32) (harg14 : arg14.IsWhole) (v12 : IVec S256x128 32)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (Pr : ℕ → BufTy.Contents (Elt F) arg9.view.ty → BufTy.Contents (Elt F) arg10.view.ty → Prop)
    (h0 : Pr 0 X9 X10)
    (hs : ∀ (k : Fin k0_t1_loop.trips) f9 f10 f11, Pr k.val f9 f10 →
      Pr (k.val + 1) (arg9.view.writes (Elt F) f9 ((trip_k0_t1 (F := F) Variants.none c none i arg3 harg3 arg4 harg4 arg5 harg5 arg6 harg6 arg7 harg7 arg8 harg8 arg9 harg9 arg10 harg10 arg11 harg11 arg12 harg12 arg13 harg13 arg14 harg14 v12 X3 X4 X5 X6 X7 X8 X12 X13 X14 k).1 f9 f10 f11)) (arg10.view.writes (Elt F) f10 ((trip_k0_t1 (F := F) Variants.none c none i arg3 harg3 arg4 harg4 arg5 harg5 arg6 harg6 arg7 harg7 arg8 harg8 arg9 harg9 arg10 harg10 arg11 harg11 arg12 harg12 arg13 harg13 arg14 harg14 v12 X3 X4 X5 X6 X7 X8 X12 X13 X14 k).2.1 f9 f10 f11)))
    (n : ℕ) (hn : n ≤ k0_t1_loop.trips) :
    Pr n (arg9.view.writes (Elt F) X9 (pb_k0_t1 (F := F) Variants.none c none i arg3 harg3 arg4 harg4 arg5 harg5 arg6 harg6 arg7 harg7 arg8 harg8 arg9 harg9 arg10 harg10 arg11 harg11 arg12 harg12 arg13 harg13 arg14 harg14 v12 X3 X4 X5 X6 X7 X8 X12 X13 X14 X9 X10 X11 n).1) (arg10.view.writes (Elt F) X10 (pb_k0_t1 (F := F) Variants.none c none i arg3 harg3 arg4 harg4 arg5 harg5 arg6 harg6 arg7 harg7 arg8 harg8 arg9 harg9 arg10 harg10 arg11 harg11 arg12 harg12 arg13 harg13 arg14 harg14 v12 X3 X4 X5 X6 X7 X8 X12 X13 X14 X9 X10 X11 n).2.1) := by
  induction n with
  | zero => exact h0
  | succ n ih =>
    have e := pb_k0_t1_succ (F := F) Variants.none c none i arg3 harg3 arg4 harg4 arg5 harg5 arg6 harg6 arg7 harg7 arg8 harg8 arg9 harg9 arg10 harg10 arg11 harg11 arg12 harg12 arg13 harg13 arg14 harg14 v12 X3 X4 X5 X6 X7 X8 X12 X13 X14 X9 X10 X11 ⟨n, hn⟩
    rw [show (pb_k0_t1 (F := F) Variants.none c none i arg3 harg3 arg4 harg4 arg5 harg5 arg6 harg6 arg7 harg7 arg8 harg8 arg9 harg9 arg10 harg10 arg11 harg11 arg12 harg12 arg13 harg13 arg14 harg14 v12 X3 X4 X5 X6 X7 X8 X12 X13 X14 X9 X10 X11 (n + 1)) = _ from e]
    dsimp only
    rw [View.writes_append, View.writes_append]
    exact hs ⟨n, hn⟩ _ _ _ (ih (Nat.le_of_succ_le hn))

abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x512 .bf16 := win0_6.stage (cfg0.slots t 6)
abbrev hs0_6 (t : Fin cfg0.N) : (ms0_6 t).IsWhole := hstage0_6 ((cfg0.slots t 6).cast nbuf0_6)
abbrev sc0_0 : Memref sig .tc .vmem S4x128x128 .f32 := Memref.whole cc0_scratch0
abbrev sc0_1 : Memref sig .tc .vmem S4x256x128 .f32 := Memref.whole cc0_scratch1
abbrev sc0_2 : Memref sig .tc .vmem S256x256 .bf16 := Memref.whole cc0_scratch2
abbrev sc0_3 : Memref sig .tc .vmem S7x128x128 .f32 := Memref.whole cc0_scratch3
abbrev sc0_4 : Memref sig .tc .vmem S7x256x128 .f32 := Memref.whole cc0_scratch4

/-- The launch's invariant, buffer by buffer: the scratch at some contents, the generator register at some state. -/
theorem PhiA0_eq (c : Dev nD) :
    (Pipeline.ΦA spec0 c : sProp 𝕄) = iprop(iprop((∃ d, owns (c : Thread nD τ) sc0_0 fullShare d) ∗ (∃ d, owns (c : Thread nD τ) sc0_1 fullShare d) ∗ (∃ d, owns (c : Thread nD τ) sc0_2 fullShare d) ∗ (∃ d, owns (c : Thread nD τ) sc0_3 fullShare d) ∗ (∃ d, owns (c : Thread nD τ) sc0_4 fullShare d)) ∗ (∃ r, prngReg c r)) := by
  unfold Pipeline.ΦA; rw [scopedRest0_eq]; simp only [sc0_0, sc0_1, sc0_2, sc0_3, sc0_4, owns_whole]; try rfl

variable (m : (ℓ : Loc nD τ sig) → Buf (Elt F) ℓ) (ρ : Dev nD → PrngReg)
variable (St : Dev nD → ℕ → (S4x128x128.Idx → Elt F .f32) → Prop)
  (Rl : Dev nD → Fin cfg0.N → (S1x2048x512.Idx → Elt F .bf16) → Prop)

/-- The result's window is the only one whose contents the data leave unnamed. -/
def fgt0 : Fin 7 → Bool := fun w => decide (w = 6)

/-- The proof data: the arrays as the region finds them, each input's block left as it is, the carried state known by `St`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ t := iprop(iprop((∃ d, ⌜St c t.val d⌝ ∗ owns (c : Thread nD τ) sc0_0 fullShare d) ∗ (∃ d, owns (c : Thread nD τ) sc0_1 fullShare d) ∗ (∃ d, owns (c : Thread nD τ) sc0_2 fullShare d) ∗ (∃ d, owns (c : Thread nD τ) sc0_3 fullShare d) ∗ (∃ d, owns (c : Thread nD τ) sc0_4 fullShare d)) ∗ (∃ r, prngReg c r))
  q _ := fullShare
  owed _ := 0

theorem A_eq (c : Dev nD) (w : Fin cfg0.W) : (dats m St 0 c).A w = V m c (Pipeline.arrRef spec0 w) := by dsimp only [dats]
theorem after0_0 (c : Dev nD) (t : Fin cfg0.N) : (dats m St 0 c).after 0 t = iblk m c 0 t := by dsimp only [dats]
theorem before0_0 (c : Dev nD) (t : Fin cfg0.N) (d) : (dats m St 0 c).before 0 t d = iblk m c 0 t :=
  before0_0_of m (dats m St 0 c) (A_eq m St c 0) (after0_0 m St c) t d
theorem after0_1 (c : Dev nD) (t : Fin cfg0.N) : (dats m St 0 c).after 1 t = iblk m c 1 t := by dsimp only [dats]
theorem before0_1 (c : Dev nD) (t : Fin cfg0.N) (d) : (dats m St 0 c).before 1 t d = iblk m c 1 t :=
  before0_1_of m (dats m St 0 c) (A_eq m St c 1) (after0_1 m St c) t d
theorem after0_2 (c : Dev nD) (t : Fin cfg0.N) : (dats m St 0 c).after 2 t = iblk m c 2 t := by dsimp only [dats]
theorem before0_2 (c : Dev nD) (t : Fin cfg0.N) (d) : (dats m St 0 c).before 2 t d = iblk m c 2 t :=
  before0_2_of m (dats m St 0 c) (A_eq m St c 2) (after0_2 m St c) t d
theorem after0_3 (c : Dev nD) (t : Fin cfg0.N) : (dats m St 0 c).after 3 t = iblk m c 3 t := by dsimp only [dats]
theorem before0_3 (c : Dev nD) (t : Fin cfg0.N) (d) : (dats m St 0 c).before 3 t d = iblk m c 3 t :=
  before0_3_of m (dats m St 0 c) (A_eq m St c 3) (after0_3 m St c) t d
theorem after0_4 (c : Dev nD) (t : Fin cfg0.N) : (dats m St 0 c).after 4 t = iblk m c 4 t := by dsimp only [dats]
theorem before0_4 (c : Dev nD) (t : Fin cfg0.N) (d) : (dats m St 0 c).before 4 t d = iblk m c 4 t :=
  before0_4_of m (dats m St 0 c) (A_eq m St c 4) (after0_4 m St c) t d
theorem after0_5 (c : Dev nD) (t : Fin cfg0.N) : (dats m St 0 c).after 5 t = iblk m c 5 t := by dsimp only [dats]
theorem before0_5 (c : Dev nD) (t : Fin cfg0.N) (d) : (dats m St 0 c).before 5 t d = iblk m c 5 t :=
  before0_5_of m (dats m St 0 c) (A_eq m St c 5) (after0_5 m St c) t d

/-- The relations as the library takes them, window by window. -/
abbrev Rw (c : Dev nD) : (w : Fin cfg0.W) → Fin cfg0.N → ((cfg0.win w).block.Idx → Elt F (cfg0.win w).elt) → Prop :=
  fun w t => match w with | ⟨6, _⟩ => Rl c t | _ => fun _ => True

def bodyPre (c : Dev nD) (t : Fin cfg0.N) : sProp 𝕄 :=
  iprop((dats m St 0 c).Φ t.castSucc ∗ (dats m St 0 c).owesAt () t.castSucc
    ∗ (∃ d, owns (c : Thread nD τ) (ms0_0 t) fullShare ((dats m St 0 c).before 0 t d))
    ∗ (∃ d, owns (c : Thread nD τ) (ms0_1 t) fullShare ((dats m St 0 c).before 1 t d))
    ∗ (∃ d, owns (c : Thread nD τ) (ms0_2 t) fullShare ((dats m St 0 c).before 2 t d))
    ∗ (∃ d, owns (c : Thread nD τ) (ms0_3 t) fullShare ((dats m St 0 c).before 3 t d))
    ∗ (∃ d, owns (c : Thread nD τ) (ms0_4 t) fullShare ((dats m St 0 c).before 4 t d))
    ∗ (∃ d, owns (c : Thread nD τ) (ms0_5 t) fullShare ((dats m St 0 c).before 5 t d))
    ∗ (∃ Y, ⌜((dats m St 0 c).toRRel fgt0 (Rw Rl c)).Finds 6 t Y⌝ ∗ owns (c : Thread nD τ) (ms0_6 t) fullShare Y))

def bodyPost (c : Dev nD) (t : Fin cfg0.N) : sProp 𝕄 :=
  iprop((dats m St 0 c).Φ t.succ ∗ (dats m St 0 c).owesAt () t.succ
    ∗ owns (c : Thread nD τ) (ms0_0 t) fullShare ((dats m St 0 c).after 0 t)
    ∗ owns (c : Thread nD τ) (ms0_1 t) fullShare ((dats m St 0 c).after 1 t)
    ∗ owns (c : Thread nD τ) (ms0_2 t) fullShare ((dats m St 0 c).after 2 t)
    ∗ owns (c : Thread nD τ) (ms0_3 t) fullShare ((dats m St 0 c).after 3 t)
    ∗ owns (c : Thread nD τ) (ms0_4 t) fullShare ((dats m St 0 c).after 4 t)
    ∗ owns (c : Thread nD τ) (ms0_5 t) fullShare ((dats m St 0 c).after 5 t)
    ∗ (∃ X, ⌜Rl c t X⌝ ∗ owns (c : Thread nD τ) (ms0_6 t) fullShare X))

/-- What the two relations must satisfy: one run of the body at a point takes the state's relation at the point to the next one's
    and leaves the result's block related. -/
def StepOk : Prop := ∀ (c : Dev nD) (t : Fin cfg0.N) (arg3 : Memref sig .tc .vmem S1x2048x512 .bf16) (harg3 : arg3.IsWhole) (arg4 : Memref sig .tc .vmem S1x2048x512 .bf16) (harg4 : arg4.IsWhole) (arg5 : Memref sig .tc .vmem S1x2048x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x2048x512 .bf16) (harg9 : arg9.IsWhole) (arg10 : Memref sig .tc .vmem S4x128x128 .f32) (harg10 : arg10.IsWhole) (arg11 : Memref sig .tc .vmem S4x256x128 .f32) (harg11 : arg11.IsWhole) (arg12 : Memref sig .tc .vmem S256x256 .bf16) (harg12 : arg12.IsWhole) (arg13 : Memref sig .tc .vmem S7x128x128 .f32) (harg13 : arg13.IsWhole) (arg14 : Memref sig .tc .vmem S7x256x128 .f32) (harg14 : arg14.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty),
    arg3.view.read (Elt F) X3 = iblk m c 0 t → arg4.view.read (Elt F) X4 = iblk m c 1 t → arg5.view.read (Elt F) X5 = iblk m c 2 t → arg6.view.read (Elt F) X6 = iblk m c 3 t → arg7.view.read (Elt F) X7 = iblk m c 4 t → arg8.view.read (Elt F) X8 = iblk m c 5 t → Cum arg12 X12 → Msk arg13 X13 → Sgn arg14 X14 →
    (((Scalar.cmpi .ne (Scalar.extui (Scalar.cmpi .eq (BitVec.ofNat 32 (grid0.coords t 2).val) 0#32)) 0#32 = 1#1) ∧ Zero arg10 X10) ∨ (¬(Scalar.cmpi .ne (Scalar.extui (Scalar.cmpi .eq (BitVec.ofNat 32 (grid0.coords t 2).val) 0#32)) 0#32 = 1#1) ∧ St c t.val (arg10.view.read (Elt F) X10))) →
    Rl c t (arg9.view.read (Elt F) (arg9.view.writes (Elt F) X9 (pb_k0_t1 (F := F) Variants.none c none (grid0.coords t) arg3 harg3 arg4 harg4 arg5 harg5 arg6 harg6 arg7 harg7 arg8 harg8 arg9 harg9 arg10 harg10 arg11 harg11 arg12 harg12 arg13 harg13 arg14 harg14 (iota .tc S256x128 32 [0]) X3 X4 X5 X6 X7 X8 X12 X13 X14 X9 X10 X11 (Scf.trips k0_t1_loop.lb k0_t1_loop.ub k0_t1_loop.st)).1))
      ∧ St c (t.val + 1) (arg10.view.read (Elt F) (arg10.view.writes (Elt F) X10 (pb_k0_t1 (F := F) Variants.none c none (grid0.coords t) arg3 harg3 arg4 harg4 arg5 harg5 arg6 harg6 arg7 harg7 arg8 harg8 arg9 harg9 arg10 harg10 arg11 harg11 arg12 harg12 arg13 harg13 arg14 harg14 (iota .tc S256x128 32 [0]) X3 X4 X5 X6 X7 X8 X12 X13 X14 X9 X10 X11 (Scf.trips k0_t1_loop.lb k0_t1_loop.ub k0_t1_loop.st)).2.1))

variable (hstep : StepOk m St Rl)
include hstep

set_option maxHeartbeats 3200000 in
/-- The body at a point, whichever of its two cases the point is in. -/
theorem sound_body (c : Dev nD) (t : Fin cfg0.N) :
    bodyPre m St Rl c t ⊢ wp frame (wpE (defs₀ (F := F)) Variants.none c none) Set.univ (bodyAt0 t) (fun _ => bodyPost m St Rl c t) := by
  unfold bodyPre bodyPost bodyAt0
  simp only [before0_0, after0_0, before0_1, after0_1, before0_2, after0_2, before0_3, after0_3, before0_4, after0_4, before0_5, after0_5]
  rw [show (dats m St 0 c).owesAt () t.succ = (dats m St 0 c).owesAt () t.castSucc from rfl]
  dsimp only [dats]
  unfold owns
  iintro ⟨⟨⟨⟨%s0, %hs0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, %h6, H6⟩⟩
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases HS0 with ⟨%g0, %k0, HS0⟩
  icases HS1 with ⟨%g1, %k1, HS1⟩
  icases HS2 with ⟨%g2, %k2, HS2⟩
  icases HS3 with ⟨%g3, %k3, HS3⟩
  icases HS4 with ⟨%g4, %k4, HS4⟩
  by_cases hc : Scalar.cmpi .ne (Scalar.extui (Scalar.cmpi .eq (BitVec.ofNat 32 (grid0.coords t 2).val) 0#32)) 0#32 = 1#1
  · iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) sc0_0 (Memref.isWhole_whole _) sc0_1 (Memref.isWhole_whole _) sc0_2 (Memref.isWhole_whole _) sc0_3 (Memref.isWhole_whole _) sc0_4 (Memref.isWhole_whole _) hc f0 f1 f2 f3 f4 f5 f6 g0 g1 g2 g3 g4
      (fun f9 f10 => Rl c t ((ms0_6 t).view.read (Elt F) f9) ∧ St c (t.val + 1) (sc0_0.view.read (Elt F) f10))
      (fun X10' X12' X13' X14' h12 h13 h14 hz => hstep c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) sc0_0 (Memref.isWhole_whole _) sc0_1 (Memref.isWhole_whole _) sc0_2 (Memref.isWhole_whole _) sc0_3 (Memref.isWhole_whole _) sc0_4 (Memref.isWhole_whole _) f0 f1 f2 f3 f4 f5 f6 X10' g1 X12' X13' X14' e0 e1 e2 e3 e4 e5 h12 h13 h14 (Or.inl ⟨hc, hz⟩)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨%f9, %f10, %hq, H0, H1, H2, H3, H4, H5, H6, HS0, ⟨%g1', HS1⟩, ⟨%g2', HS2⟩, ⟨%g3', HS3⟩, ⟨%g4', HS4⟩⟩
    isplitl [HS0 HS1 HS2 HS3 HS4 Hg]
    · isplitl [HS0 HS1 HS2 HS3 HS4]
      · isplitl [HS0]
        · iexists _; isplitr; swap
          · iexists _; isplitr; swap; · iexact HS0
            ipureintro; rfl
          ipureintro; exact hq.2
        isplitl [HS1]
        · iexists _; iexists _; isplitr; swap; · iexact HS1
          ipureintro; rfl
        isplitl [HS2]
        · iexists _; iexists _; isplitr; swap; · iexact HS2
          ipureintro; rfl
        isplitl [HS3]
        · iexists _; iexists _; isplitr; swap; · iexact HS3
          ipureintro; rfl
        iexists _; iexists _; isplitr; swap; · iexact HS4
        ipureintro; rfl
      iexact Hg
    isplitl [Ho]; · iexact Ho
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    iexists _; isplitr; swap
    · iexists _; isplitr; swap; · iexact H6
      ipureintro; rfl
    ipureintro; exact hq.1
  · iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) sc0_0 (Memref.isWhole_whole _) sc0_1 (Memref.isWhole_whole _) sc0_2 (Memref.isWhole_whole _) sc0_3 (Memref.isWhole_whole _) sc0_4 (Memref.isWhole_whole _) hc f0 f1 f2 f3 f4 f5 f6 g0 g1 g2 g3 g4
      (fun f9 f10 => Rl c t ((ms0_6 t).view.read (Elt F) f9) ∧ St c (t.val + 1) (sc0_0.view.read (Elt F) f10))
      (fun X10' X12' X13' X14' h12 h13 h14 hz => hstep c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) sc0_0 (Memref.isWhole_whole _) sc0_1 (Memref.isWhole_whole _) sc0_2 (Memref.isWhole_whole _) sc0_3 (Memref.isWhole_whole _) sc0_4 (Memref.isWhole_whole _) f0 f1 f2 f3 f4 f5 f6 X10' g1 X12' X13' X14' e0 e1 e2 e3 e4 e5 h12 h13 h14 (Or.inr ⟨hc, by rw [hz, k0]; exact hs0⟩)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨%f9, %f10, %hq, H0, H1, H2, H3, H4, H5, H6, HS0, ⟨%g1', HS1⟩, ⟨%g2', HS2⟩, ⟨%g3', HS3⟩, ⟨%g4', HS4⟩⟩
    isplitl [HS0 HS1 HS2 HS3 HS4 Hg]
    · isplitl [HS0 HS1 HS2 HS3 HS4]
      · isplitl [HS0]
        · iexists _; isplitr; swap
          · iexists _; isplitr; swap; · iexact HS0
            ipureintro; rfl
          ipureintro; exact hq.2
        isplitl [HS1]
        · iexists _; iexists _; isplitr; swap; · iexact HS1
          ipureintro; rfl
        isplitl [HS2]
        · iexists _; iexists _; isplitr; swap; · iexact HS2
          ipureintro; rfl
        isplitl [HS3]
        · iexists _; iexists _; isplitr; swap; · iexact HS3
          ipureintro; rfl
        iexists _; iexists _; isplitr; swap; · iexact HS4
        ipureintro; rfl
      iexact Hg
    isplitl [Ho]; · iexact Ho
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    iexists _; isplitr; swap
    · iexists _; isplitr; swap; · iexact H6
      ipureintro; rfl
    ipureintro; exact hq.1

omit hstep in
theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligationRel (dats (F := F) m St 0 c) (defs₀ (F := F)) Variants.none () Set.univ fgt0 (Rw Rl c) := fun t => by
  rw [bigSep_W0, bigSep_W0, defs₀_row]
  exact triple_restated (sound_body m St Rl hstep c t) rfl .rfl fun _ => .rfl

variable (hSt0 : ∀ c d, St c 0 d)
include hSt0

theorem hin0 (c : Dev nD) : Pipeline.ΦA spec0 c ⊢ (dats m St 0 c).Φ 0 := by
  rw [PhiA0_eq]; dsimp only [dats]
  iintro ⟨⟨⟨%d, H0⟩, H1⟩, Hg⟩
  isplitl [H0 H1]
  · isplitl [H0]
    · iexists _; isplitr; swap; · iexact H0
      ipureintro; exact hSt0 c _
    iexact H1
  iexact Hg

omit hSt0 in
theorem hout0 (c : Dev nD) : (dats m St 0 c).Φ (Fin.last cfg0.N) ⊢ Pipeline.ΦA spec0 c := by
  rw [PhiA0_eq]; dsimp only [dats]
  iintro ⟨⟨⟨%d, %hd, H0⟩, H1⟩, Hg⟩
  isplitl [H0 H1]
  · isplitl [H0]; · iexists _; iexact H0
    iexact H1
  iexact Hg

set_option backward.isDefEq.respectTransparency.types false in
/-- The run of the whole program, its result's blocks related by `Rl`. -/
theorem run_main :
    θ_run defs (onTc (τ := τ) (main (F := F))) (s₀ m ρ)
      (fun r => Pipeline.RDat.FramePost (cfgs 0) (fun c => (dats m St 0 c).toRRel fgt0 (Rw Rl c)) (V m) r ∧ r.2.sem = fun _ => 0) :=
  Pipeline.RDat.θ_run_frame_track (Q' := _) cfgs (0 : Fin 1) launch0 defs₀ Variants.none (fun c => (dats m St 0 c).toRRel fgt0 (Rw Rl c)) m ρ main
    (hbody := fun c => (body_obligation m St Rl hstep c).toRRel) (hshare := fun c => (dats m St 0 c).share_full fun _ => rfl)
    (howed := fun _ _ => rfl) (V := V m) (hmain := hmain m Variants.none) (hA := A_eq m St)
    (hin := hin0 m St Rl hstep hSt0) (hout := hout0 m St Rl hstep)

omit hstep hSt0 in
/-- The arguments after the run. -/
theorem args_kept {r : PUnit × MemSt nD τ sig (Elt F)}
    (h : Pipeline.RDat.FramePost (cfgs 0) (fun c => (dats (F := F) m St 0 c).toRRel fgt0 (Rw Rl c)) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  ⟨(Pipeline.RDat.FramePost.arr_in h c 0 rfl).trans (V_main_arg0 m c), (Pipeline.RDat.FramePost.arr_in h c 1 rfl).trans (V_main_arg1 m c),
    (Pipeline.RDat.FramePost.arr_in h c 2 rfl).trans (V_main_arg2 m c), (Pipeline.RDat.FramePost.arr_in h c 3 rfl).trans (V_main_arg3 m c),
    (Pipeline.RDat.FramePost.arr_in h c 4 rfl).trans (V_main_arg4 m c),
    ((h c).2 main_arg5 (Pipeline.mem_restRefs_of main_arg5 (by decide) (by decide))).trans (V_main_arg5 m c)⟩

end Cert.HgrnIdeal.Hand

end
-- ==== Proof.HgrnHead.lean ====
module

public import proofs.«01_k».proof.Proof.Gen.HgrnIdeal.Frame
public import proofs.«01_k».proof.Proof.Gen.HgrnIdeal.Loops
public import Idealize.ShloMosaic.Lib.Claim
public import Idealize.ShloMosaic.Lib.Tactic
public import Idealize.ShloMosaic.Lib.Pipeline.ValueKit
public import Idealize.ShloMosaic.Lib.Pipeline.ValueKit.Point
public import Idealize.ShloMosaic.Lib.KernelVsHost

@[expose] public section

set_option maxRecDepth 16384

/-! One head's share of one chunk, read at a row and a column. -/

noncomputable section

namespace Cert.HgrnIdeal.Head

open Cert.HgrnIdeal Cert.HgrnIdeal.Gen
open Idealize.ShloMosaic Idealize.ShloMosaic.TcCoe Idealize.SL.Sem

/-- One level's contribution to a half chunk's scores, added to what the levels above left. -/
def lvl (off : Fin 2 → ℕ) (ho : S256x128.Slices off S128x128) (q k b bm sg : FVec Ideal S256x128 .f32) (mk acc : FVec Ideal S128x128 .f32) : FVec Ideal S128x128 .f32 :=
  addf acc (mulf (matmul dot_S128x128_S128x128_S128x128_1_1_0_0_n_n none
    (extractStridedSlice S128x128 off (truncf .bf16 (mulf q (exp2 (mulf (subf b bm) sg))) bitsLt_bf16_f32) ho)
    (extractStridedSlice S128x128 off (truncf .bf16 (mulf k (exp2 (mulf (subf b bm) sg))) bitsLt_bf16_f32) ho)
    (constant S128x128 .f32 0x00000000#32)) mk)

theorem lvl0_at (ho) (q k b bm sg : FVec Ideal S256x128 .f32) (mk acc : FVec Ideal S128x128 .f32) (i j : Fin 128) :
    lvl ![0, 0] ho q k b bm sg mk acc (ix2 i j) = acc (ix2 i j) + (∑ x : Fin 128,
      (q (ix2 (⟨i.val, by omega⟩ : Fin 256) x) * Ideal.exp2 ((b (ix2 (⟨i.val, by omega⟩ : Fin 256) x) - bm (ix2 (⟨i.val, by omega⟩ : Fin 256) x)) * sg (ix2 (⟨i.val, by omega⟩ : Fin 256) x)))
      * (k (ix2 (⟨j.val, by omega⟩ : Fin 256) x) * Ideal.exp2 ((b (ix2 (⟨j.val, by omega⟩ : Fin 256) x) - bm (ix2 (⟨j.val, by omega⟩ : Fin 256) x)) * sg (ix2 (⟨j.val, by omega⟩ : Fin 256) x))))
      * mk (ix2 i j) := by
  pointwise [lvl]
  rfl

theorem lvl1_at (ho) (q k b bm sg : FVec Ideal S256x128 .f32) (mk acc : FVec Ideal S128x128 .f32) (i j : Fin 128) :
    lvl ![128, 0] ho q k b bm sg mk acc (ix2 i j) = acc (ix2 i j) + (∑ x : Fin 128,
      (q (ix2 (⟨128 + i.val, by omega⟩ : Fin 256) x) * Ideal.exp2 ((b (ix2 (⟨128 + i.val, by omega⟩ : Fin 256) x) - bm (ix2 (⟨128 + i.val, by omega⟩ : Fin 256) x)) * sg (ix2 (⟨128 + i.val, by omega⟩ : Fin 256) x)))
      * (k (ix2 (⟨128 + j.val, by omega⟩ : Fin 256) x) * Ideal.exp2 ((b (ix2 (⟨128 + j.val, by omega⟩ : Fin 256) x) - bm (ix2 (⟨128 + j.val, by omega⟩ : Fin 256) x)) * sg (ix2 (⟨128 + j.val, by omega⟩ : Fin 256) x))))
      * mk (ix2 i j) := by
  pointwise [lvl]
  rfl

/-- The scores between the two halves of a chunk, through the row between them. -/
def cross (q k b : FVec Ideal S256x128 .f32) (top : FVec Ideal S1x128 .f32) : FVec Ideal S128x128 .f32 :=
  matmul dot_S128x128_S128x128_S128x128_1_1_0_0_n_n none
    (truncf .bf16 (mulf (extractStridedSlice S128x128 ![128, 0] q slices_S256x128_o128_0_S128x128) (exp2 (subf (extractStridedSlice S128x128 ![128, 0] b slices_S256x128_o128_0_S128x128) (broadcastTo S128x128 top broadcasts_S1x128_S128x128)))) bitsLt_bf16_f32)
    (truncf .bf16 (mulf (extractStridedSlice S128x128 ![0, 0] k slices_S256x128_o0_0_S128x128) (exp2 (subf (broadcastTo S128x128 top broadcasts_S1x128_S128x128) (extractStridedSlice S128x128 ![0, 0] b slices_S256x128_o0_0_S128x128)))) bitsLt_bf16_f32)
    (constant S128x128 .f32 0x00000000#32)

theorem cross_at (q k b : FVec Ideal S256x128 .f32) (top : FVec Ideal S1x128 .f32) (i j : Fin 128) :
    cross q k b top (ix2 i j) = ∑ x : Fin 128,
      (q (ix2 (⟨128 + i.val, by omega⟩ : Fin 256) x) * Ideal.exp2 (b (ix2 (⟨128 + i.val, by omega⟩ : Fin 256) x) - top (ix2 0 x)))
      * (k (ix2 (⟨j.val, by omega⟩ : Fin 256) x) * Ideal.exp2 (top (ix2 0 x) - b (ix2 (⟨j.val, by omega⟩ : Fin 256) x))) := by
  pointwise [cross]
  rfl

/-- A head's outputs before the norm. -/
def outv (lo hi cr : FVec Ideal S128x128 .f32) (q k b : FVec Ideal S256x128 .f32) (v : FVec Ideal S256x128 .bf16) (st : FVec Ideal S128x128 .f32) : FVec Ideal S256x128 .f32 :=
  addf (addf (concatenate S256x128 0 [⟨S128x128, matmul dot_S128x128_S128x128_S128x128_1_0_0_1_n_n none (truncf .bf16 lo bitsLt_bf16_f32) (extractStridedSlice S128x128 ![0, 0] v slices_S256x128_o0_0_S128x128) (constant S128x128 .f32 0x00000000#32)⟩,
    ⟨S128x128, addf (matmul dot_S128x128_S128x128_S128x128_1_0_0_1_n_n none (truncf .bf16 hi bitsLt_bf16_f32) (extractStridedSlice S128x128 ![128, 0] v slices_S256x128_o128_0_S128x128) (constant S128x128 .f32 0x00000000#32))
      (matmul dot_S128x128_S128x128_S128x128_1_0_0_1_n_n none (truncf .bf16 cr bitsLt_bf16_f32) (extractStridedSlice S128x128 ![0, 0] v slices_S256x128_o0_0_S128x128) (constant S128x128 .f32 0x00000000#32))⟩] concatenates_S128x128_S128x128_S256x128_d0)
    (mulf (broadcastTo S256x128 (shapeCast S256x1 (multiReduction .add [1] S256 (mulf q k) 0x00000000#32 reduces_S256x128_S256 (.inl rfl) rfl) shapeCasts_S256_S256x1) broadcasts_S256x1_S256x128) (extf .f32 v bitsLt_bf16_f32)))
    (matmul dot_S256x128_S128x128_S256x128_1_1_0_0_n_n none (truncf .bf16 (mulf q (exp2 b)) bitsLt_bf16_f32) (truncf .bf16 st bitsLt_bf16_f32) (constant S256x128 .f32 0x00000000#32))

theorem outv_at (lo hi cr : FVec Ideal S128x128 .f32) (q k b : FVec Ideal S256x128 .f32) (v : FVec Ideal S256x128 .bf16) (st : FVec Ideal S128x128 .f32)
    (t : Fin 256) (e : Fin 128) : outv lo hi cr q k b v st (ix2 t e)
      = ((if h : t.val < 128 then ∑ x : Fin 128, lo (ix2 (⟨t.val, h⟩ : Fin 128) x) * v (ix2 (⟨x.val, by omega⟩ : Fin 256) e)
          else (∑ x : Fin 128, hi (ix2 (⟨t.val - 128, by omega⟩ : Fin 128) x) * v (ix2 (⟨128 + x.val, by omega⟩ : Fin 256) e))
            + ∑ x : Fin 128, cr (ix2 (⟨t.val - 128, by omega⟩ : Fin 128) x) * v (ix2 (⟨x.val, by omega⟩ : Fin 256) e))
        + (∑ x : Fin 128, q (ix2 t x) * k (ix2 t x)) * v (ix2 t e))
      + ∑ x : Fin 128, q (ix2 t x) * Ideal.exp2 (b (ix2 t x)) * st (ix2 e x) := by
  pointwise [outv]
  rfl

/-- A head's state after the chunk. -/
def statev (st : FVec Ideal S128x128 .f32) (last : FVec Ideal S1x128 .f32) (k b : FVec Ideal S256x128 .f32) (v : FVec Ideal S256x128 .bf16) : FVec Ideal S128x128 .f32 :=
  addf (mulf st (broadcastTo S128x128 (exp2 last) broadcasts_S1x128_S128x128))
    (matmul dot_S128x256_S256x128_S128x128_1_0_0_1_n_n none (truncf .bf16 (transpose S128x256 [1, 0] (extf .f32 v bitsLt_bf16_f32) transposes_S256x128_p1_0_S128x256) bitsLt_bf16_f32)
      (truncf .bf16 (mulf k (exp2 (subf (broadcastTo S256x128 last broadcasts_S1x128_S256x128) b))) bitsLt_bf16_f32) (constant S128x128 .f32 0x00000000#32))

theorem statev_at (st : FVec Ideal S128x128 .f32) (last : FVec Ideal S1x128 .f32) (k b : FVec Ideal S256x128 .f32) (v : FVec Ideal S256x128 .bf16)
    (e d : Fin 128) : statev st last k b v (ix2 e d) = st (ix2 e d) * Ideal.exp2 (last (ix2 0 d))
      + ∑ s : Fin 256, v (ix2 s e) * (k (ix2 s d) * Ideal.exp2 (last (ix2 0 d) - b (ix2 s d))) := by
  pointwise [statev]
  rfl

/-- A head's outputs after the norm, the layer's scale and the gate. -/
def normv (o : FVec Ideal S256x128 .f32) (gn : FVec Ideal S1x128 .f32) (g : FVec Ideal S256x128 .bf16) : FVec Ideal S256x128 .bf16 :=
  truncf .bf16 (mulf (mulf (mulf o (broadcastTo S256x128 (rsqrt (addf (divf (shapeCast S256x1 (multiReduction .add [1] S256 (mulf o o) 0x00000000#32 reduces_S256x128_S256 (.inl rfl) rfl) shapeCasts_S256_S256x1)
    (broadcast S256x1 (FloatOps.ofBits .f32 0x43000000#32))) (broadcast S256x1 (FloatOps.ofBits .f32 0x358637BD#32)))) broadcasts_S256x1_S256x128))
    (broadcastTo S256x128 gn broadcasts_S1x128_S256x128)) (extf .f32 g bitsLt_bf16_f32)) bitsLt_bf16_f32

theorem normv_at (o : FVec Ideal S256x128 .f32) (gn : FVec Ideal S1x128 .f32) (g : FVec Ideal S256x128 .bf16) (t : Fin 256) (e : Fin 128) :
   normv o gn g (ix2 t e) = o (ix2 t e) * Ideal.rsqrt (Ideal.div (∑ x : Fin 128, o (ix2 t x) * o (ix2 t x)) (Ideal.ofBits .f32 0x43000000#32)
      + Ideal.ofBits .f32 0x358637BD#32) * gn (ix2 0 e) * g (ix2 t e) := by
  pointwise [normv]

/-- The running sums of a chunk's gates in base two. -/
theorem cums_at (x : Vec Ideal S1x256x128 .f32) (cu : Vec Ideal S256x256 .bf16) (t : Fin 256) (d : Fin 128) :
   k0_pay16 x cu (ix2 t d) = ((∑ s : Fin 256, cu (ix2 t s) * x (ix3 0 s d)) + (∑ s : Fin 256, cu (ix2 t s) * (x (ix3 0 s d) - x (ix3 0 s d)))
      + ∑ s : Fin 256, cu (ix2 t s) * ((x (ix3 0 s d) - x (ix3 0 s d)) - (x (ix3 0 s d) - x (ix3 0 s d)))) * (((Real.log 2)⁻¹ : ℝ) : EReal) := by
  pointwise [k0_pay16]
  rw [show (Named.named κ "log2e" 1069066811#32 : Ideal .f32) = (((Real.log 2)⁻¹ : ℝ) : EReal) from IdealRules.named_const.ideal_named_scalar κ "log2e" _ _ rfl]
  congr 2
  refine Finset.sum_congr rfl fun s _ => ?_
  rw [dif_neg (by omega), dif_neg (by omega)]
  have : (⟨256 + d.val - 128 - 128, by omega⟩ : Fin 128) = d := Fin.ext (show 256 + d.val - 128 - 128 = d.val by omega)
  simp only [this]

end Cert.HgrnIdeal.Head

end
-- ==== Proof.HgrnReal.lean ====
module

public import proofs.«01_k».proof.Proof.HgrnHead

@[expose] public section

set_option maxRecDepth 16384

/-! One head's share of one chunk on real inputs: what its scores, outputs and state are as real numbers. -/

noncomputable section

namespace Cert.HgrnIdeal.Head

open Cert.HgrnIdeal Cert.HgrnIdeal.Gen
open Idealize.ShloMosaic Idealize.ShloMosaic.TcCoe Idealize.SL.Sem

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The power of two on the reals. -/
def e2 (x : ℝ) : ℝ := Real.rpow 2 x

theorem e2_add (x y : ℝ) : e2 x * e2 y = e2 (x + y) := (Real.rpow_add (by norm_num) x y).symm
theorem e2_zero : e2 0 = 1 := Real.rpow_zero 2
theorem e2_log (x : ℝ) : e2 (x * (Real.log 2)⁻¹) = Real.exp x := by
  have h : Real.log 2 ≠ 0 := (Real.log_pos (by norm_num)).ne'
  change (2 : ℝ) ^ (x * (Real.log 2)⁻¹) = _
  rw [Real.rpow_def_of_pos (by norm_num)]
  congr 1
  field_simp
theorem exp2_real (x : ℝ) : Ideal.exp2 (x : EReal) = (e2 x : EReal) := rfl

/-- The row a level's block is measured from: the last of the block's lower half. -/
def mid (h t : ℕ) : ℕ := t / (h * 2) * (h * 2) + h - 1

/-- The score of row `t` against row `s`. -/
def score (Q K β : Fin 256 → Fin 128 → ℝ) (t s : Fin 256) : ℝ := ∑ x, Q t x * K s x * e2 (β t x - β s x)

variable (Q K β : Fin 256 → Fin 128 → ℝ) (q k b bm sg : FVec Ideal S256x128 .f32) (mk acc : FVec Ideal S128x128 .f32)

/-- Two rows in one block, the first in its upper and the second in its lower half, at distance one level up. -/
theorem halves (h i j : ℕ) (hh : 0 < h) :
    (j / h < i / h ↔ j / (h * 2) < i / (h * 2) ∨ (i / (h * 2) = j / (h * 2) ∧ h ≤ i % (h * 2) ∧ j % (h * 2) < h)) := by
  have d1 : i / (h * 2) = i / h / 2 := (Nat.div_div_eq_div_mul i h 2).symm
  have d2 : j / (h * 2) = j / h / 2 := (Nat.div_div_eq_div_mul j h 2).symm
  have m1 : i % (h * 2) = i % h + h * (i / h % 2) := Nat.mod_mul
  have m2 : j % (h * 2) = j % h + h * (j / h % 2) := Nat.mod_mul
  have l1 : i % h < h := Nat.mod_lt _ hh
  have l2 : j % h < h := Nat.mod_lt _ hh
  have e1 : h ≤ i % (h * 2) ↔ i / h % 2 = 1 := by
    rw [m1]; rcases Nat.mod_two_eq_zero_or_one (i / h) with e | e <;> rw [e] <;> omega
  have e2' : j % (h * 2) < h ↔ j / h % 2 = 0 := by
    rw [m2]; rcases Nat.mod_two_eq_zero_or_one (j / h) with e | e <;> rw [e] <;> omega
  rw [e1, e2', d1, d2]
  omega

/-- The two rows' factors meet in the score, whatever row they are measured from. -/
theorem factors (a c x y m : ℝ) : (a * e2 ((x - m) * 1)) * (c * e2 ((y - m) * (-1))) = a * c * e2 (x - y) := by
  have : e2 ((x - m) * 1) * e2 ((y - m) * (-1)) = e2 (x - y) := by rw [e2_add]; congr 1; ring
  rw [← this]; ring

/-- One level's sum at a pair of rows it keeps. -/
theorem kept (t s m : Fin 256)
    (hq : ∀ t x, q (ix2 t x) = (Q t x : EReal)) (hk : ∀ t x, k (ix2 t x) = (K t x : EReal)) (hb : ∀ t x, b (ix2 t x) = (β t x : EReal))
    (h1 : ∀ x, bm (ix2 t x) = b (ix2 m x)) (h2 : ∀ x, bm (ix2 s x) = b (ix2 m x))
    (s1 : ∀ x, sg (ix2 t x) = 1) (s2 : ∀ x, sg (ix2 s x) = -1) :
    (∑ x : Fin 128, (q (ix2 t x) * Ideal.exp2 ((b (ix2 t x) - bm (ix2 t x)) * sg (ix2 t x)))
      * (k (ix2 s x) * Ideal.exp2 ((b (ix2 s x) - bm (ix2 s x)) * sg (ix2 s x)))) = (score Q K β t s : EReal) := by
  rw [score, coe_sum]
  refine Finset.sum_congr rfl fun x _ => ?_
  rw [h1, h2, s1, s2, hq, hk, hb, hb, hb, show (1 : EReal) = ((1 : ℝ) : EReal) from rfl, ← EReal.coe_neg,
    ← EReal.coe_sub, ← EReal.coe_sub, ← EReal.coe_mul, ← EReal.coe_mul, exp2_real, exp2_real, ← EReal.coe_mul, ← EReal.coe_mul,
    ← EReal.coe_mul, factors]

/-- One level: the scores kept so far reach one level further down. -/
theorem level (h o D : ℕ) (hh : 0 < h) (hD : 128 = h * 2 * D) (f : Fin 128 → Fin 256) (c : ℕ) (hf : ∀ i, (f i).val = 128 * c + i.val) (new : FVec Ideal S128x128 .f32)
    (hq : ∀ t x, q (ix2 t x) = (Q t x : EReal)) (hk : ∀ t x, k (ix2 t x) = (K t x : EReal)) (hb : ∀ t x, b (ix2 t x) = (β t x : EReal))
    (hbm : ∀ (t m : Fin 256) x, m.val = mid h t.val → bm (ix2 t x) = b (ix2 m x))
    (hsg : ∀ t x, sg (ix2 t x) = if h ≤ t.val % (h * 2) then 1 else -1)
    (hmk : ∀ i j, mk (ix2 i j) = if i.val / (h * 2) = j.val / (h * 2) ∧ h ≤ i.val % (h * 2) ∧ j.val % (h * 2) < h then 1 else 0)
    (hacc : ∀ i j, acc (ix2 i j) = if j.val / (h * 2) < i.val / (h * 2) then (score Q K β (f i) (f j) : EReal) else 0)
    (hnew : ∀ i j, new (ix2 i j) = acc (ix2 i j) + (∑ x : Fin 128,
      (q (ix2 (f i) x) * Ideal.exp2 ((b (ix2 (f i) x) - bm (ix2 (f i) x)) * sg (ix2 (f i) x)))
      * (k (ix2 (f j) x) * Ideal.exp2 ((b (ix2 (f j) x) - bm (ix2 (f j) x)) * sg (ix2 (f j) x)))) * mk (ix2 i j)) (i j : Fin 128) :
    new (ix2 i j) = if j.val / h < i.val / h then (score Q K β (f i) (f j) : EReal) else 0 := by
  rw [hnew, hacc, hmk]
  have H := halves h i.val j.val hh
  by_cases hk' : i.val / (h * 2) = j.val / (h * 2) ∧ h ≤ i.val % (h * 2) ∧ j.val % (h * 2) < h
  · rw [if_pos hk', if_neg (by omega), if_pos (H.2 (.inr hk')), zero_add, mul_one]
    have dv : ∀ i, (f i).val / (h * 2) = D * c + i.val / (h * 2) := fun i => by
      rw [hf]; generalize i.val = n; rw [hD, Nat.mul_assoc (h * 2), Nat.mul_add_div (by omega)]
    have md : ∀ i, (f i).val % (h * 2) = i.val % (h * 2) := fun i => by
      rw [hf]; generalize i.val = n; rw [hD, Nat.mul_assoc (h * 2), Nat.mul_add_mod]
    have hm : mid h (f i).val = mid h (f j).val := by unfold mid; rw [dv, dv, hk'.1]
    have hlt : mid h (f i).val < 256 := by
      have := Nat.div_add_mod (f i).val (h * 2)
      have h3 := (f i).isLt
      unfold mid
      rw [Nat.mul_comm] at this
      have := (md i) ▸ hk'.2.1
      omega
    refine kept Q K β q k b bm sg (f i) (f j) ⟨mid h (f i).val, hlt⟩ hq hk hb (fun x => hbm _ _ x rfl) (fun x => hbm _ _ x hm) (fun x => ?_) (fun x => ?_)
    · rw [hsg, md, if_pos hk'.2.1]
    · rw [hsg, md, if_neg (by omega)]
  · rw [if_neg hk', mul_zero, add_zero]
    by_cases hl : j.val / (h * 2) < i.val / (h * 2)
    · rw [if_pos hl, if_pos (H.2 (.inl hl))]
    · rw [if_neg hl, if_neg fun hc => (H.1 hc).elim hl hk']

/-- The scores across the two halves. -/
theorem cross_real (top : FVec Ideal S1x128 .f32) (m : Fin 256)
    (hq : ∀ t x, q (ix2 t x) = (Q t x : EReal)) (hk : ∀ t x, k (ix2 t x) = (K t x : EReal)) (hb : ∀ t x, b (ix2 t x) = (β t x : EReal))
    (ht : ∀ x, top (ix2 0 x) = b (ix2 m x)) (i j : Fin 128) :
    cross q k b top (ix2 i j) = (score Q K β (⟨128 + i.val, by omega⟩ : Fin 256) (⟨j.val, by omega⟩ : Fin 256) : EReal) := by
  rw [cross_at, score, coe_sum]
  refine Finset.sum_congr rfl fun x _ => ?_
  rw [ht, hq, hk, hb, hb, hb, ← EReal.coe_sub, ← EReal.coe_sub, exp2_real, exp2_real, ← EReal.coe_mul, ← EReal.coe_mul, ← EReal.coe_mul]
  congr 1
  rw [← factors _ _ _ _ (β m x)]
  congr 3 <;> ring

theorem score_self (t : Fin 256) : score Q K β t t = ∑ x, Q t x * K t x := by
  unfold score
  refine Finset.sum_congr rfl fun x _ => ?_
  rw [sub_self, e2_zero, mul_one]

/-- A sum over the rows up to one is the sum over the rows before it, and that row. -/
theorem sum_le (f : Fin 256 → ℝ) (t : Fin 256) :
    (∑ s : Fin 256, if s.val ≤ t.val then f s else 0) = (∑ s : Fin 256, if s.val < t.val then f s else 0) + f t := by
  have : (∑ s : Fin 256, if s = t then f s else 0) = f t := by simp
  rw [← this, ← Finset.sum_add_distrib]
  refine Finset.sum_congr rfl fun s _ => ?_
  rcases lt_trichotomy s.val t.val with h | h | h
  · rw [if_pos h.le, if_pos h, if_neg (by intro e; rw [e] at h; omega), add_zero]
  · rw [if_pos h.le, if_neg (by omega), if_pos (Fin.ext h), zero_add]
  · rw [if_neg (by omega), if_neg (by omega), if_neg (by intro e; rw [e] at h; omega), add_zero]

/-- A head's output at a row, from the chunk's rows and the state the chunk began with. -/
def outR (V : Fin 256 → Fin 128 → ℝ) (S : Fin 128 → Fin 128 → ℝ) (t : Fin 256) (e : Fin 128) : ℝ :=
  (∑ s : Fin 256, if s.val ≤ t.val then score Q K β t s * V s e else 0) + ∑ x, Q t x * e2 (β t x) * S e x

theorem out_real (V : Fin 256 → Fin 128 → ℝ) (S : Fin 128 → Fin 128 → ℝ) (lo hi cr : FVec Ideal S128x128 .f32) (v : FVec Ideal S256x128 .bf16) (st : FVec Ideal S128x128 .f32)
    (hq : ∀ t x, q (ix2 t x) = (Q t x : EReal)) (hk : ∀ t x, k (ix2 t x) = (K t x : EReal)) (hb : ∀ t x, b (ix2 t x) = (β t x : EReal))
    (hv : ∀ t x, v (ix2 t x) = (V t x : EReal)) (hs : ∀ e x, st (ix2 e x) = (S e x : EReal))
    (hlo : ∀ i j : Fin 128, lo (ix2 i j) = if j.val < i.val then (score Q K β (⟨i.val, by omega⟩ : Fin 256) (⟨j.val, by omega⟩ : Fin 256) : EReal) else 0)
    (hhi : ∀ i j : Fin 128, hi (ix2 i j) = if j.val < i.val then (score Q K β (⟨128 + i.val, by omega⟩ : Fin 256) (⟨128 + j.val, by omega⟩ : Fin 256) : EReal) else 0)
    (hcr : ∀ i j : Fin 128, cr (ix2 i j) = (score Q K β (⟨128 + i.val, by omega⟩ : Fin 256) (⟨j.val, by omega⟩ : Fin 256) : EReal))
    (t : Fin 256) (e : Fin 128) : outv lo hi cr q k b v st (ix2 t e) = (outR Q K β V S t e : EReal) := by
  have hite : ∀ (p : Prop) [Decidable p] (a : ℝ), (if p then (a : EReal) else 0) = ((if p then a else 0 : ℝ) : EReal) := by
    intro p _ a; split <;> simp
  rw [outv_at, outR, sum_le, score_self, Fin.sum_univ_two_halves 128 128 rfl]
  simp only [hq, hk, hb, hv, hs, hlo, hhi, hcr, exp2_real, hite, ← EReal.coe_mul, ← coe_sum]
  by_cases h : t.val < 128
  · rw [dif_pos h, ← EReal.coe_add, ← EReal.coe_add]
    congr 2
    rw [show (⟨t.val, by omega⟩ : Fin 256) = t from rfl]
    have z : (∑ x : Fin 128, if 128 + x.val < t.val then score Q K β t ⟨128 + x.val, by omega⟩ * V ⟨128 + x.val, by omega⟩ e else 0) = 0 :=
      Finset.sum_eq_zero fun x _ => if_neg (by omega)
    rw [z, add_zero]
    congr 1
    refine Finset.sum_congr rfl fun x _ => ?_
    split <;> simp
  · rw [dif_neg h, ← EReal.coe_add, ← EReal.coe_add, ← EReal.coe_add]
    congr 2
    have ht : (⟨128 + (t.val - 128), by omega⟩ : Fin 256) = t := Fin.ext (by simp; omega)
    simp only [ht]
    congr 1
    refine (add_comm _ _).trans ?_
    congr 1
    · refine Finset.sum_congr rfl fun x _ => ?_
      rw [if_pos (by omega)]
    · refine Finset.sum_congr rfl fun x _ => ?_
      by_cases hx : x.val < t.val - 128
      · rw [if_pos hx, if_pos (by omega)]
      · rw [if_neg hx, if_neg (by omega), zero_mul]

/-- A head's state after the chunk. -/
def stR (V : Fin 256 → Fin 128 → ℝ) (S : Fin 128 → Fin 128 → ℝ) (e x : Fin 128) : ℝ :=
  S e x * e2 (β 255 x) + ∑ s : Fin 256, V s e * (K s x * e2 (β 255 x - β s x))

theorem st_real (V : Fin 256 → Fin 128 → ℝ) (S : Fin 128 → Fin 128 → ℝ) (last : FVec Ideal S1x128 .f32) (v : FVec Ideal S256x128 .bf16) (st : FVec Ideal S128x128 .f32)
    (hk : ∀ t x, k (ix2 t x) = (K t x : EReal)) (hb : ∀ t x, b (ix2 t x) = (β t x : EReal))
    (hv : ∀ t x, v (ix2 t x) = (V t x : EReal)) (hs : ∀ e x, st (ix2 e x) = (S e x : EReal))
    (hl : ∀ x, last (ix2 0 x) = b (ix2 (255 : Fin 256) x)) (e x : Fin 128) : statev st last k b v (ix2 e x) = (stR K β V S e x : EReal) := by
  rw [statev_at, stR]
  simp only [hl, hk, hb, hv, hs, ← EReal.coe_sub, exp2_real, ← EReal.coe_mul, ← coe_sum, ← EReal.coe_add]

/-- The running sums of real gates. -/
def cumR (G : Fin 256 → Fin 128 → ℝ) (t : Fin 256) (x : Fin 128) : ℝ := (∑ s : Fin 256, if s.val ≤ t.val then G s x else 0) * (Real.log 2)⁻¹

theorem cums_real (G : Fin 256 → Fin 128 → ℝ) (X : Vec Ideal S1x256x128 .f32) (cu : Vec Ideal S256x256 .bf16)
    (hX : ∀ s x, X (ix3 0 s x) = (G s x : EReal)) (hcu : ∀ t s : Fin 256, cu (ix2 t s) = if s.val ≤ t.val then 1 else 0) (t : Fin 256) (x : Fin 128) :
    k0_pay16 X cu (ix2 t x) = (cumR G t x : EReal) := by
  rw [cums_at, cumR]
  simp only [hX, ← EReal.coe_sub, sub_self, EReal.coe_zero, sub_zero, mul_zero, Finset.sum_const_zero, add_zero]
  rw [EReal.coe_mul, coe_sum]
  congr 1
  refine Finset.sum_congr rfl fun s _ => ?_
  rw [hcu]; split <;> simp

end Cert.HgrnIdeal.Head

end
-- ==== Proof.HgrnMid.lean ====
module

public import proofs.«01_k».proof.Proof.HgrnReal

@[expose] public section

set_option maxRecDepth 16384

/-! The row each level measures its blocks from, as the body spells it: rows read back from the running sums' buffer laid end to
    end, or (at the two smallest levels) the running sums rolled by a few rows and chosen by position. -/

noncomputable section

namespace Cert.HgrnIdeal.Head

open Cert.HgrnIdeal Cert.HgrnIdeal.Gen
open Idealize.ShloMosaic Idealize.ShloMosaic.TcCoe Idealize.SL.Sem

/-- The four heads' running sums, as stored. -/
abbrev sums (b0 b1 b2 b3 : FVec Ideal S256x128 .f32) : List (View.Piece (Elt Ideal) S4x256x128 .f32) :=
  [⟨Rect.unit ![3, 0, 0] S1x256x128.size inb_S4x256x128_S1x256x128_3_0_0, shapeCast S1x256x128 b3 shapeCasts_S256x128_S1x256x128⟩,
   ⟨Rect.unit ![2, 0, 0] S1x256x128.size inb_S4x256x128_S1x256x128_2_0_0, shapeCast S1x256x128 b2 shapeCasts_S256x128_S1x256x128⟩,
   ⟨Rect.unit ![1, 0, 0] S1x256x128.size inb_S4x256x128_S1x256x128_1_0_0, shapeCast S1x256x128 b1 shapeCasts_S256x128_S1x256x128⟩,
   ⟨Rect.unit ![0, 0, 0] S1x256x128.size inb_S4x256x128_S1x256x128_0_0_0, shapeCast S1x256x128 b0 shapeCasts_S256x128_S1x256x128⟩]

/-- The head's own running sums among the four. -/
def pick (b0 b1 b2 b3 : FVec Ideal S256x128 .f32) (h : Fin 4) : FVec Ideal S256x128 .f32 := ![b0, b1, b2, b3] h

theorem row_inb (h : Fin 4) (r : Fin 256) : ∀ a, (![h.val, r.val, 0] : Fin 3 → ℕ) a + S1x1x128.size a ≤ S4x256x128.size a := by
  intro a
  fin_cases a
  · show h.val + 1 ≤ 4; omega
  · show r.val + 1 ≤ 256; omega
  · show 0 + 128 ≤ 128; omega

/-- One row of one head's running sums. -/
abbrev rowRect (h : Fin 4) (r : Fin 256) : Rect S4x256x128 := Rect.unit (s := S4x256x128) ![h.val, r.val, 0] S1x1x128.size (row_inb h r)

/-- A row read back is that head's row. -/
theorem row_at {sp : Space} (v : View sig .tc sp S4x256x128 .f32) (b0 b1 b2 b3 : FVec Ideal S256x128 .f32) (h : Fin 4) (r : Fin 256) (d : Fin 128) :
    View.readCov v (sums b0 b1 b2 b3) (rowRect h r).toLoadRect (ix3 0 0 d) = pick b0 b1 b2 b3 h (ix2 r d) := by
  rw [View.readCov_eq_canon']
  have hidx : (rowRect h r).toLoadRect.idx (ix3 0 0 d) = ix3 h r d := by
    funext a
    fin_cases a
    · exact Fin.ext (show h.val + 1 * 0 = h.val by omega)
    · exact Fin.ext (show r.val + 1 * 0 = r.val by omega)
    · exact Fin.ext (show 0 + 1 * d.val = d.val by omega)
  show View.canon (sums b0 b1 b2 b3) ((rowRect h r).toLoadRect.idx (ix3 0 0 d)) = _
  rw [hidx]
  have hit : ∀ (h : Fin 4) (inb) (b : FVec Ideal S256x128 .f32) (L : List (View.Piece (Elt Ideal) S4x256x128 .f32)),
      View.canon ((⟨Rect.unit ![h.val, 0, 0] S1x256x128.size inb, shapeCast S1x256x128 b shapeCasts_S256x128_S1x256x128⟩ : View.Piece (Elt Ideal) S4x256x128 .f32) :: L) (ix3 h r d) = b (ix2 r d) := by
    intro h inb b L
    have e : (Rect.unit (s := S4x256x128) ![h.val, 0, 0] S1x256x128.size inb).emb (ix3 0 r d) = ix3 h r d := by
      refine Rect.emb_eq_of_coords _ _ _ fun a => ?_
      fin_cases a
      · show h.val = h.val + 1 * 0; omega
      · show r.val = 0 + 1 * r.val; omega
      · show d.val = 0 + 1 * d.val; omega
    rw [← e, View.canon_cons_emb]
    pointwise []
  have miss : ∀ (h h' : Fin 4) (inb) (w) (L : List (View.Piece (Elt Ideal) S4x256x128 .f32)), h ≠ h' →
      View.canon ((⟨Rect.unit ![h'.val, 0, 0] S1x256x128.size inb, w⟩ : View.Piece (Elt Ideal) S4x256x128 .f32) :: L) (ix3 h r d) = View.canon L (ix3 h r d) := by
    intro h h' inb w L hne
    refine View.canon_cons_of_not_mem _ L ?_
    refine Rect.not_mem_set_of_axis _ (ix3 h r d) (0 : Fin 3) h'.val 1 rfl rfl rfl ?_
    show h.val < h'.val ∨ h'.val + 1 ≤ h.val
    have : h.val ≠ h'.val := fun e => hne (Fin.ext e)
    omega
  fin_cases h
  · exact ((miss 0 3 _ _ _ (by decide)).trans ((miss 0 2 _ _ _ (by decide)).trans ((miss 0 1 _ _ _ (by decide)).trans (hit 0 _ b0 _))))
  · exact ((miss 1 3 _ _ _ (by decide)).trans ((miss 1 2 _ _ _ (by decide)).trans (hit 1 _ b1 _)))
  · exact ((miss 2 3 _ _ _ (by decide)).trans (hit 2 _ b2 _))
  · exact hit 3 _ b3 _

/-- Pieces of one height laid end to end, each the same in all its rows, read at a row. -/
theorem cat_at {w N : ℕ} (hw : 0 < w) (f : Fin N → ((⟨2, ![w, 128]⟩ : Shape).Idx → EReal)) (g : Fin N → Fin 128 → EReal) (hf : ∀ n r d, f n (ix2 r d) = g n d)
    (h : Shape.Concatenates ((List.ofFn fun n : Fin N => (⟨⟨2, ![w, 128]⟩, f n⟩ : (s : Shape) × (s.Idx → EReal))).map (·.1)) S256x128 0)
    (t : Fin 256) (d : Fin 128) (n : Fin N) (hn : t.val / w = n.val) :
    concatenate S256x128 0 (List.ofFn fun n : Fin N => (⟨⟨2, ![w, 128]⟩, f n⟩ : (s : Shape) × (s.Idx → EReal))) h (ix2 t d) = g n d := by
  rw [concatenate_ofFn_apply (s₁ := ⟨2, ![w, 128]⟩) 0 f h rfl w rfl (ix2 t d) n hn (ix2 (⟨t.val % w, Nat.mod_lt _ hw⟩ : Fin w) d) rfl
    (fun b hb => by
      fin_cases b
      · exact absurd rfl hb
      · rfl)]
  exact hf n _ d

/-- The rolled rows of the level of blocks of four. -/
theorem roll4 (b : FVec Ideal S256x128 .f32) (t m : Fin 256) (d : Fin 128) (hm : m.val = mid 2 t.val) :
    select (cmpi .eq (andi (iota .tc S256x128 32 [0]) (broadcast S256x128 3#32)) (broadcast S256x128 3#32)) (dynamicRotate 0 2#32 none b rotates_S256x128_d0)
      (select (cmpi .eq (andi (iota .tc S256x128 32 [0]) (broadcast S256x128 3#32)) (broadcast S256x128 2#32)) (dynamicRotate 0 1#32 none b rotates_S256x128_d0)
        (select (cmpi .eq (andi (iota .tc S256x128 32 [0]) (broadcast S256x128 3#32)) (broadcast S256x128 0#32)) (dynamicRotate 0 255#32 none b rotates_S256x128_d0) b)) (ix2 t d)
      = b (ix2 m d) := by
  pointwise []
  have h0 := (by decide +kernel : ∀ t : Fin 256, IntOp.cmpi CmpIPredicate.eq (IntOp.andi (BitVec.ofNat 32 t.val) 3#32) 0#32 = if t.val % 4 = 0 then 1#1 else 0#1) t
  have h2 := (by decide +kernel : ∀ t : Fin 256, IntOp.cmpi CmpIPredicate.eq (IntOp.andi (BitVec.ofNat 32 t.val) 3#32) 2#32 = if t.val % 4 = 2 then 1#1 else 0#1) t
  have h3 := (by decide +kernel : ∀ t : Fin 256, IntOp.cmpi CmpIPredicate.eq (IntOp.andi (BitVec.ofNat 32 t.val) 3#32) 3#32 = if t.val % 4 = 3 then 1#1 else 0#1) t
  rw [h0, h2, h3]
  have ht := t.isLt
  unfold mid at hm
  have h4 : t.val % 4 = 0 ∨ t.val % 4 = 1 ∨ t.val % 4 = 2 ∨ t.val % 4 = 3 := by omega
  rcases h4 with h | h | h | h <;> simp only [h] <;>
    refine congrArg (fun r => b (ix2 r d)) (Fin.ext ?_)
  · show (t.val + 256 - 255) % 256 = m.val; omega
  · show t.val = m.val; omega
  · show (t.val + 256 - 1) % 256 = m.val; omega
  · show (t.val + 256 - 2) % 256 = m.val; omega

/-- The rolled rows of the level of blocks of two. -/
theorem roll2 (b : FVec Ideal S256x128 .f32) (t m : Fin 256) (d : Fin 128) (hm : m.val = mid 1 t.val) :
    select (cmpi .eq (andi (iota .tc S256x128 32 [0]) (broadcast S256x128 1#32)) (broadcast S256x128 1#32)) (dynamicRotate 0 1#32 none b rotates_S256x128_d0) b (ix2 t d)
      = b (ix2 m d) := by
  pointwise []
  have h0 := (by decide +kernel : ∀ t : Fin 256, IntOp.cmpi CmpIPredicate.eq (IntOp.andi (BitVec.ofNat 32 t.val) 1#32) 1#32 = if t.val % 2 = 1 then 1#1 else 0#1) t
  rw [h0]
  have ht := t.isLt
  unfold mid at hm
  have h4 : t.val % 2 = 0 ∨ t.val % 2 = 1 := by omega
  rcases h4 with h | h <;> simp only [h] <;>
    refine congrArg (fun r => b (ix2 r d)) (Fin.ext ?_)
  · show t.val = m.val; omega
  · show (t.val + 256 - 1) % 256 = m.val; omega

/-- A piece of one row, repeated. -/
abbrev rowPiece {sp : Space} (v : View sig .tc sp S4x256x128 .f32) (b0 b1 b2 b3 : FVec Ideal S256x128 .f32) (h : Fin 4) (r : Fin 256) : FVec Ideal S1x128 .f32 :=
  shapeCast S1x128 (View.readCov v (sums b0 b1 b2 b3) (rowRect h r).toLoadRect) shapeCasts_S1x1x128_S1x128

theorem rowPiece_at {sp : Space} (v : View sig .tc sp S4x256x128 .f32) (b0 b1 b2 b3 : FVec Ideal S256x128 .f32) (h : Fin 4) (r : Fin 256) (d : Fin 128) :
    rowPiece v b0 b1 b2 b3 h r (ix2 0 d) = pick b0 b1 b2 b3 h (ix2 r d) := by
  rw [← row_at v b0 b1 b2 b3 h r d]
  unfold rowPiece
  generalize View.readCov v (sums b0 b1 b2 b3) (rowRect h r).toLoadRect = z
  pointwise []

/-- The rows the blocks of one level are measured from, as laid end to end. -/
theorem mid_at {w N : ℕ} (hw : 0 < w) (half : ℕ) (hwh : w = half * 2) (hN : w * N = 256) {sp : Space} (v : View sig .tc sp S4x256x128 .f32) (b0 b1 b2 b3 : FVec Ideal S256x128 .f32) (hd : Fin 4)
    (row : Fin N → Fin 256) (hrow : ∀ n : Fin N, (row n).val = n.val * (half * 2) + half - 1)
    (sc : Shape.ShapeCasts S1x128 S1x128) (bc : S1x128.Broadcasts ⟨2, ![w, 128]⟩)
    (h) (t m : Fin 256) (d : Fin 128) (hm : m.val = mid half t.val) :
    concatenate S256x128 0 (List.ofFn fun n : Fin N => (⟨⟨2, ![w, 128]⟩, broadcastTo ⟨2, ![w, 128]⟩ (shapeCast S1x128 (rowPiece v b0 b1 b2 b3 hd (row n)) sc) bc⟩ : (s : Shape) × (s.Idx → EReal))) h (ix2 t d)
      = pick b0 b1 b2 b3 hd (ix2 m d) := by
  have hlt : t.val / w < N := (Nat.div_lt_iff_lt_mul hw).2 (by have := t.isLt; rw [Nat.mul_comm, hN]; exact this)
  refine (cat_at hw (fun n => broadcastTo ⟨2, ![w, 128]⟩ (shapeCast S1x128 (rowPiece v b0 b1 b2 b3 hd (row n)) sc) bc) (fun n d => pick b0 b1 b2 b3 hd (ix2 (row n) d)) (fun n r d => ?_) h t d ⟨t.val / w, hlt⟩ rfl).trans ?_
  · rw [← rowPiece_at v b0 b1 b2 b3 hd (row n) d]
    generalize rowPiece v b0 b1 b2 b3 hd (row n) = z
    pointwise []
  · refine congrArg (fun r => pick b0 b1 b2 b3 hd (ix2 r d)) (Fin.ext ?_)
    rw [hrow, hm]
    show t.val / w * (half * 2) + half - 1 = _
    unfold mid
    rw [hwh]

/-- A stacked buffer's plane, read. -/
theorem plane_idx {a b c : ℕ} (n : Fin a)
    (inb : ∀ x, (![n.val, 0, 0] : Fin 3 → ℕ) x + (⟨3, ![1, b, c]⟩ : Shape).size x ≤ (⟨3, ![a, b, c]⟩ : Shape).size x) (i : Fin b) (j : Fin c) :
    (Rect.unit (s := ⟨3, ![a, b, c]⟩) ![n.val, 0, 0] (⟨3, ![1, b, c]⟩ : Shape).size inb).toLoadRect.idx (ix3 0 i j) = ix3 n i j := by
  funext x
  fin_cases x
  · exact Fin.ext (show n.val + 1 * 0 = n.val by omega)
  · exact Fin.ext (show 0 + 1 * i.val = i.val by omega)
  · exact Fin.ext (show 0 + 1 * j.val = j.val by omega)

end Cert.HgrnIdeal.Head

end
-- ==== Proof.HgrnRows.lean ====
module

public import proofs.«01_k».proof.Proof.HgrnMid
public import proofs.«01_k».proof.Proof.Gen.HgrnIdeal.Loops

@[expose] public section

set_option maxRecDepth 16384

/-! The rows every head measures its blocks from, level by level, and the planes of the masks and of the signs: what the words of a trip hold there. -/

noncomputable section

namespace Cert.HgrnIdeal.Head

open Cert.HgrnIdeal Cert.HgrnIdeal.Gen Cert.HgrnIdeal.Gen.trip_k0_t1.sl
open Idealize.ShloMosaic Idealize.ShloMosaic.TcCoe Idealize.SL.Sem

variable (arg5 : Memref sig .tc .vmem S1x2048x512 .f32) (arg11 : Memref sig .tc .vmem S4x256x128 .f32) (arg12 : Memref sig .tc .vmem S256x256 .bf16) (arg13 : Memref sig .tc .vmem S7x128x128 .f32) (arg14 : Memref sig .tc .vmem S7x256x128 .f32)
  (X5 : BufTy.Contents (Elt Ideal) arg5.view.ty) (X12 : BufTy.Contents (Elt Ideal) arg12.view.ty) (X13 : BufTy.Contents (Elt Ideal) arg13.view.ty) (X14 : BufTy.Contents (Elt Ideal) arg14.view.ty) (k : Fin k0_t1_loop.trips)

/-- The row numbers of a chunk. -/
abbrev ii : IVec S256x128 32 := iota .tc S256x128 32 [0]

theorem drop_S1x128x128 (z : FVec Ideal S1x128x128 .f32) (i j : Fin 128) : shapeCast S128x128 z shapeCasts_S1x128x128_S128x128 (ix2 i j) = z (ix3 0 i j) := by pointwise []
theorem drop_S1x256x128 (z : FVec Ideal S1x256x128 .f32) (i : Fin 256) (j : Fin 128) : shapeCast S256x128 z shapeCasts_S1x256x128_S256x128 (ix2 i j) = z (ix3 0 i j) := by pointwise []

/-- Half the blocks' height, level by level. -/
def halfOf : Fin 7 → ℕ := ![64, 32, 16, 8, 4, 2, 1]
/-- What a level's mask holds: one where the row is in the upper half and the column in the lower half of one block. -/
def MaskAt (n : Fin 7) (i j : Fin 128) : EReal := if i.val / (halfOf n * 2) = j.val / (halfOf n * 2) ∧ halfOf n ≤ i.val % (halfOf n * 2) ∧ j.val % (halfOf n * 2) < halfOf n then 1 else 0
/-- What a level's signs hold: one in a block's upper half, minus one in its lower half. -/
def SignAt (n : Fin 7) (t : Fin 256) : EReal := if halfOf n ≤ t.val % (halfOf n * 2) then 1 else -1
/-- A row of the chunk's first half. -/
def at0 (i : Fin 128) : Fin 256 := ⟨i.val, by omega⟩
/-- A row of the chunk's second half. -/
def at1 (i : Fin 128) : Fin 256 := ⟨128 + i.val, by omega⟩

/-- Before the first level the scores are zero. -/
theorem zero_acc (c : EReal) (i j : Fin 128) : (v672 (F := Ideal)) (ix2 i j) = if j.val / (64 * 2) < i.val / (64 * 2) then c else 0 := by
  rw [if_neg (by omega)]
  pointwise [v672, cst_238]

/-- The running sums' buffer, as the trip leaves it. -/
theorem stored_sums : (HW_arg11_4 arg5 arg12 X5 X12 k) = sums (r_3 arg5 arg12 X5 X12 k) (r_6 arg5 arg12 X5 X12 k) (r_7 arg5 arg12 X5 X12 k) (r_8 arg5 arg12 X5 X12 k) := rfl

theorem mid_0_0 (t m : Fin 256) (d : Fin 128) (hm : m.val = mid 64 t.val) : (v688 arg5 arg11 arg12 X5 X12 k) (ix2 t d) = (r_3 arg5 arg12 X5 X12 k) (ix2 m d) :=
  mid_at (w := 128) (N := 2) (by decide) 64 rfl rfl arg11.view (r_3 arg5 arg12 X5 X12 k) (r_6 arg5 arg12 X5 X12 k) (r_7 arg5 arg12 X5 X12 k) (r_8 arg5 arg12 X5 X12 k) 0 (fun n => ⟨n.val * 128 + 63, by omega⟩) (fun n => by show n.val * 128 + 63 = _; omega) (by decide) (by decide) _ t m d hm

theorem mask_v702 (i j : Fin 128) : (v702 arg13 X13) (ix2 i j) = arg13.view.read (Elt Ideal) X13 (ix3 0 i j) := by
  exact (drop_S1x128x128 (View.readAt (Elt Ideal) arg13.view (Rect.unit (s := S7x128x128) ![0, 0, 0] S1x128x128.size inb_S7x128x128_S1x128x128_0_0_0).toLoadRect X13) i j).trans
    ((View.readAt_apply _ _ _).trans (congrArg (arg13.view.read (Elt Ideal) X13) (plane_idx (a := 7) 0 inb_S7x128x128_S1x128x128_0_0_0 i j)))

theorem sign_v691 (i : Fin 256) (j : Fin 128) : (v691 arg14 X14) (ix2 i j) = arg14.view.read (Elt Ideal) X14 (ix3 0 i j) := by
  exact (drop_S1x256x128 (View.readAt (Elt Ideal) arg14.view (Rect.unit (s := S7x256x128) ![0, 0, 0] S1x256x128.size inb_S7x256x128_S1x256x128_0_0_0).toLoadRect X14) i j).trans
    ((View.readAt_apply _ _ _).trans (congrArg (arg14.view.read (Elt Ideal) X14) (plane_idx (a := 7) 0 inb_S7x256x128_S1x256x128_0_0_0 i j)))

theorem mid_0_1 (t m : Fin 256) (d : Fin 128) (hm : m.val = mid 32 t.val) : (v824 arg5 arg11 arg12 X5 X12 k) (ix2 t d) = (r_3 arg5 arg12 X5 X12 k) (ix2 m d) :=
  mid_at (w := 64) (N := 4) (by decide) 32 rfl rfl arg11.view (r_3 arg5 arg12 X5 X12 k) (r_6 arg5 arg12 X5 X12 k) (r_7 arg5 arg12 X5 X12 k) (r_8 arg5 arg12 X5 X12 k) 0 (fun n => ⟨n.val * 64 + 31, by omega⟩) (fun n => by show n.val * 64 + 31 = _; omega) (by decide) (by decide) _ t m d hm

theorem mask_v838 (i j : Fin 128) : (v838 arg13 X13) (ix2 i j) = arg13.view.read (Elt Ideal) X13 (ix3 1 i j) := by
  exact (drop_S1x128x128 (View.readAt (Elt Ideal) arg13.view (Rect.unit (s := S7x128x128) ![1, 0, 0] S1x128x128.size inb_S7x128x128_S1x128x128_1_0_0).toLoadRect X13) i j).trans
    ((View.readAt_apply _ _ _).trans (congrArg (arg13.view.read (Elt Ideal) X13) (plane_idx (a := 7) 1 inb_S7x128x128_S1x128x128_1_0_0 i j)))

theorem sign_v827 (i : Fin 256) (j : Fin 128) : (v827 arg14 X14) (ix2 i j) = arg14.view.read (Elt Ideal) X14 (ix3 1 i j) := by
  exact (drop_S1x256x128 (View.readAt (Elt Ideal) arg14.view (Rect.unit (s := S7x256x128) ![1, 0, 0] S1x256x128.size inb_S7x256x128_S1x256x128_1_0_0).toLoadRect X14) i j).trans
    ((View.readAt_apply _ _ _).trans (congrArg (arg14.view.read (Elt Ideal) X14) (plane_idx (a := 7) 1 inb_S7x256x128_S1x256x128_1_0_0 i j)))

theorem mid_0_2 (t m : Fin 256) (d : Fin 128) (hm : m.val = mid 16 t.val) : (v1000 arg5 arg11 arg12 X5 X12 k) (ix2 t d) = (r_3 arg5 arg12 X5 X12 k) (ix2 m d) :=
  mid_at (w := 32) (N := 8) (by decide) 16 rfl rfl arg11.view (r_3 arg5 arg12 X5 X12 k) (r_6 arg5 arg12 X5 X12 k) (r_7 arg5 arg12 X5 X12 k) (r_8 arg5 arg12 X5 X12 k) 0 (fun n => ⟨n.val * 32 + 15, by omega⟩) (fun n => by show n.val * 32 + 15 = _; omega) (by decide) (by decide) _ t m d hm

theorem mask_v1014 (i j : Fin 128) : (v1014 arg13 X13) (ix2 i j) = arg13.view.read (Elt Ideal) X13 (ix3 2 i j) := by
  exact (drop_S1x128x128 (View.readAt (Elt Ideal) arg13.view (Rect.unit (s := S7x128x128) ![2, 0, 0] S1x128x128.size inb_S7x128x128_S1x128x128_2_0_0).toLoadRect X13) i j).trans
    ((View.readAt_apply _ _ _).trans (congrArg (arg13.view.read (Elt Ideal) X13) (plane_idx (a := 7) 2 inb_S7x128x128_S1x128x128_2_0_0 i j)))

theorem sign_v1003 (i : Fin 256) (j : Fin 128) : (v1003 arg14 X14) (ix2 i j) = arg14.view.read (Elt Ideal) X14 (ix3 2 i j) := by
  exact (drop_S1x256x128 (View.readAt (Elt Ideal) arg14.view (Rect.unit (s := S7x256x128) ![2, 0, 0] S1x256x128.size inb_S7x256x128_S1x256x128_2_0_0).toLoadRect X14) i j).trans
    ((View.readAt_apply _ _ _).trans (congrArg (arg14.view.read (Elt Ideal) X14) (plane_idx (a := 7) 2 inb_S7x256x128_S1x256x128_2_0_0 i j)))

theorem mid_0_3 (t m : Fin 256) (d : Fin 128) (hm : m.val = mid 8 t.val) : (v1256 arg5 arg11 arg12 X5 X12 k) (ix2 t d) = (r_3 arg5 arg12 X5 X12 k) (ix2 m d) :=
  mid_at (w := 16) (N := 16) (by decide) 8 rfl rfl arg11.view (r_3 arg5 arg12 X5 X12 k) (r_6 arg5 arg12 X5 X12 k) (r_7 arg5 arg12 X5 X12 k) (r_8 arg5 arg12 X5 X12 k) 0 (fun n => ⟨n.val * 16 + 7, by omega⟩) (fun n => by show n.val * 16 + 7 = _; omega) (by decide) (by decide) _ t m d hm

theorem mask_v1270 (i j : Fin 128) : (v1270 arg13 X13) (ix2 i j) = arg13.view.read (Elt Ideal) X13 (ix3 3 i j) := by
  exact (drop_S1x128x128 (View.readAt (Elt Ideal) arg13.view (Rect.unit (s := S7x128x128) ![3, 0, 0] S1x128x128.size inb_S7x128x128_S1x128x128_3_0_0).toLoadRect X13) i j).trans
    ((View.readAt_apply _ _ _).trans (congrArg (arg13.view.read (Elt Ideal) X13) (plane_idx (a := 7) 3 inb_S7x128x128_S1x128x128_3_0_0 i j)))

theorem sign_v1259 (i : Fin 256) (j : Fin 128) : (v1259 arg14 X14) (ix2 i j) = arg14.view.read (Elt Ideal) X14 (ix3 3 i j) := by
  exact (drop_S1x256x128 (View.readAt (Elt Ideal) arg14.view (Rect.unit (s := S7x256x128) ![3, 0, 0] S1x256x128.size inb_S7x256x128_S1x256x128_3_0_0).toLoadRect X14) i j).trans
    ((View.readAt_apply _ _ _).trans (congrArg (arg14.view.read (Elt Ideal) X14) (plane_idx (a := 7) 3 inb_S7x256x128_S1x256x128_3_0_0 i j)))

theorem mid_0_4 (t m : Fin 256) (d : Fin 128) (hm : m.val = mid 4 t.val) : (v1672 arg5 arg11 arg12 X5 X12 k) (ix2 t d) = (r_3 arg5 arg12 X5 X12 k) (ix2 m d) :=
  mid_at (w := 8) (N := 32) (by decide) 4 rfl rfl arg11.view (r_3 arg5 arg12 X5 X12 k) (r_6 arg5 arg12 X5 X12 k) (r_7 arg5 arg12 X5 X12 k) (r_8 arg5 arg12 X5 X12 k) 0 (fun n => ⟨n.val * 8 + 3, by omega⟩) (fun n => by show n.val * 8 + 3 = _; omega) (by decide) (by decide) _ t m d hm

theorem mask_v1686 (i j : Fin 128) : (v1686 arg13 X13) (ix2 i j) = arg13.view.read (Elt Ideal) X13 (ix3 4 i j) := by
  exact (drop_S1x128x128 (View.readAt (Elt Ideal) arg13.view (Rect.unit (s := S7x128x128) ![4, 0, 0] S1x128x128.size inb_S7x128x128_S1x128x128_4_0_0).toLoadRect X13) i j).trans
    ((View.readAt_apply _ _ _).trans (congrArg (arg13.view.read (Elt Ideal) X13) (plane_idx (a := 7) 4 inb_S7x128x128_S1x128x128_4_0_0 i j)))

theorem sign_v1675 (i : Fin 256) (j : Fin 128) : (v1675 arg14 X14) (ix2 i j) = arg14.view.read (Elt Ideal) X14 (ix3 4 i j) := by
  exact (drop_S1x256x128 (View.readAt (Elt Ideal) arg14.view (Rect.unit (s := S7x256x128) ![4, 0, 0] S1x256x128.size inb_S7x256x128_S1x256x128_4_0_0).toLoadRect X14) i j).trans
    ((View.readAt_apply _ _ _).trans (congrArg (arg14.view.read (Elt Ideal) X14) (plane_idx (a := 7) 4 inb_S7x256x128_S1x256x128_4_0_0 i j)))

theorem mid_0_5 (t m : Fin 256) (d : Fin 128) (hm : m.val = mid 2 t.val) : (v2165 arg5 arg12 ii X5 X12 k) (ix2 t d) = (r_3 arg5 arg12 X5 X12 k) (ix2 m d) :=
  roll4 (r_3 arg5 arg12 X5 X12 k) t m d hm

theorem mask_v2179 (i j : Fin 128) : (v2179 arg13 X13) (ix2 i j) = arg13.view.read (Elt Ideal) X13 (ix3 5 i j) := by
  exact (drop_S1x128x128 (View.readAt (Elt Ideal) arg13.view (Rect.unit (s := S7x128x128) ![5, 0, 0] S1x128x128.size inb_S7x128x128_S1x128x128_5_0_0).toLoadRect X13) i j).trans
    ((View.readAt_apply _ _ _).trans (congrArg (arg13.view.read (Elt Ideal) X13) (plane_idx (a := 7) 5 inb_S7x128x128_S1x128x128_5_0_0 i j)))

theorem sign_v2168 (i : Fin 256) (j : Fin 128) : (v2168 arg14 X14) (ix2 i j) = arg14.view.read (Elt Ideal) X14 (ix3 5 i j) := by
  exact (drop_S1x256x128 (View.readAt (Elt Ideal) arg14.view (Rect.unit (s := S7x256x128) ![5, 0, 0] S1x256x128.size inb_S7x256x128_S1x256x128_5_0_0).toLoadRect X14) i j).trans
    ((View.readAt_apply _ _ _).trans (congrArg (arg14.view.read (Elt Ideal) X14) (plane_idx (a := 7) 5 inb_S7x256x128_S1x256x128_5_0_0 i j)))

theorem mid_0_6 (t m : Fin 256) (d : Fin 128) (hm : m.val = mid 1 t.val) : (v2305 arg5 arg12 ii X5 X12 k) (ix2 t d) = (r_3 arg5 arg12 X5 X12 k) (ix2 m d) :=
  roll2 (r_3 arg5 arg12 X5 X12 k) t m d hm

theorem mask_v2319 (i j : Fin 128) : (v2319 arg13 X13) (ix2 i j) = arg13.view.read (Elt Ideal) X13 (ix3 6 i j) := by
  exact (drop_S1x128x128 (View.readAt (Elt Ideal) arg13.view (Rect.unit (s := S7x128x128) ![6, 0, 0] S1x128x128.size inb_S7x128x128_S1x128x128_6_0_0).toLoadRect X13) i j).trans
    ((View.readAt_apply _ _ _).trans (congrArg (arg13.view.read (Elt Ideal) X13) (plane_idx (a := 7) 6 inb_S7x128x128_S1x128x128_6_0_0 i j)))

theorem sign_v2308 (i : Fin 256) (j : Fin 128) : (v2308 arg14 X14) (ix2 i j) = arg14.view.read (Elt Ideal) X14 (ix3 6 i j) := by
  exact (drop_S1x256x128 (View.readAt (Elt Ideal) arg14.view (Rect.unit (s := S7x256x128) ![6, 0, 0] S1x256x128.size inb_S7x256x128_S1x256x128_6_0_0).toLoadRect X14) i j).trans
    ((View.readAt_apply _ _ _).trans (congrArg (arg14.view.read (Elt Ideal) X14) (plane_idx (a := 7) 6 inb_S7x256x128_S1x256x128_6_0_0 i j)))

theorem mid_1_0 (t m : Fin 256) (d : Fin 128) (hm : m.val = mid 64 t.val) : (v720 arg5 arg11 arg12 X5 X12 k) (ix2 t d) = (r_6 arg5 arg12 X5 X12 k) (ix2 m d) :=
  mid_at (w := 128) (N := 2) (by decide) 64 rfl rfl arg11.view (r_3 arg5 arg12 X5 X12 k) (r_6 arg5 arg12 X5 X12 k) (r_7 arg5 arg12 X5 X12 k) (r_8 arg5 arg12 X5 X12 k) 1 (fun n => ⟨n.val * 128 + 63, by omega⟩) (fun n => by show n.val * 128 + 63 = _; omega) (by decide) (by decide) _ t m d hm

theorem sign_v723 (i : Fin 256) (j : Fin 128) : (v723 arg14 X14) (ix2 i j) = arg14.view.read (Elt Ideal) X14 (ix3 0 i j) := by
  exact (drop_S1x256x128 (View.readAt (Elt Ideal) arg14.view (Rect.unit (s := S7x256x128) ![0, 0, 0] S1x256x128.size inb_S7x256x128_S1x256x128_0_0_0).toLoadRect X14) i j).trans
    ((View.readAt_apply _ _ _).trans (congrArg (arg14.view.read (Elt Ideal) X14) (plane_idx (a := 7) 0 inb_S7x256x128_S1x256x128_0_0_0 i j)))

theorem mid_1_1 (t m : Fin 256) (d : Fin 128) (hm : m.val = mid 32 t.val) : (v864 arg5 arg11 arg12 X5 X12 k) (ix2 t d) = (r_6 arg5 arg12 X5 X12 k) (ix2 m d) :=
  mid_at (w := 64) (N := 4) (by decide) 32 rfl rfl arg11.view (r_3 arg5 arg12 X5 X12 k) (r_6 arg5 arg12 X5 X12 k) (r_7 arg5 arg12 X5 X12 k) (r_8 arg5 arg12 X5 X12 k) 1 (fun n => ⟨n.val * 64 + 31, by omega⟩) (fun n => by show n.val * 64 + 31 = _; omega) (by decide) (by decide) _ t m d hm

theorem mid_1_2 (t m : Fin 256) (d : Fin 128) (hm : m.val = mid 16 t.val) : (v1056 arg5 arg11 arg12 X5 X12 k) (ix2 t d) = (r_6 arg5 arg12 X5 X12 k) (ix2 m d) :=
  mid_at (w := 32) (N := 8) (by decide) 16 rfl rfl arg11.view (r_3 arg5 arg12 X5 X12 k) (r_6 arg5 arg12 X5 X12 k) (r_7 arg5 arg12 X5 X12 k) (r_8 arg5 arg12 X5 X12 k) 1 (fun n => ⟨n.val * 32 + 15, by omega⟩) (fun n => by show n.val * 32 + 15 = _; omega) (by decide) (by decide) _ t m d hm

theorem mid_1_3 (t m : Fin 256) (d : Fin 128) (hm : m.val = mid 8 t.val) : (v1344 arg5 arg11 arg12 X5 X12 k) (ix2 t d) = (r_6 arg5 arg12 X5 X12 k) (ix2 m d) :=
  mid_at (w := 16) (N := 16) (by decide) 8 rfl rfl arg11.view (r_3 arg5 arg12 X5 X12 k) (r_6 arg5 arg12 X5 X12 k) (r_7 arg5 arg12 X5 X12 k) (r_8 arg5 arg12 X5 X12 k) 1 (fun n => ⟨n.val * 16 + 7, by omega⟩) (fun n => by show n.val * 16 + 7 = _; omega) (by decide) (by decide) _ t m d hm

theorem mid_1_4 (t m : Fin 256) (d : Fin 128) (hm : m.val = mid 4 t.val) : (v1824 arg5 arg11 arg12 X5 X12 k) (ix2 t d) = (r_6 arg5 arg12 X5 X12 k) (ix2 m d) :=
  mid_at (w := 8) (N := 32) (by decide) 4 rfl rfl arg11.view (r_3 arg5 arg12 X5 X12 k) (r_6 arg5 arg12 X5 X12 k) (r_7 arg5 arg12 X5 X12 k) (r_8 arg5 arg12 X5 X12 k) 1 (fun n => ⟨n.val * 8 + 3, by omega⟩) (fun n => by show n.val * 8 + 3 = _; omega) (by decide) (by decide) _ t m d hm

theorem mid_1_5 (t m : Fin 256) (d : Fin 128) (hm : m.val = mid 2 t.val) : (v2202 arg5 arg12 ii X5 X12 k) (ix2 t d) = (r_6 arg5 arg12 X5 X12 k) (ix2 m d) :=
  roll4 (r_6 arg5 arg12 X5 X12 k) t m d hm

theorem mid_1_6 (t m : Fin 256) (d : Fin 128) (hm : m.val = mid 1 t.val) : (v2334 arg5 arg12 ii X5 X12 k) (ix2 t d) = (r_6 arg5 arg12 X5 X12 k) (ix2 m d) :=
  roll2 (r_6 arg5 arg12 X5 X12 k) t m d hm

theorem mid_2_0 (t m : Fin 256) (d : Fin 128) (hm : m.val = mid 64 t.val) : (v752 arg5 arg11 arg12 X5 X12 k) (ix2 t d) = (r_7 arg5 arg12 X5 X12 k) (ix2 m d) :=
  mid_at (w := 128) (N := 2) (by decide) 64 rfl rfl arg11.view (r_3 arg5 arg12 X5 X12 k) (r_6 arg5 arg12 X5 X12 k) (r_7 arg5 arg12 X5 X12 k) (r_8 arg5 arg12 X5 X12 k) 2 (fun n => ⟨n.val * 128 + 63, by omega⟩) (fun n => by show n.val * 128 + 63 = _; omega) (by decide) (by decide) _ t m d hm

theorem mid_2_1 (t m : Fin 256) (d : Fin 128) (hm : m.val = mid 32 t.val) : (v904 arg5 arg11 arg12 X5 X12 k) (ix2 t d) = (r_7 arg5 arg12 X5 X12 k) (ix2 m d) :=
  mid_at (w := 64) (N := 4) (by decide) 32 rfl rfl arg11.view (r_3 arg5 arg12 X5 X12 k) (r_6 arg5 arg12 X5 X12 k) (r_7 arg5 arg12 X5 X12 k) (r_8 arg5 arg12 X5 X12 k) 2 (fun n => ⟨n.val * 64 + 31, by omega⟩) (fun n => by show n.val * 64 + 31 = _; omega) (by decide) (by decide) _ t m d hm

theorem mid_2_2 (t m : Fin 256) (d : Fin 128) (hm : m.val = mid 16 t.val) : (v1112 arg5 arg11 arg12 X5 X12 k) (ix2 t d) = (r_7 arg5 arg12 X5 X12 k) (ix2 m d) :=
  mid_at (w := 32) (N := 8) (by decide) 16 rfl rfl arg11.view (r_3 arg5 arg12 X5 X12 k) (r_6 arg5 arg12 X5 X12 k) (r_7 arg5 arg12 X5 X12 k) (r_8 arg5 arg12 X5 X12 k) 2 (fun n => ⟨n.val * 32 + 15, by omega⟩) (fun n => by show n.val * 32 + 15 = _; omega) (by decide) (by decide) _ t m d hm

theorem mid_2_3 (t m : Fin 256) (d : Fin 128) (hm : m.val = mid 8 t.val) : (v1432 arg5 arg11 arg12 X5 X12 k) (ix2 t d) = (r_7 arg5 arg12 X5 X12 k) (ix2 m d) :=
  mid_at (w := 16) (N := 16) (by decide) 8 rfl rfl arg11.view (r_3 arg5 arg12 X5 X12 k) (r_6 arg5 arg12 X5 X12 k) (r_7 arg5 arg12 X5 X12 k) (r_8 arg5 arg12 X5 X12 k) 2 (fun n => ⟨n.val * 16 + 7, by omega⟩) (fun n => by show n.val * 16 + 7 = _; omega) (by decide) (by decide) _ t m d hm

theorem mid_2_4 (t m : Fin 256) (d : Fin 128) (hm : m.val = mid 4 t.val) : (v1976 arg5 arg11 arg12 X5 X12 k) (ix2 t d) = (r_7 arg5 arg12 X5 X12 k) (ix2 m d) :=
  mid_at (w := 8) (N := 32) (by decide) 4 rfl rfl arg11.view (r_3 arg5 arg12 X5 X12 k) (r_6 arg5 arg12 X5 X12 k) (r_7 arg5 arg12 X5 X12 k) (r_8 arg5 arg12 X5 X12 k) 2 (fun n => ⟨n.val * 8 + 3, by omega⟩) (fun n => by show n.val * 8 + 3 = _; omega) (by decide) (by decide) _ t m d hm

theorem mid_2_5 (t m : Fin 256) (d : Fin 128) (hm : m.val = mid 2 t.val) : (v2239 arg5 arg12 ii X5 X12 k) (ix2 t d) = (r_7 arg5 arg12 X5 X12 k) (ix2 m d) :=
  roll4 (r_7 arg5 arg12 X5 X12 k) t m d hm

theorem mid_2_6 (t m : Fin 256) (d : Fin 128) (hm : m.val = mid 1 t.val) : (v2363 arg5 arg12 ii X5 X12 k) (ix2 t d) = (r_7 arg5 arg12 X5 X12 k) (ix2 m d) :=
  roll2 (r_7 arg5 arg12 X5 X12 k) t m d hm

theorem mid_3_0 (t m : Fin 256) (d : Fin 128) (hm : m.val = mid 64 t.val) : (v784 arg5 arg11 arg12 X5 X12 k) (ix2 t d) = (r_8 arg5 arg12 X5 X12 k) (ix2 m d) :=
  mid_at (w := 128) (N := 2) (by decide) 64 rfl rfl arg11.view (r_3 arg5 arg12 X5 X12 k) (r_6 arg5 arg12 X5 X12 k) (r_7 arg5 arg12 X5 X12 k) (r_8 arg5 arg12 X5 X12 k) 3 (fun n => ⟨n.val * 128 + 63, by omega⟩) (fun n => by show n.val * 128 + 63 = _; omega) (by decide) (by decide) _ t m d hm

theorem mid_3_1 (t m : Fin 256) (d : Fin 128) (hm : m.val = mid 32 t.val) : (v944 arg5 arg11 arg12 X5 X12 k) (ix2 t d) = (r_8 arg5 arg12 X5 X12 k) (ix2 m d) :=
  mid_at (w := 64) (N := 4) (by decide) 32 rfl rfl arg11.view (r_3 arg5 arg12 X5 X12 k) (r_6 arg5 arg12 X5 X12 k) (r_7 arg5 arg12 X5 X12 k) (r_8 arg5 arg12 X5 X12 k) 3 (fun n => ⟨n.val * 64 + 31, by omega⟩) (fun n => by show n.val * 64 + 31 = _; omega) (by decide) (by decide) _ t m d hm

theorem mid_3_2 (t m : Fin 256) (d : Fin 128) (hm : m.val = mid 16 t.val) : (v1168 arg5 arg11 arg12 X5 X12 k) (ix2 t d) = (r_8 arg5 arg12 X5 X12 k) (ix2 m d) :=
  mid_at (w := 32) (N := 8) (by decide) 16 rfl rfl arg11.view (r_3 arg5 arg12 X5 X12 k) (r_6 arg5 arg12 X5 X12 k) (r_7 arg5 arg12 X5 X12 k) (r_8 arg5 arg12 X5 X12 k) 3 (fun n => ⟨n.val * 32 + 15, by omega⟩) (fun n => by show n.val * 32 + 15 = _; omega) (by decide) (by decide) _ t m d hm

theorem mid_3_3 (t m : Fin 256) (d : Fin 128) (hm : m.val = mid 8 t.val) : (v1520 arg5 arg11 arg12 X5 X12 k) (ix2 t d) = (r_8 arg5 arg12 X5 X12 k) (ix2 m d) :=
  mid_at (w := 16) (N := 16) (by decide) 8 rfl rfl arg11.view (r_3 arg5 arg12 X5 X12 k) (r_6 arg5 arg12 X5 X12 k) (r_7 arg5 arg12 X5 X12 k) (r_8 arg5 arg12 X5 X12 k) 3 (fun n => ⟨n.val * 16 + 7, by omega⟩) (fun n => by show n.val * 16 + 7 = _; omega) (by decide) (by decide) _ t m d hm

theorem mid_3_4 (t m : Fin 256) (d : Fin 128) (hm : m.val = mid 4 t.val) : (v2128 arg5 arg11 arg12 X5 X12 k) (ix2 t d) = (r_8 arg5 arg12 X5 X12 k) (ix2 m d) :=
  mid_at (w := 8) (N := 32) (by decide) 4 rfl rfl arg11.view (r_3 arg5 arg12 X5 X12 k) (r_6 arg5 arg12 X5 X12 k) (r_7 arg5 arg12 X5 X12 k) (r_8 arg5 arg12 X5 X12 k) 3 (fun n => ⟨n.val * 8 + 3, by omega⟩) (fun n => by show n.val * 8 + 3 = _; omega) (by decide) (by decide) _ t m d hm

theorem mid_3_5 (t m : Fin 256) (d : Fin 128) (hm : m.val = mid 2 t.val) : (v2276 arg5 arg12 ii X5 X12 k) (ix2 t d) = (r_8 arg5 arg12 X5 X12 k) (ix2 m d) :=
  roll4 (r_8 arg5 arg12 X5 X12 k) t m d hm

theorem mid_3_6 (t m : Fin 256) (d : Fin 128) (hm : m.val = mid 1 t.val) : (v2392 arg5 arg12 ii X5 X12 k) (ix2 t d) = (r_8 arg5 arg12 X5 X12 k) (ix2 m d) :=
  roll2 (r_8 arg5 arg12 X5 X12 k) t m d hm

theorem top_0 (d : Fin 128) : (v2417 arg5 arg11 arg12 X5 X12 k) (ix2 0 d) = (r_3 arg5 arg12 X5 X12 k) (ix2 127 d) :=
  rowPiece_at arg11.view (r_3 arg5 arg12 X5 X12 k) (r_6 arg5 arg12 X5 X12 k) (r_7 arg5 arg12 X5 X12 k) (r_8 arg5 arg12 X5 X12 k) 0 127 d

theorem last_0 (d : Fin 128) : (v2511 arg5 arg11 arg12 X5 X12 k) (ix2 0 d) = (r_3 arg5 arg12 X5 X12 k) (ix2 255 d) :=
  rowPiece_at arg11.view (r_3 arg5 arg12 X5 X12 k) (r_6 arg5 arg12 X5 X12 k) (r_7 arg5 arg12 X5 X12 k) (r_8 arg5 arg12 X5 X12 k) 0 255 d

theorem top_1 (d : Fin 128) : (v2434 arg5 arg11 arg12 X5 X12 k) (ix2 0 d) = (r_6 arg5 arg12 X5 X12 k) (ix2 127 d) :=
  rowPiece_at arg11.view (r_3 arg5 arg12 X5 X12 k) (r_6 arg5 arg12 X5 X12 k) (r_7 arg5 arg12 X5 X12 k) (r_8 arg5 arg12 X5 X12 k) 1 127 d

theorem last_1 (d : Fin 128) : (v2554 arg5 arg11 arg12 X5 X12 k) (ix2 0 d) = (r_6 arg5 arg12 X5 X12 k) (ix2 255 d) :=
  rowPiece_at arg11.view (r_3 arg5 arg12 X5 X12 k) (r_6 arg5 arg12 X5 X12 k) (r_7 arg5 arg12 X5 X12 k) (r_8 arg5 arg12 X5 X12 k) 1 255 d

theorem top_2 (d : Fin 128) : (v2451 arg5 arg11 arg12 X5 X12 k) (ix2 0 d) = (r_7 arg5 arg12 X5 X12 k) (ix2 127 d) :=
  rowPiece_at arg11.view (r_3 arg5 arg12 X5 X12 k) (r_6 arg5 arg12 X5 X12 k) (r_7 arg5 arg12 X5 X12 k) (r_8 arg5 arg12 X5 X12 k) 2 127 d

theorem last_2 (d : Fin 128) : (v2597 arg5 arg11 arg12 X5 X12 k) (ix2 0 d) = (r_7 arg5 arg12 X5 X12 k) (ix2 255 d) :=
  rowPiece_at arg11.view (r_3 arg5 arg12 X5 X12 k) (r_6 arg5 arg12 X5 X12 k) (r_7 arg5 arg12 X5 X12 k) (r_8 arg5 arg12 X5 X12 k) 2 255 d

theorem top_3 (d : Fin 128) : (v2468 arg5 arg11 arg12 X5 X12 k) (ix2 0 d) = (r_8 arg5 arg12 X5 X12 k) (ix2 127 d) :=
  rowPiece_at arg11.view (r_3 arg5 arg12 X5 X12 k) (r_6 arg5 arg12 X5 X12 k) (r_7 arg5 arg12 X5 X12 k) (r_8 arg5 arg12 X5 X12 k) 3 127 d

theorem last_3 (d : Fin 128) : (v2640 arg5 arg11 arg12 X5 X12 k) (ix2 0 d) = (r_8 arg5 arg12 X5 X12 k) (ix2 255 d) :=
  rowPiece_at arg11.view (r_3 arg5 arg12 X5 X12 k) (r_6 arg5 arg12 X5 X12 k) (r_7 arg5 arg12 X5 X12 k) (r_8 arg5 arg12 X5 X12 k) 3 255 d

theorem drop_ext (z : FVec Ideal S1x256x128 .bf16) (i : Fin 256) (j : Fin 128) : extf .f32 (shapeCast S256x128 z shapeCasts_S1x256x128_S256x128) bitsLt_bf16_f32 (ix2 i j) = z (ix3 0 i j) := by pointwise []
theorem drop_bf (z : FVec Ideal S1x256x128 .bf16) (i : Fin 256) (j : Fin 128) : shapeCast S256x128 z shapeCasts_S1x256x128_S256x128 (ix2 i j) = z (ix3 0 i j) := by pointwise []

theorem trips_eq : k0_t1_loop.trips = 8 := by decide +kernel

/-- The row of a block a chunk's row is. -/
def row (k : Fin k0_t1_loop.trips) (t : Fin 256) : Fin 2048 := ⟨256 * k.val + t.val, by have h1 : k.val < 8 := Nat.lt_of_lt_of_eq k.isLt trips_eq; omega⟩
/-- The column of a block a head's column is. -/
def col (h : Fin 4) (x : Fin 128) : Fin 512 := ⟨128 * h.val + x.val, by omega⟩

theorem off_0 (k : Fin k0_t1_loop.trips) : k0_off1 k = ![0, 256 * k.val, 128 * ((0 : Fin 4) : ℕ)] := (by decide +kernel : ∀ k : Fin k0_t1_loop.trips, k0_off1 k = ![0, 256 * k.val, 128 * ((0 : Fin 4) : ℕ)]) k
theorem off_1 (k : Fin k0_t1_loop.trips) : k0_off2 k = ![0, 256 * k.val, 128 * ((1 : Fin 4) : ℕ)] := (by decide +kernel : ∀ k : Fin k0_t1_loop.trips, k0_off2 k = ![0, 256 * k.val, 128 * ((1 : Fin 4) : ℕ)]) k
theorem off_2 (k : Fin k0_t1_loop.trips) : k0_off3 k = ![0, 256 * k.val, 128 * ((2 : Fin 4) : ℕ)] := (by decide +kernel : ∀ k : Fin k0_t1_loop.trips, k0_off3 k = ![0, 256 * k.val, 128 * ((2 : Fin 4) : ℕ)]) k
theorem off_3 (k : Fin k0_t1_loop.trips) : k0_off4 k = ![0, 256 * k.val, 128 * ((3 : Fin 4) : ℕ)] := (by decide +kernel : ∀ k : Fin k0_t1_loop.trips, k0_off4 k = ![0, 256 * k.val, 128 * ((3 : Fin 4) : ℕ)]) k

/-- A chunk's rectangle of a block, index by index. -/
theorem blk_idx (h : Fin 4) (k : Fin k0_t1_loop.trips) (off : Fin 3 → ℕ) (ho : off = ![0, 256 * k.val, 128 * h.val]) (inb) (t : Fin 256) (x : Fin 128) :
    (Rect.unit (s := S1x2048x512) off S1x256x128.size inb).toLoadRect.idx (ix3 0 t x) = ix3 0 (row k t) (col h x) := by
  subst ho
  funext a
  fin_cases a
  · exact Fin.ext (show 0 + 1 * 0 = 0 by omega)
  · exact Fin.ext (show 256 * k.val + 1 * t.val = 256 * k.val + t.val by omega)
  · exact Fin.ext (show 128 * h.val + 1 * x.val = 128 * h.val + x.val by omega)

/-- A head's scales, index by index. -/
theorem gn_idx (h : Fin 4) (off : Fin 3 → ℕ) (ho : off = ![0, 0, 128 * h.val]) (inb) (x : Fin 128) :
    (Rect.unit (s := S1x1x512) off S1x1x128.size inb).toLoadRect.idx (ix3 0 0 x) = ix3 0 0 (col h x) := by
  subst ho
  funext a
  fin_cases a
  · exact Fin.ext (show 0 + 1 * 0 = 0 by omega)
  · exact Fin.ext (show 0 + 1 * 0 = 0 by omega)
  · exact Fin.ext (show 128 * h.val + 1 * x.val = 128 * h.val + x.val by omega)

theorem sq_idx (inb) (t s : Fin 256) : (Rect.unit (s := S256x256) ![0, 0] S256x256.size inb).toLoadRect.idx (ix2 t s) = ix2 t s := by
  funext a
  fin_cases a
  · exact Fin.ext (show 0 + 1 * t.val = t.val by omega)
  · exact Fin.ext (show 0 + 1 * s.val = s.val by omega)

/-- A value after the norm, the scale and the gate. -/
def finE (o : Fin 128 → EReal) (gn g : EReal) (e : Fin 128) : EReal :=
  o e * Ideal.rsqrt (Ideal.div (∑ x : Fin 128, o x * o x) (Ideal.ofBits .f32 0x43000000#32) + Ideal.ofBits .f32 0x358637BD#32) * gn * g

/-- What a head stores of a chunk. -/
def fin (o : FVec Ideal S256x128 .f32) (gn : Vec Ideal S1x1x128 .f32) (g : Vec Ideal S1x256x128 .bf16) : FVec Ideal S1x256x128 .bf16 :=
  shapeCast S1x256x128 (normv o (shapeCast S1x128 gn shapeCasts_S1x1x128_S1x128) (shapeCast S256x128 g shapeCasts_S1x256x128_S256x128)) shapeCasts_S256x128_S1x256x128

theorem fin_at (o : FVec Ideal S256x128 .f32) (gn : Vec Ideal S1x1x128 .f32) (g : Vec Ideal S1x256x128 .bf16) (t : Fin 256) (e : Fin 128) :
    fin o gn g (ix3 0 t e) = finE (fun x => o (ix2 t x)) (gn (ix3 0 0 e)) (g (ix3 0 t e)) e := by
  unfold fin finE
  rw [show shapeCast S1x256x128 (normv o (shapeCast S1x128 gn shapeCasts_S1x1x128_S1x128) (shapeCast S256x128 g shapeCasts_S1x256x128_S256x128)) shapeCasts_S256x128_S1x256x128 (ix3 0 t e)
    = normv o (shapeCast S1x128 gn shapeCasts_S1x1x128_S1x128) (shapeCast S256x128 g shapeCasts_S1x256x128_S256x128) (ix2 t e) from by
      generalize normv o (shapeCast S1x128 gn shapeCasts_S1x1x128_S1x128) (shapeCast S256x128 g shapeCasts_S1x256x128_S256x128) = z
      pointwise [], normv_at, drop_bf]
  rw [show shapeCast S1x128 gn shapeCasts_S1x1x128_S1x128 (ix2 0 e) = gn (ix3 0 0 e) from by pointwise []]

end Cert.HgrnIdeal.Head

end
-- ==== Proof.HgrnHead0.lean ====
module

public import proofs.«01_k».proof.Proof.HgrnRows

@[expose] public section

set_option maxRecDepth 16384

/-! Head 0 of the four a point computes: its scores level by level, then its outputs and its next state, as real numbers. -/

noncomputable section

namespace Cert.HgrnIdeal.Head

open Cert.HgrnIdeal Cert.HgrnIdeal.Gen Cert.HgrnIdeal.Gen.trip_k0_t1.sl
open Idealize.ShloMosaic Idealize.ShloMosaic.TcCoe Idealize.SL.Sem

variable (arg3 : Memref sig .tc .vmem S1x2048x512 .bf16) (arg4 : Memref sig .tc .vmem S1x2048x512 .bf16) (arg5 : Memref sig .tc .vmem S1x2048x512 .f32) (arg6 : Memref sig .tc .vmem S1x2048x512 .bf16) (arg10 : Memref sig .tc .vmem S4x128x128 .f32) (arg11 : Memref sig .tc .vmem S4x256x128 .f32) (arg12 : Memref sig .tc .vmem S256x256 .bf16) (arg13 : Memref sig .tc .vmem S7x128x128 .f32) (arg14 : Memref sig .tc .vmem S7x256x128 .f32)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f10 : BufTy.Contents (Elt Ideal) arg10.view.ty) (X12 : BufTy.Contents (Elt Ideal) arg12.view.ty) (X13 : BufTy.Contents (Elt Ideal) arg13.view.ty) (X14 : BufTy.Contents (Elt Ideal) arg14.view.ty) (k : Fin k0_t1_loop.trips)

variable (Q K β V : Fin 256 → Fin 128 → ℝ) (S : Fin 128 → Fin 128 → ℝ)
  (hq : ∀ t x, (v539 arg3 X3 k) (ix2 t x) = ((Q t x : ℝ) : EReal)) (hk : ∀ t x, (v555 arg4 X4 k) (ix2 t x) = ((K t x : ℝ) : EReal))
  (hb : ∀ t x, (r_3 arg5 arg12 X5 X12 k) (ix2 t x) = ((β t x : ℝ) : EReal))
  (hM : ∀ (n : Fin 7) (i j : Fin 128), arg13.view.read (Elt Ideal) X13 (ix3 n i j) = MaskAt n i j)
  (hG : ∀ (n : Fin 7) (t : Fin 256) (x : Fin 128), arg14.view.read (Elt Ideal) X14 (ix3 n t x) = SignAt n t)

include hq hk hb hM hG in
theorem lo_0_0 (i j : Fin 128) : (v704 arg3 arg4 arg5 arg11 arg12 arg13 arg14 X3 X4 X5 X12 X13 X14 k) (ix2 i j)
    = if j.val / 64 < i.val / 64 then (score Q K β (at0 i) (at0 j) : EReal) else 0 :=
  level Q K β (v539 arg3 X3 k) (v555 arg4 X4 k) (r_3 arg5 arg12 X5 X12 k) (v688 arg5 arg11 arg12 X5 X12 k) (v691 arg14 X14) (v702 arg13 X13) (v672 (F := Ideal) ) 64 0 1 (by decide) (by decide) at0 0 (fun i => by show _ = 128 * 0 + i.val; simp only [at0]; omega) (v704 arg3 arg4 arg5 arg11 arg12 arg13 arg14 X3 X4 X5 X12 X13 X14 k) hq hk hb
    (fun t m d hm => mid_0_0 arg5 arg11 arg12 X5 X12 k t m d hm)
    (fun t x => (sign_v691 arg14 X14 t x).trans (hG 0 t x)) (fun i j => (mask_v702 arg13 X13 i j).trans (hM 0 i j))
    (fun i j => zero_acc _ i j) (fun i j => lvl0_at slices_S256x128_o0_0_S128x128 _ _ _ _ _ _ _ i j) i j

include hq hk hb hM hG in
theorem lo_0_1 (i j : Fin 128) : (v840 arg3 arg4 arg5 arg11 arg12 arg13 arg14 X3 X4 X5 X12 X13 X14 k) (ix2 i j)
    = if j.val / 32 < i.val / 32 then (score Q K β (at0 i) (at0 j) : EReal) else 0 :=
  level Q K β (v539 arg3 X3 k) (v555 arg4 X4 k) (r_3 arg5 arg12 X5 X12 k) (v824 arg5 arg11 arg12 X5 X12 k) (v827 arg14 X14) (v838 arg13 X13) (v704 arg3 arg4 arg5 arg11 arg12 arg13 arg14 X3 X4 X5 X12 X13 X14 k) 32 0 2 (by decide) (by decide) at0 0 (fun i => by show _ = 128 * 0 + i.val; simp only [at0]; omega) (v840 arg3 arg4 arg5 arg11 arg12 arg13 arg14 X3 X4 X5 X12 X13 X14 k) hq hk hb
    (fun t m d hm => mid_0_1 arg5 arg11 arg12 X5 X12 k t m d hm)
    (fun t x => (sign_v827 arg14 X14 t x).trans (hG 1 t x)) (fun i j => (mask_v838 arg13 X13 i j).trans (hM 1 i j))
    (lo_0_0 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_0_2 (i j : Fin 128) : (v1016 arg3 arg4 arg5 arg11 arg12 arg13 arg14 X3 X4 X5 X12 X13 X14 k) (ix2 i j)
    = if j.val / 16 < i.val / 16 then (score Q K β (at0 i) (at0 j) : EReal) else 0 :=
  level Q K β (v539 arg3 X3 k) (v555 arg4 X4 k) (r_3 arg5 arg12 X5 X12 k) (v1000 arg5 arg11 arg12 X5 X12 k) (v1003 arg14 X14) (v1014 arg13 X13) (v840 arg3 arg4 arg5 arg11 arg12 arg13 arg14 X3 X4 X5 X12 X13 X14 k) 16 0 4 (by decide) (by decide) at0 0 (fun i => by show _ = 128 * 0 + i.val; simp only [at0]; omega) (v1016 arg3 arg4 arg5 arg11 arg12 arg13 arg14 X3 X4 X5 X12 X13 X14 k) hq hk hb
    (fun t m d hm => mid_0_2 arg5 arg11 arg12 X5 X12 k t m d hm)
    (fun t x => (sign_v1003 arg14 X14 t x).trans (hG 2 t x)) (fun i j => (mask_v1014 arg13 X13 i j).trans (hM 2 i j))
    (lo_0_1 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_0_3 (i j : Fin 128) : (v1272 arg3 arg4 arg5 arg11 arg12 arg13 arg14 X3 X4 X5 X12 X13 X14 k) (ix2 i j)
    = if j.val / 8 < i.val / 8 then (score Q K β (at0 i) (at0 j) : EReal) else 0 :=
  level Q K β (v539 arg3 X3 k) (v555 arg4 X4 k) (r_3 arg5 arg12 X5 X12 k) (v1256 arg5 arg11 arg12 X5 X12 k) (v1259 arg14 X14) (v1270 arg13 X13) (v1016 arg3 arg4 arg5 arg11 arg12 arg13 arg14 X3 X4 X5 X12 X13 X14 k) 8 0 8 (by decide) (by decide) at0 0 (fun i => by show _ = 128 * 0 + i.val; simp only [at0]; omega) (v1272 arg3 arg4 arg5 arg11 arg12 arg13 arg14 X3 X4 X5 X12 X13 X14 k) hq hk hb
    (fun t m d hm => mid_0_3 arg5 arg11 arg12 X5 X12 k t m d hm)
    (fun t x => (sign_v1259 arg14 X14 t x).trans (hG 3 t x)) (fun i j => (mask_v1270 arg13 X13 i j).trans (hM 3 i j))
    (lo_0_2 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_0_4 (i j : Fin 128) : (v1688 arg3 arg4 arg5 arg11 arg12 arg13 arg14 X3 X4 X5 X12 X13 X14 k) (ix2 i j)
    = if j.val / 4 < i.val / 4 then (score Q K β (at0 i) (at0 j) : EReal) else 0 :=
  level Q K β (v539 arg3 X3 k) (v555 arg4 X4 k) (r_3 arg5 arg12 X5 X12 k) (v1672 arg5 arg11 arg12 X5 X12 k) (v1675 arg14 X14) (v1686 arg13 X13) (v1272 arg3 arg4 arg5 arg11 arg12 arg13 arg14 X3 X4 X5 X12 X13 X14 k) 4 0 16 (by decide) (by decide) at0 0 (fun i => by show _ = 128 * 0 + i.val; simp only [at0]; omega) (v1688 arg3 arg4 arg5 arg11 arg12 arg13 arg14 X3 X4 X5 X12 X13 X14 k) hq hk hb
    (fun t m d hm => mid_0_4 arg5 arg11 arg12 X5 X12 k t m d hm)
    (fun t x => (sign_v1675 arg14 X14 t x).trans (hG 4 t x)) (fun i j => (mask_v1686 arg13 X13 i j).trans (hM 4 i j))
    (lo_0_3 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_0_5 (i j : Fin 128) : (v2181 arg3 arg4 arg5 arg11 arg12 arg13 arg14 ii X3 X4 X5 X12 X13 X14 k) (ix2 i j)
    = if j.val / 2 < i.val / 2 then (score Q K β (at0 i) (at0 j) : EReal) else 0 :=
  level Q K β (v539 arg3 X3 k) (v555 arg4 X4 k) (r_3 arg5 arg12 X5 X12 k) (v2165 arg5 arg12 ii X5 X12 k) (v2168 arg14 X14) (v2179 arg13 X13) (v1688 arg3 arg4 arg5 arg11 arg12 arg13 arg14 X3 X4 X5 X12 X13 X14 k) 2 0 32 (by decide) (by decide) at0 0 (fun i => by show _ = 128 * 0 + i.val; simp only [at0]; omega) (v2181 arg3 arg4 arg5 arg11 arg12 arg13 arg14 ii X3 X4 X5 X12 X13 X14 k) hq hk hb
    (fun t m d hm => mid_0_5 arg5 arg12 X5 X12 k t m d hm)
    (fun t x => (sign_v2168 arg14 X14 t x).trans (hG 5 t x)) (fun i j => (mask_v2179 arg13 X13 i j).trans (hM 5 i j))
    (lo_0_4 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_0_6 (i j : Fin 128) : (v2321 arg3 arg4 arg5 arg11 arg12 arg13 arg14 ii X3 X4 X5 X12 X13 X14 k) (ix2 i j)
    = if j.val / 1 < i.val / 1 then (score Q K β (at0 i) (at0 j) : EReal) else 0 :=
  level Q K β (v539 arg3 X3 k) (v555 arg4 X4 k) (r_3 arg5 arg12 X5 X12 k) (v2305 arg5 arg12 ii X5 X12 k) (v2308 arg14 X14) (v2319 arg13 X13) (v2181 arg3 arg4 arg5 arg11 arg12 arg13 arg14 ii X3 X4 X5 X12 X13 X14 k) 1 0 64 (by decide) (by decide) at0 0 (fun i => by show _ = 128 * 0 + i.val; simp only [at0]; omega) (v2321 arg3 arg4 arg5 arg11 arg12 arg13 arg14 ii X3 X4 X5 X12 X13 X14 k) hq hk hb
    (fun t m d hm => mid_0_6 arg5 arg12 X5 X12 k t m d hm)
    (fun t x => (sign_v2308 arg14 X14 t x).trans (hG 6 t x)) (fun i j => (mask_v2319 arg13 X13 i j).trans (hM 6 i j))
    (lo_0_5 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem hi_0_0 (i j : Fin 128) : (v711 arg3 arg4 arg5 arg11 arg12 arg13 arg14 X3 X4 X5 X12 X13 X14 k) (ix2 i j)
    = if j.val / 64 < i.val / 64 then (score Q K β (at1 i) (at1 j) : EReal) else 0 :=
  level Q K β (v539 arg3 X3 k) (v555 arg4 X4 k) (r_3 arg5 arg12 X5 X12 k) (v688 arg5 arg11 arg12 X5 X12 k) (v691 arg14 X14) (v702 arg13 X13) (v672 (F := Ideal) ) 64 0 1 (by decide) (by decide) at1 1 (fun i => by show _ = 128 * 1 + i.val; simp only [at1]) (v711 arg3 arg4 arg5 arg11 arg12 arg13 arg14 X3 X4 X5 X12 X13 X14 k) hq hk hb
    (fun t m d hm => mid_0_0 arg5 arg11 arg12 X5 X12 k t m d hm)
    (fun t x => (sign_v691 arg14 X14 t x).trans (hG 0 t x)) (fun i j => (mask_v702 arg13 X13 i j).trans (hM 0 i j))
    (fun i j => zero_acc _ i j) (fun i j => lvl1_at slices_S256x128_o128_0_S128x128 _ _ _ _ _ _ _ i j) i j

include hq hk hb hM hG in
theorem hi_0_1 (i j : Fin 128) : (v847 arg3 arg4 arg5 arg11 arg12 arg13 arg14 X3 X4 X5 X12 X13 X14 k) (ix2 i j)
    = if j.val / 32 < i.val / 32 then (score Q K β (at1 i) (at1 j) : EReal) else 0 :=
  level Q K β (v539 arg3 X3 k) (v555 arg4 X4 k) (r_3 arg5 arg12 X5 X12 k) (v824 arg5 arg11 arg12 X5 X12 k) (v827 arg14 X14) (v838 arg13 X13) (v711 arg3 arg4 arg5 arg11 arg12 arg13 arg14 X3 X4 X5 X12 X13 X14 k) 32 0 2 (by decide) (by decide) at1 1 (fun i => by show _ = 128 * 1 + i.val; simp only [at1]) (v847 arg3 arg4 arg5 arg11 arg12 arg13 arg14 X3 X4 X5 X12 X13 X14 k) hq hk hb
    (fun t m d hm => mid_0_1 arg5 arg11 arg12 X5 X12 k t m d hm)
    (fun t x => (sign_v827 arg14 X14 t x).trans (hG 1 t x)) (fun i j => (mask_v838 arg13 X13 i j).trans (hM 1 i j))
    (hi_0_0 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_0_2 (i j : Fin 128) : (v1023 arg3 arg4 arg5 arg11 arg12 arg13 arg14 X3 X4 X5 X12 X13 X14 k) (ix2 i j)
    = if j.val / 16 < i.val / 16 then (score Q K β (at1 i) (at1 j) : EReal) else 0 :=
  level Q K β (v539 arg3 X3 k) (v555 arg4 X4 k) (r_3 arg5 arg12 X5 X12 k) (v1000 arg5 arg11 arg12 X5 X12 k) (v1003 arg14 X14) (v1014 arg13 X13) (v847 arg3 arg4 arg5 arg11 arg12 arg13 arg14 X3 X4 X5 X12 X13 X14 k) 16 0 4 (by decide) (by decide) at1 1 (fun i => by show _ = 128 * 1 + i.val; simp only [at1]) (v1023 arg3 arg4 arg5 arg11 arg12 arg13 arg14 X3 X4 X5 X12 X13 X14 k) hq hk hb
    (fun t m d hm => mid_0_2 arg5 arg11 arg12 X5 X12 k t m d hm)
    (fun t x => (sign_v1003 arg14 X14 t x).trans (hG 2 t x)) (fun i j => (mask_v1014 arg13 X13 i j).trans (hM 2 i j))
    (hi_0_1 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_0_3 (i j : Fin 128) : (v1279 arg3 arg4 arg5 arg11 arg12 arg13 arg14 X3 X4 X5 X12 X13 X14 k) (ix2 i j)
    = if j.val / 8 < i.val / 8 then (score Q K β (at1 i) (at1 j) : EReal) else 0 :=
  level Q K β (v539 arg3 X3 k) (v555 arg4 X4 k) (r_3 arg5 arg12 X5 X12 k) (v1256 arg5 arg11 arg12 X5 X12 k) (v1259 arg14 X14) (v1270 arg13 X13) (v1023 arg3 arg4 arg5 arg11 arg12 arg13 arg14 X3 X4 X5 X12 X13 X14 k) 8 0 8 (by decide) (by decide) at1 1 (fun i => by show _ = 128 * 1 + i.val; simp only [at1]) (v1279 arg3 arg4 arg5 arg11 arg12 arg13 arg14 X3 X4 X5 X12 X13 X14 k) hq hk hb
    (fun t m d hm => mid_0_3 arg5 arg11 arg12 X5 X12 k t m d hm)
    (fun t x => (sign_v1259 arg14 X14 t x).trans (hG 3 t x)) (fun i j => (mask_v1270 arg13 X13 i j).trans (hM 3 i j))
    (hi_0_2 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_0_4 (i j : Fin 128) : (v1695 arg3 arg4 arg5 arg11 arg12 arg13 arg14 X3 X4 X5 X12 X13 X14 k) (ix2 i j)
    = if j.val / 4 < i.val / 4 then (score Q K β (at1 i) (at1 j) : EReal) else 0 :=
  level Q K β (v539 arg3 X3 k) (v555 arg4 X4 k) (r_3 arg5 arg12 X5 X12 k) (v1672 arg5 arg11 arg12 X5 X12 k) (v1675 arg14 X14) (v1686 arg13 X13) (v1279 arg3 arg4 arg5 arg11 arg12 arg13 arg14 X3 X4 X5 X12 X13 X14 k) 4 0 16 (by decide) (by decide) at1 1 (fun i => by show _ = 128 * 1 + i.val; simp only [at1]) (v1695 arg3 arg4 arg5 arg11 arg12 arg13 arg14 X3 X4 X5 X12 X13 X14 k) hq hk hb
    (fun t m d hm => mid_0_4 arg5 arg11 arg12 X5 X12 k t m d hm)
    (fun t x => (sign_v1675 arg14 X14 t x).trans (hG 4 t x)) (fun i j => (mask_v1686 arg13 X13 i j).trans (hM 4 i j))
    (hi_0_3 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_0_5 (i j : Fin 128) : (v2188 arg3 arg4 arg5 arg11 arg12 arg13 arg14 ii X3 X4 X5 X12 X13 X14 k) (ix2 i j)
    = if j.val / 2 < i.val / 2 then (score Q K β (at1 i) (at1 j) : EReal) else 0 :=
  level Q K β (v539 arg3 X3 k) (v555 arg4 X4 k) (r_3 arg5 arg12 X5 X12 k) (v2165 arg5 arg12 ii X5 X12 k) (v2168 arg14 X14) (v2179 arg13 X13) (v1695 arg3 arg4 arg5 arg11 arg12 arg13 arg14 X3 X4 X5 X12 X13 X14 k) 2 0 32 (by decide) (by decide) at1 1 (fun i => by show _ = 128 * 1 + i.val; simp only [at1]) (v2188 arg3 arg4 arg5 arg11 arg12 arg13 arg14 ii X3 X4 X5 X12 X13 X14 k) hq hk hb
    (fun t m d hm => mid_0_5 arg5 arg12 X5 X12 k t m d hm)
    (fun t x => (sign_v2168 arg14 X14 t x).trans (hG 5 t x)) (fun i j => (mask_v2179 arg13 X13 i j).trans (hM 5 i j))
    (hi_0_4 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_0_6 (i j : Fin 128) : (v2328 arg3 arg4 arg5 arg11 arg12 arg13 arg14 ii X3 X4 X5 X12 X13 X14 k) (ix2 i j)
    = if j.val / 1 < i.val / 1 then (score Q K β (at1 i) (at1 j) : EReal) else 0 :=
  level Q K β (v539 arg3 X3 k) (v555 arg4 X4 k) (r_3 arg5 arg12 X5 X12 k) (v2305 arg5 arg12 ii X5 X12 k) (v2308 arg14 X14) (v2319 arg13 X13) (v2188 arg3 arg4 arg5 arg11 arg12 arg13 arg14 ii X3 X4 X5 X12 X13 X14 k) 1 0 64 (by decide) (by decide) at1 1 (fun i => by show _ = 128 * 1 + i.val; simp only [at1]) (v2328 arg3 arg4 arg5 arg11 arg12 arg13 arg14 ii X3 X4 X5 X12 X13 X14 k) hq hk hb
    (fun t m d hm => mid_0_6 arg5 arg12 X5 X12 k t m d hm)
    (fun t x => (sign_v2308 arg14 X14 t x).trans (hG 6 t x)) (fun i j => (mask_v2319 arg13 X13 i j).trans (hM 6 i j))
    (hi_0_5 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
/-- The head's outputs of the chunk. -/
theorem out_0 (hv : ∀ t x, (v570 arg6 X6 k) (ix2 t x) = ((V t x : ℝ) : EReal)) (hs : ∀ e x, (v2485 arg10 f10) (ix2 e x) = ((S e x : ℝ) : EReal)) (t : Fin 256) (e : Fin 128) :
    (v2509 arg3 arg4 arg5 arg6 arg10 arg11 arg12 arg13 arg14 ii X3 X4 X5 X6 X12 X13 X14 k f10) (ix2 t e) = (outR Q K β V S t e : EReal) :=
  out_real Q K β (v539 arg3 X3 k) (v555 arg4 X4 k) (r_3 arg5 arg12 X5 X12 k) V S (v2321 arg3 arg4 arg5 arg11 arg12 arg13 arg14 ii X3 X4 X5 X12 X13 X14 k) (v2328 arg3 arg4 arg5 arg11 arg12 arg13 arg14 ii X3 X4 X5 X12 X13 X14 k) (v2432 arg3 arg4 arg5 arg11 arg12 X3 X4 X5 X12 k) (v570 arg6 X6 k) (v2485 arg10 f10) hq hk hb hv hs
    (fun i j => by have := lo_0_6 arg3 arg4 arg5 arg11 arg12 arg13 arg14 X3 X4 X5 X12 X13 X14 k Q K β hq hk hb hM hG i j; rw [Nat.div_one, Nat.div_one] at this; exact this)
    (fun i j => by have := hi_0_6 arg3 arg4 arg5 arg11 arg12 arg13 arg14 X3 X4 X5 X12 X13 X14 k Q K β hq hk hb hM hG i j; rw [Nat.div_one, Nat.div_one] at this; exact this)
    (fun i j => cross_real Q K β (v539 arg3 X3 k) (v555 arg4 X4 k) (r_3 arg5 arg12 X5 X12 k) (v2417 arg5 arg11 arg12 X5 X12 k) 127 hq hk hb (fun x => top_0 arg5 arg11 arg12 X5 X12 k x) i j) t e

omit hq hM hG
include hk hb in
/-- The head's state after the chunk. -/
theorem state_0 (hv : ∀ t x, (v570 arg6 X6 k) (ix2 t x) = ((V t x : ℝ) : EReal)) (hs : ∀ e x, (v2485 arg10 f10) (ix2 e x) = ((S e x : ℝ) : EReal)) (e x : Fin 128) :
    (v2523 arg4 arg5 arg6 arg10 arg11 arg12 X4 X5 X6 X12 k f10) (ix2 e x) = (stR K β V S e x : EReal) :=
  st_real K β (v555 arg4 X4 k) (r_3 arg5 arg12 X5 X12 k) V S (v2511 arg5 arg11 arg12 X5 X12 k) (v570 arg6 X6 k) (v2485 arg10 f10) hk hb hv hs (fun x => last_0 arg5 arg11 arg12 X5 X12 k x) e x

omit hk hb
theorem q_0 (t : Fin 256) (x : Fin 128) : (v539 arg3 X3 k) (ix2 t x) = arg3.view.read (Elt Ideal) X3 (ix3 0 (row k t) (col 0 x)) :=
  (drop_ext (View.readAt (Elt Ideal) arg3.view (Rect.unit (s := S1x2048x512) (k0_off1 k) S1x256x128.size (k0_off1_inb k)).toLoadRect X3) t x).trans
    ((View.readAt_apply _ _ _).trans (congrArg (arg3.view.read (Elt Ideal) X3) (blk_idx 0 k _ (off_0 k) (k0_off1_inb k) t x)))

theorem k_0 (t : Fin 256) (x : Fin 128) : (v555 arg4 X4 k) (ix2 t x) = arg4.view.read (Elt Ideal) X4 (ix3 0 (row k t) (col 0 x)) :=
  (drop_ext (View.readAt (Elt Ideal) arg4.view (Rect.unit (s := S1x2048x512) (k0_off1 k) S1x256x128.size (k0_off1_inb k)).toLoadRect X4) t x).trans
    ((View.readAt_apply _ _ _).trans (congrArg (arg4.view.read (Elt Ideal) X4) (blk_idx 0 k _ (off_0 k) (k0_off1_inb k) t x)))

theorem v_0 (t : Fin 256) (x : Fin 128) : (v570 arg6 X6 k) (ix2 t x) = arg6.view.read (Elt Ideal) X6 (ix3 0 (row k t) (col 0 x)) :=
  (drop_bf (View.readAt (Elt Ideal) arg6.view (Rect.unit (s := S1x2048x512) (k0_off1 k) S1x256x128.size (k0_off1_inb k)).toLoadRect X6) t x).trans
    ((View.readAt_apply _ _ _).trans (congrArg (arg6.view.read (Elt Ideal) X6) (blk_idx 0 k _ (off_0 k) (k0_off1_inb k) t x)))

theorem b_0 (G : Fin 256 → Fin 128 → ℝ) (h5 : ∀ t x, arg5.view.read (Elt Ideal) X5 (ix3 0 (row k t) (col 0 x)) = ((G t x : ℝ) : EReal))
    (h12 : ∀ t s : Fin 256, arg12.view.read (Elt Ideal) X12 (ix2 t s) = if s.val ≤ t.val then 1 else 0) (t : Fin 256) (x : Fin 128) :
    (r_3 arg5 arg12 X5 X12 k) (ix2 t x) = (cumR G t x : EReal) :=
  cums_real G (View.readAt (Elt Ideal) arg5.view (Rect.unit (s := S1x2048x512) (k0_off1 k) S1x256x128.size (k0_off1_inb k)).toLoadRect X5)
    (View.readAt (Elt Ideal) arg12.view (Rect.unit (s := S256x256) ![0, 0] S256x256.size inb_S256x256_S256x256_0_0).toLoadRect X12)
    (fun t x => (View.readAt_apply _ _ _).trans ((congrArg (arg5.view.read (Elt Ideal) X5) (blk_idx 0 k _ (off_0 k) (k0_off1_inb k) t x)).trans (h5 t x)))
    (fun t s => (View.readAt_apply _ _ _).trans ((congrArg (arg12.view.read (Elt Ideal) X12) (sq_idx inb_S256x256_S256x256_0_0 t s)).trans (h12 t s))) t x

theorem s_0 (e x : Fin 128) : (v2485 arg10 f10) (ix2 e x) = arg10.view.read (Elt Ideal) f10 (ix3 0 e x) :=
  (drop_S1x128x128 (View.readAt (Elt Ideal) arg10.view (Rect.unit (s := S4x128x128) ![0, 0, 0] S1x128x128.size inb_S4x128x128_S1x128x128_0_0_0).toLoadRect f10) e x).trans
    ((View.readAt_apply _ _ _).trans (congrArg (arg10.view.read (Elt Ideal) f10) (plane_idx (a := 4) 0 inb_S4x128x128_S1x128x128_0_0_0 e x)))

end Cert.HgrnIdeal.Head

end
-- ==== Proof.HgrnHead1.lean ====
module

public import proofs.«01_k».proof.Proof.HgrnRows

@[expose] public section

set_option maxRecDepth 16384

/-! Head 1 of the four a point computes: its scores level by level, then its outputs and its next state, as real numbers. -/

noncomputable section

namespace Cert.HgrnIdeal.Head

open Cert.HgrnIdeal Cert.HgrnIdeal.Gen Cert.HgrnIdeal.Gen.trip_k0_t1.sl
open Idealize.ShloMosaic Idealize.ShloMosaic.TcCoe Idealize.SL.Sem

variable (arg3 : Memref sig .tc .vmem S1x2048x512 .bf16) (arg4 : Memref sig .tc .vmem S1x2048x512 .bf16) (arg5 : Memref sig .tc .vmem S1x2048x512 .f32) (arg6 : Memref sig .tc .vmem S1x2048x512 .bf16) (arg10 : Memref sig .tc .vmem S4x128x128 .f32) (arg11 : Memref sig .tc .vmem S4x256x128 .f32) (arg12 : Memref sig .tc .vmem S256x256 .bf16) (arg13 : Memref sig .tc .vmem S7x128x128 .f32) (arg14 : Memref sig .tc .vmem S7x256x128 .f32)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f10 : BufTy.Contents (Elt Ideal) arg10.view.ty) (X12 : BufTy.Contents (Elt Ideal) arg12.view.ty) (X13 : BufTy.Contents (Elt Ideal) arg13.view.ty) (X14 : BufTy.Contents (Elt Ideal) arg14.view.ty) (k : Fin k0_t1_loop.trips)

variable (Q K β V : Fin 256 → Fin 128 → ℝ) (S : Fin 128 → Fin 128 → ℝ)
  (hq : ∀ t x, (v543 arg3 X3 k) (ix2 t x) = ((Q t x : ℝ) : EReal)) (hk : ∀ t x, (v559 arg4 X4 k) (ix2 t x) = ((K t x : ℝ) : EReal))
  (hb : ∀ t x, (r_6 arg5 arg12 X5 X12 k) (ix2 t x) = ((β t x : ℝ) : EReal))
  (hM : ∀ (n : Fin 7) (i j : Fin 128), arg13.view.read (Elt Ideal) X13 (ix3 n i j) = MaskAt n i j)
  (hG : ∀ (n : Fin 7) (t : Fin 256) (x : Fin 128), arg14.view.read (Elt Ideal) X14 (ix3 n t x) = SignAt n t)

include hq hk hb hM hG in
theorem lo_1_0 (i j : Fin 128) : (v736 arg3 arg4 arg5 arg11 arg12 arg13 arg14 X3 X4 X5 X12 X13 X14 k) (ix2 i j)
    = if j.val / 64 < i.val / 64 then (score Q K β (at0 i) (at0 j) : EReal) else 0 :=
  level Q K β (v543 arg3 X3 k) (v559 arg4 X4 k) (r_6 arg5 arg12 X5 X12 k) (v720 arg5 arg11 arg12 X5 X12 k) (v723 arg14 X14) (v702 arg13 X13) (v672 (F := Ideal) ) 64 0 1 (by decide) (by decide) at0 0 (fun i => by show _ = 128 * 0 + i.val; simp only [at0]; omega) (v736 arg3 arg4 arg5 arg11 arg12 arg13 arg14 X3 X4 X5 X12 X13 X14 k) hq hk hb
    (fun t m d hm => mid_1_0 arg5 arg11 arg12 X5 X12 k t m d hm)
    (fun t x => (sign_v723 arg14 X14 t x).trans (hG 0 t x)) (fun i j => (mask_v702 arg13 X13 i j).trans (hM 0 i j))
    (fun i j => zero_acc _ i j) (fun i j => lvl0_at slices_S256x128_o0_0_S128x128 _ _ _ _ _ _ _ i j) i j

include hq hk hb hM hG in
theorem lo_1_1 (i j : Fin 128) : (v880 arg3 arg4 arg5 arg11 arg12 arg13 arg14 X3 X4 X5 X12 X13 X14 k) (ix2 i j)
    = if j.val / 32 < i.val / 32 then (score Q K β (at0 i) (at0 j) : EReal) else 0 :=
  level Q K β (v543 arg3 X3 k) (v559 arg4 X4 k) (r_6 arg5 arg12 X5 X12 k) (v864 arg5 arg11 arg12 X5 X12 k) (v827 arg14 X14) (v838 arg13 X13) (v736 arg3 arg4 arg5 arg11 arg12 arg13 arg14 X3 X4 X5 X12 X13 X14 k) 32 0 2 (by decide) (by decide) at0 0 (fun i => by show _ = 128 * 0 + i.val; simp only [at0]; omega) (v880 arg3 arg4 arg5 arg11 arg12 arg13 arg14 X3 X4 X5 X12 X13 X14 k) hq hk hb
    (fun t m d hm => mid_1_1 arg5 arg11 arg12 X5 X12 k t m d hm)
    (fun t x => (sign_v827 arg14 X14 t x).trans (hG 1 t x)) (fun i j => (mask_v838 arg13 X13 i j).trans (hM 1 i j))
    (lo_1_0 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_1_2 (i j : Fin 128) : (v1072 arg3 arg4 arg5 arg11 arg12 arg13 arg14 X3 X4 X5 X12 X13 X14 k) (ix2 i j)
    = if j.val / 16 < i.val / 16 then (score Q K β (at0 i) (at0 j) : EReal) else 0 :=
  level Q K β (v543 arg3 X3 k) (v559 arg4 X4 k) (r_6 arg5 arg12 X5 X12 k) (v1056 arg5 arg11 arg12 X5 X12 k) (v1003 arg14 X14) (v1014 arg13 X13) (v880 arg3 arg4 arg5 arg11 arg12 arg13 arg14 X3 X4 X5 X12 X13 X14 k) 16 0 4 (by decide) (by decide) at0 0 (fun i => by show _ = 128 * 0 + i.val; simp only [at0]; omega) (v1072 arg3 arg4 arg5 arg11 arg12 arg13 arg14 X3 X4 X5 X12 X13 X14 k) hq hk hb
    (fun t m d hm => mid_1_2 arg5 arg11 arg12 X5 X12 k t m d hm)
    (fun t x => (sign_v1003 arg14 X14 t x).trans (hG 2 t x)) (fun i j => (mask_v1014 arg13 X13 i j).trans (hM 2 i j))
    (lo_1_1 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_1_3 (i j : Fin 128) : (v1360 arg3 arg4 arg5 arg11 arg12 arg13 arg14 X3 X4 X5 X12 X13 X14 k) (ix2 i j)
    = if j.val / 8 < i.val / 8 then (score Q K β (at0 i) (at0 j) : EReal) else 0 :=
  level Q K β (v543 arg3 X3 k) (v559 arg4 X4 k) (r_6 arg5 arg12 X5 X12 k) (v1344 arg5 arg11 arg12 X5 X12 k) (v1259 arg14 X14) (v1270 arg13 X13) (v1072 arg3 arg4 arg5 arg11 arg12 arg13 arg14 X3 X4 X5 X12 X13 X14 k) 8 0 8 (by decide) (by decide) at0 0 (fun i => by show _ = 128 * 0 + i.val; simp only [at0]; omega) (v1360 arg3 arg4 arg5 arg11 arg12 arg13 arg14 X3 X4 X5 X12 X13 X14 k) hq hk hb
    (fun t m d hm => mid_1_3 arg5 arg11 arg12 X5 X12 k t m d hm)
    (fun t x => (sign_v1259 arg14 X14 t x).trans (hG 3 t x)) (fun i j => (mask_v1270 arg13 X13 i j).trans (hM 3 i j))
    (lo_1_2 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_1_4 (i j : Fin 128) : (v1840 arg3 arg4 arg5 arg11 arg12 arg13 arg14 X3 X4 X5 X12 X13 X14 k) (ix2 i j)
    = if j.val / 4 < i.val / 4 then (score Q K β (at0 i) (at0 j) : EReal) else 0 :=
  level Q K β (v543 arg3 X3 k) (v559 arg4 X4 k) (r_6 arg5 arg12 X5 X12 k) (v1824 arg5 arg11 arg12 X5 X12 k) (v1675 arg14 X14) (v1686 arg13 X13) (v1360 arg3 arg4 arg5 arg11 arg12 arg13 arg14 X3 X4 X5 X12 X13 X14 k) 4 0 16 (by decide) (by decide) at0 0 (fun i => by show _ = 128 * 0 + i.val; simp only [at0]; omega) (v1840 arg3 arg4 arg5 arg11 arg12 arg13 arg14 X3 X4 X5 X12 X13 X14 k) hq hk hb
    (fun t m d hm => mid_1_4 arg5 arg11 arg12 X5 X12 k t m d hm)
    (fun t x => (sign_v1675 arg14 X14 t x).trans (hG 4 t x)) (fun i j => (mask_v1686 arg13 X13 i j).trans (hM 4 i j))
    (lo_1_3 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_1_5 (i j : Fin 128) : (v2218 arg3 arg4 arg5 arg11 arg12 arg13 arg14 ii X3 X4 X5 X12 X13 X14 k) (ix2 i j)
    = if j.val / 2 < i.val / 2 then (score Q K β (at0 i) (at0 j) : EReal) else 0 :=
  level Q K β (v543 arg3 X3 k) (v559 arg4 X4 k) (r_6 arg5 arg12 X5 X12 k) (v2202 arg5 arg12 ii X5 X12 k) (v2168 arg14 X14) (v2179 arg13 X13) (v1840 arg3 arg4 arg5 arg11 arg12 arg13 arg14 X3 X4 X5 X12 X13 X14 k) 2 0 32 (by decide) (by decide) at0 0 (fun i => by show _ = 128 * 0 + i.val; simp only [at0]; omega) (v2218 arg3 arg4 arg5 arg11 arg12 arg13 arg14 ii X3 X4 X5 X12 X13 X14 k) hq hk hb
    (fun t m d hm => mid_1_5 arg5 arg12 X5 X12 k t m d hm)
    (fun t x => (sign_v2168 arg14 X14 t x).trans (hG 5 t x)) (fun i j => (mask_v2179 arg13 X13 i j).trans (hM 5 i j))
    (lo_1_4 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_1_6 (i j : Fin 128) : (v2350 arg3 arg4 arg5 arg11 arg12 arg13 arg14 ii X3 X4 X5 X12 X13 X14 k) (ix2 i j)
    = if j.val / 1 < i.val / 1 then (score Q K β (at0 i) (at0 j) : EReal) else 0 :=
  level Q K β (v543 arg3 X3 k) (v559 arg4 X4 k) (r_6 arg5 arg12 X5 X12 k) (v2334 arg5 arg12 ii X5 X12 k) (v2308 arg14 X14) (v2319 arg13 X13) (v2218 arg3 arg4 arg5 arg11 arg12 arg13 arg14 ii X3 X4 X5 X12 X13 X14 k) 1 0 64 (by decide) (by decide) at0 0 (fun i => by show _ = 128 * 0 + i.val; simp only [at0]; omega) (v2350 arg3 arg4 arg5 arg11 arg12 arg13 arg14 ii X3 X4 X5 X12 X13 X14 k) hq hk hb
    (fun t m d hm => mid_1_6 arg5 arg12 X5 X12 k t m d hm)
    (fun t x => (sign_v2308 arg14 X14 t x).trans (hG 6 t x)) (fun i j => (mask_v2319 arg13 X13 i j).trans (hM 6 i j))
    (lo_1_5 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem hi_1_0 (i j : Fin 128) : (v743 arg3 arg4 arg5 arg11 arg12 arg13 arg14 X3 X4 X5 X12 X13 X14 k) (ix2 i j)
    = if j.val / 64 < i.val / 64 then (score Q K β (at1 i) (at1 j) : EReal) else 0 :=
  level Q K β (v543 arg3 X3 k) (v559 arg4 X4 k) (r_6 arg5 arg12 X5 X12 k) (v720 arg5 arg11 arg12 X5 X12 k) (v723 arg14 X14) (v702 arg13 X13) (v672 (F := Ideal) ) 64 0 1 (by decide) (by decide) at1 1 (fun i => by show _ = 128 * 1 + i.val; simp only [at1]) (v743 arg3 arg4 arg5 arg11 arg12 arg13 arg14 X3 X4 X5 X12 X13 X14 k) hq hk hb
    (fun t m d hm => mid_1_0 arg5 arg11 arg12 X5 X12 k t m d hm)
    (fun t x => (sign_v723 arg14 X14 t x).trans (hG 0 t x)) (fun i j => (mask_v702 arg13 X13 i j).trans (hM 0 i j))
    (fun i j => zero_acc _ i j) (fun i j => lvl1_at slices_S256x128_o128_0_S128x128 _ _ _ _ _ _ _ i j) i j

include hq hk hb hM hG in
theorem hi_1_1 (i j : Fin 128) : (v887 arg3 arg4 arg5 arg11 arg12 arg13 arg14 X3 X4 X5 X12 X13 X14 k) (ix2 i j)
    = if j.val / 32 < i.val / 32 then (score Q K β (at1 i) (at1 j) : EReal) else 0 :=
  level Q K β (v543 arg3 X3 k) (v559 arg4 X4 k) (r_6 arg5 arg12 X5 X12 k) (v864 arg5 arg11 arg12 X5 X12 k) (v827 arg14 X14) (v838 arg13 X13) (v743 arg3 arg4 arg5 arg11 arg12 arg13 arg14 X3 X4 X5 X12 X13 X14 k) 32 0 2 (by decide) (by decide) at1 1 (fun i => by show _ = 128 * 1 + i.val; simp only [at1]) (v887 arg3 arg4 arg5 arg11 arg12 arg13 arg14 X3 X4 X5 X12 X13 X14 k) hq hk hb
    (fun t m d hm => mid_1_1 arg5 arg11 arg12 X5 X12 k t m d hm)
    (fun t x => (sign_v827 arg14 X14 t x).trans (hG 1 t x)) (fun i j => (mask_v838 arg13 X13 i j).trans (hM 1 i j))
    (hi_1_0 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_1_2 (i j : Fin 128) : (v1079 arg3 arg4 arg5 arg11 arg12 arg13 arg14 X3 X4 X5 X12 X13 X14 k) (ix2 i j)
    = if j.val / 16 < i.val / 16 then (score Q K β (at1 i) (at1 j) : EReal) else 0 :=
  level Q K β (v543 arg3 X3 k) (v559 arg4 X4 k) (r_6 arg5 arg12 X5 X12 k) (v1056 arg5 arg11 arg12 X5 X12 k) (v1003 arg14 X14) (v1014 arg13 X13) (v887 arg3 arg4 arg5 arg11 arg12 arg13 arg14 X3 X4 X5 X12 X13 X14 k) 16 0 4 (by decide) (by decide) at1 1 (fun i => by show _ = 128 * 1 + i.val; simp only [at1]) (v1079 arg3 arg4 arg5 arg11 arg12 arg13 arg14 X3 X4 X5 X12 X13 X14 k) hq hk hb
    (fun t m d hm => mid_1_2 arg5 arg11 arg12 X5 X12 k t m d hm)
    (fun t x => (sign_v1003 arg14 X14 t x).trans (hG 2 t x)) (fun i j => (mask_v1014 arg13 X13 i j).trans (hM 2 i j))
    (hi_1_1 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_1_3 (i j : Fin 128) : (v1367 arg3 arg4 arg5 arg11 arg12 arg13 arg14 X3 X4 X5 X12 X13 X14 k) (ix2 i j)
    = if j.val / 8 < i.val / 8 then (score Q K β (at1 i) (at1 j) : EReal) else 0 :=
  level Q K β (v543 arg3 X3 k) (v559 arg4 X4 k) (r_6 arg5 arg12 X5 X12 k) (v1344 arg5 arg11 arg12 X5 X12 k) (v1259 arg14 X14) (v1270 arg13 X13) (v1079 arg3 arg4 arg5 arg11 arg12 arg13 arg14 X3 X4 X5 X12 X13 X14 k) 8 0 8 (by decide) (by decide) at1 1 (fun i => by show _ = 128 * 1 + i.val; simp only [at1]) (v1367 arg3 arg4 arg5 arg11 arg12 arg13 arg14 X3 X4 X5 X12 X13 X14 k) hq hk hb
    (fun t m d hm => mid_1_3 arg5 arg11 arg12 X5 X12 k t m d hm)
    (fun t x => (sign_v1259 arg14 X14 t x).trans (hG 3 t x)) (fun i j => (mask_v1270 arg13 X13 i j).trans (hM 3 i j))
    (hi_1_2 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_1_4 (i j : Fin 128) : (v1847 arg3 arg4 arg5 arg11 arg12 arg13 arg14 X3 X4 X5 X12 X13 X14 k) (ix2 i j)
    = if j.val / 4 < i.val / 4 then (score Q K β (at1 i) (at1 j) : EReal) else 0 :=
  level Q K β (v543 arg3 X3 k) (v559 arg4 X4 k) (r_6 arg5 arg12 X5 X12 k) (v1824 arg5 arg11 arg12 X5 X12 k) (v1675 arg14 X14) (v1686 arg13 X13) (v1367 arg3 arg4 arg5 arg11 arg12 arg13 arg14 X3 X4 X5 X12 X13 X14 k) 4 0 16 (by decide) (by decide) at1 1 (fun i => by show _ = 128 * 1 + i.val; simp only [at1]) (v1847 arg3 arg4 arg5 arg11 arg12 arg13 arg14 X3 X4 X5 X12 X13 X14 k) hq hk hb
    (fun t m d hm => mid_1_4 arg5 arg11 arg12 X5 X12 k t m d hm)
    (fun t x => (sign_v1675 arg14 X14 t x).trans (hG 4 t x)) (fun i j => (mask_v1686 arg13 X13 i j).trans (hM 4 i j))
    (hi_1_3 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_1_5 (i j : Fin 128) : (v2225 arg3 arg4 arg5 arg11 arg12 arg13 arg14 ii X3 X4 X5 X12 X13 X14 k) (ix2 i j)
    = if j.val / 2 < i.val / 2 then (score Q K β (at1 i) (at1 j) : EReal) else 0 :=
  level Q K β (v543 arg3 X3 k) (v559 arg4 X4 k) (r_6 arg5 arg12 X5 X12 k) (v2202 arg5 arg12 ii X5 X12 k) (v2168 arg14 X14) (v2179 arg13 X13) (v1847 arg3 arg4 arg5 arg11 arg12 arg13 arg14 X3 X4 X5 X12 X13 X14 k) 2 0 32 (by decide) (by decide) at1 1 (fun i => by show _ = 128 * 1 + i.val; simp only [at1]) (v2225 arg3 arg4 arg5 arg11 arg12 arg13 arg14 ii X3 X4 X5 X12 X13 X14 k) hq hk hb
    (fun t m d hm => mid_1_5 arg5 arg12 X5 X12 k t m d hm)
    (fun t x => (sign_v2168 arg14 X14 t x).trans (hG 5 t x)) (fun i j => (mask_v2179 arg13 X13 i j).trans (hM 5 i j))
    (hi_1_4 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_1_6 (i j : Fin 128) : (v2357 arg3 arg4 arg5 arg11 arg12 arg13 arg14 ii X3 X4 X5 X12 X13 X14 k) (ix2 i j)
    = if j.val / 1 < i.val / 1 then (score Q K β (at1 i) (at1 j) : EReal) else 0 :=
  level Q K β (v543 arg3 X3 k) (v559 arg4 X4 k) (r_6 arg5 arg12 X5 X12 k) (v2334 arg5 arg12 ii X5 X12 k) (v2308 arg14 X14) (v2319 arg13 X13) (v2225 arg3 arg4 arg5 arg11 arg12 arg13 arg14 ii X3 X4 X5 X12 X13 X14 k) 1 0 64 (by decide) (by decide) at1 1 (fun i => by show _ = 128 * 1 + i.val; simp only [at1]) (v2357 arg3 arg4 arg5 arg11 arg12 arg13 arg14 ii X3 X4 X5 X12 X13 X14 k) hq hk hb
    (fun t m d hm => mid_1_6 arg5 arg12 X5 X12 k t m d hm)
    (fun t x => (sign_v2308 arg14 X14 t x).trans (hG 6 t x)) (fun i j => (mask_v2319 arg13 X13 i j).trans (hM 6 i j))
    (hi_1_5 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
/-- The head's outputs of the chunk. -/
theorem out_1 (hv : ∀ t x, (r arg6 X6 k) (ix2 t x) = ((V t x : ℝ) : EReal)) (hs : ∀ e x, (v2528 arg10 f10) (ix2 e x) = ((S e x : ℝ) : EReal)) (t : Fin 256) (e : Fin 128) :
    (v2552 arg3 arg4 arg5 arg6 arg10 arg11 arg12 arg13 arg14 ii X3 X4 X5 X6 X12 X13 X14 k f10) (ix2 t e) = (outR Q K β V S t e : EReal) :=
  out_real Q K β (v543 arg3 X3 k) (v559 arg4 X4 k) (r_6 arg5 arg12 X5 X12 k) V S (v2350 arg3 arg4 arg5 arg11 arg12 arg13 arg14 ii X3 X4 X5 X12 X13 X14 k) (v2357 arg3 arg4 arg5 arg11 arg12 arg13 arg14 ii X3 X4 X5 X12 X13 X14 k) (v2449 arg3 arg4 arg5 arg11 arg12 X3 X4 X5 X12 k) (r arg6 X6 k) (v2528 arg10 f10) hq hk hb hv hs
    (fun i j => by have := lo_1_6 arg3 arg4 arg5 arg11 arg12 arg13 arg14 X3 X4 X5 X12 X13 X14 k Q K β hq hk hb hM hG i j; rw [Nat.div_one, Nat.div_one] at this; exact this)
    (fun i j => by have := hi_1_6 arg3 arg4 arg5 arg11 arg12 arg13 arg14 X3 X4 X5 X12 X13 X14 k Q K β hq hk hb hM hG i j; rw [Nat.div_one, Nat.div_one] at this; exact this)
    (fun i j => cross_real Q K β (v543 arg3 X3 k) (v559 arg4 X4 k) (r_6 arg5 arg12 X5 X12 k) (v2434 arg5 arg11 arg12 X5 X12 k) 127 hq hk hb (fun x => top_1 arg5 arg11 arg12 X5 X12 k x) i j) t e

omit hq hM hG
include hk hb in
/-- The head's state after the chunk. -/
theorem state_1 (hv : ∀ t x, (r arg6 X6 k) (ix2 t x) = ((V t x : ℝ) : EReal)) (hs : ∀ e x, (v2528 arg10 f10) (ix2 e x) = ((S e x : ℝ) : EReal)) (e x : Fin 128) :
    (v2566 arg4 arg5 arg6 arg10 arg11 arg12 X4 X5 X6 X12 k f10) (ix2 e x) = (stR K β V S e x : EReal) :=
  st_real K β (v559 arg4 X4 k) (r_6 arg5 arg12 X5 X12 k) V S (v2554 arg5 arg11 arg12 X5 X12 k) (r arg6 X6 k) (v2528 arg10 f10) hk hb hv hs (fun x => last_1 arg5 arg11 arg12 X5 X12 k x) e x

omit hk hb
theorem q_1 (t : Fin 256) (x : Fin 128) : (v543 arg3 X3 k) (ix2 t x) = arg3.view.read (Elt Ideal) X3 (ix3 0 (row k t) (col 1 x)) :=
  (drop_ext (View.readAt (Elt Ideal) arg3.view (Rect.unit (s := S1x2048x512) (k0_off2 k) S1x256x128.size (k0_off2_inb k)).toLoadRect X3) t x).trans
    ((View.readAt_apply _ _ _).trans (congrArg (arg3.view.read (Elt Ideal) X3) (blk_idx 1 k _ (off_1 k) (k0_off2_inb k) t x)))

theorem k_1 (t : Fin 256) (x : Fin 128) : (v559 arg4 X4 k) (ix2 t x) = arg4.view.read (Elt Ideal) X4 (ix3 0 (row k t) (col 1 x)) :=
  (drop_ext (View.readAt (Elt Ideal) arg4.view (Rect.unit (s := S1x2048x512) (k0_off2 k) S1x256x128.size (k0_off2_inb k)).toLoadRect X4) t x).trans
    ((View.readAt_apply _ _ _).trans (congrArg (arg4.view.read (Elt Ideal) X4) (blk_idx 1 k _ (off_1 k) (k0_off2_inb k) t x)))

theorem v_1 (t : Fin 256) (x : Fin 128) : (r arg6 X6 k) (ix2 t x) = arg6.view.read (Elt Ideal) X6 (ix3 0 (row k t) (col 1 x)) :=
  (drop_bf (View.readAt (Elt Ideal) arg6.view (Rect.unit (s := S1x2048x512) (k0_off2 k) S1x256x128.size (k0_off2_inb k)).toLoadRect X6) t x).trans
    ((View.readAt_apply _ _ _).trans (congrArg (arg6.view.read (Elt Ideal) X6) (blk_idx 1 k _ (off_1 k) (k0_off2_inb k) t x)))

theorem b_1 (G : Fin 256 → Fin 128 → ℝ) (h5 : ∀ t x, arg5.view.read (Elt Ideal) X5 (ix3 0 (row k t) (col 1 x)) = ((G t x : ℝ) : EReal))
    (h12 : ∀ t s : Fin 256, arg12.view.read (Elt Ideal) X12 (ix2 t s) = if s.val ≤ t.val then 1 else 0) (t : Fin 256) (x : Fin 128) :
    (r_6 arg5 arg12 X5 X12 k) (ix2 t x) = (cumR G t x : EReal) :=
  cums_real G (View.readAt (Elt Ideal) arg5.view (Rect.unit (s := S1x2048x512) (k0_off2 k) S1x256x128.size (k0_off2_inb k)).toLoadRect X5)
    (View.readAt (Elt Ideal) arg12.view (Rect.unit (s := S256x256) ![0, 0] S256x256.size inb_S256x256_S256x256_0_0).toLoadRect X12)
    (fun t x => (View.readAt_apply _ _ _).trans ((congrArg (arg5.view.read (Elt Ideal) X5) (blk_idx 1 k _ (off_1 k) (k0_off2_inb k) t x)).trans (h5 t x)))
    (fun t s => (View.readAt_apply _ _ _).trans ((congrArg (arg12.view.read (Elt Ideal) X12) (sq_idx inb_S256x256_S256x256_0_0 t s)).trans (h12 t s))) t x

theorem s_1 (e x : Fin 128) : (v2528 arg10 f10) (ix2 e x) = arg10.view.read (Elt Ideal) f10 (ix3 1 e x) :=
  (drop_S1x128x128 (View.readAt (Elt Ideal) arg10.view (Rect.unit (s := S4x128x128) ![1, 0, 0] S1x128x128.size inb_S4x128x128_S1x128x128_1_0_0).toLoadRect f10) e x).trans
    ((View.readAt_apply _ _ _).trans (congrArg (arg10.view.read (Elt Ideal) f10) (plane_idx (a := 4) 1 inb_S4x128x128_S1x128x128_1_0_0 e x)))

end Cert.HgrnIdeal.Head

end
-- ==== Proof.HgrnHead2.lean ====
module

public import proofs.«01_k».proof.Proof.HgrnRows

@[expose] public section

set_option maxRecDepth 16384

/-! Head 2 of the four a point computes: its scores level by level, then its outputs and its next state, as real numbers. -/

noncomputable section

namespace Cert.HgrnIdeal.Head

open Cert.HgrnIdeal Cert.HgrnIdeal.Gen Cert.HgrnIdeal.Gen.trip_k0_t1.sl
open Idealize.ShloMosaic Idealize.ShloMosaic.TcCoe Idealize.SL.Sem

variable (arg3 : Memref sig .tc .vmem S1x2048x512 .bf16) (arg4 : Memref sig .tc .vmem S1x2048x512 .bf16) (arg5 : Memref sig .tc .vmem S1x2048x512 .f32) (arg6 : Memref sig .tc .vmem S1x2048x512 .bf16) (arg10 : Memref sig .tc .vmem S4x128x128 .f32) (arg11 : Memref sig .tc .vmem S4x256x128 .f32) (arg12 : Memref sig .tc .vmem S256x256 .bf16) (arg13 : Memref sig .tc .vmem S7x128x128 .f32) (arg14 : Memref sig .tc .vmem S7x256x128 .f32)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f10 : BufTy.Contents (Elt Ideal) arg10.view.ty) (X12 : BufTy.Contents (Elt Ideal) arg12.view.ty) (X13 : BufTy.Contents (Elt Ideal) arg13.view.ty) (X14 : BufTy.Contents (Elt Ideal) arg14.view.ty) (k : Fin k0_t1_loop.trips)

variable (Q K β V : Fin 256 → Fin 128 → ℝ) (S : Fin 128 → Fin 128 → ℝ)
  (hq : ∀ t x, (v547 arg3 X3 k) (ix2 t x) = ((Q t x : ℝ) : EReal)) (hk : ∀ t x, (v563 arg4 X4 k) (ix2 t x) = ((K t x : ℝ) : EReal))
  (hb : ∀ t x, (r_7 arg5 arg12 X5 X12 k) (ix2 t x) = ((β t x : ℝ) : EReal))
  (hM : ∀ (n : Fin 7) (i j : Fin 128), arg13.view.read (Elt Ideal) X13 (ix3 n i j) = MaskAt n i j)
  (hG : ∀ (n : Fin 7) (t : Fin 256) (x : Fin 128), arg14.view.read (Elt Ideal) X14 (ix3 n t x) = SignAt n t)

include hq hk hb hM hG in
theorem lo_2_0 (i j : Fin 128) : (v768 arg3 arg4 arg5 arg11 arg12 arg13 arg14 X3 X4 X5 X12 X13 X14 k) (ix2 i j)
    = if j.val / 64 < i.val / 64 then (score Q K β (at0 i) (at0 j) : EReal) else 0 :=
  level Q K β (v547 arg3 X3 k) (v563 arg4 X4 k) (r_7 arg5 arg12 X5 X12 k) (v752 arg5 arg11 arg12 X5 X12 k) (v723 arg14 X14) (v702 arg13 X13) (v672 (F := Ideal) ) 64 0 1 (by decide) (by decide) at0 0 (fun i => by show _ = 128 * 0 + i.val; simp only [at0]; omega) (v768 arg3 arg4 arg5 arg11 arg12 arg13 arg14 X3 X4 X5 X12 X13 X14 k) hq hk hb
    (fun t m d hm => mid_2_0 arg5 arg11 arg12 X5 X12 k t m d hm)
    (fun t x => (sign_v723 arg14 X14 t x).trans (hG 0 t x)) (fun i j => (mask_v702 arg13 X13 i j).trans (hM 0 i j))
    (fun i j => zero_acc _ i j) (fun i j => lvl0_at slices_S256x128_o0_0_S128x128 _ _ _ _ _ _ _ i j) i j

include hq hk hb hM hG in
theorem lo_2_1 (i j : Fin 128) : (v920 arg3 arg4 arg5 arg11 arg12 arg13 arg14 X3 X4 X5 X12 X13 X14 k) (ix2 i j)
    = if j.val / 32 < i.val / 32 then (score Q K β (at0 i) (at0 j) : EReal) else 0 :=
  level Q K β (v547 arg3 X3 k) (v563 arg4 X4 k) (r_7 arg5 arg12 X5 X12 k) (v904 arg5 arg11 arg12 X5 X12 k) (v827 arg14 X14) (v838 arg13 X13) (v768 arg3 arg4 arg5 arg11 arg12 arg13 arg14 X3 X4 X5 X12 X13 X14 k) 32 0 2 (by decide) (by decide) at0 0 (fun i => by show _ = 128 * 0 + i.val; simp only [at0]; omega) (v920 arg3 arg4 arg5 arg11 arg12 arg13 arg14 X3 X4 X5 X12 X13 X14 k) hq hk hb
    (fun t m d hm => mid_2_1 arg5 arg11 arg12 X5 X12 k t m d hm)
    (fun t x => (sign_v827 arg14 X14 t x).trans (hG 1 t x)) (fun i j => (mask_v838 arg13 X13 i j).trans (hM 1 i j))
    (lo_2_0 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_2_2 (i j : Fin 128) : (v1128 arg3 arg4 arg5 arg11 arg12 arg13 arg14 X3 X4 X5 X12 X13 X14 k) (ix2 i j)
    = if j.val / 16 < i.val / 16 then (score Q K β (at0 i) (at0 j) : EReal) else 0 :=
  level Q K β (v547 arg3 X3 k) (v563 arg4 X4 k) (r_7 arg5 arg12 X5 X12 k) (v1112 arg5 arg11 arg12 X5 X12 k) (v1003 arg14 X14) (v1014 arg13 X13) (v920 arg3 arg4 arg5 arg11 arg12 arg13 arg14 X3 X4 X5 X12 X13 X14 k) 16 0 4 (by decide) (by decide) at0 0 (fun i => by show _ = 128 * 0 + i.val; simp only [at0]; omega) (v1128 arg3 arg4 arg5 arg11 arg12 arg13 arg14 X3 X4 X5 X12 X13 X14 k) hq hk hb
    (fun t m d hm => mid_2_2 arg5 arg11 arg12 X5 X12 k t m d hm)
    (fun t x => (sign_v1003 arg14 X14 t x).trans (hG 2 t x)) (fun i j => (mask_v1014 arg13 X13 i j).trans (hM 2 i j))
    (lo_2_1 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_2_3 (i j : Fin 128) : (v1448 arg3 arg4 arg5 arg11 arg12 arg13 arg14 X3 X4 X5 X12 X13 X14 k) (ix2 i j)
    = if j.val / 8 < i.val / 8 then (score Q K β (at0 i) (at0 j) : EReal) else 0 :=
  level Q K β (v547 arg3 X3 k) (v563 arg4 X4 k) (r_7 arg5 arg12 X5 X12 k) (v1432 arg5 arg11 arg12 X5 X12 k) (v1259 arg14 X14) (v1270 arg13 X13) (v1128 arg3 arg4 arg5 arg11 arg12 arg13 arg14 X3 X4 X5 X12 X13 X14 k) 8 0 8 (by decide) (by decide) at0 0 (fun i => by show _ = 128 * 0 + i.val; simp only [at0]; omega) (v1448 arg3 arg4 arg5 arg11 arg12 arg13 arg14 X3 X4 X5 X12 X13 X14 k) hq hk hb
    (fun t m d hm => mid_2_3 arg5 arg11 arg12 X5 X12 k t m d hm)
    (fun t x => (sign_v1259 arg14 X14 t x).trans (hG 3 t x)) (fun i j => (mask_v1270 arg13 X13 i j).trans (hM 3 i j))
    (lo_2_2 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_2_4 (i j : Fin 128) : (v1992 arg3 arg4 arg5 arg11 arg12 arg13 arg14 X3 X4 X5 X12 X13 X14 k) (ix2 i j)
    = if j.val / 4 < i.val / 4 then (score Q K β (at0 i) (at0 j) : EReal) else 0 :=
  level Q K β (v547 arg3 X3 k) (v563 arg4 X4 k) (r_7 arg5 arg12 X5 X12 k) (v1976 arg5 arg11 arg12 X5 X12 k) (v1675 arg14 X14) (v1686 arg13 X13) (v1448 arg3 arg4 arg5 arg11 arg12 arg13 arg14 X3 X4 X5 X12 X13 X14 k) 4 0 16 (by decide) (by decide) at0 0 (fun i => by show _ = 128 * 0 + i.val; simp only [at0]; omega) (v1992 arg3 arg4 arg5 arg11 arg12 arg13 arg14 X3 X4 X5 X12 X13 X14 k) hq hk hb
    (fun t m d hm => mid_2_4 arg5 arg11 arg12 X5 X12 k t m d hm)
    (fun t x => (sign_v1675 arg14 X14 t x).trans (hG 4 t x)) (fun i j => (mask_v1686 arg13 X13 i j).trans (hM 4 i j))
    (lo_2_3 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_2_5 (i j : Fin 128) : (v2255 arg3 arg4 arg5 arg11 arg12 arg13 arg14 ii X3 X4 X5 X12 X13 X14 k) (ix2 i j)
    = if j.val / 2 < i.val / 2 then (score Q K β (at0 i) (at0 j) : EReal) else 0 :=
  level Q K β (v547 arg3 X3 k) (v563 arg4 X4 k) (r_7 arg5 arg12 X5 X12 k) (v2239 arg5 arg12 ii X5 X12 k) (v2168 arg14 X14) (v2179 arg13 X13) (v1992 arg3 arg4 arg5 arg11 arg12 arg13 arg14 X3 X4 X5 X12 X13 X14 k) 2 0 32 (by decide) (by decide) at0 0 (fun i => by show _ = 128 * 0 + i.val; simp only [at0]; omega) (v2255 arg3 arg4 arg5 arg11 arg12 arg13 arg14 ii X3 X4 X5 X12 X13 X14 k) hq hk hb
    (fun t m d hm => mid_2_5 arg5 arg12 X5 X12 k t m d hm)
    (fun t x => (sign_v2168 arg14 X14 t x).trans (hG 5 t x)) (fun i j => (mask_v2179 arg13 X13 i j).trans (hM 5 i j))
    (lo_2_4 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_2_6 (i j : Fin 128) : (v2379 arg3 arg4 arg5 arg11 arg12 arg13 arg14 ii X3 X4 X5 X12 X13 X14 k) (ix2 i j)
    = if j.val / 1 < i.val / 1 then (score Q K β (at0 i) (at0 j) : EReal) else 0 :=
  level Q K β (v547 arg3 X3 k) (v563 arg4 X4 k) (r_7 arg5 arg12 X5 X12 k) (v2363 arg5 arg12 ii X5 X12 k) (v2308 arg14 X14) (v2319 arg13 X13) (v2255 arg3 arg4 arg5 arg11 arg12 arg13 arg14 ii X3 X4 X5 X12 X13 X14 k) 1 0 64 (by decide) (by decide) at0 0 (fun i => by show _ = 128 * 0 + i.val; simp only [at0]; omega) (v2379 arg3 arg4 arg5 arg11 arg12 arg13 arg14 ii X3 X4 X5 X12 X13 X14 k) hq hk hb
    (fun t m d hm => mid_2_6 arg5 arg12 X5 X12 k t m d hm)
    (fun t x => (sign_v2308 arg14 X14 t x).trans (hG 6 t x)) (fun i j => (mask_v2319 arg13 X13 i j).trans (hM 6 i j))
    (lo_2_5 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem hi_2_0 (i j : Fin 128) : (v775 arg3 arg4 arg5 arg11 arg12 arg13 arg14 X3 X4 X5 X12 X13 X14 k) (ix2 i j)
    = if j.val / 64 < i.val / 64 then (score Q K β (at1 i) (at1 j) : EReal) else 0 :=
  level Q K β (v547 arg3 X3 k) (v563 arg4 X4 k) (r_7 arg5 arg12 X5 X12 k) (v752 arg5 arg11 arg12 X5 X12 k) (v723 arg14 X14) (v702 arg13 X13) (v672 (F := Ideal) ) 64 0 1 (by decide) (by decide) at1 1 (fun i => by show _ = 128 * 1 + i.val; simp only [at1]) (v775 arg3 arg4 arg5 arg11 arg12 arg13 arg14 X3 X4 X5 X12 X13 X14 k) hq hk hb
    (fun t m d hm => mid_2_0 arg5 arg11 arg12 X5 X12 k t m d hm)
    (fun t x => (sign_v723 arg14 X14 t x).trans (hG 0 t x)) (fun i j => (mask_v702 arg13 X13 i j).trans (hM 0 i j))
    (fun i j => zero_acc _ i j) (fun i j => lvl1_at slices_S256x128_o128_0_S128x128 _ _ _ _ _ _ _ i j) i j

include hq hk hb hM hG in
theorem hi_2_1 (i j : Fin 128) : (v927 arg3 arg4 arg5 arg11 arg12 arg13 arg14 X3 X4 X5 X12 X13 X14 k) (ix2 i j)
    = if j.val / 32 < i.val / 32 then (score Q K β (at1 i) (at1 j) : EReal) else 0 :=
  level Q K β (v547 arg3 X3 k) (v563 arg4 X4 k) (r_7 arg5 arg12 X5 X12 k) (v904 arg5 arg11 arg12 X5 X12 k) (v827 arg14 X14) (v838 arg13 X13) (v775 arg3 arg4 arg5 arg11 arg12 arg13 arg14 X3 X4 X5 X12 X13 X14 k) 32 0 2 (by decide) (by decide) at1 1 (fun i => by show _ = 128 * 1 + i.val; simp only [at1]) (v927 arg3 arg4 arg5 arg11 arg12 arg13 arg14 X3 X4 X5 X12 X13 X14 k) hq hk hb
    (fun t m d hm => mid_2_1 arg5 arg11 arg12 X5 X12 k t m d hm)
    (fun t x => (sign_v827 arg14 X14 t x).trans (hG 1 t x)) (fun i j => (mask_v838 arg13 X13 i j).trans (hM 1 i j))
    (hi_2_0 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_2_2 (i j : Fin 128) : (v1135 arg3 arg4 arg5 arg11 arg12 arg13 arg14 X3 X4 X5 X12 X13 X14 k) (ix2 i j)
    = if j.val / 16 < i.val / 16 then (score Q K β (at1 i) (at1 j) : EReal) else 0 :=
  level Q K β (v547 arg3 X3 k) (v563 arg4 X4 k) (r_7 arg5 arg12 X5 X12 k) (v1112 arg5 arg11 arg12 X5 X12 k) (v1003 arg14 X14) (v1014 arg13 X13) (v927 arg3 arg4 arg5 arg11 arg12 arg13 arg14 X3 X4 X5 X12 X13 X14 k) 16 0 4 (by decide) (by decide) at1 1 (fun i => by show _ = 128 * 1 + i.val; simp only [at1]) (v1135 arg3 arg4 arg5 arg11 arg12 arg13 arg14 X3 X4 X5 X12 X13 X14 k) hq hk hb
    (fun t m d hm => mid_2_2 arg5 arg11 arg12 X5 X12 k t m d hm)
    (fun t x => (sign_v1003 arg14 X14 t x).trans (hG 2 t x)) (fun i j => (mask_v1014 arg13 X13 i j).trans (hM 2 i j))
    (hi_2_1 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_2_3 (i j : Fin 128) : (v1455 arg3 arg4 arg5 arg11 arg12 arg13 arg14 X3 X4 X5 X12 X13 X14 k) (ix2 i j)
    = if j.val / 8 < i.val / 8 then (score Q K β (at1 i) (at1 j) : EReal) else 0 :=
  level Q K β (v547 arg3 X3 k) (v563 arg4 X4 k) (r_7 arg5 arg12 X5 X12 k) (v1432 arg5 arg11 arg12 X5 X12 k) (v1259 arg14 X14) (v1270 arg13 X13) (v1135 arg3 arg4 arg5 arg11 arg12 arg13 arg14 X3 X4 X5 X12 X13 X14 k) 8 0 8 (by decide) (by decide) at1 1 (fun i => by show _ = 128 * 1 + i.val; simp only [at1]) (v1455 arg3 arg4 arg5 arg11 arg12 arg13 arg14 X3 X4 X5 X12 X13 X14 k) hq hk hb
    (fun t m d hm => mid_2_3 arg5 arg11 arg12 X5 X12 k t m d hm)
    (fun t x => (sign_v1259 arg14 X14 t x).trans (hG 3 t x)) (fun i j => (mask_v1270 arg13 X13 i j).trans (hM 3 i j))
    (hi_2_2 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_2_4 (i j : Fin 128) : (v1999 arg3 arg4 arg5 arg11 arg12 arg13 arg14 X3 X4 X5 X12 X13 X14 k) (ix2 i j)
    = if j.val / 4 < i.val / 4 then (score Q K β (at1 i) (at1 j) : EReal) else 0 :=
  level Q K β (v547 arg3 X3 k) (v563 arg4 X4 k) (r_7 arg5 arg12 X5 X12 k) (v1976 arg5 arg11 arg12 X5 X12 k) (v1675 arg14 X14) (v1686 arg13 X13) (v1455 arg3 arg4 arg5 arg11 arg12 arg13 arg14 X3 X4 X5 X12 X13 X14 k) 4 0 16 (by decide) (by decide) at1 1 (fun i => by show _ = 128 * 1 + i.val; simp only [at1]) (v1999 arg3 arg4 arg5 arg11 arg12 arg13 arg14 X3 X4 X5 X12 X13 X14 k) hq hk hb
    (fun t m d hm => mid_2_4 arg5 arg11 arg12 X5 X12 k t m d hm)
    (fun t x => (sign_v1675 arg14 X14 t x).trans (hG 4 t x)) (fun i j => (mask_v1686 arg13 X13 i j).trans (hM 4 i j))
    (hi_2_3 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_2_5 (i j : Fin 128) : (v2262 arg3 arg4 arg5 arg11 arg12 arg13 arg14 ii X3 X4 X5 X12 X13 X14 k) (ix2 i j)
    = if j.val / 2 < i.val / 2 then (score Q K β (at1 i) (at1 j) : EReal) else 0 :=
  level Q K β (v547 arg3 X3 k) (v563 arg4 X4 k) (r_7 arg5 arg12 X5 X12 k) (v2239 arg5 arg12 ii X5 X12 k) (v2168 arg14 X14) (v2179 arg13 X13) (v1999 arg3 arg4 arg5 arg11 arg12 arg13 arg14 X3 X4 X5 X12 X13 X14 k) 2 0 32 (by decide) (by decide) at1 1 (fun i => by show _ = 128 * 1 + i.val; simp only [at1]) (v2262 arg3 arg4 arg5 arg11 arg12 arg13 arg14 ii X3 X4 X5 X12 X13 X14 k) hq hk hb
    (fun t m d hm => mid_2_5 arg5 arg12 X5 X12 k t m d hm)
    (fun t x => (sign_v2168 arg14 X14 t x).trans (hG 5 t x)) (fun i j => (mask_v2179 arg13 X13 i j).trans (hM 5 i j))
    (hi_2_4 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_2_6 (i j : Fin 128) : (v2386 arg3 arg4 arg5 arg11 arg12 arg13 arg14 ii X3 X4 X5 X12 X13 X14 k) (ix2 i j)
    = if j.val / 1 < i.val / 1 then (score Q K β (at1 i) (at1 j) : EReal) else 0 :=
  level Q K β (v547 arg3 X3 k) (v563 arg4 X4 k) (r_7 arg5 arg12 X5 X12 k) (v2363 arg5 arg12 ii X5 X12 k) (v2308 arg14 X14) (v2319 arg13 X13) (v2262 arg3 arg4 arg5 arg11 arg12 arg13 arg14 ii X3 X4 X5 X12 X13 X14 k) 1 0 64 (by decide) (by decide) at1 1 (fun i => by show _ = 128 * 1 + i.val; simp only [at1]) (v2386 arg3 arg4 arg5 arg11 arg12 arg13 arg14 ii X3 X4 X5 X12 X13 X14 k) hq hk hb
    (fun t m d hm => mid_2_6 arg5 arg12 X5 X12 k t m d hm)
    (fun t x => (sign_v2308 arg14 X14 t x).trans (hG 6 t x)) (fun i j => (mask_v2319 arg13 X13 i j).trans (hM 6 i j))
    (hi_2_5 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
/-- The head's outputs of the chunk. -/
theorem out_2 (hv : ∀ t x, (r_1 arg6 X6 k) (ix2 t x) = ((V t x : ℝ) : EReal)) (hs : ∀ e x, (v2571 arg10 f10) (ix2 e x) = ((S e x : ℝ) : EReal)) (t : Fin 256) (e : Fin 128) :
    (v2595 arg3 arg4 arg5 arg6 arg10 arg11 arg12 arg13 arg14 ii X3 X4 X5 X6 X12 X13 X14 k f10) (ix2 t e) = (outR Q K β V S t e : EReal) :=
  out_real Q K β (v547 arg3 X3 k) (v563 arg4 X4 k) (r_7 arg5 arg12 X5 X12 k) V S (v2379 arg3 arg4 arg5 arg11 arg12 arg13 arg14 ii X3 X4 X5 X12 X13 X14 k) (v2386 arg3 arg4 arg5 arg11 arg12 arg13 arg14 ii X3 X4 X5 X12 X13 X14 k) (v2466 arg3 arg4 arg5 arg11 arg12 X3 X4 X5 X12 k) (r_1 arg6 X6 k) (v2571 arg10 f10) hq hk hb hv hs
    (fun i j => by have := lo_2_6 arg3 arg4 arg5 arg11 arg12 arg13 arg14 X3 X4 X5 X12 X13 X14 k Q K β hq hk hb hM hG i j; rw [Nat.div_one, Nat.div_one] at this; exact this)
    (fun i j => by have := hi_2_6 arg3 arg4 arg5 arg11 arg12 arg13 arg14 X3 X4 X5 X12 X13 X14 k Q K β hq hk hb hM hG i j; rw [Nat.div_one, Nat.div_one] at this; exact this)
    (fun i j => cross_real Q K β (v547 arg3 X3 k) (v563 arg4 X4 k) (r_7 arg5 arg12 X5 X12 k) (v2451 arg5 arg11 arg12 X5 X12 k) 127 hq hk hb (fun x => top_2 arg5 arg11 arg12 X5 X12 k x) i j) t e

omit hq hM hG
include hk hb in
/-- The head's state after the chunk. -/
theorem state_2 (hv : ∀ t x, (r_1 arg6 X6 k) (ix2 t x) = ((V t x : ℝ) : EReal)) (hs : ∀ e x, (v2571 arg10 f10) (ix2 e x) = ((S e x : ℝ) : EReal)) (e x : Fin 128) :
    (v2609 arg4 arg5 arg6 arg10 arg11 arg12 X4 X5 X6 X12 k f10) (ix2 e x) = (stR K β V S e x : EReal) :=
  st_real K β (v563 arg4 X4 k) (r_7 arg5 arg12 X5 X12 k) V S (v2597 arg5 arg11 arg12 X5 X12 k) (r_1 arg6 X6 k) (v2571 arg10 f10) hk hb hv hs (fun x => last_2 arg5 arg11 arg12 X5 X12 k x) e x

omit hk hb
theorem q_2 (t : Fin 256) (x : Fin 128) : (v547 arg3 X3 k) (ix2 t x) = arg3.view.read (Elt Ideal) X3 (ix3 0 (row k t) (col 2 x)) :=
  (drop_ext (View.readAt (Elt Ideal) arg3.view (Rect.unit (s := S1x2048x512) (k0_off3 k) S1x256x128.size (k0_off3_inb k)).toLoadRect X3) t x).trans
    ((View.readAt_apply _ _ _).trans (congrArg (arg3.view.read (Elt Ideal) X3) (blk_idx 2 k _ (off_2 k) (k0_off3_inb k) t x)))

theorem k_2 (t : Fin 256) (x : Fin 128) : (v563 arg4 X4 k) (ix2 t x) = arg4.view.read (Elt Ideal) X4 (ix3 0 (row k t) (col 2 x)) :=
  (drop_ext (View.readAt (Elt Ideal) arg4.view (Rect.unit (s := S1x2048x512) (k0_off3 k) S1x256x128.size (k0_off3_inb k)).toLoadRect X4) t x).trans
    ((View.readAt_apply _ _ _).trans (congrArg (arg4.view.read (Elt Ideal) X4) (blk_idx 2 k _ (off_2 k) (k0_off3_inb k) t x)))

theorem v_2 (t : Fin 256) (x : Fin 128) : (r_1 arg6 X6 k) (ix2 t x) = arg6.view.read (Elt Ideal) X6 (ix3 0 (row k t) (col 2 x)) :=
  (drop_bf (View.readAt (Elt Ideal) arg6.view (Rect.unit (s := S1x2048x512) (k0_off3 k) S1x256x128.size (k0_off3_inb k)).toLoadRect X6) t x).trans
    ((View.readAt_apply _ _ _).trans (congrArg (arg6.view.read (Elt Ideal) X6) (blk_idx 2 k _ (off_2 k) (k0_off3_inb k) t x)))

theorem b_2 (G : Fin 256 → Fin 128 → ℝ) (h5 : ∀ t x, arg5.view.read (Elt Ideal) X5 (ix3 0 (row k t) (col 2 x)) = ((G t x : ℝ) : EReal))
    (h12 : ∀ t s : Fin 256, arg12.view.read (Elt Ideal) X12 (ix2 t s) = if s.val ≤ t.val then 1 else 0) (t : Fin 256) (x : Fin 128) :
    (r_7 arg5 arg12 X5 X12 k) (ix2 t x) = (cumR G t x : EReal) :=
  cums_real G (View.readAt (Elt Ideal) arg5.view (Rect.unit (s := S1x2048x512) (k0_off3 k) S1x256x128.size (k0_off3_inb k)).toLoadRect X5)
    (View.readAt (Elt Ideal) arg12.view (Rect.unit (s := S256x256) ![0, 0] S256x256.size inb_S256x256_S256x256_0_0).toLoadRect X12)
    (fun t x => (View.readAt_apply _ _ _).trans ((congrArg (arg5.view.read (Elt Ideal) X5) (blk_idx 2 k _ (off_2 k) (k0_off3_inb k) t x)).trans (h5 t x)))
    (fun t s => (View.readAt_apply _ _ _).trans ((congrArg (arg12.view.read (Elt Ideal) X12) (sq_idx inb_S256x256_S256x256_0_0 t s)).trans (h12 t s))) t x

theorem s_2 (e x : Fin 128) : (v2571 arg10 f10) (ix2 e x) = arg10.view.read (Elt Ideal) f10 (ix3 2 e x) :=
  (drop_S1x128x128 (View.readAt (Elt Ideal) arg10.view (Rect.unit (s := S4x128x128) ![2, 0, 0] S1x128x128.size inb_S4x128x128_S1x128x128_2_0_0).toLoadRect f10) e x).trans
    ((View.readAt_apply _ _ _).trans (congrArg (arg10.view.read (Elt Ideal) f10) (plane_idx (a := 4) 2 inb_S4x128x128_S1x128x128_2_0_0 e x)))

end Cert.HgrnIdeal.Head

end
-- ==== Proof.HgrnHead3.lean ====
module

public import proofs.«01_k».proof.Proof.HgrnRows

@[expose] public section

set_option maxRecDepth 16384

/-! Head 3 of the four a point computes: its scores level by level, then its outputs and its next state, as real numbers. -/

noncomputable section

namespace Cert.HgrnIdeal.Head

open Cert.HgrnIdeal Cert.HgrnIdeal.Gen Cert.HgrnIdeal.Gen.trip_k0_t1.sl
open Idealize.ShloMosaic Idealize.ShloMosaic.TcCoe Idealize.SL.Sem

variable (arg3 : Memref sig .tc .vmem S1x2048x512 .bf16) (arg4 : Memref sig .tc .vmem S1x2048x512 .bf16) (arg5 : Memref sig .tc .vmem S1x2048x512 .f32) (arg6 : Memref sig .tc .vmem S1x2048x512 .bf16) (arg10 : Memref sig .tc .vmem S4x128x128 .f32) (arg11 : Memref sig .tc .vmem S4x256x128 .f32) (arg12 : Memref sig .tc .vmem S256x256 .bf16) (arg13 : Memref sig .tc .vmem S7x128x128 .f32) (arg14 : Memref sig .tc .vmem S7x256x128 .f32)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f10 : BufTy.Contents (Elt Ideal) arg10.view.ty) (X12 : BufTy.Contents (Elt Ideal) arg12.view.ty) (X13 : BufTy.Contents (Elt Ideal) arg13.view.ty) (X14 : BufTy.Contents (Elt Ideal) arg14.view.ty) (k : Fin k0_t1_loop.trips)

variable (Q K β V : Fin 256 → Fin 128 → ℝ) (S : Fin 128 → Fin 128 → ℝ)
  (hq : ∀ t x, (v551 arg3 X3 k) (ix2 t x) = ((Q t x : ℝ) : EReal)) (hk : ∀ t x, (v567 arg4 X4 k) (ix2 t x) = ((K t x : ℝ) : EReal))
  (hb : ∀ t x, (r_8 arg5 arg12 X5 X12 k) (ix2 t x) = ((β t x : ℝ) : EReal))
  (hM : ∀ (n : Fin 7) (i j : Fin 128), arg13.view.read (Elt Ideal) X13 (ix3 n i j) = MaskAt n i j)
  (hG : ∀ (n : Fin 7) (t : Fin 256) (x : Fin 128), arg14.view.read (Elt Ideal) X14 (ix3 n t x) = SignAt n t)

include hq hk hb hM hG in
theorem lo_3_0 (i j : Fin 128) : (v800 arg3 arg4 arg5 arg11 arg12 arg13 arg14 X3 X4 X5 X12 X13 X14 k) (ix2 i j)
    = if j.val / 64 < i.val / 64 then (score Q K β (at0 i) (at0 j) : EReal) else 0 :=
  level Q K β (v551 arg3 X3 k) (v567 arg4 X4 k) (r_8 arg5 arg12 X5 X12 k) (v784 arg5 arg11 arg12 X5 X12 k) (v723 arg14 X14) (v702 arg13 X13) (v672 (F := Ideal) ) 64 0 1 (by decide) (by decide) at0 0 (fun i => by show _ = 128 * 0 + i.val; simp only [at0]; omega) (v800 arg3 arg4 arg5 arg11 arg12 arg13 arg14 X3 X4 X5 X12 X13 X14 k) hq hk hb
    (fun t m d hm => mid_3_0 arg5 arg11 arg12 X5 X12 k t m d hm)
    (fun t x => (sign_v723 arg14 X14 t x).trans (hG 0 t x)) (fun i j => (mask_v702 arg13 X13 i j).trans (hM 0 i j))
    (fun i j => zero_acc _ i j) (fun i j => lvl0_at slices_S256x128_o0_0_S128x128 _ _ _ _ _ _ _ i j) i j

include hq hk hb hM hG in
theorem lo_3_1 (i j : Fin 128) : (v960 arg3 arg4 arg5 arg11 arg12 arg13 arg14 X3 X4 X5 X12 X13 X14 k) (ix2 i j)
    = if j.val / 32 < i.val / 32 then (score Q K β (at0 i) (at0 j) : EReal) else 0 :=
  level Q K β (v551 arg3 X3 k) (v567 arg4 X4 k) (r_8 arg5 arg12 X5 X12 k) (v944 arg5 arg11 arg12 X5 X12 k) (v827 arg14 X14) (v838 arg13 X13) (v800 arg3 arg4 arg5 arg11 arg12 arg13 arg14 X3 X4 X5 X12 X13 X14 k) 32 0 2 (by decide) (by decide) at0 0 (fun i => by show _ = 128 * 0 + i.val; simp only [at0]; omega) (v960 arg3 arg4 arg5 arg11 arg12 arg13 arg14 X3 X4 X5 X12 X13 X14 k) hq hk hb
    (fun t m d hm => mid_3_1 arg5 arg11 arg12 X5 X12 k t m d hm)
    (fun t x => (sign_v827 arg14 X14 t x).trans (hG 1 t x)) (fun i j => (mask_v838 arg13 X13 i j).trans (hM 1 i j))
    (lo_3_0 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_3_2 (i j : Fin 128) : (v1184 arg3 arg4 arg5 arg11 arg12 arg13 arg14 X3 X4 X5 X12 X13 X14 k) (ix2 i j)
    = if j.val / 16 < i.val / 16 then (score Q K β (at0 i) (at0 j) : EReal) else 0 :=
  level Q K β (v551 arg3 X3 k) (v567 arg4 X4 k) (r_8 arg5 arg12 X5 X12 k) (v1168 arg5 arg11 arg12 X5 X12 k) (v1003 arg14 X14) (v1014 arg13 X13) (v960 arg3 arg4 arg5 arg11 arg12 arg13 arg14 X3 X4 X5 X12 X13 X14 k) 16 0 4 (by decide) (by decide) at0 0 (fun i => by show _ = 128 * 0 + i.val; simp only [at0]; omega) (v1184 arg3 arg4 arg5 arg11 arg12 arg13 arg14 X3 X4 X5 X12 X13 X14 k) hq hk hb
    (fun t m d hm => mid_3_2 arg5 arg11 arg12 X5 X12 k t m d hm)
    (fun t x => (sign_v1003 arg14 X14 t x).trans (hG 2 t x)) (fun i j => (mask_v1014 arg13 X13 i j).trans (hM 2 i j))
    (lo_3_1 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_3_3 (i j : Fin 128) : (v1536 arg3 arg4 arg5 arg11 arg12 arg13 arg14 X3 X4 X5 X12 X13 X14 k) (ix2 i j)
    = if j.val / 8 < i.val / 8 then (score Q K β (at0 i) (at0 j) : EReal) else 0 :=
  level Q K β (v551 arg3 X3 k) (v567 arg4 X4 k) (r_8 arg5 arg12 X5 X12 k) (v1520 arg5 arg11 arg12 X5 X12 k) (v1259 arg14 X14) (v1270 arg13 X13) (v1184 arg3 arg4 arg5 arg11 arg12 arg13 arg14 X3 X4 X5 X12 X13 X14 k) 8 0 8 (by decide) (by decide) at0 0 (fun i => by show _ = 128 * 0 + i.val; simp only [at0]; omega) (v1536 arg3 arg4 arg5 arg11 arg12 arg13 arg14 X3 X4 X5 X12 X13 X14 k) hq hk hb
    (fun t m d hm => mid_3_3 arg5 arg11 arg12 X5 X12 k t m d hm)
    (fun t x => (sign_v1259 arg14 X14 t x).trans (hG 3 t x)) (fun i j => (mask_v1270 arg13 X13 i j).trans (hM 3 i j))
    (lo_3_2 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_3_4 (i j : Fin 128) : (v2144 arg3 arg4 arg5 arg11 arg12 arg13 arg14 X3 X4 X5 X12 X13 X14 k) (ix2 i j)
    = if j.val / 4 < i.val / 4 then (score Q K β (at0 i) (at0 j) : EReal) else 0 :=
  level Q K β (v551 arg3 X3 k) (v567 arg4 X4 k) (r_8 arg5 arg12 X5 X12 k) (v2128 arg5 arg11 arg12 X5 X12 k) (v1675 arg14 X14) (v1686 arg13 X13) (v1536 arg3 arg4 arg5 arg11 arg12 arg13 arg14 X3 X4 X5 X12 X13 X14 k) 4 0 16 (by decide) (by decide) at0 0 (fun i => by show _ = 128 * 0 + i.val; simp only [at0]; omega) (v2144 arg3 arg4 arg5 arg11 arg12 arg13 arg14 X3 X4 X5 X12 X13 X14 k) hq hk hb
    (fun t m d hm => mid_3_4 arg5 arg11 arg12 X5 X12 k t m d hm)
    (fun t x => (sign_v1675 arg14 X14 t x).trans (hG 4 t x)) (fun i j => (mask_v1686 arg13 X13 i j).trans (hM 4 i j))
    (lo_3_3 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_3_5 (i j : Fin 128) : (v2292 arg3 arg4 arg5 arg11 arg12 arg13 arg14 ii X3 X4 X5 X12 X13 X14 k) (ix2 i j)
    = if j.val / 2 < i.val / 2 then (score Q K β (at0 i) (at0 j) : EReal) else 0 :=
  level Q K β (v551 arg3 X3 k) (v567 arg4 X4 k) (r_8 arg5 arg12 X5 X12 k) (v2276 arg5 arg12 ii X5 X12 k) (v2168 arg14 X14) (v2179 arg13 X13) (v2144 arg3 arg4 arg5 arg11 arg12 arg13 arg14 X3 X4 X5 X12 X13 X14 k) 2 0 32 (by decide) (by decide) at0 0 (fun i => by show _ = 128 * 0 + i.val; simp only [at0]; omega) (v2292 arg3 arg4 arg5 arg11 arg12 arg13 arg14 ii X3 X4 X5 X12 X13 X14 k) hq hk hb
    (fun t m d hm => mid_3_5 arg5 arg12 X5 X12 k t m d hm)
    (fun t x => (sign_v2168 arg14 X14 t x).trans (hG 5 t x)) (fun i j => (mask_v2179 arg13 X13 i j).trans (hM 5 i j))
    (lo_3_4 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem lo_3_6 (i j : Fin 128) : (v2408 arg3 arg4 arg5 arg11 arg12 arg13 arg14 ii X3 X4 X5 X12 X13 X14 k) (ix2 i j)
    = if j.val / 1 < i.val / 1 then (score Q K β (at0 i) (at0 j) : EReal) else 0 :=
  level Q K β (v551 arg3 X3 k) (v567 arg4 X4 k) (r_8 arg5 arg12 X5 X12 k) (v2392 arg5 arg12 ii X5 X12 k) (v2308 arg14 X14) (v2319 arg13 X13) (v2292 arg3 arg4 arg5 arg11 arg12 arg13 arg14 ii X3 X4 X5 X12 X13 X14 k) 1 0 64 (by decide) (by decide) at0 0 (fun i => by show _ = 128 * 0 + i.val; simp only [at0]; omega) (v2408 arg3 arg4 arg5 arg11 arg12 arg13 arg14 ii X3 X4 X5 X12 X13 X14 k) hq hk hb
    (fun t m d hm => mid_3_6 arg5 arg12 X5 X12 k t m d hm)
    (fun t x => (sign_v2308 arg14 X14 t x).trans (hG 6 t x)) (fun i j => (mask_v2319 arg13 X13 i j).trans (hM 6 i j))
    (lo_3_5 arg3 arg4 arg5 arg11 arg12 arg13 arg14 X3 X4 X5 X12 X13 X14 k Q K β hq hk hb hM hG) (fun i j => lvl0_at slices_S256x128_o0_0_S128x128 _ _ _ _ _ _ _ i j) i j

include hq hk hb hM hG in
theorem hi_3_0 (i j : Fin 128) : (v807 arg3 arg4 arg5 arg11 arg12 arg13 arg14 X3 X4 X5 X12 X13 X14 k) (ix2 i j)
    = if j.val / 64 < i.val / 64 then (score Q K β (at1 i) (at1 j) : EReal) else 0 :=
  level Q K β (v551 arg3 X3 k) (v567 arg4 X4 k) (r_8 arg5 arg12 X5 X12 k) (v784 arg5 arg11 arg12 X5 X12 k) (v723 arg14 X14) (v702 arg13 X13) (v672 (F := Ideal) ) 64 0 1 (by decide) (by decide) at1 1 (fun i => by show _ = 128 * 1 + i.val; simp only [at1]) (v807 arg3 arg4 arg5 arg11 arg12 arg13 arg14 X3 X4 X5 X12 X13 X14 k) hq hk hb
    (fun t m d hm => mid_3_0 arg5 arg11 arg12 X5 X12 k t m d hm)
    (fun t x => (sign_v723 arg14 X14 t x).trans (hG 0 t x)) (fun i j => (mask_v702 arg13 X13 i j).trans (hM 0 i j))
    (fun i j => zero_acc _ i j) (fun i j => lvl1_at slices_S256x128_o128_0_S128x128 _ _ _ _ _ _ _ i j) i j

include hq hk hb hM hG in
theorem hi_3_1 (i j : Fin 128) : (v967 arg3 arg4 arg5 arg11 arg12 arg13 arg14 X3 X4 X5 X12 X13 X14 k) (ix2 i j)
    = if j.val / 32 < i.val / 32 then (score Q K β (at1 i) (at1 j) : EReal) else 0 :=
  level Q K β (v551 arg3 X3 k) (v567 arg4 X4 k) (r_8 arg5 arg12 X5 X12 k) (v944 arg5 arg11 arg12 X5 X12 k) (v827 arg14 X14) (v838 arg13 X13) (v807 arg3 arg4 arg5 arg11 arg12 arg13 arg14 X3 X4 X5 X12 X13 X14 k) 32 0 2 (by decide) (by decide) at1 1 (fun i => by show _ = 128 * 1 + i.val; simp only [at1]) (v967 arg3 arg4 arg5 arg11 arg12 arg13 arg14 X3 X4 X5 X12 X13 X14 k) hq hk hb
    (fun t m d hm => mid_3_1 arg5 arg11 arg12 X5 X12 k t m d hm)
    (fun t x => (sign_v827 arg14 X14 t x).trans (hG 1 t x)) (fun i j => (mask_v838 arg13 X13 i j).trans (hM 1 i j))
    (hi_3_0 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_3_2 (i j : Fin 128) : (v1191 arg3 arg4 arg5 arg11 arg12 arg13 arg14 X3 X4 X5 X12 X13 X14 k) (ix2 i j)
    = if j.val / 16 < i.val / 16 then (score Q K β (at1 i) (at1 j) : EReal) else 0 :=
  level Q K β (v551 arg3 X3 k) (v567 arg4 X4 k) (r_8 arg5 arg12 X5 X12 k) (v1168 arg5 arg11 arg12 X5 X12 k) (v1003 arg14 X14) (v1014 arg13 X13) (v967 arg3 arg4 arg5 arg11 arg12 arg13 arg14 X3 X4 X5 X12 X13 X14 k) 16 0 4 (by decide) (by decide) at1 1 (fun i => by show _ = 128 * 1 + i.val; simp only [at1]) (v1191 arg3 arg4 arg5 arg11 arg12 arg13 arg14 X3 X4 X5 X12 X13 X14 k) hq hk hb
    (fun t m d hm => mid_3_2 arg5 arg11 arg12 X5 X12 k t m d hm)
    (fun t x => (sign_v1003 arg14 X14 t x).trans (hG 2 t x)) (fun i j => (mask_v1014 arg13 X13 i j).trans (hM 2 i j))
    (hi_3_1 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_3_3 (i j : Fin 128) : (v1543 arg3 arg4 arg5 arg11 arg12 arg13 arg14 X3 X4 X5 X12 X13 X14 k) (ix2 i j)
    = if j.val / 8 < i.val / 8 then (score Q K β (at1 i) (at1 j) : EReal) else 0 :=
  level Q K β (v551 arg3 X3 k) (v567 arg4 X4 k) (r_8 arg5 arg12 X5 X12 k) (v1520 arg5 arg11 arg12 X5 X12 k) (v1259 arg14 X14) (v1270 arg13 X13) (v1191 arg3 arg4 arg5 arg11 arg12 arg13 arg14 X3 X4 X5 X12 X13 X14 k) 8 0 8 (by decide) (by decide) at1 1 (fun i => by show _ = 128 * 1 + i.val; simp only [at1]) (v1543 arg3 arg4 arg5 arg11 arg12 arg13 arg14 X3 X4 X5 X12 X13 X14 k) hq hk hb
    (fun t m d hm => mid_3_3 arg5 arg11 arg12 X5 X12 k t m d hm)
    (fun t x => (sign_v1259 arg14 X14 t x).trans (hG 3 t x)) (fun i j => (mask_v1270 arg13 X13 i j).trans (hM 3 i j))
    (hi_3_2 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_3_4 (i j : Fin 128) : (v2151 arg3 arg4 arg5 arg11 arg12 arg13 arg14 X3 X4 X5 X12 X13 X14 k) (ix2 i j)
    = if j.val / 4 < i.val / 4 then (score Q K β (at1 i) (at1 j) : EReal) else 0 :=
  level Q K β (v551 arg3 X3 k) (v567 arg4 X4 k) (r_8 arg5 arg12 X5 X12 k) (v2128 arg5 arg11 arg12 X5 X12 k) (v1675 arg14 X14) (v1686 arg13 X13) (v1543 arg3 arg4 arg5 arg11 arg12 arg13 arg14 X3 X4 X5 X12 X13 X14 k) 4 0 16 (by decide) (by decide) at1 1 (fun i => by show _ = 128 * 1 + i.val; simp only [at1]) (v2151 arg3 arg4 arg5 arg11 arg12 arg13 arg14 X3 X4 X5 X12 X13 X14 k) hq hk hb
    (fun t m d hm => mid_3_4 arg5 arg11 arg12 X5 X12 k t m d hm)
    (fun t x => (sign_v1675 arg14 X14 t x).trans (hG 4 t x)) (fun i j => (mask_v1686 arg13 X13 i j).trans (hM 4 i j))
    (hi_3_3 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_3_5 (i j : Fin 128) : (v2299 arg3 arg4 arg5 arg11 arg12 arg13 arg14 ii X3 X4 X5 X12 X13 X14 k) (ix2 i j)
    = if j.val / 2 < i.val / 2 then (score Q K β (at1 i) (at1 j) : EReal) else 0 :=
  level Q K β (v551 arg3 X3 k) (v567 arg4 X4 k) (r_8 arg5 arg12 X5 X12 k) (v2276 arg5 arg12 ii X5 X12 k) (v2168 arg14 X14) (v2179 arg13 X13) (v2151 arg3 arg4 arg5 arg11 arg12 arg13 arg14 X3 X4 X5 X12 X13 X14 k) 2 0 32 (by decide) (by decide) at1 1 (fun i => by show _ = 128 * 1 + i.val; simp only [at1]) (v2299 arg3 arg4 arg5 arg11 arg12 arg13 arg14 ii X3 X4 X5 X12 X13 X14 k) hq hk hb
    (fun t m d hm => mid_3_5 arg5 arg12 X5 X12 k t m d hm)
    (fun t x => (sign_v2168 arg14 X14 t x).trans (hG 5 t x)) (fun i j => (mask_v2179 arg13 X13 i j).trans (hM 5 i j))
    (hi_3_4 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
theorem hi_3_6 (i j : Fin 128) : (v2415 arg3 arg4 arg5 arg11 arg12 arg13 arg14 ii X3 X4 X5 X12 X13 X14 k) (ix2 i j)
    = if j.val / 1 < i.val / 1 then (score Q K β (at1 i) (at1 j) : EReal) else 0 :=
  level Q K β (v551 arg3 X3 k) (v567 arg4 X4 k) (r_8 arg5 arg12 X5 X12 k) (v2392 arg5 arg12 ii X5 X12 k) (v2308 arg14 X14) (v2319 arg13 X13) (v2299 arg3 arg4 arg5 arg11 arg12 arg13 arg14 ii X3 X4 X5 X12 X13 X14 k) 1 0 64 (by decide) (by decide) at1 1 (fun i => by show _ = 128 * 1 + i.val; simp only [at1]) (v2415 arg3 arg4 arg5 arg11 arg12 arg13 arg14 ii X3 X4 X5 X12 X13 X14 k) hq hk hb
    (fun t m d hm => mid_3_6 arg5 arg12 X5 X12 k t m d hm)
    (fun t x => (sign_v2308 arg14 X14 t x).trans (hG 6 t x)) (fun i j => (mask_v2319 arg13 X13 i j).trans (hM 6 i j))
    (hi_3_5 arg3 arg4 arg5 arg11 arg12 arg13 arg14 X3 X4 X5 X12 X13 X14 k Q K β hq hk hb hM hG) (fun i j => lvl1_at slices_S256x128_o128_0_S128x128 _ _ _ _ _ _ _ i j) i j

include hq hk hb hM hG in
/-- The head's outputs of the chunk. -/
theorem out_3 (hv : ∀ t x, (r_2 arg6 X6 k) (ix2 t x) = ((V t x : ℝ) : EReal)) (hs : ∀ e x, (v2614 arg10 f10) (ix2 e x) = ((S e x : ℝ) : EReal)) (t : Fin 256) (e : Fin 128) :
    (v2638 arg3 arg4 arg5 arg6 arg10 arg11 arg12 arg13 arg14 ii X3 X4 X5 X6 X12 X13 X14 k f10) (ix2 t e) = (outR Q K β V S t e : EReal) :=
  out_real Q K β (v551 arg3 X3 k) (v567 arg4 X4 k) (r_8 arg5 arg12 X5 X12 k) V S (v2408 arg3 arg4 arg5 arg11 arg12 arg13 arg14 ii X3 X4 X5 X12 X13 X14 k) (v2415 arg3 arg4 arg5 arg11 arg12 arg13 arg14 ii X3 X4 X5 X12 X13 X14 k) (v2483 arg3 arg4 arg5 arg11 arg12 X3 X4 X5 X12 k) (r_2 arg6 X6 k) (v2614 arg10 f10) hq hk hb hv hs
    (fun i j => by have := lo_3_6 arg3 arg4 arg5 arg11 arg12 arg13 arg14 X3 X4 X5 X12 X13 X14 k Q K β hq hk hb hM hG i j; rw [Nat.div_one, Nat.div_one] at this; exact this)
    (fun i j => by have := hi_3_6 arg3 arg4 arg5 arg11 arg12 arg13 arg14 X3 X4 X5 X12 X13 X14 k Q K β hq hk hb hM hG i j; rw [Nat.div_one, Nat.div_one] at this; exact this)
    (fun i j => cross_real Q K β (v551 arg3 X3 k) (v567 arg4 X4 k) (r_8 arg5 arg12 X5 X12 k) (v2468 arg5 arg11 arg12 X5 X12 k) 127 hq hk hb (fun x => top_3 arg5 arg11 arg12 X5 X12 k x) i j) t e

omit hq hM hG
include hk hb in
/-- The head's state after the chunk. -/
theorem state_3 (hv : ∀ t x, (r_2 arg6 X6 k) (ix2 t x) = ((V t x : ℝ) : EReal)) (hs : ∀ e x, (v2614 arg10 f10) (ix2 e x) = ((S e x : ℝ) : EReal)) (e x : Fin 128) :
    (v2652 arg4 arg5 arg6 arg10 arg11 arg12 X4 X5 X6 X12 k f10) (ix2 e x) = (stR K β V S e x : EReal) :=
  st_real K β (v567 arg4 X4 k) (r_8 arg5 arg12 X5 X12 k) V S (v2640 arg5 arg11 arg12 X5 X12 k) (r_2 arg6 X6 k) (v2614 arg10 f10) hk hb hv hs (fun x => last_3 arg5 arg11 arg12 X5 X12 k x) e x

omit hk hb
theorem q_3 (t : Fin 256) (x : Fin 128) : (v551 arg3 X3 k) (ix2 t x) = arg3.view.read (Elt Ideal) X3 (ix3 0 (row k t) (col 3 x)) :=
  (drop_ext (View.readAt (Elt Ideal) arg3.view (Rect.unit (s := S1x2048x512) (k0_off4 k) S1x256x128.size (k0_off4_inb k)).toLoadRect X3) t x).trans
    ((View.readAt_apply _ _ _).trans (congrArg (arg3.view.read (Elt Ideal) X3) (blk_idx 3 k _ (off_3 k) (k0_off4_inb k) t x)))

theorem k_3 (t : Fin 256) (x : Fin 128) : (v567 arg4 X4 k) (ix2 t x) = arg4.view.read (Elt Ideal) X4 (ix3 0 (row k t) (col 3 x)) :=
  (drop_ext (View.readAt (Elt Ideal) arg4.view (Rect.unit (s := S1x2048x512) (k0_off4 k) S1x256x128.size (k0_off4_inb k)).toLoadRect X4) t x).trans
    ((View.readAt_apply _ _ _).trans (congrArg (arg4.view.read (Elt Ideal) X4) (blk_idx 3 k _ (off_3 k) (k0_off4_inb k) t x)))

theorem v_3 (t : Fin 256) (x : Fin 128) : (r_2 arg6 X6 k) (ix2 t x) = arg6.view.read (Elt Ideal) X6 (ix3 0 (row k t) (col 3 x)) :=
  (drop_bf (View.readAt (Elt Ideal) arg6.view (Rect.unit (s := S1x2048x512) (k0_off4 k) S1x256x128.size (k0_off4_inb k)).toLoadRect X6) t x).trans
    ((View.readAt_apply _ _ _).trans (congrArg (arg6.view.read (Elt Ideal) X6) (blk_idx 3 k _ (off_3 k) (k0_off4_inb k) t x)))

theorem b_3 (G : Fin 256 → Fin 128 → ℝ) (h5 : ∀ t x, arg5.view.read (Elt Ideal) X5 (ix3 0 (row k t) (col 3 x)) = ((G t x : ℝ) : EReal))
    (h12 : ∀ t s : Fin 256, arg12.view.read (Elt Ideal) X12 (ix2 t s) = if s.val ≤ t.val then 1 else 0) (t : Fin 256) (x : Fin 128) :
    (r_8 arg5 arg12 X5 X12 k) (ix2 t x) = (cumR G t x : EReal) :=
  cums_real G (View.readAt (Elt Ideal) arg5.view (Rect.unit (s := S1x2048x512) (k0_off4 k) S1x256x128.size (k0_off4_inb k)).toLoadRect X5)
    (View.readAt (Elt Ideal) arg12.view (Rect.unit (s := S256x256) ![0, 0] S256x256.size inb_S256x256_S256x256_0_0).toLoadRect X12)
    (fun t x => (View.readAt_apply _ _ _).trans ((congrArg (arg5.view.read (Elt Ideal) X5) (blk_idx 3 k _ (off_3 k) (k0_off4_inb k) t x)).trans (h5 t x)))
    (fun t s => (View.readAt_apply _ _ _).trans ((congrArg (arg12.view.read (Elt Ideal) X12) (sq_idx inb_S256x256_S256x256_0_0 t s)).trans (h12 t s))) t x

theorem s_3 (e x : Fin 128) : (v2614 arg10 f10) (ix2 e x) = arg10.view.read (Elt Ideal) f10 (ix3 3 e x) :=
  (drop_S1x128x128 (View.readAt (Elt Ideal) arg10.view (Rect.unit (s := S4x128x128) ![3, 0, 0] S1x128x128.size inb_S4x128x128_S1x128x128_3_0_0).toLoadRect f10) e x).trans
    ((View.readAt_apply _ _ _).trans (congrArg (arg10.view.read (Elt Ideal) f10) (plane_idx (a := 4) 3 inb_S4x128x128_S1x128x128_3_0_0 e x)))

end Cert.HgrnIdeal.Head

end
-- ==== Proof.HgrnSetup.lean ====
module

public import proofs.«01_k».proof.Proof.HgrnRows
public import proofs.«01_k».proof.Proof.HgrnIdealRun

@[expose] public section

set_option maxRecDepth 16384

/-! What the kernel stores before its loop: the lower triangle of ones, the masks and the signs of the seven levels, the cleared state. -/

noncomputable section

namespace Cert.HgrnIdeal.Head

open Cert.HgrnIdeal Cert.HgrnIdeal.Gen
open Idealize.ShloMosaic Idealize.ShloMosaic.TcCoe Idealize.SL.Sem

/-- The floor of index `i` over `n`, as the kernel's words compute it. -/
local notation "⟪" i ", " n "⟫" => Scalar.select
  (IntOp.andi
    (IntOp.cmpi CmpIPredicate.ne
      (IntOp.subi (BitVec.setWidth 32 (IntOp.cmpi CmpIPredicate.sgt (BitVec.ofNat 32 (Fin.val i)) 0#32)) (BitVec.setWidth 32 (IntOp.cmpi CmpIPredicate.slt (BitVec.ofNat 32 (Fin.val i)) 0#32)))
      (Scalar.subi (Scalar.extui (Scalar.cmpi CmpIPredicate.sgt n 0#32)) (Scalar.extui (Scalar.cmpi CmpIPredicate.slt n 0#32))))
    (IntOp.cmpi CmpIPredicate.ne (IntOp.remsi ArithUnit.vector (BitVec.ofNat 32 (Fin.val i)) n) 0#32))
  (IntOp.subi (IntOp.divsi ArithUnit.vector (BitVec.ofNat 32 (Fin.val i)) n) 1#32)
  (IntOp.divsi ArithUnit.vector (BitVec.ofNat 32 (Fin.val i)) n)

theorem sit0 : (FloatOps.sitofp .f32 (BitVec.setWidth 32 0#1) : Ideal .f32) = 0 := by
  show (((BitVec.setWidth 32 0#1).toInt : ℝ) : EReal) = 0
  simp
theorem sit1 : (FloatOps.sitofp .f32 (BitVec.setWidth 32 1#1) : Ideal .f32) = 1 := by
  show (((BitVec.setWidth 32 1#1).toInt : ℝ) : EReal) = 1
  simp
theorem neg_one_bits : Ideal.ofBits FTy.f32 3212836864#32 = -1 := by
  rw [show (-1 : EReal) = ((-(1 : ℝ) : ℝ) : EReal) by rw [EReal.coe_neg, EReal.coe_one]]
  simp [Ideal.ofBits, Ideal.ieee, -EReal.coe_mul, -EReal.coe_neg]; norm_num
theorem and0l (b : BitVec 1) : IntOp.andi 0#1 b = 0#1 := by revert b; decide
theorem and0r (b : BitVec 1) : IntOp.andi b 0#1 = 0#1 := by revert b; decide
theorem and11 : IntOp.andi 1#1 1#1 = 1#1 := by decide
theorem eq_bits (a b : ℕ) (ha : a < 128) (hb : b < 128) : IntOp.cmpi CmpIPredicate.eq (BitVec.ofNat 32 a) (BitVec.ofNat 32 b) = if a = b then 1#1 else 0#1 := by
  by_cases h : a = b
  · subst h; rw [if_pos rfl]; simp [IntOp.cmpi]
  · rw [if_neg h]
    have : BitVec.ofNat 32 a ≠ BitVec.ofNat 32 b := fun e => h (by
      have := congrArg BitVec.toNat e
      rwa [BitVec.toNat_ofNat, BitVec.toNat_ofNat, Nat.mod_eq_of_lt (by omega), Nat.mod_eq_of_lt (by omega)] at this)
    show BitVec.ofBool (BitVec.ofNat 32 a == BitVec.ofNat 32 b) = 0#1
    rw [beq_eq_false_iff_ne.2 this]; rfl
theorem le_bits (a b : ℕ) (ha : a < 256) (hb : b < 256) : IntOp.cmpi CmpIPredicate.sle (BitVec.ofNat 32 a) (BitVec.ofNat 32 b) = if a ≤ b then 1#1 else 0#1 := by
  have ht := (by decide +kernel : ∀ a : Fin 256, (BitVec.ofNat 32 a.val).toInt = (a.val : ℤ))
  show BitVec.ofBool (decide ((BitVec.ofNat 32 a).toInt ≤ (BitVec.ofNat 32 b).toInt)) = _
  rw [ht ⟨a, ha⟩, ht ⟨b, hb⟩]
  by_cases h : a ≤ b
  · rw [if_pos h, decide_eq_true (by exact_mod_cast h)]; rfl
  · rw [if_neg h, decide_eq_false (by exact_mod_cast h)]; rfl
/-- The mask from the three conditions. -/
theorem three (P Q R : Prop) [Decidable P] [Decidable Q] [Decidable R] :
    (FloatOps.sitofp .f32 (BitVec.setWidth 32 (IntOp.andi (IntOp.andi (if P then 1#1 else 0#1) (if Q then 1#1 else 0#1)) (if R then 1#1 else 0#1))) : Ideal .f32)
      = if P ∧ Q ∧ R then 1 else 0 := by
  by_cases hP : P
  · by_cases hQ : Q
    · by_cases hR : R
      · rw [if_pos hP, if_pos hQ, if_pos hR, if_pos ⟨hP, hQ, hR⟩, and11, and11, sit1]
      · rw [if_neg hR, and0r, sit0, if_neg (fun h => hR h.2.2)]
    · rw [if_neg hQ, and0r, and0l, sit0, if_neg (fun h => hQ h.2.1)]
  · rw [if_neg hP, and0l, and0l, sit0, if_neg (fun h => hP h.1)]

theorem maskPay_0 (i j : Fin 128) : (k0_pay427 (iota .tc S128x128 32 [0]) (iota .tc S128x128 32 [1]) k0_pay424 128#32 k0_pay425 k0_pay426 : FVec Ideal S1x128x128 .f32) (ix3 0 i j) = MaskAt 0 i j := by
  pointwise [k0_pay424, k0_pay425, k0_pay426, k0_pay427]
  have hd := (by decide +kernel : ∀ i : Fin 128, ⟪i, 128#32⟫ = BitVec.ofNat 32 (i.val / 128))
  have hg := (by decide +kernel : ∀ i : Fin 128, IntOp.cmpi CmpIPredicate.sge (IntOp.andi (BitVec.ofNat 32 i.val) 127#32) 64#32 = if 64 ≤ i.val % 128 then 1#1 else 0#1)
  have hl := (by decide +kernel : ∀ i : Fin 128, IntOp.cmpi CmpIPredicate.slt (IntOp.andi (BitVec.ofNat 32 i.val) 127#32) 64#32 = if i.val % 128 < 64 then 1#1 else 0#1)
  rw [hd i, hd j, eq_bits _ _ (by omega) (by omega), hg i, hl j, three]
  rfl

theorem signPay_0 (t : Fin 256) (x : Fin 128) : (k0_pay431 (k0_pay428 (iota .tc S256x128 32 [0])) k0_pay429 k0_pay430 : FVec Ideal S1x256x128 .f32) (ix3 0 t x) = SignAt 0 t := by
  pointwise [k0_pay428, k0_pay429, k0_pay430, k0_pay431]
  have hg := (by decide +kernel : ∀ t : Fin 256, IntOp.cmpi CmpIPredicate.sge (IntOp.andi (BitVec.ofNat 32 t.val) 127#32) 64#32 = if 64 ≤ t.val % 128 then 1#1 else 0#1)
  rw [hg t, neg_one_bits]
  show _ = if 64 ≤ t.val % 128 then (1 : EReal) else -1
  by_cases h : 64 ≤ t.val % 128
  · rw [if_pos h, if_pos h]; rfl
  · rw [if_neg h, if_neg h]; rfl

theorem maskPay_1 (i j : Fin 128) : (k0_pay435 (iota .tc S128x128 32 [0]) (iota .tc S128x128 32 [1]) (k0_pay432 (iota .tc S128x128 32 [0])) 64#32 (k0_pay433 (iota .tc S128x128 32 [1])) (k0_pay434 (iota .tc S128x128 32 [1])) : FVec Ideal S1x128x128 .f32) (ix3 0 i j) = MaskAt 1 i j := by
  pointwise [k0_pay432, k0_pay433, k0_pay434, k0_pay435]
  have hd := (by decide +kernel : ∀ i : Fin 128, ⟪i, 64#32⟫ = BitVec.ofNat 32 (i.val / 64))
  have hg := (by decide +kernel : ∀ i : Fin 128, IntOp.cmpi CmpIPredicate.sge (IntOp.andi (BitVec.ofNat 32 i.val) 63#32) 32#32 = if 32 ≤ i.val % 64 then 1#1 else 0#1)
  have hl := (by decide +kernel : ∀ i : Fin 128, IntOp.cmpi CmpIPredicate.slt (IntOp.andi (BitVec.ofNat 32 i.val) 63#32) 32#32 = if i.val % 64 < 32 then 1#1 else 0#1)
  rw [hd i, hd j, eq_bits _ _ (by omega) (by omega), hg i, hl j, three]
  rfl

theorem signPay_1 (t : Fin 256) (x : Fin 128) : (k0_pay436 (iota .tc S256x128 32 [0]) : FVec Ideal S1x256x128 .f32) (ix3 0 t x) = SignAt 1 t := by
  pointwise [k0_pay436]
  have hg := (by decide +kernel : ∀ t : Fin 256, IntOp.cmpi CmpIPredicate.sge (IntOp.andi (BitVec.ofNat 32 t.val) 63#32) 32#32 = if 32 ≤ t.val % 64 then 1#1 else 0#1)
  rw [hg t, neg_one_bits]
  show _ = if 32 ≤ t.val % 64 then (1 : EReal) else -1
  by_cases h : 32 ≤ t.val % 64
  · rw [if_pos h, if_pos h]; rfl
  · rw [if_neg h, if_neg h]; rfl

theorem maskPay_2 (i j : Fin 128) : (k0_pay442 (iota .tc S128x128 32 [1]) (k0_pay439 (iota .tc S128x128 32 [0]) (iota .tc S128x128 32 [1]) 32#32 (k0_pay437 (iota .tc S128x128 32 [0])) (k0_pay438 (iota .tc S128x128 32 [0])) 0#32) (k0_pay440 (iota .tc S128x128 32 [0])) k0_pay441 : FVec Ideal S1x128x128 .f32) (ix3 0 i j) = MaskAt 2 i j := by
  pointwise [k0_pay437, k0_pay438, k0_pay439, k0_pay440, k0_pay441, k0_pay442]
  have hd := (by decide +kernel : ∀ i : Fin 128, ⟪i, 32#32⟫ = BitVec.ofNat 32 (i.val / 32))
  have hg := (by decide +kernel : ∀ i : Fin 128, IntOp.cmpi CmpIPredicate.sge (IntOp.andi (BitVec.ofNat 32 i.val) 31#32) 16#32 = if 16 ≤ i.val % 32 then 1#1 else 0#1)
  have hl := (by decide +kernel : ∀ i : Fin 128, IntOp.cmpi CmpIPredicate.slt (IntOp.andi (BitVec.ofNat 32 i.val) 31#32) 16#32 = if i.val % 32 < 16 then 1#1 else 0#1)
  rw [hd i, hd j, eq_bits _ _ (by omega) (by omega), hg i, hl j, three]
  rfl

theorem signPay_2 (t : Fin 256) (x : Fin 128) : (k0_pay443 (iota .tc S256x128 32 [0]) : FVec Ideal S1x256x128 .f32) (ix3 0 t x) = SignAt 2 t := by
  pointwise [k0_pay443]
  have hg := (by decide +kernel : ∀ t : Fin 256, IntOp.cmpi CmpIPredicate.sge (IntOp.andi (BitVec.ofNat 32 t.val) 31#32) 16#32 = if 16 ≤ t.val % 32 then 1#1 else 0#1)
  rw [hg t, neg_one_bits]
  show _ = if 16 ≤ t.val % 32 then (1 : EReal) else -1
  by_cases h : 16 ≤ t.val % 32
  · rw [if_pos h, if_pos h]; rfl
  · rw [if_neg h, if_neg h]; rfl

theorem maskPay_3 (i j : Fin 128) : (k0_pay448 (k0_pay447 (iota .tc S128x128 32 [0]) (iota .tc S128x128 32 [1]) (k0_pay444 (iota .tc S128x128 32 [0])) (k0_pay445 (iota .tc S128x128 32 [0])) (k0_pay446 (iota .tc S128x128 32 [0])) 0#32) : FVec Ideal S1x128x128 .f32) (ix3 0 i j) = MaskAt 3 i j := by
  pointwise [k0_pay444, k0_pay445, k0_pay446, k0_pay447, k0_pay448]
  have hd := (by decide +kernel : ∀ i : Fin 128, ⟪i, 16#32⟫ = BitVec.ofNat 32 (i.val / 16))
  have hg := (by decide +kernel : ∀ i : Fin 128, IntOp.cmpi CmpIPredicate.sge (IntOp.andi (BitVec.ofNat 32 i.val) 15#32) 8#32 = if 8 ≤ i.val % 16 then 1#1 else 0#1)
  have hl := (by decide +kernel : ∀ i : Fin 128, IntOp.cmpi CmpIPredicate.slt (IntOp.andi (BitVec.ofNat 32 i.val) 15#32) 8#32 = if i.val % 16 < 8 then 1#1 else 0#1)
  rw [hd i, hd j, eq_bits _ _ (by omega) (by omega), hg i, hl j, three]
  rfl

theorem signPay_3 (t : Fin 256) (x : Fin 128) : (k0_pay449 (iota .tc S256x128 32 [0]) : FVec Ideal S1x256x128 .f32) (ix3 0 t x) = SignAt 3 t := by
  pointwise [k0_pay449]
  have hg := (by decide +kernel : ∀ t : Fin 256, IntOp.cmpi CmpIPredicate.sge (IntOp.andi (BitVec.ofNat 32 t.val) 15#32) 8#32 = if 8 ≤ t.val % 16 then 1#1 else 0#1)
  rw [hg t, neg_one_bits]
  show _ = if 8 ≤ t.val % 16 then (1 : EReal) else -1
  by_cases h : 8 ≤ t.val % 16
  · rw [if_pos h, if_pos h]; rfl
  · rw [if_neg h, if_neg h]; rfl

theorem maskPay_4 (i j : Fin 128) : (k0_pay454 (iota .tc S128x128 32 [0]) (iota .tc S128x128 32 [1]) (k0_pay450 (iota .tc S128x128 32 [0])) 8#32 (k0_pay451 (iota .tc S128x128 32 [1])) (k0_pay452 (iota .tc S128x128 32 [1])) k0_pay453 : FVec Ideal S1x128x128 .f32) (ix3 0 i j) = MaskAt 4 i j := by
  pointwise [k0_pay450, k0_pay451, k0_pay452, k0_pay453, k0_pay454]
  have hd := (by decide +kernel : ∀ i : Fin 128, ⟪i, 8#32⟫ = BitVec.ofNat 32 (i.val / 8))
  have hg := (by decide +kernel : ∀ i : Fin 128, IntOp.cmpi CmpIPredicate.sge (IntOp.andi (BitVec.ofNat 32 i.val) 7#32) 4#32 = if 4 ≤ i.val % 8 then 1#1 else 0#1)
  have hl := (by decide +kernel : ∀ i : Fin 128, IntOp.cmpi CmpIPredicate.slt (IntOp.andi (BitVec.ofNat 32 i.val) 7#32) 4#32 = if i.val % 8 < 4 then 1#1 else 0#1)
  rw [hd i, hd j, eq_bits _ _ (by omega) (by omega), hg i, hl j, three]
  rfl

theorem signPay_4 (t : Fin 256) (x : Fin 128) : (k0_pay456 (k0_pay455 (iota .tc S256x128 32 [0])) : FVec Ideal S1x256x128 .f32) (ix3 0 t x) = SignAt 4 t := by
  pointwise [k0_pay455, k0_pay456]
  have hg := (by decide +kernel : ∀ t : Fin 256, IntOp.cmpi CmpIPredicate.sge (IntOp.andi (BitVec.ofNat 32 t.val) 7#32) 4#32 = if 4 ≤ t.val % 8 then 1#1 else 0#1)
  rw [hg t, neg_one_bits]
  show _ = if 4 ≤ t.val % 8 then (1 : EReal) else -1
  by_cases h : 4 ≤ t.val % 8
  · rw [if_pos h, if_pos h]; rfl
  · rw [if_neg h, if_neg h]; rfl

theorem maskPay_5 (i j : Fin 128) : (k0_pay462 (iota .tc S128x128 32 [0]) (iota .tc S128x128 32 [1]) (k0_pay457 (iota .tc S128x128 32 [0])) (k0_pay458 (iota .tc S128x128 32 [1])) (k0_pay459 (iota .tc S128x128 32 [1])) (k0_pay460 (iota .tc S128x128 32 [1])) k0_pay461 : FVec Ideal S1x128x128 .f32) (ix3 0 i j) = MaskAt 5 i j := by
  pointwise [k0_pay457, k0_pay458, k0_pay459, k0_pay460, k0_pay461, k0_pay462]
  have hd := (by decide +kernel : ∀ i : Fin 128, ⟪i, 4#32⟫ = BitVec.ofNat 32 (i.val / 4))
  have hg := (by decide +kernel : ∀ i : Fin 128, IntOp.cmpi CmpIPredicate.sge (IntOp.andi (BitVec.ofNat 32 i.val) 3#32) 2#32 = if 2 ≤ i.val % 4 then 1#1 else 0#1)
  have hl := (by decide +kernel : ∀ i : Fin 128, IntOp.cmpi CmpIPredicate.slt (IntOp.andi (BitVec.ofNat 32 i.val) 3#32) 2#32 = if i.val % 4 < 2 then 1#1 else 0#1)
  rw [hd i, hd j, eq_bits _ _ (by omega) (by omega), hg i, hl j, three]
  rfl

theorem signPay_5 (t : Fin 256) (x : Fin 128) : (k0_pay463 (iota .tc S256x128 32 [0]) : FVec Ideal S1x256x128 .f32) (ix3 0 t x) = SignAt 5 t := by
  pointwise [k0_pay463]
  have hg := (by decide +kernel : ∀ t : Fin 256, IntOp.cmpi CmpIPredicate.sge (IntOp.andi (BitVec.ofNat 32 t.val) 3#32) 2#32 = if 2 ≤ t.val % 4 then 1#1 else 0#1)
  rw [hg t, neg_one_bits]
  show _ = if 2 ≤ t.val % 4 then (1 : EReal) else -1
  by_cases h : 2 ≤ t.val % 4
  · rw [if_pos h, if_pos h]; rfl
  · rw [if_neg h, if_neg h]; rfl

theorem maskPay_6 (i j : Fin 128) : (k0_pay1 (iota .tc S128x128 32 [1]) (k0_pay466 (iota .tc S128x128 32 [0]) (iota .tc S128x128 32 [1]) 2#32 (k0_pay464 (iota .tc S128x128 32 [0])) (k0_pay465 (iota .tc S128x128 32 [0]))) k0_pay467 : FVec Ideal S1x128x128 .f32) (ix3 0 i j) = MaskAt 6 i j := by
  pointwise [k0_pay1, k0_pay464, k0_pay465, k0_pay466, k0_pay467]
  have hd := (by decide +kernel : ∀ i : Fin 128, ⟪i, 2#32⟫ = BitVec.ofNat 32 (i.val / 2))
  have hg := (by decide +kernel : ∀ i : Fin 128, IntOp.cmpi CmpIPredicate.sge (IntOp.andi (BitVec.ofNat 32 i.val) 1#32) 1#32 = if 1 ≤ i.val % 2 then 1#1 else 0#1)
  have hl := (by decide +kernel : ∀ i : Fin 128, IntOp.cmpi CmpIPredicate.slt (IntOp.andi (BitVec.ofNat 32 i.val) 1#32) 1#32 = if i.val % 2 < 1 then 1#1 else 0#1)
  rw [hd i, hd j, eq_bits _ _ (by omega) (by omega), hg i, hl j, three]
  rfl

theorem signPay_6 (t : Fin 256) (x : Fin 128) : (k0_pay2 (iota .tc S256x128 32 [0]) : FVec Ideal S1x256x128 .f32) (ix3 0 t x) = SignAt 6 t := by
  pointwise [k0_pay2]
  have hg := (by decide +kernel : ∀ t : Fin 256, IntOp.cmpi CmpIPredicate.sge (IntOp.andi (BitVec.ofNat 32 t.val) 1#32) 1#32 = if 1 ≤ t.val % 2 then 1#1 else 0#1)
  rw [hg t, neg_one_bits]
  show _ = if 1 ≤ t.val % 2 then (1 : EReal) else -1
  by_cases h : 1 ≤ t.val % 2
  · rw [if_pos h, if_pos h]; rfl
  · rw [if_neg h, if_neg h]; rfl

theorem cumPay (t s : Fin 256) : (k0_pay423 : FVec Ideal S256x256 .bf16) (ix2 t s) = if s.val ≤ t.val then 1 else 0 := by
  pointwise [k0_pay423]
  rw [le_bits _ _ s.isLt t.isLt]
  by_cases h : s.val ≤ t.val
  · rw [if_pos h, if_pos h, sit1]
  · rw [if_neg h, if_neg h, sit0]

/-- The lower triangle of ones, read. -/
theorem cum_read (arg12 : Memref sig .tc .vmem S256x256 .bf16) (X : BufTy.Contents (Elt Ideal) arg12.view.ty) (h : Hand.Cum arg12 X) (t s : Fin 256) :
    arg12.view.read (Elt Ideal) X (ix2 t s) = if s.val ≤ t.val then 1 else 0 := by
  obtain ⟨G, rfl⟩ := h
  unfold Hand.cumL
  rw [View.read_writes_cons_hit_of_coords arg12.view G _ _ _ (ix2 t s : S256x256.Idx) (ix2 t s) (fun a => by
    fin_cases a
    · show t.val = 0 + 1 * t.val; omega
    · show s.val = 0 + 1 * s.val; omega)]
  exact cumPay t s

/-- The cleared state, read. -/
theorem zero_read (arg10 : Memref sig .tc .vmem S4x128x128 .f32) (X : BufTy.Contents (Elt Ideal) arg10.view.ty) (h : Hand.Zero arg10 X) (hd : Fin 4) (e d : Fin 128) :
    arg10.view.read (Elt Ideal) X (ix3 hd e d) = 0 := by
  obtain ⟨G, rfl⟩ := h
  unfold Hand.zeroL
  rw [View.read_writes_cons_hit_of_coords arg10.view G _ _ _ (ix3 hd e d : S4x128x128.Idx) (ix3 hd e d) (fun a => by
    fin_cases a
    · show hd.val = 0 + 1 * hd.val; omega
    · show e.val = 0 + 1 * e.val; omega
    · show d.val = 0 + 1 * d.val; omega)]
  pointwise [k0_pay422]

/-- The levels' planes, read. -/
theorem mask_read (arg13 : Memref sig .tc .vmem S7x128x128 .f32) (X : BufTy.Contents (Elt Ideal) arg13.view.ty) (h : Hand.Msk arg13 X) (n : Fin 7) (i : Fin 128) (j : Fin 128) :
    arg13.view.read (Elt Ideal) X (ix3 n i j) = MaskAt n i j := by
  obtain ⟨G, rfl⟩ := h
  have hit : ∀ (n : Fin 7) (inb) (w : S1x128x128.Idx → Elt Ideal .f32) (L : List (View.Piece (Elt Ideal) S7x128x128 .f32)),
      arg13.view.read (Elt Ideal) (arg13.view.writes (Elt Ideal) G ((⟨Rect.unit (s := S7x128x128) ![n.val, 0, 0] S1x128x128.size inb, w⟩ : View.Piece (Elt Ideal) S7x128x128 .f32) :: L)) (ix3 n i j) = w (ix3 0 i j) := by
    intro n inb w L
    refine View.read_writes_cons_hit_of_coords arg13.view G (Rect.unit (s := S7x128x128) ![n.val, 0, 0] S1x128x128.size inb) w L (ix3 0 i j) (ix3 n i j) (fun a => ?_)
    fin_cases a
    · show n.val = n.val + 1 * 0; omega
    · show i.val = 0 + 1 * i.val; omega
    · show j.val = 0 + 1 * j.val; omega
  have miss : ∀ (n n' : Fin 7) (inb) (w : S1x128x128.Idx → Elt Ideal .f32) (L : List (View.Piece (Elt Ideal) S7x128x128 .f32)), n ≠ n' →
      arg13.view.read (Elt Ideal) (arg13.view.writes (Elt Ideal) G ((⟨Rect.unit (s := S7x128x128) ![n'.val, 0, 0] S1x128x128.size inb, w⟩ : View.Piece (Elt Ideal) S7x128x128 .f32) :: L)) (ix3 n i j)
        = arg13.view.read (Elt Ideal) (arg13.view.writes (Elt Ideal) G L) (ix3 n i j) := by
    intro n n' inb w L hne
    refine View.read_writes_cons_miss_of_axis arg13.view G _ L (ix3 n i j) (0 : Fin 3) n'.val 1 rfl rfl rfl ?_
    show n.val < n'.val ∨ n'.val + 1 ≤ n.val
    have : n.val ≠ n'.val := fun e => hne (Fin.ext e)
    omega
  unfold Hand.mskL
  fin_cases n
  · exact (miss 0 6 _ _ _ (by decide)).trans ((miss 0 5 _ _ _ (by decide)).trans ((miss 0 4 _ _ _ (by decide)).trans ((miss 0 3 _ _ _ (by decide)).trans ((miss 0 2 _ _ _ (by decide)).trans ((miss 0 1 _ _ _ (by decide)).trans ((hit 0 _ _ _).trans (maskPay_0 i j)))))))
  · exact (miss 1 6 _ _ _ (by decide)).trans ((miss 1 5 _ _ _ (by decide)).trans ((miss 1 4 _ _ _ (by decide)).trans ((miss 1 3 _ _ _ (by decide)).trans ((miss 1 2 _ _ _ (by decide)).trans ((hit 1 _ _ _).trans (maskPay_1 i j))))))
  · exact (miss 2 6 _ _ _ (by decide)).trans ((miss 2 5 _ _ _ (by decide)).trans ((miss 2 4 _ _ _ (by decide)).trans ((miss 2 3 _ _ _ (by decide)).trans ((hit 2 _ _ _).trans (maskPay_2 i j)))))
  · exact (miss 3 6 _ _ _ (by decide)).trans ((miss 3 5 _ _ _ (by decide)).trans ((miss 3 4 _ _ _ (by decide)).trans ((hit 3 _ _ _).trans (maskPay_3 i j))))
  · exact (miss 4 6 _ _ _ (by decide)).trans ((miss 4 5 _ _ _ (by decide)).trans ((hit 4 _ _ _).trans (maskPay_4 i j)))
  · exact (miss 5 6 _ _ _ (by decide)).trans ((hit 5 _ _ _).trans (maskPay_5 i j))
  · exact (hit 6 _ _ _).trans (maskPay_6 i j)

/-- The levels' planes, read. -/
theorem sign_read (arg14 : Memref sig .tc .vmem S7x256x128 .f32) (X : BufTy.Contents (Elt Ideal) arg14.view.ty) (h : Hand.Sgn arg14 X) (n : Fin 7) (i : Fin 256) (j : Fin 128) :
    arg14.view.read (Elt Ideal) X (ix3 n i j) = SignAt n i := by
  obtain ⟨G, rfl⟩ := h
  have hit : ∀ (n : Fin 7) (inb) (w : S1x256x128.Idx → Elt Ideal .f32) (L : List (View.Piece (Elt Ideal) S7x256x128 .f32)),
      arg14.view.read (Elt Ideal) (arg14.view.writes (Elt Ideal) G ((⟨Rect.unit (s := S7x256x128) ![n.val, 0, 0] S1x256x128.size inb, w⟩ : View.Piece (Elt Ideal) S7x256x128 .f32) :: L)) (ix3 n i j) = w (ix3 0 i j) := by
    intro n inb w L
    refine View.read_writes_cons_hit_of_coords arg14.view G (Rect.unit (s := S7x256x128) ![n.val, 0, 0] S1x256x128.size inb) w L (ix3 0 i j) (ix3 n i j) (fun a => ?_)
    fin_cases a
    · show n.val = n.val + 1 * 0; omega
    · show i.val = 0 + 1 * i.val; omega
    · show j.val = 0 + 1 * j.val; omega
  have miss : ∀ (n n' : Fin 7) (inb) (w : S1x256x128.Idx → Elt Ideal .f32) (L : List (View.Piece (Elt Ideal) S7x256x128 .f32)), n ≠ n' →
      arg14.view.read (Elt Ideal) (arg14.view.writes (Elt Ideal) G ((⟨Rect.unit (s := S7x256x128) ![n'.val, 0, 0] S1x256x128.size inb, w⟩ : View.Piece (Elt Ideal) S7x256x128 .f32) :: L)) (ix3 n i j)
        = arg14.view.read (Elt Ideal) (arg14.view.writes (Elt Ideal) G L) (ix3 n i j) := by
    intro n n' inb w L hne
    refine View.read_writes_cons_miss_of_axis arg14.view G _ L (ix3 n i j) (0 : Fin 3) n'.val 1 rfl rfl rfl ?_
    show n.val < n'.val ∨ n'.val + 1 ≤ n.val
    have : n.val ≠ n'.val := fun e => hne (Fin.ext e)
    omega
  unfold Hand.sgnL
  fin_cases n
  · exact (miss 0 6 _ _ _ (by decide)).trans ((miss 0 5 _ _ _ (by decide)).trans ((miss 0 4 _ _ _ (by decide)).trans ((miss 0 3 _ _ _ (by decide)).trans ((miss 0 2 _ _ _ (by decide)).trans ((miss 0 1 _ _ _ (by decide)).trans ((hit 0 _ _ _).trans (signPay_0 i j)))))))
  · exact (miss 1 6 _ _ _ (by decide)).trans ((miss 1 5 _ _ _ (by decide)).trans ((miss 1 4 _ _ _ (by decide)).trans ((miss 1 3 _ _ _ (by decide)).trans ((miss 1 2 _ _ _ (by decide)).trans ((hit 1 _ _ _).trans (signPay_1 i j))))))
  · exact (miss 2 6 _ _ _ (by decide)).trans ((miss 2 5 _ _ _ (by decide)).trans ((miss 2 4 _ _ _ (by decide)).trans ((miss 2 3 _ _ _ (by decide)).trans ((hit 2 _ _ _).trans (signPay_2 i j)))))
  · exact (miss 3 6 _ _ _ (by decide)).trans ((miss 3 5 _ _ _ (by decide)).trans ((miss 3 4 _ _ _ (by decide)).trans ((hit 3 _ _ _).trans (signPay_3 i j))))
  · exact (miss 4 6 _ _ _ (by decide)).trans ((miss 4 5 _ _ _ (by decide)).trans ((hit 4 _ _ _).trans (signPay_4 i j)))
  · exact (miss 5 6 _ _ _ (by decide)).trans ((hit 5 _ _ _).trans (signPay_5 i j))
  · exact (hit 6 _ _ _).trans (signPay_6 i j)

end Cert.HgrnIdeal.Head

end
-- ==== Proof.HgrnTrip.lean ====
module

public import proofs.«01_k».proof.Proof.HgrnHead0
public import proofs.«01_k».proof.Proof.HgrnHead1
public import proofs.«01_k».proof.Proof.HgrnHead2
public import proofs.«01_k».proof.Proof.HgrnHead3
public import proofs.«01_k».proof.Proof.HgrnSetup

@[expose] public section

set_option maxRecDepth 16384

/-! One trip of the loop over chunks: what it stores into the result and into the state, read element by element. -/

noncomputable section

namespace Cert.HgrnIdeal.Head

open Cert.HgrnIdeal Cert.HgrnIdeal.Gen Cert.HgrnIdeal.Gen.trip_k0_t1.sl
open Idealize.ShloMosaic Idealize.ShloMosaic.TcCoe Idealize.SL.Sem

variable (arg3 : Memref sig .tc .vmem S1x2048x512 .bf16) (harg3 : arg3.IsWhole) (arg4 : Memref sig .tc .vmem S1x2048x512 .bf16) (harg4 : arg4.IsWhole) (arg5 : Memref sig .tc .vmem S1x2048x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x2048x512 .bf16) (harg9 : arg9.IsWhole) (arg10 : Memref sig .tc .vmem S4x128x128 .f32) (harg10 : arg10.IsWhole) (arg11 : Memref sig .tc .vmem S4x256x128 .f32) (harg11 : arg11.IsWhole) (arg12 : Memref sig .tc .vmem S256x256 .bf16) (harg12 : arg12.IsWhole) (arg13 : Memref sig .tc .vmem S7x128x128 .f32) (harg13 : arg13.IsWhole) (arg14 : Memref sig .tc .vmem S7x256x128 .f32) (harg14 : arg14.IsWhole)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty)
  (k : Fin k0_t1_loop.trips) (f9 : BufTy.Contents (Elt Ideal) arg9.view.ty) (f10 : BufTy.Contents (Elt Ideal) arg10.view.ty) (f11 : BufTy.Contents (Elt Ideal) arg11.view.ty)

/-- What a trip stores into the result. -/
theorem trip_out (c : Dev nD) (i : grid0.Coords) : ((trip_k0_t1 (F := Ideal) Variants.none c none i arg3 harg3 arg4 harg4 arg5 harg5 arg6 harg6 arg7 harg7 arg8 harg8 arg9 harg9 arg10 harg10 arg11 harg11 arg12 harg12 arg13 harg13 arg14 harg14 ii X3 X4 X5 X6 X7 X8 X12 X13 X14 k).1 f9 f10 f11)
    = [⟨Rect.unit (s := S1x2048x512) (k0_off4 k) S1x256x128.size (k0_off4_inb k), fin (v2638 arg3 arg4 arg5 arg6 arg10 arg11 arg12 arg13 arg14 ii X3 X4 X5 X6 X12 X13 X14 k f10) (View.readAt (Elt Ideal) arg8.view (Rect.unit (s := S1x1x512) ![0, 0, 384] S1x1x128.size inb_S1x1x512_S1x1x128_0_0_384).toLoadRect X8) (View.readAt (Elt Ideal) arg7.view (Rect.unit (s := S1x2048x512) (k0_off4 k) S1x256x128.size (k0_off4_inb k)).toLoadRect X7)⟩, ⟨Rect.unit (s := S1x2048x512) (k0_off3 k) S1x256x128.size (k0_off3_inb k), fin (v2595 arg3 arg4 arg5 arg6 arg10 arg11 arg12 arg13 arg14 ii X3 X4 X5 X6 X12 X13 X14 k f10) (View.readAt (Elt Ideal) arg8.view (Rect.unit (s := S1x1x512) ![0, 0, 256] S1x1x128.size inb_S1x1x512_S1x1x128_0_0_256).toLoadRect X8) (View.readAt (Elt Ideal) arg7.view (Rect.unit (s := S1x2048x512) (k0_off3 k) S1x256x128.size (k0_off3_inb k)).toLoadRect X7)⟩, ⟨Rect.unit (s := S1x2048x512) (k0_off2 k) S1x256x128.size (k0_off2_inb k), fin (v2552 arg3 arg4 arg5 arg6 arg10 arg11 arg12 arg13 arg14 ii X3 X4 X5 X6 X12 X13 X14 k f10) (View.readAt (Elt Ideal) arg8.view (Rect.unit (s := S1x1x512) ![0, 0, 128] S1x1x128.size inb_S1x1x512_S1x1x128_0_0_128).toLoadRect X8) (View.readAt (Elt Ideal) arg7.view (Rect.unit (s := S1x2048x512) (k0_off2 k) S1x256x128.size (k0_off2_inb k)).toLoadRect X7)⟩, ⟨Rect.unit (s := S1x2048x512) (k0_off1 k) S1x256x128.size (k0_off1_inb k), fin (v2509 arg3 arg4 arg5 arg6 arg10 arg11 arg12 arg13 arg14 ii X3 X4 X5 X6 X12 X13 X14 k f10) (View.readAt (Elt Ideal) arg8.view (Rect.unit (s := S1x1x512) ![0, 0, 0] S1x1x128.size inb_S1x1x512_S1x1x128_0_0_0).toLoadRect X8) (View.readAt (Elt Ideal) arg7.view (Rect.unit (s := S1x2048x512) (k0_off1 k) S1x256x128.size (k0_off1_inb k)).toLoadRect X7)⟩] := by
  unfold trip_k0_t1
  rfl

/-- What a trip stores into the state. -/
theorem trip_state (c : Dev nD) (i : grid0.Coords) : ((trip_k0_t1 (F := Ideal) Variants.none c none i arg3 harg3 arg4 harg4 arg5 harg5 arg6 harg6 arg7 harg7 arg8 harg8 arg9 harg9 arg10 harg10 arg11 harg11 arg12 harg12 arg13 harg13 arg14 harg14 ii X3 X4 X5 X6 X7 X8 X12 X13 X14 k).2.1 f9 f10 f11)
    = [⟨Rect.unit (s := S4x128x128) ![3, 0, 0] S1x128x128.size inb_S4x128x128_S1x128x128_3_0_0, shapeCast S1x128x128 (v2652 arg4 arg5 arg6 arg10 arg11 arg12 X4 X5 X6 X12 k f10) shapeCasts_S128x128_S1x128x128⟩, ⟨Rect.unit (s := S4x128x128) ![2, 0, 0] S1x128x128.size inb_S4x128x128_S1x128x128_2_0_0, shapeCast S1x128x128 (v2609 arg4 arg5 arg6 arg10 arg11 arg12 X4 X5 X6 X12 k f10) shapeCasts_S128x128_S1x128x128⟩, ⟨Rect.unit (s := S4x128x128) ![1, 0, 0] S1x128x128.size inb_S4x128x128_S1x128x128_1_0_0, shapeCast S1x128x128 (v2566 arg4 arg5 arg6 arg10 arg11 arg12 X4 X5 X6 X12 k f10) shapeCasts_S128x128_S1x128x128⟩, ⟨Rect.unit (s := S4x128x128) ![0, 0, 0] S1x128x128.size inb_S4x128x128_S1x128x128_0_0_0, shapeCast S1x128x128 (v2523 arg4 arg5 arg6 arg10 arg11 arg12 X4 X5 X6 X12 k f10) shapeCasts_S128x128_S1x128x128⟩] := by
  unfold trip_k0_t1
  rfl

/-- Four planes stored into the state, read. -/
theorem read_planes (w : Fin 4 → FVec Ideal S128x128 .f32) (h : Fin 4) (e d : Fin 128) :
    arg10.view.read (Elt Ideal) (arg10.view.writes (Elt Ideal) f10 [⟨Rect.unit (s := S4x128x128) ![3, 0, 0] S1x128x128.size inb_S4x128x128_S1x128x128_3_0_0, shapeCast S1x128x128 (w 3) shapeCasts_S128x128_S1x128x128⟩, ⟨Rect.unit (s := S4x128x128) ![2, 0, 0] S1x128x128.size inb_S4x128x128_S1x128x128_2_0_0, shapeCast S1x128x128 (w 2) shapeCasts_S128x128_S1x128x128⟩, ⟨Rect.unit (s := S4x128x128) ![1, 0, 0] S1x128x128.size inb_S4x128x128_S1x128x128_1_0_0, shapeCast S1x128x128 (w 1) shapeCasts_S128x128_S1x128x128⟩, ⟨Rect.unit (s := S4x128x128) ![0, 0, 0] S1x128x128.size inb_S4x128x128_S1x128x128_0_0_0, shapeCast S1x128x128 (w 0) shapeCasts_S128x128_S1x128x128⟩]) (ix3 h e d) = w h (ix2 e d) := by
  have hit : ∀ (h : Fin 4) (inb) (w : FVec Ideal S128x128 .f32) (L : List (View.Piece (Elt Ideal) S4x128x128 .f32)),
      arg10.view.read (Elt Ideal) (arg10.view.writes (Elt Ideal) f10 ((⟨Rect.unit (s := S4x128x128) ![h.val, 0, 0] S1x128x128.size inb, shapeCast S1x128x128 w shapeCasts_S128x128_S1x128x128⟩ : View.Piece (Elt Ideal) S4x128x128 .f32) :: L)) (ix3 h e d) = w (ix2 e d) := by
    intro h inb w L
    refine (View.read_writes_cons_hit_of_coords arg10.view f10 (Rect.unit (s := S4x128x128) ![h.val, 0, 0] S1x128x128.size inb) _ L (ix3 0 e d) (ix3 h e d) (fun a => ?_)).trans ?_
    · fin_cases a
      · show h.val = h.val + 1 * 0; omega
      · show e.val = 0 + 1 * e.val; omega
      · show d.val = 0 + 1 * d.val; omega
    · pointwise []
  have miss : ∀ (h h' : Fin 4) (inb) (w : S1x128x128.Idx → Elt Ideal .f32) (L : List (View.Piece (Elt Ideal) S4x128x128 .f32)), h ≠ h' →
      arg10.view.read (Elt Ideal) (arg10.view.writes (Elt Ideal) f10 ((⟨Rect.unit (s := S4x128x128) ![h'.val, 0, 0] S1x128x128.size inb, w⟩ : View.Piece (Elt Ideal) S4x128x128 .f32) :: L)) (ix3 h e d)
        = arg10.view.read (Elt Ideal) (arg10.view.writes (Elt Ideal) f10 L) (ix3 h e d) := by
    intro h h' inb w L hne
    refine View.read_writes_cons_miss_of_axis arg10.view f10 _ L (ix3 h e d) (0 : Fin 3) h'.val 1 rfl rfl rfl ?_
    show h.val < h'.val ∨ h'.val + 1 ≤ h.val
    have : h.val ≠ h'.val := fun e => hne (Fin.ext e)
    omega
  fin_cases h
  · exact (miss 0 3 _ _ _ (by decide)).trans ((miss 0 2 _ _ _ (by decide)).trans ((miss 0 1 _ _ _ (by decide)).trans ((hit 0 _ _ _))))
  · exact (miss 1 3 _ _ _ (by decide)).trans ((miss 1 2 _ _ _ (by decide)).trans ((hit 1 _ _ _)))
  · exact (miss 2 3 _ _ _ (by decide)).trans ((hit 2 _ _ _))
  · exact (hit 3 _ _ _)

/-- Four columns of one chunk stored into the result, read inside the chunk. -/
theorem read_cols (w : Fin 4 → FVec Ideal S1x256x128 .bf16) (h : Fin 4) (t : Fin 256) (e : Fin 128) :
    arg9.view.read (Elt Ideal) (arg9.view.writes (Elt Ideal) f9 [⟨Rect.unit (s := S1x2048x512) (k0_off4 k) S1x256x128.size (k0_off4_inb k), w 3⟩, ⟨Rect.unit (s := S1x2048x512) (k0_off3 k) S1x256x128.size (k0_off3_inb k), w 2⟩, ⟨Rect.unit (s := S1x2048x512) (k0_off2 k) S1x256x128.size (k0_off2_inb k), w 1⟩, ⟨Rect.unit (s := S1x2048x512) (k0_off1 k) S1x256x128.size (k0_off1_inb k), w 0⟩]) (ix3 0 (row k t) (col h e)) = w h (ix3 0 t e) := by
  have hit : ∀ (h : Fin 4) (off : Fin 3 → ℕ) (ho : off = ![0, 256 * k.val, 128 * h.val]) (inb) (w : FVec Ideal S1x256x128 .bf16) (L : List (View.Piece (Elt Ideal) S1x2048x512 .bf16)),
      arg9.view.read (Elt Ideal) (arg9.view.writes (Elt Ideal) f9 ((⟨Rect.unit (s := S1x2048x512) off S1x256x128.size inb, w⟩ : View.Piece (Elt Ideal) S1x2048x512 .bf16) :: L)) (ix3 0 (row k t) (col h e)) = w (ix3 0 t e) := by
    intro h off ho inb w L
    subst ho
    refine View.read_writes_cons_hit_of_coords arg9.view f9 (Rect.unit (s := S1x2048x512) ![0, 256 * k.val, 128 * h.val] S1x256x128.size inb) w L (ix3 0 t e) (ix3 0 (row k t) (col h e)) (fun a => ?_)
    fin_cases a
    · show 0 = 0 + 1 * 0; omega
    · show 256 * k.val + t.val = 256 * k.val + 1 * t.val; omega
    · show 128 * h.val + e.val = 128 * h.val + 1 * e.val; omega
  have miss : ∀ (h h' : Fin 4) (off : Fin 3 → ℕ) (ho : off = ![0, 256 * k.val, 128 * h'.val]) (inb) (w : FVec Ideal S1x256x128 .bf16) (L : List (View.Piece (Elt Ideal) S1x2048x512 .bf16)), h ≠ h' →
      arg9.view.read (Elt Ideal) (arg9.view.writes (Elt Ideal) f9 ((⟨Rect.unit (s := S1x2048x512) off S1x256x128.size inb, w⟩ : View.Piece (Elt Ideal) S1x2048x512 .bf16) :: L)) (ix3 0 (row k t) (col h e))
        = arg9.view.read (Elt Ideal) (arg9.view.writes (Elt Ideal) f9 L) (ix3 0 (row k t) (col h e)) := by
    intro h h' off ho inb w L hne
    subst ho
    refine View.read_writes_cons_miss_of_axis arg9.view f9 _ L (ix3 0 (row k t) (col h e)) (2 : Fin 3) (128 * h'.val) 128 rfl rfl rfl ?_
    show 128 * h.val + e.val < 128 * h'.val ∨ 128 * h'.val + 128 ≤ 128 * h.val + e.val
    have : h.val ≠ h'.val := fun e => hne (Fin.ext e)
    omega
  fin_cases h
  · exact (miss 0 3 _ (off_3 k) _ _ _ (by decide)).trans ((miss 0 2 _ (off_2 k) _ _ _ (by decide)).trans ((miss 0 1 _ (off_1 k) _ _ _ (by decide)).trans ((hit 0 _ (off_0 k) _ _ _))))
  · exact (miss 1 3 _ (off_3 k) _ _ _ (by decide)).trans ((miss 1 2 _ (off_2 k) _ _ _ (by decide)).trans ((hit 1 _ (off_1 k) _ _ _)))
  · exact (miss 2 3 _ (off_3 k) _ _ _ (by decide)).trans ((hit 2 _ (off_2 k) _ _ _))
  · exact (hit 3 _ (off_3 k) _ _ _)

/-- Four columns of one chunk stored into the result, read outside the chunk. -/
theorem read_rest (w : Fin 4 → FVec Ideal S1x256x128 .bf16) (r : Fin 2048) (x : Fin 512) (hr : r.val < 256 * k.val ∨ 256 * k.val + 256 ≤ r.val) :
    arg9.view.read (Elt Ideal) (arg9.view.writes (Elt Ideal) f9 [⟨Rect.unit (s := S1x2048x512) (k0_off4 k) S1x256x128.size (k0_off4_inb k), w 3⟩, ⟨Rect.unit (s := S1x2048x512) (k0_off3 k) S1x256x128.size (k0_off3_inb k), w 2⟩, ⟨Rect.unit (s := S1x2048x512) (k0_off2 k) S1x256x128.size (k0_off2_inb k), w 1⟩, ⟨Rect.unit (s := S1x2048x512) (k0_off1 k) S1x256x128.size (k0_off1_inb k), w 0⟩]) (ix3 0 r x) = arg9.view.read (Elt Ideal) f9 (ix3 0 r x) := by
  have miss : ∀ (h' : Fin 4) (off : Fin 3 → ℕ) (ho : off = ![0, 256 * k.val, 128 * h'.val]) (inb) (w : FVec Ideal S1x256x128 .bf16) (L : List (View.Piece (Elt Ideal) S1x2048x512 .bf16)),
      arg9.view.read (Elt Ideal) (arg9.view.writes (Elt Ideal) f9 ((⟨Rect.unit (s := S1x2048x512) off S1x256x128.size inb, w⟩ : View.Piece (Elt Ideal) S1x2048x512 .bf16) :: L)) (ix3 0 r x)
        = arg9.view.read (Elt Ideal) (arg9.view.writes (Elt Ideal) f9 L) (ix3 0 r x) := by
    intro h' off ho inb w L
    subst ho
    exact View.read_writes_cons_miss_of_axis arg9.view f9 _ L (ix3 0 r x) (1 : Fin 3) (256 * k.val) 256 rfl rfl rfl hr
  exact (miss 3 _ (off_3 k) _ _ _).trans ((miss 2 _ (off_2 k) _ _ _).trans ((miss 1 _ (off_1 k) _ _ _).trans (miss 0 _ (off_0 k) _ _ _)))

/-- A head's part of a block's chunk. -/
def part (B : Fin 2048 → Fin 512 → ℝ) (k : Fin k0_t1_loop.trips) (h : Fin 4) (t : Fin 256) (x : Fin 128) : ℝ := B (row k t) (col h x)

variable (Qb Kb Gb Vb : Fin 2048 → Fin 512 → ℝ) (S : Fin 4 → Fin 128 → Fin 128 → ℝ)
  (h3 : ∀ r x, arg3.view.read (Elt Ideal) X3 (ix3 0 r x) = ((Qb r x : ℝ) : EReal)) (h4 : ∀ r x, arg4.view.read (Elt Ideal) X4 (ix3 0 r x) = ((Kb r x : ℝ) : EReal))
  (h5 : ∀ r x, arg5.view.read (Elt Ideal) X5 (ix3 0 r x) = ((Gb r x : ℝ) : EReal)) (h6 : ∀ r x, arg6.view.read (Elt Ideal) X6 (ix3 0 r x) = ((Vb r x : ℝ) : EReal))
  (h10 : ∀ h e d, arg10.view.read (Elt Ideal) f10 (ix3 h e d) = ((S h e d : ℝ) : EReal))
  (h12 : Hand.Cum arg12 X12) (h13 : Hand.Msk arg13 X13) (h14 : Hand.Sgn arg14 X14)

/-- A head's outputs of a chunk before the norm. -/
def oR (k : Fin k0_t1_loop.trips) (h : Fin 4) (t : Fin 256) (e : Fin 128) : ℝ :=
  outR (part Qb k h) (part Kb k h) (cumR (part Gb k h)) (part Vb k h) (S h) t e
/-- A head's state after a chunk. -/
def sR (k : Fin k0_t1_loop.trips) (h : Fin 4) (e d : Fin 128) : ℝ :=
  stR (part Kb k h) (cumR (part Gb k h)) (part Vb k h) (S h) e d

include h3 h4 h5 h6 h10 h12 h13 h14 in
theorem oR_0 (t : Fin 256) (e : Fin 128) : (v2509 arg3 arg4 arg5 arg6 arg10 arg11 arg12 arg13 arg14 ii X3 X4 X5 X6 X12 X13 X14 k f10) (ix2 t e) = (oR Qb Kb Gb Vb S k 0 t e : EReal) :=
  out_0 arg3 arg4 arg5 arg6 arg10 arg11 arg12 arg13 arg14 X3 X4 X5 X6 f10 X12 X13 X14 k (part Qb k 0) (part Kb k 0) (cumR (part Gb k 0)) (part Vb k 0) (S 0) (fun t x => (q_0 arg3 X3 k t x).trans (h3 _ _)) (fun t x => (k_0 arg4 X4 k t x).trans (h4 _ _)) (b_0 arg5 arg12 X5 X12 k (part Gb k 0) (fun t x => h5 _ _) (cum_read arg12 X12 h12)) (mask_read arg13 X13 h13) (sign_read arg14 X14 h14) (fun t x => (v_0 arg6 X6 k t x).trans (h6 _ _)) (fun e x => (s_0 arg10 f10 e x).trans (h10 0 e x)) t e

include h4 h5 h6 h10 h12 in
theorem sR_0 (e d : Fin 128) : (v2523 arg4 arg5 arg6 arg10 arg11 arg12 X4 X5 X6 X12 k f10) (ix2 e d) = (sR Kb Gb Vb S k 0 e d : EReal) :=
  state_0 arg4 arg5 arg6 arg10 arg11 arg12 X4 X5 X6 f10 X12 k (part Kb k 0) (cumR (part Gb k 0)) (part Vb k 0) (S 0) (fun t x => (k_0 arg4 X4 k t x).trans (h4 _ _)) (b_0 arg5 arg12 X5 X12 k (part Gb k 0) (fun t x => h5 _ _) (cum_read arg12 X12 h12)) (fun t x => (v_0 arg6 X6 k t x).trans (h6 _ _)) (fun e x => (s_0 arg10 f10 e x).trans (h10 0 e x)) e d

include h3 h4 h5 h6 h10 h12 h13 h14 in
theorem oR_1 (t : Fin 256) (e : Fin 128) : (v2552 arg3 arg4 arg5 arg6 arg10 arg11 arg12 arg13 arg14 ii X3 X4 X5 X6 X12 X13 X14 k f10) (ix2 t e) = (oR Qb Kb Gb Vb S k 1 t e : EReal) :=
  out_1 arg3 arg4 arg5 arg6 arg10 arg11 arg12 arg13 arg14 X3 X4 X5 X6 f10 X12 X13 X14 k (part Qb k 1) (part Kb k 1) (cumR (part Gb k 1)) (part Vb k 1) (S 1) (fun t x => (q_1 arg3 X3 k t x).trans (h3 _ _)) (fun t x => (k_1 arg4 X4 k t x).trans (h4 _ _)) (b_1 arg5 arg12 X5 X12 k (part Gb k 1) (fun t x => h5 _ _) (cum_read arg12 X12 h12)) (mask_read arg13 X13 h13) (sign_read arg14 X14 h14) (fun t x => (v_1 arg6 X6 k t x).trans (h6 _ _)) (fun e x => (s_1 arg10 f10 e x).trans (h10 1 e x)) t e

include h4 h5 h6 h10 h12 in
theorem sR_1 (e d : Fin 128) : (v2566 arg4 arg5 arg6 arg10 arg11 arg12 X4 X5 X6 X12 k f10) (ix2 e d) = (sR Kb Gb Vb S k 1 e d : EReal) :=
  state_1 arg4 arg5 arg6 arg10 arg11 arg12 X4 X5 X6 f10 X12 k (part Kb k 1) (cumR (part Gb k 1)) (part Vb k 1) (S 1) (fun t x => (k_1 arg4 X4 k t x).trans (h4 _ _)) (b_1 arg5 arg12 X5 X12 k (part Gb k 1) (fun t x => h5 _ _) (cum_read arg12 X12 h12)) (fun t x => (v_1 arg6 X6 k t x).trans (h6 _ _)) (fun e x => (s_1 arg10 f10 e x).trans (h10 1 e x)) e d

include h3 h4 h5 h6 h10 h12 h13 h14 in
theorem oR_2 (t : Fin 256) (e : Fin 128) : (v2595 arg3 arg4 arg5 arg6 arg10 arg11 arg12 arg13 arg14 ii X3 X4 X5 X6 X12 X13 X14 k f10) (ix2 t e) = (oR Qb Kb Gb Vb S k 2 t e : EReal) :=
  out_2 arg3 arg4 arg5 arg6 arg10 arg11 arg12 arg13 arg14 X3 X4 X5 X6 f10 X12 X13 X14 k (part Qb k 2) (part Kb k 2) (cumR (part Gb k 2)) (part Vb k 2) (S 2) (fun t x => (q_2 arg3 X3 k t x).trans (h3 _ _)) (fun t x => (k_2 arg4 X4 k t x).trans (h4 _ _)) (b_2 arg5 arg12 X5 X12 k (part Gb k 2) (fun t x => h5 _ _) (cum_read arg12 X12 h12)) (mask_read arg13 X13 h13) (sign_read arg14 X14 h14) (fun t x => (v_2 arg6 X6 k t x).trans (h6 _ _)) (fun e x => (s_2 arg10 f10 e x).trans (h10 2 e x)) t e

include h4 h5 h6 h10 h12 in
theorem sR_2 (e d : Fin 128) : (v2609 arg4 arg5 arg6 arg10 arg11 arg12 X4 X5 X6 X12 k f10) (ix2 e d) = (sR Kb Gb Vb S k 2 e d : EReal) :=
  state_2 arg4 arg5 arg6 arg10 arg11 arg12 X4 X5 X6 f10 X12 k (part Kb k 2) (cumR (part Gb k 2)) (part Vb k 2) (S 2) (fun t x => (k_2 arg4 X4 k t x).trans (h4 _ _)) (b_2 arg5 arg12 X5 X12 k (part Gb k 2) (fun t x => h5 _ _) (cum_read arg12 X12 h12)) (fun t x => (v_2 arg6 X6 k t x).trans (h6 _ _)) (fun e x => (s_2 arg10 f10 e x).trans (h10 2 e x)) e d

include h3 h4 h5 h6 h10 h12 h13 h14 in
theorem oR_3 (t : Fin 256) (e : Fin 128) : (v2638 arg3 arg4 arg5 arg6 arg10 arg11 arg12 arg13 arg14 ii X3 X4 X5 X6 X12 X13 X14 k f10) (ix2 t e) = (oR Qb Kb Gb Vb S k 3 t e : EReal) :=
  out_3 arg3 arg4 arg5 arg6 arg10 arg11 arg12 arg13 arg14 X3 X4 X5 X6 f10 X12 X13 X14 k (part Qb k 3) (part Kb k 3) (cumR (part Gb k 3)) (part Vb k 3) (S 3) (fun t x => (q_3 arg3 X3 k t x).trans (h3 _ _)) (fun t x => (k_3 arg4 X4 k t x).trans (h4 _ _)) (b_3 arg5 arg12 X5 X12 k (part Gb k 3) (fun t x => h5 _ _) (cum_read arg12 X12 h12)) (mask_read arg13 X13 h13) (sign_read arg14 X14 h14) (fun t x => (v_3 arg6 X6 k t x).trans (h6 _ _)) (fun e x => (s_3 arg10 f10 e x).trans (h10 3 e x)) t e

include h4 h5 h6 h10 h12 in
theorem sR_3 (e d : Fin 128) : (v2652 arg4 arg5 arg6 arg10 arg11 arg12 X4 X5 X6 X12 k f10) (ix2 e d) = (sR Kb Gb Vb S k 3 e d : EReal) :=
  state_3 arg4 arg5 arg6 arg10 arg11 arg12 X4 X5 X6 f10 X12 k (part Kb k 3) (cumR (part Gb k 3)) (part Vb k 3) (S 3) (fun t x => (k_3 arg4 X4 k t x).trans (h4 _ _)) (b_3 arg5 arg12 X5 X12 k (part Gb k 3) (fun t x => h5 _ _) (cum_read arg12 X12 h12)) (fun t x => (v_3 arg6 X6 k t x).trans (h6 _ _)) (fun e x => (s_3 arg10 f10 e x).trans (h10 3 e x)) e d

include h4 h5 h6 h10 h12 in
/-- The state after a trip. -/
theorem after_state (c : Dev nD) (i : grid0.Coords) (h : Fin 4) (e d : Fin 128) :
    arg10.view.read (Elt Ideal) (arg10.view.writes (Elt Ideal) f10 ((trip_k0_t1 (F := Ideal) Variants.none c none i arg3 harg3 arg4 harg4 arg5 harg5 arg6 harg6 arg7 harg7 arg8 harg8 arg9 harg9 arg10 harg10 arg11 harg11 arg12 harg12 arg13 harg13 arg14 harg14 ii X3 X4 X5 X6 X7 X8 X12 X13 X14 k).2.1 f9 f10 f11)) (ix3 h e d) = (sR Kb Gb Vb S k h e d : EReal) := by
  rw [trip_state]
  refine (read_planes arg10 f10 ![(v2523 arg4 arg5 arg6 arg10 arg11 arg12 X4 X5 X6 X12 k f10), (v2566 arg4 arg5 arg6 arg10 arg11 arg12 X4 X5 X6 X12 k f10), (v2609 arg4 arg5 arg6 arg10 arg11 arg12 X4 X5 X6 X12 k f10), (v2652 arg4 arg5 arg6 arg10 arg11 arg12 X4 X5 X6 X12 k f10)] h e d).trans ?_
  fin_cases h
  · exact sR_0 arg4 arg5 arg6 arg10 arg11 arg12 X4 X5 X6 X12 k f10 Kb Gb Vb S h4 h5 h6 h10 h12 e d
  · exact sR_1 arg4 arg5 arg6 arg10 arg11 arg12 X4 X5 X6 X12 k f10 Kb Gb Vb S h4 h5 h6 h10 h12 e d
  · exact sR_2 arg4 arg5 arg6 arg10 arg11 arg12 X4 X5 X6 X12 k f10 Kb Gb Vb S h4 h5 h6 h10 h12 e d
  · exact sR_3 arg4 arg5 arg6 arg10 arg11 arg12 X4 X5 X6 X12 k f10 Kb Gb Vb S h4 h5 h6 h10 h12 e d

include h3 h4 h5 h6 h10 h12 h13 h14 in
/-- The result after a trip, inside its chunk. -/
theorem after_in (c : Dev nD) (i : grid0.Coords) (h : Fin 4) (t : Fin 256) (e : Fin 128) :
    arg9.view.read (Elt Ideal) (arg9.view.writes (Elt Ideal) f9 ((trip_k0_t1 (F := Ideal) Variants.none c none i arg3 harg3 arg4 harg4 arg5 harg5 arg6 harg6 arg7 harg7 arg8 harg8 arg9 harg9 arg10 harg10 arg11 harg11 arg12 harg12 arg13 harg13 arg14 harg14 ii X3 X4 X5 X6 X7 X8 X12 X13 X14 k).1 f9 f10 f11)) (ix3 0 (row k t) (col h e))
      = finE (fun x => (oR Qb Kb Gb Vb S k h t x : EReal)) (arg8.view.read (Elt Ideal) X8 (ix3 0 0 (col h e))) (arg7.view.read (Elt Ideal) X7 (ix3 0 (row k t) (col h e))) e := by
  rw [trip_out]
  refine (read_cols arg9 k f9 ![fin (v2509 arg3 arg4 arg5 arg6 arg10 arg11 arg12 arg13 arg14 ii X3 X4 X5 X6 X12 X13 X14 k f10) (View.readAt (Elt Ideal) arg8.view (Rect.unit (s := S1x1x512) ![0, 0, 0] S1x1x128.size inb_S1x1x512_S1x1x128_0_0_0).toLoadRect X8) (View.readAt (Elt Ideal) arg7.view (Rect.unit (s := S1x2048x512) (k0_off1 k) S1x256x128.size (k0_off1_inb k)).toLoadRect X7), fin (v2552 arg3 arg4 arg5 arg6 arg10 arg11 arg12 arg13 arg14 ii X3 X4 X5 X6 X12 X13 X14 k f10) (View.readAt (Elt Ideal) arg8.view (Rect.unit (s := S1x1x512) ![0, 0, 128] S1x1x128.size inb_S1x1x512_S1x1x128_0_0_128).toLoadRect X8) (View.readAt (Elt Ideal) arg7.view (Rect.unit (s := S1x2048x512) (k0_off2 k) S1x256x128.size (k0_off2_inb k)).toLoadRect X7), fin (v2595 arg3 arg4 arg5 arg6 arg10 arg11 arg12 arg13 arg14 ii X3 X4 X5 X6 X12 X13 X14 k f10) (View.readAt (Elt Ideal) arg8.view (Rect.unit (s := S1x1x512) ![0, 0, 256] S1x1x128.size inb_S1x1x512_S1x1x128_0_0_256).toLoadRect X8) (View.readAt (Elt Ideal) arg7.view (Rect.unit (s := S1x2048x512) (k0_off3 k) S1x256x128.size (k0_off3_inb k)).toLoadRect X7), fin (v2638 arg3 arg4 arg5 arg6 arg10 arg11 arg12 arg13 arg14 ii X3 X4 X5 X6 X12 X13 X14 k f10) (View.readAt (Elt Ideal) arg8.view (Rect.unit (s := S1x1x512) ![0, 0, 384] S1x1x128.size inb_S1x1x512_S1x1x128_0_0_384).toLoadRect X8) (View.readAt (Elt Ideal) arg7.view (Rect.unit (s := S1x2048x512) (k0_off4 k) S1x256x128.size (k0_off4_inb k)).toLoadRect X7)] h t e).trans ?_
  fin_cases h
  · refine (fin_at (v2509 arg3 arg4 arg5 arg6 arg10 arg11 arg12 arg13 arg14 ii X3 X4 X5 X6 X12 X13 X14 k f10) (View.readAt (Elt Ideal) arg8.view (Rect.unit (s := S1x1x512) ![0, 0, 0] S1x1x128.size inb_S1x1x512_S1x1x128_0_0_0).toLoadRect X8) (View.readAt (Elt Ideal) arg7.view (Rect.unit (s := S1x2048x512) (k0_off1 k) S1x256x128.size (k0_off1_inb k)).toLoadRect X7) t e).trans ?_
    rw [show (View.readAt (Elt Ideal) arg8.view (Rect.unit (s := S1x1x512) ![0, 0, 0] S1x1x128.size inb_S1x1x512_S1x1x128_0_0_0).toLoadRect X8) (ix3 0 0 e) = arg8.view.read (Elt Ideal) X8 (ix3 0 0 (col 0 e)) from (View.readAt_apply _ _ _).trans (congrArg _ (gn_idx 0 _ rfl _ e)),
      show (View.readAt (Elt Ideal) arg7.view (Rect.unit (s := S1x2048x512) (k0_off1 k) S1x256x128.size (k0_off1_inb k)).toLoadRect X7) (ix3 0 t e) = arg7.view.read (Elt Ideal) X7 (ix3 0 (row k t) (col 0 e)) from (View.readAt_apply _ _ _).trans (congrArg _ (blk_idx 0 k _ (off_0 k) _ t e)),
      show (fun x => (v2509 arg3 arg4 arg5 arg6 arg10 arg11 arg12 arg13 arg14 ii X3 X4 X5 X6 X12 X13 X14 k f10) (ix2 t x)) = fun x => (oR Qb Kb Gb Vb S k 0 t x : EReal) from funext fun x => oR_0 arg3 arg4 arg5 arg6 arg10 arg11 arg12 arg13 arg14 X3 X4 X5 X6 X12 X13 X14 k f10 Qb Kb Gb Vb S h3 h4 h5 h6 h10 h12 h13 h14 t x]
    rfl
  · refine (fin_at (v2552 arg3 arg4 arg5 arg6 arg10 arg11 arg12 arg13 arg14 ii X3 X4 X5 X6 X12 X13 X14 k f10) (View.readAt (Elt Ideal) arg8.view (Rect.unit (s := S1x1x512) ![0, 0, 128] S1x1x128.size inb_S1x1x512_S1x1x128_0_0_128).toLoadRect X8) (View.readAt (Elt Ideal) arg7.view (Rect.unit (s := S1x2048x512) (k0_off2 k) S1x256x128.size (k0_off2_inb k)).toLoadRect X7) t e).trans ?_
    rw [show (View.readAt (Elt Ideal) arg8.view (Rect.unit (s := S1x1x512) ![0, 0, 128] S1x1x128.size inb_S1x1x512_S1x1x128_0_0_128).toLoadRect X8) (ix3 0 0 e) = arg8.view.read (Elt Ideal) X8 (ix3 0 0 (col 1 e)) from (View.readAt_apply _ _ _).trans (congrArg _ (gn_idx 1 _ rfl _ e)),
      show (View.readAt (Elt Ideal) arg7.view (Rect.unit (s := S1x2048x512) (k0_off2 k) S1x256x128.size (k0_off2_inb k)).toLoadRect X7) (ix3 0 t e) = arg7.view.read (Elt Ideal) X7 (ix3 0 (row k t) (col 1 e)) from (View.readAt_apply _ _ _).trans (congrArg _ (blk_idx 1 k _ (off_1 k) _ t e)),
      show (fun x => (v2552 arg3 arg4 arg5 arg6 arg10 arg11 arg12 arg13 arg14 ii X3 X4 X5 X6 X12 X13 X14 k f10) (ix2 t x)) = fun x => (oR Qb Kb Gb Vb S k 1 t x : EReal) from funext fun x => oR_1 arg3 arg4 arg5 arg6 arg10 arg11 arg12 arg13 arg14 X3 X4 X5 X6 X12 X13 X14 k f10 Qb Kb Gb Vb S h3 h4 h5 h6 h10 h12 h13 h14 t x]
    rfl
  · refine (fin_at (v2595 arg3 arg4 arg5 arg6 arg10 arg11 arg12 arg13 arg14 ii X3 X4 X5 X6 X12 X13 X14 k f10) (View.readAt (Elt Ideal) arg8.view (Rect.unit (s := S1x1x512) ![0, 0, 256] S1x1x128.size inb_S1x1x512_S1x1x128_0_0_256).toLoadRect X8) (View.readAt (Elt Ideal) arg7.view (Rect.unit (s := S1x2048x512) (k0_off3 k) S1x256x128.size (k0_off3_inb k)).toLoadRect X7) t e).trans ?_
    rw [show (View.readAt (Elt Ideal) arg8.view (Rect.unit (s := S1x1x512) ![0, 0, 256] S1x1x128.size inb_S1x1x512_S1x1x128_0_0_256).toLoadRect X8) (ix3 0 0 e) = arg8.view.read (Elt Ideal) X8 (ix3 0 0 (col 2 e)) from (View.readAt_apply _ _ _).trans (congrArg _ (gn_idx 2 _ rfl _ e)),
      show (View.readAt (Elt Ideal) arg7.view (Rect.unit (s := S1x2048x512) (k0_off3 k) S1x256x128.size (k0_off3_inb k)).toLoadRect X7) (ix3 0 t e) = arg7.view.read (Elt Ideal) X7 (ix3 0 (row k t) (col 2 e)) from (View.readAt_apply _ _ _).trans (congrArg _ (blk_idx 2 k _ (off_2 k) _ t e)),
      show (fun x => (v2595 arg3 arg4 arg5 arg6 arg10 arg11 arg12 arg13 arg14 ii X3 X4 X5 X6 X12 X13 X14 k f10) (ix2 t x)) = fun x => (oR Qb Kb Gb Vb S k 2 t x : EReal) from funext fun x => oR_2 arg3 arg4 arg5 arg6 arg10 arg11 arg12 arg13 arg14 X3 X4 X5 X6 X12 X13 X14 k f10 Qb Kb Gb Vb S h3 h4 h5 h6 h10 h12 h13 h14 t x]
    rfl
  · refine (fin_at (v2638 arg3 arg4 arg5 arg6 arg10 arg11 arg12 arg13 arg14 ii X3 X4 X5 X6 X12 X13 X14 k f10) (View.readAt (Elt Ideal) arg8.view (Rect.unit (s := S1x1x512) ![0, 0, 384] S1x1x128.size inb_S1x1x512_S1x1x128_0_0_384).toLoadRect X8) (View.readAt (Elt Ideal) arg7.view (Rect.unit (s := S1x2048x512) (k0_off4 k) S1x256x128.size (k0_off4_inb k)).toLoadRect X7) t e).trans ?_
    rw [show (View.readAt (Elt Ideal) arg8.view (Rect.unit (s := S1x1x512) ![0, 0, 384] S1x1x128.size inb_S1x1x512_S1x1x128_0_0_384).toLoadRect X8) (ix3 0 0 e) = arg8.view.read (Elt Ideal) X8 (ix3 0 0 (col 3 e)) from (View.readAt_apply _ _ _).trans (congrArg _ (gn_idx 3 _ rfl _ e)),
      show (View.readAt (Elt Ideal) arg7.view (Rect.unit (s := S1x2048x512) (k0_off4 k) S1x256x128.size (k0_off4_inb k)).toLoadRect X7) (ix3 0 t e) = arg7.view.read (Elt Ideal) X7 (ix3 0 (row k t) (col 3 e)) from (View.readAt_apply _ _ _).trans (congrArg _ (blk_idx 3 k _ (off_3 k) _ t e)),
      show (fun x => (v2638 arg3 arg4 arg5 arg6 arg10 arg11 arg12 arg13 arg14 ii X3 X4 X5 X6 X12 X13 X14 k f10) (ix2 t x)) = fun x => (oR Qb Kb Gb Vb S k 3 t x : EReal) from funext fun x => oR_3 arg3 arg4 arg5 arg6 arg10 arg11 arg12 arg13 arg14 X3 X4 X5 X6 X12 X13 X14 k f10 Qb Kb Gb Vb S h3 h4 h5 h6 h10 h12 h13 h14 t x]
    rfl

/-- The result after a trip, outside its chunk. -/
theorem after_out (c : Dev nD) (i : grid0.Coords) (r : Fin 2048) (x : Fin 512) (hr : r.val < 256 * k.val ∨ 256 * k.val + 256 ≤ r.val) :
    arg9.view.read (Elt Ideal) (arg9.view.writes (Elt Ideal) f9 ((trip_k0_t1 (F := Ideal) Variants.none c none i arg3 harg3 arg4 harg4 arg5 harg5 arg6 harg6 arg7 harg7 arg8 harg8 arg9 harg9 arg10 harg10 arg11 harg11 arg12 harg12 arg13 harg13 arg14 harg14 ii X3 X4 X5 X6 X7 X8 X12 X13 X14 k).1 f9 f10 f11)) (ix3 0 r x) = arg9.view.read (Elt Ideal) f9 (ix3 0 r x) := by
  rw [trip_out]
  exact read_rest arg9 k f9 ![fin (v2509 arg3 arg4 arg5 arg6 arg10 arg11 arg12 arg13 arg14 ii X3 X4 X5 X6 X12 X13 X14 k f10) (View.readAt (Elt Ideal) arg8.view (Rect.unit (s := S1x1x512) ![0, 0, 0] S1x1x128.size inb_S1x1x512_S1x1x128_0_0_0).toLoadRect X8) (View.readAt (Elt Ideal) arg7.view (Rect.unit (s := S1x2048x512) (k0_off1 k) S1x256x128.size (k0_off1_inb k)).toLoadRect X7), fin (v2552 arg3 arg4 arg5 arg6 arg10 arg11 arg12 arg13 arg14 ii X3 X4 X5 X6 X12 X13 X14 k f10) (View.readAt (Elt Ideal) arg8.view (Rect.unit (s := S1x1x512) ![0, 0, 128] S1x1x128.size inb_S1x1x512_S1x1x128_0_0_128).toLoadRect X8) (View.readAt (Elt Ideal) arg7.view (Rect.unit (s := S1x2048x512) (k0_off2 k) S1x256x128.size (k0_off2_inb k)).toLoadRect X7), fin (v2595 arg3 arg4 arg5 arg6 arg10 arg11 arg12 arg13 arg14 ii X3 X4 X5 X6 X12 X13 X14 k f10) (View.readAt (Elt Ideal) arg8.view (Rect.unit (s := S1x1x512) ![0, 0, 256] S1x1x128.size inb_S1x1x512_S1x1x128_0_0_256).toLoadRect X8) (View.readAt (Elt Ideal) arg7.view (Rect.unit (s := S1x2048x512) (k0_off3 k) S1x256x128.size (k0_off3_inb k)).toLoadRect X7), fin (v2638 arg3 arg4 arg5 arg6 arg10 arg11 arg12 arg13 arg14 ii X3 X4 X5 X6 X12 X13 X14 k f10) (View.readAt (Elt Ideal) arg8.view (Rect.unit (s := S1x1x512) ![0, 0, 384] S1x1x128.size inb_S1x1x512_S1x1x128_0_0_384).toLoadRect X8) (View.readAt (Elt Ideal) arg7.view (Rect.unit (s := S1x2048x512) (k0_off4 k) S1x256x128.size (k0_off4_inb k)).toLoadRect X7)] r x hr

end Cert.HgrnIdeal.Head

end
-- ==== Proof.HgrnMath.lean ====
module

public import proofs.«01_k».proof.Proof.HgrnTrip

@[expose] public section

set_option maxRecDepth 16384

/-! The recurrence token by token, over the real numbers, and its form over a chunk of any length. -/

noncomputable section

namespace Cert.Recurrence

open Idealize.ShloMosaic

variable (g k v q : ℕ → Fin 128 → ℝ)

/-- The state before token `n`, at value column `e` and key column `d`. -/
def T : ℕ → Fin 128 → Fin 128 → ℝ
  | 0 => fun _ _ => 0
  | n + 1 => fun e d => T n e d * Real.exp (g n d) + v n e * k n d

/-- The output of token `n`. -/
def O (n : ℕ) (e : Fin 128) : ℝ := ∑ d, q n d * T g k v (n + 1) e d

/-- The gates summed from the start of a chunk. -/
def run (n0 C : ℕ) (t : Fin C) (d : Fin 128) : ℝ := ∑ s : Fin C, if s.val ≤ t.val then g (n0 + s.val) d else 0

theorem sum_upto (C : ℕ) (t : Fin C) (f : ℕ → ℝ) : (∑ s : Fin C, if s.val ≤ t.val then f s.val else 0) = ∑ s ∈ Finset.range (t.val + 1), f s := by
  rw [Fin.sum_univ_eq_sum_range (fun s => if s ≤ t.val then f s else 0) C, ← Finset.sum_filter]
  refine Finset.sum_congr ?_ fun _ _ => rfl
  ext s
  have := t.isLt
  simp only [Finset.mem_filter, Finset.mem_range]
  omega

theorem nat_T (n0 m : ℕ) (e d : Fin 128) :
    T g k v (n0 + m) e d = T g k v n0 e d * Real.exp (∑ i ∈ Finset.range m, g (n0 + i) d)
      + ∑ s ∈ Finset.range m, v (n0 + s) e * (k (n0 + s) d * Real.exp ((∑ i ∈ Finset.range m, g (n0 + i) d) - ∑ i ∈ Finset.range (s + 1), g (n0 + i) d)) := by
  induction m with
  | zero => simp
  | succ m ih =>
    show T g k v (n0 + m) e d * Real.exp (g (n0 + m) d) + v (n0 + m) e * k (n0 + m) d = _
    rw [ih, add_mul, Finset.sum_range_succ (fun s => v (n0 + s) e * _), sub_self, Real.exp_zero, mul_one, Finset.sum_range_succ (fun i => g (n0 + i) d) m, Real.exp_add, Finset.sum_mul, mul_assoc, add_assoc]
    congr 2
    refine Finset.sum_congr rfl fun s _ => ?_
    rw [add_sub_right_comm, Real.exp_add]
    ring

/-- The state after token `t` of a chunk. -/
theorem chunk_T (n0 C : ℕ) (t : Fin C) (e d : Fin 128) :
    T g k v (n0 + t.val + 1) e d = T g k v n0 e d * Real.exp (run g n0 C t d)
      + ∑ s : Fin C, if s.val ≤ t.val then v (n0 + s.val) e * (k (n0 + s.val) d * Real.exp (run g n0 C t d - run g n0 C s d)) else 0 := by
  have hr : ∀ s : Fin C, run g n0 C s d = ∑ i ∈ Finset.range (s.val + 1), g (n0 + i) d := fun s => sum_upto C s fun i => g (n0 + i) d
  rw [add_assoc, nat_T, hr t]
  simp only [hr]
  rw [sum_upto C t fun s => v (n0 + s) e * (k (n0 + s) d * Real.exp ((∑ i ∈ Finset.range (t.val + 1), g (n0 + i) d) - ∑ i ∈ Finset.range (s + 1), g (n0 + i) d))]

/-- The output of token `t` of a chunk. -/
theorem chunk_O (n0 C : ℕ) (t : Fin C) (e : Fin 128) :
    O g k v q (n0 + t.val) e = (∑ s : Fin C, if s.val ≤ t.val then (∑ d, q (n0 + t.val) d * k (n0 + s.val) d * Real.exp (run g n0 C t d - run g n0 C s d)) * v (n0 + s.val) e else 0)
      + ∑ d, q (n0 + t.val) d * Real.exp (run g n0 C t d) * T g k v n0 e d := by
  unfold O
  have h1 : ∀ d, q (n0 + t.val) d * T g k v (n0 + t.val + 1) e d = (∑ s : Fin C, if s.val ≤ t.val then q (n0 + t.val) d * k (n0 + s.val) d * Real.exp (run g n0 C t d - run g n0 C s d) * v (n0 + s.val) e else 0)
      + q (n0 + t.val) d * Real.exp (run g n0 C t d) * T g k v n0 e d := by
    intro d
    rw [chunk_T, mul_add, Finset.mul_sum, add_comm]
    congr 1
    · refine Finset.sum_congr rfl fun s _ => ?_
      by_cases h : s.val ≤ t.val
      · rw [if_pos h, if_pos h]; ring
      · rw [if_neg h, if_neg h, mul_zero]
    · ring
  rw [Finset.sum_congr rfl fun d _ => h1 d, Finset.sum_add_distrib, Finset.sum_comm]
  congr 1
  refine Finset.sum_congr rfl fun s _ => ?_
  by_cases h : s.val ≤ t.val
  · simp only [if_pos h]; rw [Finset.sum_mul]
  · simp only [if_neg h]; exact Finset.sum_const_zero

/-- The tokens of batch `b` and head `h` in an array of all heads' columns; nothing beyond the last. -/
def tok (A : Fin 4 → Fin 4096 → Fin 2048 → ℝ) (b : Fin 4) (h : Fin 16) (n : ℕ) (x : Fin 128) : ℝ :=
  if hn : n < 4096 then A b ⟨n, hn⟩ ⟨128 * h.val + x.val, by omega⟩ else 0

theorem tok_at (A : Fin 4 → Fin 4096 → Fin 2048 → ℝ) (b : Fin 4) (h : Fin 16) (n : ℕ) (x : Fin 128) (i : Fin 4096) (c : Fin 2048)
    (hi : i.val = n) (hc : c.val = 128 * h.val + x.val) : tok A b h n x = A b i c := by
  subst hi
  unfold tok
  rw [dif_pos i.isLt]
  congr 1
  exact Fin.ext hc.symm

/-- One normalized, scaled and gated entry of an output row `o`. -/
def normE (o : Fin 128 → EReal) (gn g : EReal) (e : Fin 128) : EReal :=
  o e * Ideal.rsqrt (Ideal.div (∑ x, o x * o x) (Ideal.ofBits .f32 0x43000000#32) + Ideal.ofBits .f32 0x358637BD#32) * gn * g

end Cert.Recurrence

namespace Cert.HgrnIdeal.Head

open Cert.Recurrence

variable (g k v q : ℕ → Fin 128 → ℝ)

theorem e2_cum (n0 : ℕ) (t : Fin 256) (x : Fin 128) : e2 (cumR (fun s x => g (n0 + s.val) x) t x) = Real.exp (run g n0 256 t x) := e2_log _

theorem e2_cum_sub (n0 : ℕ) (t s : Fin 256) (x : Fin 128) :
    e2 (cumR (fun s x => g (n0 + s.val) x) t x - cumR (fun s x => g (n0 + s.val) x) s x) = Real.exp (run g n0 256 t x - run g n0 256 s x) := by
  rw [← e2_log, sub_mul]
  rfl

/-- A chunk's outputs, as the kernel forms them, are the recurrence's. -/
theorem outR_eq (n0 : ℕ) (t : Fin 256) (e : Fin 128) :
    outR (fun s x => q (n0 + s.val) x) (fun s x => k (n0 + s.val) x) (cumR fun s x => g (n0 + s.val) x) (fun s x => v (n0 + s.val) x) (T g k v n0) t e
      = O g k v q (n0 + t.val) e := by
  rw [chunk_O g k v q n0 256 t e]
  unfold outR score
  simp only [e2_cum, e2_cum_sub]

/-- The state after a chunk, as the kernel forms it, is the recurrence's. -/
theorem stR_eq (n0 : ℕ) (e x : Fin 128) :
    stR (fun s x => k (n0 + s.val) x) (cumR fun s x => g (n0 + s.val) x) (fun s x => v (n0 + s.val) x) (T g k v n0) e x = T g k v (n0 + 256) e x := by
  rw [show n0 + 256 = n0 + ((255 : Fin 256) : ℕ) + 1 from rfl, chunk_T g k v n0 256 255 e x]
  unfold stR
  simp only [e2_cum, e2_cum_sub]
  refine congrArg₂ (· + ·) rfl (Finset.sum_congr rfl fun s _ => ?_)
  exact (if_pos (Nat.lt_succ_iff.mp s.isLt)).symm

end Cert.HgrnIdeal.Head

end
-- ==== Proof.HgrnValue.lean ====
module

public import proofs.«01_k».proof.Proof.HgrnTrip
public import proofs.«01_k».proof.Proof.HgrnMath

@[expose] public section

set_option maxRecDepth 16384

/-! The recurrence kernel's result, entry by entry, over real inputs: the loop over chunks carries the recurrence's state, and the
    grid carries it from the first half of the sequence to the second. -/

noncomputable section

namespace Cert.HgrnIdeal.Head

open Cert.HgrnIdeal Cert.HgrnIdeal.Gen Cert.Recurrence
open Idealize.ShloMosaic Idealize.ShloMosaic.TcCoe Idealize.SL.Sem
open Idealize.ShloMosaic.Pipeline (Dat)
open scoped BigOperators

/-! ## A point's block of an array -/

/-- Head `h` of head group `hg`. -/
def hd (hg h : Fin 4) : Fin 16 := ⟨4 * hg.val + h.val, by omega⟩

/-- The token at row `r` of a half. -/
def tk (half : Fin 2) (r : Fin 2048) : Fin 4096 := ⟨2048 * half.val + r.val, by omega⟩

/-- The column at place `x` of a head group. -/
def cl (hg : Fin 4) (x : Fin 512) : Fin 2048 := ⟨512 * hg.val + x.val, by omega⟩

/-- The block of an array at batch `b`, head group `hg` and half `half`. -/
def blkOf (A : Fin 4 → Fin 4096 → Fin 2048 → ℝ) (b hg : Fin 4) (half : Fin 2) (r : Fin 2048) (x : Fin 512) : ℝ := A b (tk half r) (cl hg x)

theorem part_tok (A : Fin 4 → Fin 4096 → Fin 2048 → ℝ) (b hg : Fin 4) (half : Fin 2) (k : Fin k0_t1_loop.trips) (h : Fin 4) :
    part (blkOf A b hg half) k h = fun t x => tok A b (hd hg h) (2048 * half.val + 256 * k.val + t.val) x := by
  funext t x
  unfold part blkOf
  refine (tok_at A b (hd hg h) _ x _ _ ?_ ?_).symm
  · show 2048 * half.val + (256 * k.val + t.val) = _
    omega
  · show 512 * hg.val + (128 * h.val + x.val) = 128 * (4 * hg.val + h.val) + x.val
    omega

variable (Q K G U : Fin 4 → Fin 4096 → Fin 2048 → ℝ) (b hg : Fin 4) (half : Fin 2)

/-- The state of head `h` before token `n`. -/
abbrev St (h : Fin 4) (n : ℕ) (e d : Fin 128) : ℝ := T (tok G b (hd hg h)) (tok K b (hd hg h)) (tok U b (hd hg h)) n e d
/-- The output of head `h` at token `n`. -/
abbrev Ot (h : Fin 4) (n : ℕ) (e : Fin 128) : ℝ := O (tok G b (hd hg h)) (tok K b (hd hg h)) (tok U b (hd hg h)) (tok Q b (hd hg h)) n e

theorem oR_tok (k : Fin k0_t1_loop.trips) (h : Fin 4) (t : Fin 256) (e : Fin 128) :
    oR (blkOf Q b hg half) (blkOf K b hg half) (blkOf G b hg half) (blkOf U b hg half) (fun h => St K G U b hg h (2048 * half.val + 256 * k.val)) k h t e
      = Ot Q K G U b hg h (2048 * half.val + 256 * k.val + t.val) e := by
  unfold oR
  rw [part_tok, part_tok, part_tok, part_tok]
  exact outR_eq _ _ _ _ _ t e

theorem sR_tok (k : Fin k0_t1_loop.trips) (h : Fin 4) (e d : Fin 128) :
    sR (blkOf K b hg half) (blkOf G b hg half) (blkOf U b hg half) (fun h => St K G U b hg h (2048 * half.val + 256 * k.val)) k h e d
      = St K G U b hg h (2048 * half.val + 256 * (k.val + 1)) e d := by
  unfold sR
  rw [part_tok, part_tok, part_tok]
  exact stR_eq _ _ _ _ e d

/-! ## The loop over chunks -/

variable (arg3 : Memref sig .tc .vmem S1x2048x512 .bf16) (harg3 : arg3.IsWhole) (arg4 : Memref sig .tc .vmem S1x2048x512 .bf16) (harg4 : arg4.IsWhole) (arg5 : Memref sig .tc .vmem S1x2048x512 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x2048x512 .bf16) (harg9 : arg9.IsWhole) (arg10 : Memref sig .tc .vmem S4x128x128 .f32) (harg10 : arg10.IsWhole) (arg11 : Memref sig .tc .vmem S4x256x128 .f32) (harg11 : arg11.IsWhole) (arg12 : Memref sig .tc .vmem S256x256 .bf16) (harg12 : arg12.IsWhole) (arg13 : Memref sig .tc .vmem S7x128x128 .f32) (harg13 : arg13.IsWhole) (arg14 : Memref sig .tc .vmem S7x256x128 .f32) (harg14 : arg14.IsWhole)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty)

/-- After `n` chunks: the state is the recurrence's, and the rows so far hold the result. -/
def Pr (arg7 : Memref sig .tc .vmem S1x2048x512 .bf16) (arg8 : Memref sig .tc .vmem S1x1x512 .f32) (arg9 : Memref sig .tc .vmem S1x2048x512 .bf16) (arg10 : Memref sig .tc .vmem S4x128x128 .f32) (X7 : BufTy.Contents (Elt Ideal) arg7.view.ty) (X8 : BufTy.Contents (Elt Ideal) arg8.view.ty) (n : ℕ) (f9 : BufTy.Contents (Elt Ideal) arg9.view.ty) (f10 : BufTy.Contents (Elt Ideal) arg10.view.ty) : Prop :=
  (∀ h e d, arg10.view.read (Elt Ideal) f10 (ix3 h e d) = (St K G U b hg h (2048 * half.val + 256 * n) e d : EReal))
    ∧ ∀ r : Fin 2048, r.val < 256 * n → ∀ h e, arg9.view.read (Elt Ideal) f9 (ix3 0 r (col h e))
      = normE (fun x => (Ot Q K G U b hg h (2048 * half.val + r.val) x : EReal)) (arg8.view.read (Elt Ideal) X8 (ix3 0 0 (col h e))) (arg7.view.read (Elt Ideal) X7 (ix3 0 r (col h e))) e

variable (h3 : ∀ r x, arg3.view.read (Elt Ideal) X3 (ix3 0 r x) = ((blkOf Q b hg half r x : ℝ) : EReal)) (h4 : ∀ r x, arg4.view.read (Elt Ideal) X4 (ix3 0 r x) = ((blkOf K b hg half r x : ℝ) : EReal))
  (h5 : ∀ r x, arg5.view.read (Elt Ideal) X5 (ix3 0 r x) = ((blkOf G b hg half r x : ℝ) : EReal)) (h6 : ∀ r x, arg6.view.read (Elt Ideal) X6 (ix3 0 r x) = ((blkOf U b hg half r x : ℝ) : EReal))
  (h12 : Hand.Cum arg12 X12) (h13 : Hand.Msk arg13 X13) (h14 : Hand.Sgn arg14 X14)

include h3 h4 h5 h6 h12 h13 h14 in
theorem Pr_next (c : Dev nD) (i : grid0.Coords) (k : Fin k0_t1_loop.trips) (f9 : BufTy.Contents (Elt Ideal) arg9.view.ty) (f10 : BufTy.Contents (Elt Ideal) arg10.view.ty) (f11 : BufTy.Contents (Elt Ideal) arg11.view.ty)
    (hp : Pr Q K G U b hg half arg7 arg8 arg9 arg10 X7 X8 k.val f9 f10) :
    Pr Q K G U b hg half arg7 arg8 arg9 arg10 X7 X8 (k.val + 1) (arg9.view.writes (Elt Ideal) f9 ((trip_k0_t1 (F := Ideal) Variants.none c none i arg3 harg3 arg4 harg4 arg5 harg5 arg6 harg6 arg7 harg7 arg8 harg8 arg9 harg9 arg10 harg10 arg11 harg11 arg12 harg12 arg13 harg13 arg14 harg14 ii X3 X4 X5 X6 X7 X8 X12 X13 X14 k).1 f9 f10 f11)) (arg10.view.writes (Elt Ideal) f10 ((trip_k0_t1 (F := Ideal) Variants.none c none i arg3 harg3 arg4 harg4 arg5 harg5 arg6 harg6 arg7 harg7 arg8 harg8 arg9 harg9 arg10 harg10 arg11 harg11 arg12 harg12 arg13 harg13 arg14 harg14 ii X3 X4 X5 X6 X7 X8 X12 X13 X14 k).2.1 f9 f10 f11)) := by
  have hk : k.val < 8 := Nat.lt_of_lt_of_eq k.isLt trips_eq
  obtain ⟨hs, ho⟩ := hp
  refine ⟨fun h e d => ?_, fun r hr h e => ?_⟩
  · refine (after_state (c := c) (i := i) (h := h) (e := e) (d := d) (h4 := h4) (h5 := h5) (h6 := h6) (h10 := hs) (h12 := h12) ..).trans ?_
    rw [sR_tok]
  · by_cases hlt : r.val < 256 * k.val
    · refine (after_out (c := c) (i := i) (r := r) (x := col h e) (hr := Or.inl hlt) ..).trans (ho r hlt h e)
    · obtain ⟨t, rfl⟩ : ∃ t : Fin 256, r = row k t := ⟨⟨r.val - 256 * k.val, by omega⟩, Fin.ext (by show r.val = 256 * k.val + (r.val - 256 * k.val); omega)⟩
      refine (after_in (c := c) (i := i) (h := h) (t := t) (e := e) (h3 := h3) (h4 := h4) (h5 := h5) (h6 := h6) (h10 := hs) (h12 := h12) (h13 := h13) (h14 := h14) ..).trans ?_
      simp only [oR_tok]
      rw [show 2048 * half.val + 256 * k.val + t.val = 2048 * half.val + (row k t).val from by show _ = 2048 * half.val + (256 * k.val + t.val); omega]
      rfl

/-! ## The grid -/

/-- Which block each window reads at a point. -/
theorem idx : ∀ t : Fin cfg0.N, win0_0.index t = ![t.val / 8, t.val % 2, t.val / 2 % 4] ∧ win0_1.index t = ![t.val / 8, t.val % 2, t.val / 2 % 4]
    ∧ win0_2.index t = ![t.val / 8, t.val % 2, t.val / 2 % 4] ∧ win0_3.index t = ![t.val / 8, t.val % 2, t.val / 2 % 4]
    ∧ win0_4.index t = ![t.val / 8, t.val % 2, t.val / 2 % 4] ∧ win0_5.index t = ![0, 0, t.val / 2 % 4]
    ∧ win0_6.index t = ![t.val / 8, t.val % 2, t.val / 2 % 4] :=
  (by decide +kernel : ∀ t : Fin grid0.N, _)

/-- The first half of the sequence is where the state starts. -/
theorem cond_iff : ∀ t : Fin cfg0.N, (Scalar.cmpi .ne (Scalar.extui (Scalar.cmpi .eq (BitVec.ofNat 32 (grid0.coords t 2).val) 0#32)) 0#32 = 1#1) ↔ t.val % 2 = 0 :=
  (by decide +kernel : ∀ t : Fin grid0.N, _)

/-- A point's batch, head group and half. -/
def bb (n : ℕ) : Fin 4 := ⟨n / 8 % 4, by omega⟩
def gg (n : ℕ) : Fin 4 := ⟨n / 2 % 4, by omega⟩
def ff (n : ℕ) : Fin 2 := ⟨n % 2, by omega⟩

variable (m : (ℓ : Loc nD τ sig) → Buf (Elt Ideal) ℓ)

theorem lt32 (t : Fin cfg0.N) : t.val < 32 := lt_of_lt_of_eq t.isLt N_0

theorem blk0 (c : Dev nD) (t : Fin cfg0.N) (r : Fin 2048) (x : Fin 512) (b : Fin 4) (n : Fin 4096) (y : Fin 2048)
    (hb : b.val = t.val / 8) (hn : n.val = 2048 * (t.val % 2) + r.val) (hy : y.val = 512 * (t.val / 2 % 4) + x.val) :
    iblk m c 0 t (ix3 0 r x) = m ((c.tc : Thread nD τ).loc main_arg0) (ix3 b n y) := by
  blk_ext! [iblk, V, (idx t).1]
theorem blk1 (c : Dev nD) (t : Fin cfg0.N) (r : Fin 2048) (x : Fin 512) (b : Fin 4) (n : Fin 4096) (y : Fin 2048)
    (hb : b.val = t.val / 8) (hn : n.val = 2048 * (t.val % 2) + r.val) (hy : y.val = 512 * (t.val / 2 % 4) + x.val) :
    iblk m c 1 t (ix3 0 r x) = m ((c.tc : Thread nD τ).loc main_arg1) (ix3 b n y) := by
  blk_ext! [iblk, V, (idx t).2.1]
theorem blk2 (c : Dev nD) (t : Fin cfg0.N) (r : Fin 2048) (x : Fin 512) (b : Fin 4) (n : Fin 4096) (y : Fin 2048)
    (hb : b.val = t.val / 8) (hn : n.val = 2048 * (t.val % 2) + r.val) (hy : y.val = 512 * (t.val / 2 % 4) + x.val) :
    iblk m c 2 t (ix3 0 r x) = m ((c.tc : Thread nD τ).loc main_arg2) (ix3 b n y) := by
  blk_ext! [iblk, V, (idx t).2.2.1]
theorem blk3 (c : Dev nD) (t : Fin cfg0.N) (r : Fin 2048) (x : Fin 512) (b : Fin 4) (n : Fin 4096) (y : Fin 2048)
    (hb : b.val = t.val / 8) (hn : n.val = 2048 * (t.val % 2) + r.val) (hy : y.val = 512 * (t.val / 2 % 4) + x.val) :
    iblk m c 3 t (ix3 0 r x) = m ((c.tc : Thread nD τ).loc main_arg3) (ix3 b n y) := by
  blk_ext! [iblk, V, (idx t).2.2.2.1]
theorem blk4 (c : Dev nD) (t : Fin cfg0.N) (r : Fin 2048) (x : Fin 512) (b : Fin 4) (n : Fin 4096) (y : Fin 2048)
    (hb : b.val = t.val / 8) (hn : n.val = 2048 * (t.val % 2) + r.val) (hy : y.val = 512 * (t.val / 2 % 4) + x.val) :
    iblk m c 4 t (ix3 0 r x) = m ((c.tc : Thread nD τ).loc main_arg4) (ix3 b n y) := by
  blk_ext! [iblk, V, (idx t).2.2.2.2.1]
theorem blk5 (c : Dev nD) (t : Fin cfg0.N) (x : Fin 512) (y : Fin 2048) (hy : y.val = 512 * (t.val / 2 % 4) + x.val) :
    iblk m c 5 t (ix3 0 0 x) = m ((c.tc : Thread nD τ).loc main_arg5) (ix2 0 y) := by
  blk_ext! [iblk, V, (idx t).2.2.2.2.2.1]

/-- What the carried state holds before a point: at the second half, the recurrence's state at its middle. -/
def StR (c : Dev nD) (n : ℕ) (X : S4x128x128.Idx → Elt Ideal .f32) : Prop :=
  n % 2 = 1 → ∀ h e d, X (ix3 h e d) = (St K G U (bb n) (gg n) h 2048 e d : EReal)

/-- What a point leaves of the result. -/
def RlR (c : Dev nD) (t : Fin cfg0.N) (X : S1x2048x512.Idx → Elt Ideal .bf16) : Prop :=
  ∀ (r : Fin 2048) h e, X (ix3 0 r (col h e)) = normE (fun x => (Ot Q K G U (bb t.val) (gg t.val) h (2048 * (t.val % 2) + r.val) x : EReal))
    (iblk m c 5 t (ix3 0 0 (col h e))) (iblk m c 4 t (ix3 0 r (col h e))) e

variable {m} {Q K G U}

theorem step_ok (hq : ∀ c b n y, m (((c : Dev nD).tc : Thread nD τ).loc main_arg0) (ix3 b n y) = (Q b n y : EReal)) (hk : ∀ c b n y, m (((c : Dev nD).tc : Thread nD τ).loc main_arg1) (ix3 b n y) = (K b n y : EReal))
    (hg : ∀ c b n y, m (((c : Dev nD).tc : Thread nD τ).loc main_arg2) (ix3 b n y) = (G b n y : EReal)) (hv : ∀ c b n y, m (((c : Dev nD).tc : Thread nD τ).loc main_arg3) (ix3 b n y) = (U b n y : EReal)) :
    Hand.StepOk m (StR K G U) (RlR Q K G U m) := by
  intro c t arg3 harg3 arg4 harg4 arg5 harg5 arg6 harg6 arg7 harg7 arg8 harg8 arg9 harg9 arg10 harg10 arg11 harg11 arg12 harg12 arg13 harg13 arg14 harg14 X3 X4 X5 X6 X7 X8 X9 X10 X11 X12 X13 X14 e3 e4 e5 e6 e7 e8 h12 h13 h14 hs
  have ht := lt32 t
  have hblk : ∀ (r : Fin 2048) (x : Fin 512), (bb t.val).val = t.val / 8 ∧ (tk (ff t.val) r).val = 2048 * (t.val % 2) + r.val ∧ (cl (gg t.val) x).val = 512 * (t.val / 2 % 4) + x.val :=
    fun r x => ⟨by show t.val / 8 % 4 = _; omega, rfl, rfl⟩
  have h3 : ∀ r x, arg3.view.read (Elt Ideal) X3 (ix3 0 r x) = ((blkOf Q (bb t.val) (gg t.val) (ff t.val) r x : ℝ) : EReal) := fun r x => by
    rw [e3]; exact (blk0 m c t r x _ _ _ (hblk r x).1 (hblk r x).2.1 (hblk r x).2.2).trans (hq c _ _ _)
  have h4 : ∀ r x, arg4.view.read (Elt Ideal) X4 (ix3 0 r x) = ((blkOf K (bb t.val) (gg t.val) (ff t.val) r x : ℝ) : EReal) := fun r x => by
    rw [e4]; exact (blk1 m c t r x _ _ _ (hblk r x).1 (hblk r x).2.1 (hblk r x).2.2).trans (hk c _ _ _)
  have h5 : ∀ r x, arg5.view.read (Elt Ideal) X5 (ix3 0 r x) = ((blkOf G (bb t.val) (gg t.val) (ff t.val) r x : ℝ) : EReal) := fun r x => by
    rw [e5]; exact (blk2 m c t r x _ _ _ (hblk r x).1 (hblk r x).2.1 (hblk r x).2.2).trans (hg c _ _ _)
  have h6 : ∀ r x, arg6.view.read (Elt Ideal) X6 (ix3 0 r x) = ((blkOf U (bb t.val) (gg t.val) (ff t.val) r x : ℝ) : EReal) := fun r x => by
    rw [e6]; exact (blk3 m c t r x _ _ _ (hblk r x).1 (hblk r x).2.1 (hblk r x).2.2).trans (hv c _ _ _)
  have h0 : Pr Q K G U (bb t.val) (gg t.val) (ff t.val) arg7 arg8 arg9 arg10 X7 X8 0 X9 X10 := by
    refine ⟨fun h e d => ?_, fun r hr => absurd hr (Nat.not_lt_zero _)⟩
    rcases hs with ⟨hc, hz⟩ | ⟨hc, hs⟩
    · rw [zero_read arg10 X10 hz h e d]
      have h2 : (ff t.val).val = 0 := (cond_iff t).mp hc
      rw [h2]
      exact EReal.coe_zero.symm
    · have h2 : t.val % 2 = 1 := by have := mt (cond_iff t).mpr hc; omega
      refine (hs h2 h e d).trans ?_
      have h3 : (ff t.val).val = 1 := h2
      rw [h3]
  have hl := Hand.loop_inv c (grid0.coords t) arg3 harg3 arg4 harg4 arg5 harg5 arg6 harg6 arg7 harg7 arg8 harg8 arg9 harg9 arg10 harg10 arg11 harg11 arg12 harg12 arg13 harg13 arg14 harg14 ii X3 X4 X5 X6 X7 X8 X9 X10 X11 X12 X13 X14 (Pr Q K G U (bb t.val) (gg t.val) (ff t.val) arg7 arg8 arg9 arg10 X7 X8) h0
    (fun k f9 f10 f11 hp => Pr_next (h3 := h3) (h4 := h4) (h5 := h5) (h6 := h6) (h12 := h12) (h13 := h13) (h14 := h14) (c := c) (i := grid0.coords t) (k := k) (f9 := f9) (f10 := f10) (f11 := f11) (hp := hp) ..) k0_t1_loop.trips le_rfl
  refine ⟨fun r h e => ?_, fun hn h e d => ?_⟩
  · refine (hl.2 r (by rw [trips_eq]; omega) h e).trans ?_
    rw [e8, e7]
    rfl
  · refine (hl.1 h e d).trans ?_
    have hb : bb (t.val + 1) = bb t.val := Fin.ext (by show (t.val + 1) / 8 % 4 = t.val / 8 % 4; omega)
    have hgg : gg (t.val + 1) = gg t.val := Fin.ext (by show (t.val + 1) / 2 % 4 = t.val / 2 % 4; omega)
    have h2 : (ff t.val).val = 0 := by show t.val % 2 = 0; omega
    rw [hb, hgg, h2, trips_eq]

/-- The result after the run, entry by entry. -/
theorem value (hq : ∀ c b n y, m (((c : Dev nD).tc : Thread nD τ).loc main_arg0) (ix3 b n y) = (Q b n y : EReal)) (hk : ∀ c b n y, m (((c : Dev nD).tc : Thread nD τ).loc main_arg1) (ix3 b n y) = (K b n y : EReal))
    (hg : ∀ c b n y, m (((c : Dev nD).tc : Thread nD τ).loc main_arg2) (ix3 b n y) = (G b n y : EReal)) (hv : ∀ c b n y, m (((c : Dev nD).tc : Thread nD τ).loc main_arg3) (ix3 b n y) = (U b n y : EReal))
    {r : PUnit × MemSt nD τ sig (Elt Ideal)}
    (hr : Pipeline.RDat.FramePost (cfgs 0) (fun c => (Hand.dats m (StR K G U) 0 c).toRRel Hand.fgt0 (Hand.Rw (RlR Q K G U m) c)) (V m) r) (c : Dev nD)
    (out : S4x4096x2048.Idx → Elt Ideal .bf16)
    (hout : ∀ (b : Fin 4) (n : Fin 4096) (H : Fin 16) (e : Fin 128) (y : Fin 2048), y.val = 128 * H.val + e.val →
      out (ix3 b n y) = normE (fun d => (O (tok G b H) (tok K b H) (tok U b H) (tok Q b H) n.val d : EReal)) (m ((c.tc : Thread nD τ).loc main_arg5) (ix2 0 y)) (m ((c.tc : Thread nD τ).loc main_arg4) (ix3 b n y)) e) :
    r.2.mem ((c.tc : Thread nD τ).loc main_v1) = out := by
  obtain ⟨after, hleaf, harr⟩ := Pipeline.RDat.FramePost.exists_exact hr c
  refine (harr 6).trans ?_
  refine Dat.arrAt_eq_of_covers _ 6 _ (by decide +kernel) fun t hf y => ?_
  have hR : RlR Q K G U m c t (after 6 t) := Dat.toRRel_leaves (dat := Hand.dats m (StR K G U) 0 c) (fgt := Hand.fgt0) (Rl := Hand.Rw (RlR Q K G U m) c) rfl (hleaf 6 t hf)
  blk_simp
  obtain ⟨a, r, x, rfl⟩ : ∃ (a : Fin 1) (r : Fin 2048) (x : Fin 512), y = ix3 a r x := ⟨y 0, y 1, y 2, eq_ix3 y⟩
  obtain rfl : a = 0 := Subsingleton.elim _ _
  have ht := lt32 t
  obtain ⟨h, e, rfl⟩ : ∃ (h : Fin 4) (e : Fin 128), x = col h e := ⟨⟨x.val / 128, by omega⟩, ⟨x.val % 128, by omega⟩, Fin.ext (Nat.div_add_mod _ _).symm⟩
  have he : ((cfg0.win 6).blk t).view.emb (ix3 0 r (col h e)) = ix3 (bb t.val) (tk (ff t.val) r) (cl (gg t.val) (col h e)) := by
    funext a
    apply Fin.ext
    match a with
    | ⟨0, _⟩ =>
      show win0_6.index t (0 : Fin 3) * 1 + 1 * 0 = t.val / 8 % 4
      rw [(idx t).2.2.2.2.2.2]
      show t.val / 8 * 1 + 1 * 0 = _
      omega
    | ⟨1, _⟩ =>
      show win0_6.index t (1 : Fin 3) * 2048 + 1 * r.val = 2048 * (t.val % 2) + r.val
      rw [(idx t).2.2.2.2.2.2]
      show t.val % 2 * 2048 + 1 * r.val = _
      omega
    | ⟨2, _⟩ =>
      show win0_6.index t (2 : Fin 3) * 512 + 1 * (col h e).val = 512 * (t.val / 2 % 4) + (col h e).val
      rw [(idx t).2.2.2.2.2.2]
      show t.val / 2 % 4 * 512 + 1 * (col h e).val = _
      omega
  refine Eq.trans ?_ (congrArg _ he).symm
  refine Eq.trans ?_ (hout (bb t.val) (tk (ff t.val) r) (hd (gg t.val) h) e (cl (gg t.val) (col h e)) ?_).symm
  · refine (hR r h e).trans ?_
    rw [blk4 m c t r (col h e) (bb t.val) (tk (ff t.val) r) (cl (gg t.val) (col h e)) (by show t.val / 8 % 4 = _; omega) rfl rfl]
    have h5 : ∀ e', iblk m c 5 t (ix3 0 0 (col h e')) = m ((c.tc : Thread nD τ).loc main_arg5) (ix2 0 (cl (gg t.val) (col h e'))) := fun e' => blk5 m c t (col h e') _ rfl
    simp only [h5]
    rfl
  · show 512 * (t.val / 2 % 4) + (128 * h.val + e.val) = 128 * (4 * (t.val / 2 % 4) + h.val) + e.val
    omega

end Cert.HgrnIdeal.Head

end
-- ==== Proof.HgrnRefRun.lean ====
module

public import proofs.«01_k».proof.Proof.Gen.HgrnRefIdeal.Run
public import proofs.«01_k».proof.Proof.Gen.HgrnRefIdeal.Step

@[expose] public section

/-! The reference recurrence's run stated over its own step: the state is read off the loop's valuation, and each trip of the
    loop applies `step` to it. -/

noncomputable section

namespace Cert.HgrnRefIdeal.Hand

open Idealize.ShloMosaic Idealize.ShloMosaic.TcCoe Idealize.SL.Sem Idealize.ShloMosaic.StableHlo
open Cert.HgrnRefIdeal Cert.HgrnRefIdeal.Gen Cert.HgrnRefIdeal.Value
open Cert.HgrnRefIdeal.Step (State step init)

variable {F : FTy → Type} [FloatOps F]

/-- The loop's state in a valuation. -/
def stateOf (V0 : Valuation τ sig (Elt F)) : State F where
  main_v16_6 := V0 (Proc.devRef .tc main_v16_6)
  main_v16_7 := V0 (Proc.devRef .tc main_v16_7)
  main_v16_0 := V0 (Proc.devRef .tc main_v16_0)
  main_v16_1 := V0 (Proc.devRef .tc main_v16_1)
  main_v16_2 := V0 (Proc.devRef .tc main_v16_2)
  main_v16_3 := V0 (Proc.devRef .tc main_v16_3)

variable (V0 : Valuation τ sig (Elt F)) (j : ℕ)

set_option maxRecDepth 16384 in
set_option maxHeartbeats 4000000 in
theorem v37_eq (h5 : V0 (Proc.devRef .tc main_v16_5) = constantI S_ 32 (BitVec.ofNat 32 j)) :
    res_main_while0b_v37 V0 = Step.b5 j (stateOf V0) := by
  simp only [res_main_while0b_v37, h5]; rfl

set_option maxRecDepth 16384 in
set_option maxHeartbeats 4000000 in
theorem v38_eq (h5 : V0 (Proc.devRef .tc main_v16_5) = constantI S_ 32 (BitVec.ofNat 32 j)) :
    res_main_while0b_v38 V0 = Step.b11 j (stateOf V0) := by
  simp only [res_main_while0b_v38, h5]; rfl

set_option maxRecDepth 16384 in
set_option maxHeartbeats 4000000 in
theorem v39_eq (h5 : V0 (Proc.devRef .tc main_v16_5) = constantI S_ 32 (BitVec.ofNat 32 j)) :
    res_main_while0b_v39 V0 = Step.b17 j (stateOf V0) := by
  simp only [res_main_while0b_v39, h5]; rfl

set_option maxRecDepth 16384 in
set_option maxHeartbeats 4000000 in
theorem v40_eq (h5 : V0 (Proc.devRef .tc main_v16_5) = constantI S_ 32 (BitVec.ofNat 32 j)) :
    res_main_while0b_v40 V0 = Step.b23 j (stateOf V0) := by
  simp only [res_main_while0b_v40, h5]; rfl

set_option maxRecDepth 16384 in
set_option maxHeartbeats 4000000 in
theorem v61_eq (h5 : V0 (Proc.devRef .tc main_v16_5) = constantI S_ 32 (BitVec.ofNat 32 j)) :
    res_main_while0b_v61 V0 = Step.b49 j (stateOf V0) := by
  simp only [res_main_while0b_v61, v40_eq V0 j h5]; rfl

set_option maxRecDepth 16384 in
set_option maxHeartbeats 4000000 in
/-- One trip's last state. -/
theorem step6_eq (h5 : V0 (Proc.devRef .tc main_v16_5) = constantI S_ 32 (BitVec.ofNat 32 j)) :
    step_main_v16_6 V0 = Step.b60 j (stateOf V0) := by
  simp only [step_main_v16_6, v38_eq V0 j h5, v39_eq V0 j h5, v40_eq V0 j h5, v61_eq V0 j h5]; rfl

set_option maxRecDepth 16384 in
set_option maxHeartbeats 4000000 in
/-- One trip's outputs. -/
theorem step7_eq (h5 : V0 (Proc.devRef .tc main_v16_5) = constantI S_ 32 (BitVec.ofNat 32 j))
    (h4 : V0 (Proc.devRef .tc main_v16_4) = Step.K_main_v13 (F := F)) :
    step_main_v16_7 V0 = Step.b66 j (stateOf V0) := by
  simp only [step_main_v16_7, v37_eq V0 j h5, v38_eq V0 j h5, v39_eq V0 j h5, v40_eq V0 j h5, h5, h4]; rfl

/-- After `j` trips: the valuation holds the state `s`, the loop's number is `j` and the mask is the one made before the loop. -/
def At (s : State F) : Prop :=
  stateOf V0 = s ∧ V0 (Proc.devRef .tc main_v16_5) = constantI S_ 32 (BitVec.ofNat 32 j)
    ∧ V0 (Proc.devRef .tc main_v16_4) = Step.K_main_v13 (F := F)

theorem step5_eq (h5 : V0 (Proc.devRef .tc main_v16_5) = constantI S_ 32 (BitVec.ofNat 32 j)) :
    step_main_v16_5 V0 = constantI S_ 32 (BitVec.ofNat 32 (j + 1)) := by
  unfold step_main_v16_5
  rw [h5]
  funext i
  show BitVec.ofNat 32 j + 1#32 = _
  simp only [constantI, BitVec.ofNat_add]

theorem state_step (h5 : V0 (Proc.devRef .tc main_v16_5) = constantI S_ 32 (BitVec.ofNat 32 j))
    (h4 : V0 (Proc.devRef .tc main_v16_4) = Step.K_main_v13 (F := F)) : stateOf (STEP V0) = step j (stateOf V0) := by
  unfold stateOf
  rw [STEP_main_v16_0, STEP_main_v16_1, STEP_main_v16_2, STEP_main_v16_3, STEP_main_v16_6, STEP_main_v16_7, step6_eq V0 j h5,
    step7_eq V0 j h5 h4]
  rfl

variable {V0 j}

theorem At.next {s : State F} (h : At V0 j s) : At (STEP V0) (j + 1) (step j s) := by
  obtain ⟨rfl, h5, h4⟩ := h
  exact ⟨state_step V0 j h5 h4, (STEP_main_v16_5 V0).trans (step5_eq V0 j h5), (STEP_main_v16_4 V0).trans h4⟩

variable (m : (ℓ : Loc nD τ sig) → Buf (Elt F) ℓ) (c : Dev nD)

/-- The state before the first trip, of device `c`'s arguments. -/
abbrev start : State F :=
  init (m ((c.tc : Thread nD τ).loc main_arg0)) (m ((c.tc : Thread nD τ).loc main_arg1)) (m ((c.tc : Thread nD τ).loc main_arg2))
    (m ((c.tc : Thread nD τ).loc main_arg3))

set_option maxRecDepth 65536 in
set_option maxHeartbeats 4000000 in
theorem at_entry : At (entryContents preI m c) 0 (start m c) := by
  unfold At stateOf start init
  refine ⟨?_, ?_, ?_⟩
  · congr 1 <;> (simp only [entryContents, afterL_cons, afterL_nil]; after_reads_simp) <;> rfl
  · (simp only [entryContents, afterL_cons, afterL_nil]; after_reads_simp) <;> rfl
  · (simp only [entryContents, afterL_cons, afterL_nil]; after_reads_simp) <;> rfl

/-- The states one after another. -/
def states : ℕ → State F
  | 0 => start m c
  | n + 1 => step n (states n)

theorem at_iter : ∀ n, At (STEP^[n] (entryContents preI m c)) n (states m c n)
  | 0 => at_entry m c
  | n + 1 => by
    rw [Function.iterate_succ_apply']
    exact (at_iter n).next

set_option maxRecDepth 16384 in
theorem out_eq (V : Valuation τ sig (Elt F)) {x4 : (⟨S4x4096x2048, .bf16⟩ : BufTy).Contents (Elt F)} (h4 : V (Proc.devRef .tc main_arg4) = x4)
    {x5 : (⟨S1x2048, .f32⟩ : BufTy).Contents (Elt F)} (h5 : V (Proc.devRef .tc main_arg5) = x5) :
    out_main_v36 V = Step.R_main_v36 (stateOf V) x4 x5 := by
  unfold out_main_v36 Step.R_main_v36
  rw [h4, h5]
  rfl

/-- The reference recurrence's run: the result is read off the state after sixty-four trips, the arguments stay. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v36) = Step.R_main_v36 (states m c 64) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (Value.run m ρ)
  rw [out_eq _ (iter_main_arg4 m c 64) (iter_main_arg5 m c 64), (at_iter m c 64).1]

end Cert.HgrnRefIdeal.Hand

end
-- ==== Proof.HgrnRefValue.lean ====
module

public import proofs.«01_k».proof.Proof.HgrnRefRun
public import proofs.«01_k».proof.Proof.HgrnMath

@[expose] public section

/-! The reference recurrence's values, entry by entry, over the extended reals. -/

noncomputable section

namespace Cert.HgrnRefIdeal.Hand

open Idealize.ShloMosaic Idealize.ShloMosaic.TcCoe Idealize.SL.Sem Idealize.ShloMosaic.StableHlo
open Cert.HgrnRefIdeal Cert.HgrnRefIdeal.Gen Cert.Recurrence
open Cert.HgrnIdeal.Head (coe_sum)
open Cert.HgrnRefIdeal.Step (State step init)
open scoped BigOperators

/-! ## The trip's own chunk -/

theorem four {n0 n1 n2 n3 : ℕ} {a a' : Fin n0} {b b' : Fin n1} {c c' : Fin n2} {d d' : Fin n3} (ha : a = a') (hb : b = b') (hc : c = c') (hd : d = d') :
    ix4 a b c d = ix4 a' b' c' d' := by subst ha hb hc hd; rfl

theorem five {n0 n1 n2 n3 n4 : ℕ} {a a' : Fin n0} {b b' : Fin n1} {c c' : Fin n2} {d d' : Fin n3} {e e' : Fin n4} (ha : a = a') (hb : b = b') (hc : c = c') (hd : d = d')
    (he : e = e') : ix5 a b c d e = ix5 a' b' c' d' e' := by subst ha hb hc hd he; rfl

/-- The trip's number as the loop holds it. -/
theorem word_j (j : Fin 64) : (BitVec.ofNat 32 j.val).toInt = (j.val : ℤ) := by
  revert j; decide +kernel

/-- The starts a trip slices at: its own number on the first axis, nought on the others. -/
theorem start_j (f : Fin 5 → Int) (j : Fin 64) (h0 : f 0 = (j.val : ℤ)) (hs : ∀ a : Fin 4, f a.succ = 0) (h : S1x4x16x64x128.rank = S64x4x16x64x128.rank) :
    Host.clampedStart S64x4x16x64x128 S1x4x16x64x128 h f (0 : Fin 5) = j.val ∧ Host.clampedStart S64x4x16x64x128 S1x4x16x64x128 h f (1 : Fin 5) = 0
      ∧ Host.clampedStart S64x4x16x64x128 S1x4x16x64x128 h f (2 : Fin 5) = 0 ∧ Host.clampedStart S64x4x16x64x128 S1x4x16x64x128 h f (3 : Fin 5) = 0
      ∧ Host.clampedStart S64x4x16x64x128 S1x4x16x64x128 h f (4 : Fin 5) = 0 := by
  have hz : ∀ a : Fin 4, 0 + S1x4x16x64x128.size (Fin.cast rfl a.succ) ≤ S64x4x16x64x128.size a.succ := by decide
  have hc : ∀ a : Fin 4, Host.clampedStart S64x4x16x64x128 S1x4x16x64x128 h f a.succ = 0 :=
    fun a => Host.clampedStart_of_le h f a.succ 0 (hs a) (hz a)
  refine ⟨Host.clampedStart_of_le h f (0 : Fin 5) j.val h0 ?_, hc 0, hc 1, hc 2, hc 3⟩
  show j.val + 1 ≤ 64
  omega

variable (j : Fin 64) (s : State Ideal)

/-- The slice of a field at the trip's number is the field's own plane. -/
theorem slice_at (X : (⟨S64x4x16x64x128, .f32⟩ : BufTy).Contents (Elt Ideal)) (f : Fin 5 → Int) (h0 : f 0 = (j.val : ℤ)) (hs : ∀ a : Fin 4, f a.succ = 0)
    (b : Fin 4) (H : Fin 16) (t : Fin 64) (d : Fin 128) :
    shapeCast S4x16x64x128 (Host.dynamicSlice S1x4x16x64x128 X f sliceFits_S64x4x16x64x128_S1x4x16x64x128) shapeCasts_S1x4x16x64x128_S4x16x64x128 (ix4 b H t d)
      = X (ix5 j b H t d) := by
  pointwise
  obtain ⟨e0, e1, e2, e3, e4⟩ := start_j f j h0 hs sliceFits_S64x4x16x64x128_S1x4x16x64x128.1
  refine congrArg X (five (Fin.ext ?_) (Fin.ext ?_) (Fin.ext ?_) (Fin.ext ?_) (Fin.ext ?_)) <;> dsimp only <;> omega

theorem b5_at (b : Fin 4) (H : Fin 16) (t : Fin 64) (d : Fin 128) : Step.b5 j.val s (ix4 b H t d) = s.main_v16_0 (ix5 j b H t d) :=
  slice_at j _ _ (word_j j) (fun a => by fin_cases a <;> rfl) b H t d

theorem b11_at (b : Fin 4) (H : Fin 16) (t : Fin 64) (d : Fin 128) : Step.b11 j.val s (ix4 b H t d) = s.main_v16_1 (ix5 j b H t d) :=
  slice_at j _ _ (word_j j) (fun a => by fin_cases a <;> rfl) b H t d

theorem b17_at (b : Fin 4) (H : Fin 16) (t : Fin 64) (d : Fin 128) : Step.b17 j.val s (ix4 b H t d) = s.main_v16_2 (ix5 j b H t d) :=
  slice_at j _ _ (word_j j) (fun a => by fin_cases a <;> rfl) b H t d

theorem b23_at (b : Fin 4) (H : Fin 16) (t : Fin 64) (d : Fin 128) : Step.b23 j.val s (ix4 b H t d) = s.main_v16_3 (ix5 j b H t d) :=
  slice_at j _ _ (word_j j) (fun a => by fin_cases a <;> rfl) b H t d

/-- The mask keeps the tokens up to the present one. -/
theorem mask_at (t u : Fin 64) : Step.K_main_v13 (F := Ideal) (ix2 t u) = if u.val ≤ t.val then 1#1 else 0#1 := by
  pointwise [Step.K_main_v13, Step.K_main_call1_v5, Step.K_main_call1_c_0, Step.K_main_v12, Step.K_main_call1_v4, Step.K_main_call1_v3, Step.K_main_call1_v2, Step.K_main_call1_v1, Step.K_main_call1_c, Step.K_main_call1_v0, Step.K_main_c]
  revert t u
  decide +kernel

theorem neg_inf : Ideal.ofBits .f32 0xFF800000#32 = (⊥ : EReal) := by
  simp [Ideal.ofBits, Ideal.ieee]

set_option maxRecDepth 16384 in
theorem b43_at (b : Fin 4) (H : Fin 16) (t u : Fin 64) :
    Step.b43 j.val s (ix4 b H t u) = ∑ x : Fin 128, s.main_v16_0 (ix5 j b H t x) * s.main_v16_1 (ix5 j b H u x)
      * Ideal.exp (if u.val ≤ t.val then s.main_v16_3 (ix5 j b H t x) - s.main_v16_3 (ix5 j b H u x) else ⊥) := by
  simp only [← b5_at, ← b11_at, ← b23_at]
  unfold Step.b43 Step.b41 Step.b40 Step.b39 Step.b38 Step.b37 Step.b36 Step.b35 Step.b34 Step.b33 Step.b32 Step.b31 Step.b30 Step.b29 Step.b28 Step.b27 Step.b26 Step.b25 Step.b24 Step.b42
  generalize Step.b5 j.val s = q
  generalize Step.b11 j.val s = k
  generalize Step.b23 j.val s = B
  have hm := mask_at t u
  generalize Step.K_main_v13 (F := Ideal) = M at hm ⊢
  pointwise
  rw [hm, neg_inf]
  refine Finset.sum_congr rfl fun x _ => ?_
  split <;> rfl

set_option maxRecDepth 16384 in
theorem b48_at (b : Fin 4) (H : Fin 16) (t : Fin 64) (e : Fin 128) :
    Step.b48 j.val s (ix4 b H t e) = ∑ u : Fin 64, Step.b43 j.val s (ix4 b H t u) * s.main_v16_2 (ix5 j b H u e)
      + ∑ x : Fin 128, s.main_v16_0 (ix5 j b H t x) * Ideal.exp (s.main_v16_3 (ix5 j b H t x)) * s.main_v16_6 (ix4 b H x e) := by
  simp only [← b5_at, ← b17_at, ← b23_at]
  unfold Step.b48 Step.b47 Step.b46 Step.b45 Step.b44
  generalize Step.b43 j.val s = a
  generalize Step.b5 j.val s = q
  generalize Step.b17 j.val s = k
  generalize Step.b23 j.val s = B
  pointwise

set_option maxRecDepth 16384 in
theorem b60_at (b : Fin 4) (H : Fin 16) (x : Fin 128) (e : Fin 128) :
    Step.b60 j.val s (ix4 b H x e) = Ideal.exp (s.main_v16_3 (ix5 j b H 63 x)) * s.main_v16_6 (ix4 b H x e)
      + ∑ u : Fin 64, s.main_v16_1 (ix5 j b H u x) * Ideal.exp (s.main_v16_3 (ix5 j b H 63 x) - s.main_v16_3 (ix5 j b H u x)) * s.main_v16_2 (ix5 j b H u e) := by
  simp only [← b11_at, ← b17_at, ← b23_at]
  unfold Step.b60 Step.b59 Step.b58 Step.b57 Step.b56 Step.b55 Step.b54 Step.b53 Step.b52 Step.b51 Step.b50 Step.b49
  generalize Step.b11 j.val s = q
  generalize Step.b17 j.val s = k
  generalize Step.b23 j.val s = B
  pointwise

set_option maxRecDepth 16384 in
theorem update_at (X : (⟨S64x4x16x64x128, .f32⟩ : BufTy).Contents (Elt Ideal)) (B : (⟨S4x16x64x128, .f32⟩ : BufTy).Contents (Elt Ideal)) (f : Fin 5 → Int)
    (h0 : f 0 = (j.val : ℤ)) (hs : ∀ a : Fin 4, f a.succ = 0) (i : Fin 64) (b : Fin 4) (H : Fin 16) (t : Fin 64) (e : Fin 128) :
    Host.dynamicUpdateSlice X (broadcastInDim S1x4x16x64x128 ![1, 2, 3, 4] bcast_S4x16x64x128_S1x4x16x64x128_1_2_3_4 B) f updateFits_S64x4x16x64x128_S1x4x16x64x128 (ix5 i b H t e)
      = if i = j then B (ix4 b H t e) else X (ix5 i b H t e) := by
  obtain ⟨e0, e1, e2, e3, e4⟩ := start_j f j h0 hs updateFits_S64x4x16x64x128_S1x4x16x64x128.1
  pointwise
  by_cases hi : i = j
  · subst hi
    rw [if_pos rfl, dif_pos (by rw [e0, e1, e2, e3, e4]; omega)]
    refine congrArg B (four (Fin.ext ?_) (Fin.ext ?_) (Fin.ext ?_) (Fin.ext ?_)) <;> dsimp only <;> omega
  · have hv : i.val ≠ j.val := fun h => hi (Fin.ext h)
    rw [if_neg hi, dif_neg (by rw [e0]; omega)]

theorem b66_at (i : Fin 64) (b : Fin 4) (H : Fin 16) (t : Fin 64) (e : Fin 128) :
    Step.b66 j.val s (ix5 i b H t e) = if i = j then Step.b48 j.val s (ix4 b H t e) else s.main_v16_7 (ix5 i b H t e) :=
  update_at j _ _ _ (word_j j) (fun a => by fin_cases a <;> rfl) i b H t e

/-! ## What the loop starts from -/

section start

variable (a0 a1 a3 : (⟨S4x4096x2048, .bf16⟩ : BufTy).Contents (Elt Ideal)) (a2 : (⟨S4x4096x2048, .f32⟩ : BufTy).Contents (Elt Ideal))
  (b : Fin 4) (H : Fin 16) (t : Fin 64) (d : Fin 128)

/-- The token of chunk `j`, row `t`. -/
abbrev nt (j t : Fin 64) : Fin 4096 := ⟨j.val * 64 + t.val, by omega⟩

/-- The column of head `H`, entry `d`. -/
abbrev hx (H : Fin 16) (d : Fin 128) : Fin 2048 := ⟨H.val * 128 + d.val, by omega⟩

set_option maxRecDepth 16384 in
theorem q_at : Step.A_main_v2 a0 a1 a2 a3 (ix5 j b H t d) = a0 (ix3 b (nt j t) (hx H d)) := by
  unfold Step.A_main_v2 Step.A_main_v1 Step.A_main_v0
  pointwise

set_option maxRecDepth 16384 in
theorem k_at : Step.A_main_v5 a0 a1 a2 a3 (ix5 j b H t d) = a1 (ix3 b (nt j t) (hx H d)) := by
  unfold Step.A_main_v5 Step.A_main_v4 Step.A_main_v3
  pointwise

set_option maxRecDepth 16384 in
theorem v_at : Step.A_main_v8 a0 a1 a2 a3 (ix5 j b H t d) = a3 (ix3 b (nt j t) (hx H d)) := by
  unfold Step.A_main_v8 Step.A_main_v7 Step.A_main_v6
  pointwise

set_option maxRecDepth 16384 in
theorem g_at : Step.A_main_v10 a0 a1 a2 a3 (ix5 j b H t d) = a2 (ix3 b (nt j t) (hx H d)) := by
  unfold Step.A_main_v10 Step.A_main_v9
  pointwise

set_option maxRecDepth 16384 in
/-- The result, of the outputs the loop leaves. -/
theorem out_at (a4 : (⟨S4x4096x2048, .bf16⟩ : BufTy).Contents (Elt Ideal)) (a5 : (⟨S1x2048, .f32⟩ : BufTy).Contents (Elt Ideal)) (n : Fin 4096) (c : Fin 2048) :
    Step.R_main_v36 s a4 a5 (ix3 b n c)
      = normE (fun x => s.main_v16_7 (ix5 ⟨n.val / 64, by omega⟩ b ⟨c.val / 128, by omega⟩ ⟨n.val % 64, by omega⟩ x)) (a5 (ix2 0 c)) (a4 (ix3 b n c)) ⟨c.val % 128, by omega⟩ := by
  unfold Step.R_main_v36 normE
  generalize s.main_v16_7 = G
  pointwise

end start

/-! ## The gates' running sums -/

/-- A fold of additions is its start plus the sum. -/
theorem fold_add {ι : Type*} (f : ι → EReal) : ∀ (l : List ι) (a : EReal), l.foldl (fun r n => r + f n) a = a + (l.map f).sum
  | [], a => by simp
  | x :: l, a => by rw [List.foldl_cons, fold_add f l, List.map_cons, List.sum_cons, add_assoc]

/-- A windowed sum's entry, as a sum over the window's positions. -/
theorem window_sum {s t u : Shape} {φ : FTy} (window strides lo hi : Fin s.rank → ℕ) (x : FVec Ideal s φ) (init : FVec Ideal u φ) (h : s.ReduceWindows window strides lo hi t)
    (hu : 0 < u.numel) (hv : init (Shape.Idx.first hu) = 0) (i : t.Idx) :
    Host.reduceWindowAdd window strides lo hi x init h hu i = ∑ n : Fin (⟨s.rank, window⟩ : Shape).numel,
      (if hin : ∀ a, lo a ≤ (i (a.cast h.1.symm)).val * strides a + ((⟨s.rank, window⟩ : Shape).rowMajor.symm n a).val
          ∧ (i (a.cast h.1.symm)).val * strides a + ((⟨s.rank, window⟩ : Shape).rowMajor.symm n a).val - lo a < s.size a then
        x (fun a => ⟨(i (a.cast h.1.symm)).val * strides a + ((⟨s.rank, window⟩ : Shape).rowMajor.symm n a).val - lo a, (hin a).2⟩) else (0 : EReal)) := by
  unfold Host.reduceWindowAdd
  rw [Ideal.hostReduceWindowAdd_def, hv]
  refine (fold_add _ _ _).trans ?_
  rw [zero_add, ← Fin.sum_univ_def]
  exact Finset.sum_congr rfl fun n _ => dite_congr rfl (fun _ => rfl) (fun _ => rfl)

/-- The window of the running sum. -/
abbrev WS : Shape := ⟨S64x4x16x64x128.rank, ![1, 1, 1, 64, 1]⟩

theorem numel_ws : WS.numel = 64 := by decide +kernel

theorem pos_ws : ∀ n : Fin WS.numel, (WS.rowMajor.symm n (0 : Fin 5)).val = 0 ∧ (WS.rowMajor.symm n (1 : Fin 5)).val = 0 ∧ (WS.rowMajor.symm n (2 : Fin 5)).val = 0
    ∧ (WS.rowMajor.symm n (3 : Fin 5)).val = n.val ∧ (WS.rowMajor.symm n (4 : Fin 5)).val = 0 := by decide +kernel

/-- The running sum of a field along the tokens of its chunks. -/
theorem cumsum_at (G : FVec Ideal S64x4x16x64x128 .f32) (v : FVec Ideal S_ .f32) (hv : v (Shape.Idx.first h_S_) = 0) (b : Fin 4) (H : Fin 16) (t : Fin 64) (d : Fin 128) :
    Host.reduceWindowAdd ![1, 1, 1, 64, 1] ![1, 1, 1, 1, 1] ![0, 0, 0, 63, 0] ![0, 0, 0, 0, 0] G v
      reduceWindows_S64x4x16x64x128_S64x4x16x64x128_w1s1p0_0_w1s1p0_0_w1s1p0_0_w64s1p63_0_w1s1p0_0 h_S_ (ix5 j b H t d)
      = ∑ u : Fin 64, if u.val ≤ t.val then G (ix5 j b H u d) else 0 := by
  rw [window_sum _ _ _ _ _ _ _ _ hv]
  refine (Fintype.sum_congr _ (fun n : Fin WS.numel => if hn : 63 ≤ t.val + n.val then G (ix5 j b H ⟨t.val + n.val - 63, by have := n.isLt.trans_eq numel_ws; omega⟩ d) else (0 : EReal)) fun n => ?_).trans ?_
  · dsimp only
    obtain ⟨p0, p1, p2, p3, p4⟩ := pos_ws n
    have hn64 := n.isLt.trans_eq numel_ws
    have hj := j.isLt; have hb := b.isLt; have hH := H.isLt; have ht := t.isLt; have hd := d.isLt
    split
    · next hin =>
      have h3 := (hin (3 : Fin 5)).1
      change 63 ≤ t.val * 1 + (WS.rowMajor.symm n (3 : Fin 5)).val at h3
      rw [p3] at h3
      rw [dif_pos (by omega)]
      refine congrArg G (funext fun a => Fin.ext ?_)
      match a with
      | ⟨0, _⟩ => show j.val * 1 + (WS.rowMajor.symm n (0 : Fin 5)).val - 0 = j.val; rw [p0]; omega
      | ⟨1, _⟩ => show b.val * 1 + (WS.rowMajor.symm n (1 : Fin 5)).val - 0 = b.val; rw [p1]; omega
      | ⟨2, _⟩ => show H.val * 1 + (WS.rowMajor.symm n (2 : Fin 5)).val - 0 = H.val; rw [p2]; omega
      | ⟨3, _⟩ => show t.val * 1 + (WS.rowMajor.symm n (3 : Fin 5)).val - 63 = t.val + n.val - 63; rw [p3]; omega
      | ⟨4, _⟩ => show d.val * 1 + (WS.rowMajor.symm n (4 : Fin 5)).val - 0 = d.val; rw [p4]; omega
    · next hin =>
      rw [dif_neg fun hle => hin fun a => by
        match a with
        | ⟨0, _⟩ => show 0 ≤ j.val * 1 + (WS.rowMajor.symm n (0 : Fin 5)).val ∧ j.val * 1 + (WS.rowMajor.symm n (0 : Fin 5)).val - 0 < 64; rw [p0]; omega
        | ⟨1, _⟩ => show 0 ≤ b.val * 1 + (WS.rowMajor.symm n (1 : Fin 5)).val ∧ b.val * 1 + (WS.rowMajor.symm n (1 : Fin 5)).val - 0 < 4; rw [p1]; omega
        | ⟨2, _⟩ => show 0 ≤ H.val * 1 + (WS.rowMajor.symm n (2 : Fin 5)).val ∧ H.val * 1 + (WS.rowMajor.symm n (2 : Fin 5)).val - 0 < 16; rw [p2]; omega
        | ⟨3, _⟩ => show 63 ≤ t.val * 1 + (WS.rowMajor.symm n (3 : Fin 5)).val ∧ t.val * 1 + (WS.rowMajor.symm n (3 : Fin 5)).val - 63 < 64; rw [p3]; omega
        | ⟨4, _⟩ => show 0 ≤ d.val * 1 + (WS.rowMajor.symm n (4 : Fin 5)).val ∧ d.val * 1 + (WS.rowMajor.symm n (4 : Fin 5)).val - 0 < 128; rw [p4]; omega]
  · refine Fintype.sum_equiv ((finCongr numel_ws).trans (Equiv.addRight (t + 1))) _ _ fun n => ?_
    have hn64 := n.isLt.trans_eq numel_ws
    have ht := t.isLt
    have hval : (((finCongr numel_ws).trans (Equiv.addRight (t + 1))) n).val = (n.val + (t.val + 1)) % 64 := by
      show ((finCongr numel_ws n) + (t + 1)).val = _
      rw [Fin.val_add, Fin.val_add]
      show (n.val + (t.val + 1) % 64) % 64 = _
      omega
    generalize ((finCongr numel_ws).trans (Equiv.addRight (t + 1))) n = u at hval
    by_cases h : 63 ≤ t.val + n.val
    · rw [dif_pos h, if_pos (by omega)]
      exact congrArg G (five rfl rfl rfl (Fin.ext (by show t.val + n.val - 63 = u.val; omega)) rfl)
    · rw [dif_neg h, if_neg (by omega)]

/-! ## The states, over real inputs -/

section real

variable (Q K G V : Fin 4 → Fin 4096 → Fin 2048 → ℝ)

/-- What holds after `n` trips. -/
structure Good (n : ℕ) (s : State Ideal) : Prop where
  f0 : ∀ (j : Fin 64) b H t d, s.main_v16_0 (ix5 j b H t d) = (tok Q b H (64 * j.val + t.val) d : EReal)
  f1 : ∀ (j : Fin 64) b H t d, s.main_v16_1 (ix5 j b H t d) = (tok K b H (64 * j.val + t.val) d : EReal)
  f2 : ∀ (j : Fin 64) b H t d, s.main_v16_2 (ix5 j b H t d) = (tok V b H (64 * j.val + t.val) d : EReal)
  f3 : ∀ (j : Fin 64) b H t d, s.main_v16_3 (ix5 j b H t d) = (run (tok G b H) (64 * j.val) 64 t d : EReal)
  f6 : ∀ b H d e, s.main_v16_6 (ix4 b H d e) = (T (tok G b H) (tok K b H) (tok V b H) (64 * n) e d : EReal)
  f7 : ∀ (i : Fin 64) b H t e, i.val < n → s.main_v16_7 (ix5 i b H t e) = (O (tok G b H) (tok K b H) (tok V b H) (tok Q b H) (64 * i.val + t.val) e : EReal)

theorem coe_if (p : Prop) [Decidable p] (x : ℝ) : (if p then (x : EReal) else 0) = ((if p then x else 0 : ℝ) : EReal) := by split <;> simp

variable {Q K G V}

theorem Good.att {n : ℕ} {s : State Ideal} (h : Good Q K G V n s) (j : Fin 64) (b : Fin 4) (H : Fin 16) (t u : Fin 64) :
    Step.b43 j.val s (ix4 b H t u) = ((if u.val ≤ t.val then ∑ x, tok Q b H (64 * j.val + t.val) x * tok K b H (64 * j.val + u.val) x
      * Real.exp (run (tok G b H) (64 * j.val) 64 t x - run (tok G b H) (64 * j.val) 64 u x) else 0 : ℝ) : EReal) := by
  rw [b43_at]
  by_cases hu : u.val ≤ t.val
  · simp only [if_pos hu, h.f0, h.f1, h.f3, ← EReal.coe_sub, Ideal.exp_coe, ← EReal.coe_mul, ← coe_sum]
  · simp only [if_neg hu, Ideal.exp_bot, mul_zero, Finset.sum_const_zero, EReal.coe_zero]

theorem Good.out {n : ℕ} {s : State Ideal} (h : Good Q K G V n s) (hn : n < 64) (b : Fin 4) (H : Fin 16) (t : Fin 64) (e : Fin 128) :
    Step.b48 n s (ix4 b H t e) = (O (tok G b H) (tok K b H) (tok V b H) (tok Q b H) (64 * n + t.val) e : EReal) := by
  have hb := b48_at ⟨n, hn⟩ s b H t e
  have ha := h.att ⟨n, hn⟩ b H t
  dsimp only at hb ha
  simp only [ha, h.f0, h.f2, h.f3, h.f6, Ideal.exp_coe, ← EReal.coe_mul, ← coe_sum, ← EReal.coe_add] at hb
  rw [hb, chunk_O _ _ _ _ (64 * n) 64 t e]
  simp only [ite_mul, zero_mul]

theorem Good.state {n : ℕ} {s : State Ideal} (h : Good Q K G V n s) (hn : n < 64) (b : Fin 4) (H : Fin 16) (x e : Fin 128) :
    Step.b60 n s (ix4 b H x e) = (T (tok G b H) (tok K b H) (tok V b H) (64 * (n + 1)) e x : EReal) := by
  have hb := b60_at ⟨n, hn⟩ s b H x e
  simp only [h.f1, h.f2, h.f3, h.f6, ← EReal.coe_sub, Ideal.exp_coe, ← EReal.coe_mul, ← coe_sum, ← EReal.coe_add] at hb
  rw [hb, show 64 * (n + 1) = 64 * n + ((63 : Fin 64) : ℕ) + 1 from rfl, chunk_T _ _ _ (64 * n) 64 63 e x]
  refine congrArg _ (congrArg₂ (· + ·) (mul_comm _ _) (Finset.sum_congr rfl fun u _ => ?_))
  exact (mul_comm _ _).trans (if_pos (Nat.lt_succ_iff.mp u.isLt)).symm

theorem Good.next {n : ℕ} {s : State Ideal} (h : Good Q K G V n s) (hn : n < 64) : Good Q K G V (n + 1) (step n s) where
  f0 := h.f0
  f1 := h.f1
  f2 := h.f2
  f3 := h.f3
  f6 := h.state hn
  f7 i b H t e hi := by
    rw [Step.step_main_v16_7]
    refine (b66_at ⟨n, hn⟩ s i b H t e).trans ?_
    by_cases hin : i = ⟨n, hn⟩
    · subst hin
      rw [if_pos rfl]
      exact h.out hn b H t e
    · rw [if_neg hin]
      exact h.f7 i b H t e (by have : i.val ≠ n := fun q => hin (Fin.ext q); omega)

variable {a0 a1 a3 : (⟨S4x4096x2048, .bf16⟩ : BufTy).Contents (Elt Ideal)} {a2 : (⟨S4x4096x2048, .f32⟩ : BufTy).Contents (Elt Ideal)}

theorem good_init (hq : ∀ b n c, a0 (ix3 b n c) = (Q b n c : EReal)) (hk : ∀ b n c, a1 (ix3 b n c) = (K b n c : EReal))
    (hg : ∀ b n c, a2 (ix3 b n c) = (G b n c : EReal)) (hv : ∀ b n c, a3 (ix3 b n c) = (V b n c : EReal)) : Good Q K G V 0 (init a0 a1 a2 a3) where
  f0 j b H t d := by
    refine (q_at j a0 a1 a3 a2 b H t d).trans ((hq _ _ _).trans ?_)
    rw [tok_at Q b H (64 * j.val + t.val) d (nt j t) (hx H d) (by show j.val * 64 + t.val = _; omega) (by show H.val * 128 + d.val = _; omega)]
  f1 j b H t d := by
    refine (k_at j a0 a1 a3 a2 b H t d).trans ((hk _ _ _).trans ?_)
    rw [tok_at K b H (64 * j.val + t.val) d (nt j t) (hx H d) (by show j.val * 64 + t.val = _; omega) (by show H.val * 128 + d.val = _; omega)]
  f2 j b H t d := by
    refine (v_at j a0 a1 a3 a2 b H t d).trans ((hv _ _ _).trans ?_)
    rw [tok_at V b H (64 * j.val + t.val) d (nt j t) (hx H d) (by show j.val * 64 + t.val = _; omega) (by show H.val * 128 + d.val = _; omega)]
  f3 j b H t d := by
    have hz : (broadcastInDim S_ ![] bcast_S_S_ (constant (F := Ideal) S_ .f32 0x00000000#32)) (Shape.Idx.first h_S_) = 0 := by
      show Ideal.ofBits .f32 0x00000000#32 = 0
      simp [Ideal.ofBits, Ideal.ieee]
    refine (cumsum_at j (Step.A_main_v10 a0 a1 a2 a3) _ hz b H t d).trans ?_
    unfold run
    rw [coe_sum]
    refine Finset.sum_congr rfl fun u _ => ?_
    rw [← coe_if]
    refine if_congr Iff.rfl ?_ rfl
    refine (g_at j a0 a1 a3 a2 b H u d).trans ((hg _ _ _).trans ?_)
    rw [tok_at G b H (64 * j.val + u.val) d (nt j u) (hx H d) (by show j.val * 64 + u.val = _; omega) (by show H.val * 128 + d.val = _; omega)]
  f6 b H d e := by
    show Ideal.ofBits .f32 0x00000000#32 = _
    rw [show T (tok G b H) (tok K b H) (tok V b H) (64 * 0) e d = 0 from rfl]
    simp [Ideal.ofBits, Ideal.ieee]
  f7 i b H t e hi := absurd hi (Nat.not_lt_zero _)

end real

/-- The reference recurrence's result, entry by entry, over real inputs. -/
theorem value (m : (ℓ : Loc nD τ sig) → Buf (Elt Ideal) ℓ) (c : Dev nD) (Q K G V : Fin 4 → Fin 4096 → Fin 2048 → ℝ)
    (hq : ∀ b n x, m ((c.tc : Thread nD τ).loc main_arg0) (ix3 b n x) = (Q b n x : EReal)) (hk : ∀ b n x, m ((c.tc : Thread nD τ).loc main_arg1) (ix3 b n x) = (K b n x : EReal))
    (hg : ∀ b n x, m ((c.tc : Thread nD τ).loc main_arg2) (ix3 b n x) = (G b n x : EReal)) (hv : ∀ b n x, m ((c.tc : Thread nD τ).loc main_arg3) (ix3 b n x) = (V b n x : EReal))
    (b : Fin 4) (n : Fin 4096) (H : Fin 16) (e : Fin 128) (x : Fin 2048) (hx : x.val = 128 * H.val + e.val) :
    Step.R_main_v36 (states m c 64) (m ((c.tc : Thread nD τ).loc main_arg4)) (m ((c.tc : Thread nD τ).loc main_arg5)) (ix3 b n x)
      = normE (fun d => (O (tok G b H) (tok K b H) (tok V b H) (tok Q b H) n.val d : EReal)) (m ((c.tc : Thread nD τ).loc main_arg5) (ix2 0 x))
          (m ((c.tc : Thread nD τ).loc main_arg4) (ix3 b n x)) e := by
  have hgood : ∀ k ≤ 64, Good Q K G V k (states m c k) := by
    intro k
    induction k with
    | zero => exact fun _ => good_init hq hk hg hv
    | succ k ih => exact fun hk => (ih (by omega)).next (by omega)
  rw [out_at]
  have hH : (⟨x.val / 128, by omega⟩ : Fin 16) = H := Fin.ext (by show x.val / 128 = H.val; omega)
  have he : (⟨x.val % 128, by omega⟩ : Fin 128) = e := Fin.ext (by show x.val % 128 = e.val; omega)
  rw [hH, he]
  refine congrArg (fun o => normE o _ _ e) (funext fun d => ?_)
  rw [(hgood 64 le_rfl).f7 _ b H _ d (by show n.val / 64 < 64; omega)]
  show ((O _ _ _ _ (64 * (n.val / 64) + n.val % 64) d : ℝ) : EReal) = _
  rw [Nat.div_add_mod]

end Cert.HgrnRefIdeal.Hand

end
-- ==== Proof.HgrnPre.lean ====
module

public import proofs.«01_k».proof.Defs
public import proofs.«01_k».proof.Proof.Gen.HgrnRefIdeal.Run
public import Idealize.ShloMosaic.Lib.ReduceAll
public import Idealize.ShloMosaic.Lib.Pointwise

@[expose] public section

set_option maxRecDepth 16384

/-! What the precondition says: every entry of the four arrays the recurrence reads is a real number. -/

noncomputable section

namespace Cert.Pre_finite_inputs

open Idealize.ShloMosaic

/-- The shape relations the precondition's operations take. -/
instance facts : Facts where
  bitsLt_bf16_f32 := by decide
  bcast_S_S4x4096x2048 := by decide
  reducesTo_S4x4096x2048_S_d0_1_2 := by decide
  h_S_ := by decide

/-- An extended real whose absolute value is under infinity is a real. -/
theorem real_of_abs (x : EReal) (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have hb : FloatOps.ofBits (F := Ideal) .f32 0x7F800000#32 = (⊤ : EReal) := by
    show Ideal.ofBits .f32 0x7F800000#32 = (⊤ : EReal)
    simp [Ideal.ofBits, Ideal.ieee]
  rw [hb] at h
  have h : Ideal.cmp .olt (max x (-x)) ⊤ = 1#1 := h
  induction x using EReal.rec with
  | bot => simp [Ideal.cmp] at h
  | coe r => exact ⟨r, rfl⟩
  | top => simp [Ideal.cmp] at h

variable (a0 a1 : FVec Ideal S4x4096x2048 .bf16) (a2 : FVec Ideal S4x4096x2048 .f32) (a3 a4 : FVec Ideal S4x4096x2048 .bf16) (a5 : FVec Ideal S1x2048 .f32)

instance : Subsingleton S_.Idx := ⟨fun a b => funext fun i => i.elim0⟩

/-- The precondition makes every entry of the first four arrays a real. -/
theorem real_of_fn (h : fn (F := Ideal) a0 a1 a2 a3 a4 a5 = fun _ => 1#1) (i : S4x4096x2048.Idx) :
    (∃ r : ℝ, a0 i = (r : EReal)) ∧ (∃ r : ℝ, a1 i = (r : EReal)) ∧ (∃ r : ℝ, a2 i = (r : EReal)) ∧ ∃ r : ℝ, a3 i = (r : EReal) := by
  have h := congrFun h ix0
  unfold fn fn_part1 at h
  dsimp only at h
  obtain ⟨h, h3⟩ := IntOp.andi_eq_one.1 h
  obtain ⟨h, h2⟩ := IntOp.andi_eq_one.1 h
  obtain ⟨h0, h1⟩ := IntOp.andi_eq_one.1 h
  exact ⟨real_of_abs _ (Host.reduce_andi_all _ _ _ _ _ h0 i), real_of_abs _ (Host.reduce_andi_all _ _ _ _ _ h1 i),
    real_of_abs _ (Host.reduce_andi_all _ _ _ _ _ h2 i), real_of_abs _ (Host.reduce_andi_all _ _ _ _ _ h3 i)⟩

end Cert.Pre_finite_inputs

end
-- ==== Proof.GatesIdealRun.lean ====
/-
  The odd layer's input projection (idealized): what one run of the body leaves in each buffer, and the run of the
  whole program with every block that is written back named.
-/
module

public import proofs.«01_k».proof.Proof.Gen.GatesIdeal.Frame
public import Idealize.ShloMosaic.Lib.Pipeline.Frame
public import Idealize.ShloMosaic.Lib.Pipeline.DatRel
public import Idealize.ShloMosaic.Lib.Pipeline.ArrRel
public import Idealize.ShloMosaic.Lib.Pipeline.Value
public import Idealize.ShloMosaic.Lib.WritesUnit
public import Idealize.ShloMosaic.Lib.Tactic

@[expose] public section

set_option maxRecDepth 16384

noncomputable section

namespace Cert.GatesIdeal.Hand

open Cert.GatesIdeal Cert.GatesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ
/-- A memref of thread `c` holding `X`. -/
local notation "⟪" a ", " c ", " X "⟫" => (View.loc (c : Thread nD τ) (Memref.view a) ↦[View.set (Memref.view a)]{fullShare} X)

/-! ## The blocks the body computes -/

/-- The normalized rows. -/
def xnP (x : Vec F S1024x2048 .f32) (g : Vec F S1x1x2048 .f32) : FVec F S1024x2048 .bf16 :=
  let y : FVec F S1024x2048 .f32 := shapeCast S1024x2048 x shapeCasts_S1024x2048_S1024x2048
  let s : FVec F S1024x1 .f32 := shapeCast S1024x1 (multiReduction .add [1] S1024 (mulf y y) 0x00000000#32 reduces_S1024x2048_S1024 (.inl rfl) rfl) shapeCasts_S1024_S1024x1
  let r : FVec F S1024x1 .f32 := rsqrt (addf (divf s (broadcast S1024x1 (Scalar.ofBits .f32 0x45000000#32))) (broadcast S1024x1 (Scalar.ofBits .f32 0x358637BD#32)))
  shapeCast S1024x2048 (truncf .bf16 (mulf (mulf y (broadcastTo S1024x2048 r broadcasts_S1024x1_S1024x2048)) (broadcastTo S1024x2048 (shapeCast S1x2048 g shapeCasts_S1x1x2048_S1x2048) broadcasts_S1x2048_S1024x2048)) bitsLt_bf16_f32) shapeCasts_S1024x2048_S1024x2048

/-- The rows' products with a block of columns. -/
def zP (y : Vec F S1024x2048 .bf16) (w : Vec F S1x2048x1024 .bf16) : FVec F S1024x1024 .f32 :=
  matmul dot_S1024x2048_S2048x1024_S1024x1024_1_0_0_1_n_n none y (shapeCast S2048x1024 w shapeCasts_S1x2048x1024_S2048x1024) (constant S1024x1024 .f32 0x00000000#32)

/-- One half, everywhere. -/
def hf : FVec F S1024x1024 .f32 := broadcast S1024x1024 (Scalar.ofBits .f32 0x3F000000#32)

/-- The products through the gate that multiplies by its own argument: the queries, and the output gates. -/
def qP (y : Vec F S1024x2048 .bf16) (w : Vec F S1x2048x1024 .bf16) : FVec F S1024x1024 .bf16 :=
  truncf .bf16 (mulf (zP y w) (addf (mulf hf (tanh (mulf hf (zP y w)))) hf)) bitsLt_bf16_f32

/-- The keys before rounding: one minus the forget gate. -/
def kP (y : Vec F S1024x2048 .bf16) (w : Vec F S1x2048x1024 .bf16) (b : Vec F S1x1024 .f32) : FVec F S1024x1024 .f32 :=
  mulf (broadcastTo S1024x1024 (subf (broadcast S1x1024 (Scalar.ofBits .f32 0x3F800000#32)) (shapeCast S1x1024 b shapeCasts_S1x1024_S1x1024)) broadcasts_S1x1024_S1024x1024)
    (subf hf (mulf hf (tanh (mulf hf (zP y w)))))

/-- The keys. -/
def kkP (y : Vec F S1024x2048 .bf16) (w : Vec F S1x2048x1024 .bf16) (b : Vec F S1x1024 .f32) : FVec F S1024x1024 .bf16 := truncf .bf16 (kP y w b) bitsLt_bf16_f32

/-- The logarithms of the forget gates. -/
def fP (y : Vec F S1024x2048 .bf16) (w : Vec F S1x2048x1024 .bf16) (b : Vec F S1x1024 .f32) : FVec F S1024x1024 .f32 :=
  log (maximumf (subf (broadcast S1024x1024 (Scalar.ofBits .f32 0x3F800000#32)) (kP y w b)) (broadcast S1024x1024 (Scalar.ofBits .f32 0x00800000#32)))

/-- The values. -/
def vP (y : Vec F S1024x2048 .bf16) (w : Vec F S1x2048x1024 .bf16) : FVec F S1024x1024 .bf16 := truncf .bf16 (zP y w) bitsLt_bf16_f32

/-! ## The body's conditions -/

/-- Whether the body normalizes, as it computes it. -/
def cond1 (i : grid0.Coords) : BitVec 1 := Scalar.cmpi .ne (Scalar.extui (Scalar.cmpi .eq (BitVec.ofNat 32 (i 1).val) 0#32)) 0#32

theorem cond1_iff (i : grid0.Coords) : cond1 i = 1#1 ↔ (i 1).val = 0 := by
  unfold cond1; generalize i 1 = j; revert j; decide +kernel
theorem cond2_iff (i : grid0.Coords) : k0_cond2 i = 1#1 ↔ (i 1).val < 2 := by
  unfold k0_cond2; generalize i 1 = j; revert j; decide +kernel
theorem cond3_iff (i : grid0.Coords) : k0_cond3 i = 1#1 ↔ 2 ≤ (i 1).val ∧ (i 1).val < 4 := by
  unfold k0_cond3; generalize i 1 = j; revert j; decide +kernel
theorem cond4_iff (i : grid0.Coords) : k0_cond4 i = 1#1 ↔ 4 ≤ (i 1).val ∧ (i 1).val < 6 := by
  unfold k0_cond4; generalize i 1 = j; revert j; decide +kernel
theorem cond5_iff (i : grid0.Coords) : k0_cond5 i = 1#1 ↔ 6 ≤ (i 1).val := by
  unfold k0_cond5; generalize i 1 = j; revert j; decide +kernel

/-- What one run at column step `k` does to the blocks: the scratch gets the normalized rows at step 0, then each output gets its
    block at its own two steps and is left alone at the others. -/
structure Step (k : ℕ) (x : Vec F S1024x2048 .f32) (g : Vec F S1x1x2048 .f32) (w : Vec F S1x2048x1024 .bf16) (b : Vec F S1x1024 .f32)
    (q kk : Vec F S1024x1024 .bf16) (f : Vec F S1024x1024 .f32) (v o : Vec F S1024x1024 .bf16) (y : Vec F S1024x2048 .bf16)
    (q' kk' : Vec F S1024x1024 .bf16) (f' : Vec F S1024x1024 .f32) (v' o' : Vec F S1024x1024 .bf16) (y' : Vec F S1024x2048 .bf16) : Prop where
  hy : y' = if k = 0 then xnP x g else y
  hq : q' = if k < 2 then qP y' w else q
  hkk : kk' = if 2 ≤ k ∧ k < 4 then kkP y' w b else kk
  hf : f' = if 2 ≤ k ∧ k < 4 then fP y' w b else f
  hv : v' = if 4 ≤ k ∧ k < 6 then vP y' w else v
  ho : o' = if 6 ≤ k then qP y' w else o

theorem hz2 : (![0, 0] : Fin 2 → Nat) = fun _ => 0 := funext fun a => by fin_cases a <;> rfl
theorem hz3 : (![0, 0, 0] : Fin 3 → Nat) = fun _ => 0 := funext fun a => by fin_cases a <;> rfl

/-- A store of a whole block leaves what it stores. -/
theorem put_whole {κ : Kind} {sp : Space} {S : Shape} {e : EltTy} (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  funext y
  exact View.read_writes_cons_unit_of_mem v f inb w [] y y h fun a => (Nat.zero_add _).symm

section Runs

variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x2048 .bf16) (harg11 : arg11.IsWhole)

set_option maxHeartbeats 4000000 in
/-- The body at a point that opens a row block. -/
theorem run_A (h : (i 1).val = 0) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (E : Set ℕ) (K : PUnit → sProp 𝕄) :
    iprop(⟪arg2, c, X2⟫ ∗ ⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ((∃ X6' X7' X8' X9' X10' X11', ⌜Step (i 1).val (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg6.view.read (Elt F) X6') (arg7.view.read (Elt F) X7') (arg8.view.read (Elt F) X8') (arg9.view.read (Elt F) X9') (arg10.view.read (Elt F) X10') (arg11.view.read (Elt F) X11')⌝ ∗ ⟪arg2, c, X2⟫ ∗ ⟪arg3, c, X3⟫ ∗ ⟪arg4, c, X4⟫ ∗ ⟪arg5, c, X5⟫ ∗ ⟪arg6, c, X6'⟫ ∗ ⟪arg7, c, X7'⟫ ∗ ⟪arg8, c, X8'⟫ ∗ ⟪arg9, c, X9'⟫ ∗ ⟪arg10, c, X10'⟫ ∗ ⟪arg11, c, X11'⟫) -∗ K ⟨⟩))
      ⊢ wp frame (wpE (defs₀ (F := F)) Variants.none c none) E (cc0_hgrn_inproj i arg2 harg2 arg3 harg3 arg4 harg4 arg5 harg5 arg6 harg6 arg7 harg7 arg8 harg8 arg9 harg9 arg10 harg10 arg11 harg11) K := by
  have hc1 : cond1 i = 1#1 := (cond1_iff i).mpr (by omega)
  have hc2 : k0_cond2 i = 1#1 := (cond2_iff i).mpr (by omega)
  have hc3 : ¬ k0_cond3 i = 1#1 := mt (cond3_iff i).mp (by omega)
  have hc4 : ¬ k0_cond4 i = 1#1 := mt (cond4_iff i).mp (by omega)
  have hc5 : ¬ k0_cond5 i = 1#1 := mt (cond5_iff i).mp (by omega)
  unfold cond1 at hc1
  unfold cc0_hgrn_inproj
  iintro ⟨H2, H3, H4, H5, H6, H7, H8, H9, H10, H11, Hk⟩
  sl_exec (disch := first | sl_exact hc1 | sl_exact hc2 | sl_exact hc3 | sl_exact hc4 | sl_exact hc5)
  sl_step
  iapply Hk
  iexists _, _, _, _, _, _
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  sl_unfold_words
  rw [put_whole arg6.view X6 hz2, put_whole arg11.view X11 hz2]
  simp only [View.readCov_unit_zero (S := S1024x2048) _ hz2, View.readAt_eq_ld, View.ld_unit_zero (S := S1024x2048) hz2, View.ld_unit_zero (S := S1x1x2048) hz3, View.ld_unit_zero (S := S1x2048x1024) hz3, View.ld_unit_zero (S := S1x1024) hz2]
  constructor
  all_goals first | rw [if_pos (by omega)]; rfl | rw [if_neg (by omega)]

set_option maxHeartbeats 4000000 in
/-- The body at the second point. -/
theorem run_B (h : (i 1).val = 1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (E : Set ℕ) (K : PUnit → sProp 𝕄) :
    iprop(⟪arg2, c, X2⟫ ∗ ⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ((∃ X6' X7' X8' X9' X10' X11', ⌜Step (i 1).val (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg6.view.read (Elt F) X6') (arg7.view.read (Elt F) X7') (arg8.view.read (Elt F) X8') (arg9.view.read (Elt F) X9') (arg10.view.read (Elt F) X10') (arg11.view.read (Elt F) X11')⌝ ∗ ⟪arg2, c, X2⟫ ∗ ⟪arg3, c, X3⟫ ∗ ⟪arg4, c, X4⟫ ∗ ⟪arg5, c, X5⟫ ∗ ⟪arg6, c, X6'⟫ ∗ ⟪arg7, c, X7'⟫ ∗ ⟪arg8, c, X8'⟫ ∗ ⟪arg9, c, X9'⟫ ∗ ⟪arg10, c, X10'⟫ ∗ ⟪arg11, c, X11'⟫) -∗ K ⟨⟩))
      ⊢ wp frame (wpE (defs₀ (F := F)) Variants.none c none) E (cc0_hgrn_inproj i arg2 harg2 arg3 harg3 arg4 harg4 arg5 harg5 arg6 harg6 arg7 harg7 arg8 harg8 arg9 harg9 arg10 harg10 arg11 harg11) K := by
  have hc1 : ¬ cond1 i = 1#1 := mt (cond1_iff i).mp (by omega)
  have hc2 : k0_cond2 i = 1#1 := (cond2_iff i).mpr (by omega)
  have hc3 : ¬ k0_cond3 i = 1#1 := mt (cond3_iff i).mp (by omega)
  have hc4 : ¬ k0_cond4 i = 1#1 := mt (cond4_iff i).mp (by omega)
  have hc5 : ¬ k0_cond5 i = 1#1 := mt (cond5_iff i).mp (by omega)
  unfold cond1 at hc1
  unfold cc0_hgrn_inproj
  iintro ⟨H2, H3, H4, H5, H6, H7, H8, H9, H10, H11, Hk⟩
  sl_exec (disch := first | sl_exact hc1 | sl_exact hc2 | sl_exact hc3 | sl_exact hc4 | sl_exact hc5)
  sl_step
  iapply Hk
  iexists _, _, _, _, _, _
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  sl_unfold_words
  rw [put_whole arg6.view X6 hz2]
  simp only [View.readCov_unit_zero (S := S1024x2048) _ hz2, View.readAt_eq_ld, View.ld_unit_zero (S := S1024x2048) hz2, View.ld_unit_zero (S := S1x1x2048) hz3, View.ld_unit_zero (S := S1x2048x1024) hz3, View.ld_unit_zero (S := S1x1024) hz2]
  constructor
  all_goals first | rw [if_pos (by omega)]; rfl | rw [if_neg (by omega)]

set_option maxHeartbeats 4000000 in
/-- The body at the points of the keys. -/
theorem run_C (h : 2 ≤ (i 1).val ∧ (i 1).val < 4) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (E : Set ℕ) (K : PUnit → sProp 𝕄) :
    iprop(⟪arg2, c, X2⟫ ∗ ⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ((∃ X6' X7' X8' X9' X10' X11', ⌜Step (i 1).val (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg6.view.read (Elt F) X6') (arg7.view.read (Elt F) X7') (arg8.view.read (Elt F) X8') (arg9.view.read (Elt F) X9') (arg10.view.read (Elt F) X10') (arg11.view.read (Elt F) X11')⌝ ∗ ⟪arg2, c, X2⟫ ∗ ⟪arg3, c, X3⟫ ∗ ⟪arg4, c, X4⟫ ∗ ⟪arg5, c, X5⟫ ∗ ⟪arg6, c, X6'⟫ ∗ ⟪arg7, c, X7'⟫ ∗ ⟪arg8, c, X8'⟫ ∗ ⟪arg9, c, X9'⟫ ∗ ⟪arg10, c, X10'⟫ ∗ ⟪arg11, c, X11'⟫) -∗ K ⟨⟩))
      ⊢ wp frame (wpE (defs₀ (F := F)) Variants.none c none) E (cc0_hgrn_inproj i arg2 harg2 arg3 harg3 arg4 harg4 arg5 harg5 arg6 harg6 arg7 harg7 arg8 harg8 arg9 harg9 arg10 harg10 arg11 harg11) K := by
  have hc1 : ¬ cond1 i = 1#1 := mt (cond1_iff i).mp (by omega)
  have hc2 : ¬ k0_cond2 i = 1#1 := mt (cond2_iff i).mp (by omega)
  have hc3 : k0_cond3 i = 1#1 := (cond3_iff i).mpr (by omega)
  have hc4 : ¬ k0_cond4 i = 1#1 := mt (cond4_iff i).mp (by omega)
  have hc5 : ¬ k0_cond5 i = 1#1 := mt (cond5_iff i).mp (by omega)
  unfold cond1 at hc1
  unfold cc0_hgrn_inproj
  iintro ⟨H2, H3, H4, H5, H6, H7, H8, H9, H10, H11, Hk⟩
  sl_exec (disch := first | sl_exact hc1 | sl_exact hc2 | sl_exact hc3 | sl_exact hc4 | sl_exact hc5)
  sl_step
  iapply Hk
  iexists _, _, _, _, _, _
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  sl_unfold_words
  rw [put_whole arg7.view X7 hz2, put_whole arg8.view X8 hz2]
  simp only [View.readCov_unit_zero (S := S1024x2048) _ hz2, View.readAt_eq_ld, View.ld_unit_zero (S := S1024x2048) hz2, View.ld_unit_zero (S := S1x1x2048) hz3, View.ld_unit_zero (S := S1x2048x1024) hz3, View.ld_unit_zero (S := S1x1024) hz2]
  constructor
  all_goals first | rw [if_pos (by omega)]; rfl | rw [if_neg (by omega)]

set_option maxHeartbeats 4000000 in
/-- The body at the points of the values. -/
theorem run_D (h : 4 ≤ (i 1).val ∧ (i 1).val < 6) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (E : Set ℕ) (K : PUnit → sProp 𝕄) :
    iprop(⟪arg2, c, X2⟫ ∗ ⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ((∃ X6' X7' X8' X9' X10' X11', ⌜Step (i 1).val (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg6.view.read (Elt F) X6') (arg7.view.read (Elt F) X7') (arg8.view.read (Elt F) X8') (arg9.view.read (Elt F) X9') (arg10.view.read (Elt F) X10') (arg11.view.read (Elt F) X11')⌝ ∗ ⟪arg2, c, X2⟫ ∗ ⟪arg3, c, X3⟫ ∗ ⟪arg4, c, X4⟫ ∗ ⟪arg5, c, X5⟫ ∗ ⟪arg6, c, X6'⟫ ∗ ⟪arg7, c, X7'⟫ ∗ ⟪arg8, c, X8'⟫ ∗ ⟪arg9, c, X9'⟫ ∗ ⟪arg10, c, X10'⟫ ∗ ⟪arg11, c, X11'⟫) -∗ K ⟨⟩))
      ⊢ wp frame (wpE (defs₀ (F := F)) Variants.none c none) E (cc0_hgrn_inproj i arg2 harg2 arg3 harg3 arg4 harg4 arg5 harg5 arg6 harg6 arg7 harg7 arg8 harg8 arg9 harg9 arg10 harg10 arg11 harg11) K := by
  have hc1 : ¬ cond1 i = 1#1 := mt (cond1_iff i).mp (by omega)
  have hc2 : ¬ k0_cond2 i = 1#1 := mt (cond2_iff i).mp (by omega)
  have hc3 : ¬ k0_cond3 i = 1#1 := mt (cond3_iff i).mp (by omega)
  have hc4 : k0_cond4 i = 1#1 := (cond4_iff i).mpr (by omega)
  have hc5 : ¬ k0_cond5 i = 1#1 := mt (cond5_iff i).mp (by omega)
  unfold cond1 at hc1
  unfold cc0_hgrn_inproj
  iintro ⟨H2, H3, H4, H5, H6, H7, H8, H9, H10, H11, Hk⟩
  sl_exec (disch := first | sl_exact hc1 | sl_exact hc2 | sl_exact hc3 | sl_exact hc4 | sl_exact hc5)
  sl_step
  iapply Hk
  iexists _, _, _, _, _, _
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  sl_unfold_words
  rw [put_whole arg9.view X9 hz2]
  simp only [View.readCov_unit_zero (S := S1024x2048) _ hz2, View.readAt_eq_ld, View.ld_unit_zero (S := S1024x2048) hz2, View.ld_unit_zero (S := S1x1x2048) hz3, View.ld_unit_zero (S := S1x2048x1024) hz3, View.ld_unit_zero (S := S1x1024) hz2]
  constructor
  all_goals first | rw [if_pos (by omega)]; rfl | rw [if_neg (by omega)]

set_option maxHeartbeats 4000000 in
/-- The body at the points of the output gates. -/
theorem run_E (h : 6 ≤ (i 1).val) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (E : Set ℕ) (K : PUnit → sProp 𝕄) :
    iprop(⟪arg2, c, X2⟫ ∗ ⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ((∃ X6' X7' X8' X9' X10' X11', ⌜Step (i 1).val (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg6.view.read (Elt F) X6') (arg7.view.read (Elt F) X7') (arg8.view.read (Elt F) X8') (arg9.view.read (Elt F) X9') (arg10.view.read (Elt F) X10') (arg11.view.read (Elt F) X11')⌝ ∗ ⟪arg2, c, X2⟫ ∗ ⟪arg3, c, X3⟫ ∗ ⟪arg4, c, X4⟫ ∗ ⟪arg5, c, X5⟫ ∗ ⟪arg6, c, X6'⟫ ∗ ⟪arg7, c, X7'⟫ ∗ ⟪arg8, c, X8'⟫ ∗ ⟪arg9, c, X9'⟫ ∗ ⟪arg10, c, X10'⟫ ∗ ⟪arg11, c, X11'⟫) -∗ K ⟨⟩))
      ⊢ wp frame (wpE (defs₀ (F := F)) Variants.none c none) E (cc0_hgrn_inproj i arg2 harg2 arg3 harg3 arg4 harg4 arg5 harg5 arg6 harg6 arg7 harg7 arg8 harg8 arg9 harg9 arg10 harg10 arg11 harg11) K := by
  have hc1 : ¬ cond1 i = 1#1 := mt (cond1_iff i).mp (by omega)
  have hc2 : ¬ k0_cond2 i = 1#1 := mt (cond2_iff i).mp (by omega)
  have hc3 : ¬ k0_cond3 i = 1#1 := mt (cond3_iff i).mp (by omega)
  have hc4 : ¬ k0_cond4 i = 1#1 := mt (cond4_iff i).mp (by omega)
  have hc5 : k0_cond5 i = 1#1 := (cond5_iff i).mpr (by omega)
  unfold cond1 at hc1
  unfold cc0_hgrn_inproj
  iintro ⟨H2, H3, H4, H5, H6, H7, H8, H9, H10, H11, Hk⟩
  sl_exec (disch := first | sl_exact hc1 | sl_exact hc2 | sl_exact hc3 | sl_exact hc4 | sl_exact hc5)
  sl_step
  iapply Hk
  iexists _, _, _, _, _, _
  isplitr; swap
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  sl_unfold_words
  rw [put_whole arg10.view X10 hz2]
  simp only [View.readCov_unit_zero (S := S1024x2048) _ hz2, View.readAt_eq_ld, View.ld_unit_zero (S := S1024x2048) hz2, View.ld_unit_zero (S := S1x1x2048) hz3, View.ld_unit_zero (S := S1x2048x1024) hz3, View.ld_unit_zero (S := S1x1024) hz2]
  constructor
  all_goals first | rw [if_pos (by omega)]; rfl | rw [if_neg (by omega)]

/-- The body at any point. -/
theorem run (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (E : Set ℕ) (K : PUnit → sProp 𝕄) :
    iprop(⟪arg2, c, X2⟫ ∗ ⟪arg3, c, X3⟫ ∗ ⟪arg4, c, X4⟫ ∗ ⟪arg5, c, X5⟫ ∗ ⟪arg6, c, X6⟫ ∗ ⟪arg7, c, X7⟫ ∗ ⟪arg8, c, X8⟫ ∗ ⟪arg9, c, X9⟫ ∗ ⟪arg10, c, X10⟫ ∗ ⟪arg11, c, X11⟫ ∗ ((∃ X6' X7' X8' X9' X10' X11', ⌜Step (i 1).val (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg11.view.read (Elt F) X11) (arg6.view.read (Elt F) X6') (arg7.view.read (Elt F) X7') (arg8.view.read (Elt F) X8') (arg9.view.read (Elt F) X9') (arg10.view.read (Elt F) X10') (arg11.view.read (Elt F) X11')⌝ ∗ ⟪arg2, c, X2⟫ ∗ ⟪arg3, c, X3⟫ ∗ ⟪arg4, c, X4⟫ ∗ ⟪arg5, c, X5⟫ ∗ ⟪arg6, c, X6'⟫ ∗ ⟪arg7, c, X7'⟫ ∗ ⟪arg8, c, X8'⟫ ∗ ⟪arg9, c, X9'⟫ ∗ ⟪arg10, c, X10'⟫ ∗ ⟪arg11, c, X11'⟫) -∗ K ⟨⟩))
      ⊢ wp frame (wpE (defs₀ (F := F)) Variants.none c none) E (cc0_hgrn_inproj i arg2 harg2 arg3 harg3 arg4 harg4 arg5 harg5 arg6 harg6 arg7 harg7 arg8 harg8 arg9 harg9 arg10 harg10 arg11 harg11) K := by
  by_cases h0 : (i 1).val = 0; · exact run_A c i arg2 harg2 arg3 harg3 arg4 harg4 arg5 harg5 arg6 harg6 arg7 harg7 arg8 harg8 arg9 harg9 arg10 harg10 arg11 harg11 h0 X2 X3 X4 X5 X6 X7 X8 X9 X10 X11 E K
  by_cases h1 : (i 1).val = 1; · exact run_B c i arg2 harg2 arg3 harg3 arg4 harg4 arg5 harg5 arg6 harg6 arg7 harg7 arg8 harg8 arg9 harg9 arg10 harg10 arg11 harg11 h1 X2 X3 X4 X5 X6 X7 X8 X9 X10 X11 E K
  by_cases h2 : (i 1).val < 4; · exact run_C c i arg2 harg2 arg3 harg3 arg4 harg4 arg5 harg5 arg6 harg6 arg7 harg7 arg8 harg8 arg9 harg9 arg10 harg10 arg11 harg11 ⟨by omega, h2⟩ X2 X3 X4 X5 X6 X7 X8 X9 X10 X11 E K
  by_cases h3 : (i 1).val < 6; · exact run_D c i arg2 harg2 arg3 harg3 arg4 harg4 arg5 harg5 arg6 harg6 arg7 harg7 arg8 harg8 arg9 harg9 arg10 harg10 arg11 harg11 ⟨by omega, h3⟩ X2 X3 X4 X5 X6 X7 X8 X9 X10 X11 E K
  exact run_E c i arg2 harg2 arg3 harg3 arg4 harg4 arg5 harg5 arg6 harg6 arg7 harg7 arg8 harg8 arg9 harg9 arg10 harg10 arg11 harg11 (by omega) X2 X3 X4 X5 X6 X7 X8 X9 X10 X11 E K

end Runs

/-! ## The run over the grid -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev sc0_0 : Memref sig .tc .vmem S1024x2048 .bf16 := Memref.whole cc0_scratch0

/-- The launch's invariant: the scratch at some contents, the generator register at some state. -/
theorem PhiA0_eq (c : Dev nD) :
    (Pipeline.ΦA spec0 c : sProp 𝕄) = iprop((∃ d, owns (c : Thread nD τ) sc0_0 fullShare d) ∗ (∃ r, prngReg c r)) := by
  unfold Pipeline.ΦA; rw [scopedRest0_eq]; simp only [sc0_0, owns_whole]; try rfl

variable (m : (ℓ : Loc nD τ sig) → Buf (Elt F) ℓ) (ρ : Dev nD → PrngReg)

/-- The point of step `k` in the row block of point `n`. -/
def pt (n k : ℕ) : Fin cfg0.N := ⟨(8 * (n / 8) + k) % 128, lt_of_lt_of_eq (Nat.mod_lt _ (by decide)) N_0.symm⟩

theorem pt_self (t : Fin cfg0.N) (k : ℕ) (h : k = t.val % 8) : pt t.val k = t := by
  have := lt_of_lt_of_eq t.isLt N_0
  exact Fin.ext (by show (8 * (t.val / 8) + k) % 128 = t.val; omega)

theorem pt_congr (n n' k : ℕ) (h : n / 8 = n' / 8) : pt n k = pt n' k := by unfold pt; simp only [h]

theorem coord1 : ∀ t : Fin cfg0.N, (grid0.coords t 1).val = t.val % 8 := (by decide +kernel : ∀ t : Fin grid0.N, _)

/-- The normalized rows of the row block of point `n`. -/
def rows (c : Dev nD) (n : ℕ) : Vec F S1024x2048 .bf16 := xnP (iblk m c 0 (pt n 0)) (iblk m c 1 (pt n 0))

theorem rows_congr (c : Dev nD) (n n' : ℕ) (h : n / 8 = n' / 8) : rows m c n = rows m c n' := by unfold rows; rw [pt_congr n n' 0 h]

/-- What the scratch holds before point `n`: nothing known where a row block opens, else the block's normalized rows. -/
def St (c : Dev nD) (n : ℕ) (X : Vec F S1024x2048 .bf16) : Prop := n % 8 ≠ 0 → X = rows m c n

/-- What a point leaves in each output's buffer, once its first own step is reached: the block of its last own step so far. -/
def R4 (c : Dev nD) (t : Fin cfg0.N) (X : Vec F S1024x1024 .bf16) : Prop := X = qP (rows m c t.val) (iblk m c 2 (pt t.val (min (t.val % 8) 1)))
def R5 (c : Dev nD) (t : Fin cfg0.N) (X : Vec F S1024x1024 .bf16) : Prop :=
  2 ≤ t.val % 8 → X = kkP (rows m c t.val) (iblk m c 2 (pt t.val (min (t.val % 8) 3))) (iblk m c 3 (pt t.val (min (t.val % 8) 3)))
def R6 (c : Dev nD) (t : Fin cfg0.N) (X : Vec F S1024x1024 .f32) : Prop :=
  2 ≤ t.val % 8 → X = fP (rows m c t.val) (iblk m c 2 (pt t.val (min (t.val % 8) 3))) (iblk m c 3 (pt t.val (min (t.val % 8) 3)))
def R7 (c : Dev nD) (t : Fin cfg0.N) (X : Vec F S1024x1024 .bf16) : Prop :=
  4 ≤ t.val % 8 → X = vP (rows m c t.val) (iblk m c 2 (pt t.val (min (t.val % 8) 5)))
def R8 (c : Dev nD) (t : Fin cfg0.N) (X : Vec F S1024x1024 .bf16) : Prop :=
  6 ≤ t.val % 8 → X = qP (rows m c t.val) (iblk m c 2 (pt t.val (t.val % 8)))

/-- A run of the body at a point carries what is known from one point to the next. -/
theorem step_ok (c : Dev nD) (t : Fin cfg0.N) (i : grid0.Coords) (hi : (i 1).val = t.val % 8) {x g w b q kk f v o y q' kk' f' v' o' y'}
    (hs : Step (F := F) (i 1).val x g w b q kk f v o y q' kk' f' v' o' y')
    (ex : x = iblk m c 0 t) (eg : g = iblk m c 1 t) (ew : w = iblk m c 2 t) (eb : b = iblk m c 3 t) (hy : St m c t.val y)
    (hq : 2 ≤ t.val % 8 → q = qP (rows m c t.val) (iblk m c 2 (pt t.val 1)))
    (hkk : 4 ≤ t.val % 8 → kk = kkP (rows m c t.val) (iblk m c 2 (pt t.val 3)) (iblk m c 3 (pt t.val 3)))
    (hf : 4 ≤ t.val % 8 → f = fP (rows m c t.val) (iblk m c 2 (pt t.val 3)) (iblk m c 3 (pt t.val 3)))
    (hv : 6 ≤ t.val % 8 → v = vP (rows m c t.val) (iblk m c 2 (pt t.val 5))) :
    R4 m c t q' ∧ R5 m c t kk' ∧ R6 m c t f' ∧ R7 m c t v' ∧ R8 m c t o' ∧ St m c (t.val + 1) y' := by
  have ey : y' = rows m c t.val := by
    rw [hs.hy, hi]
    split
    · next h => unfold rows; rw [pt_self t 0 h.symm, ex, eg]
    · next h => exact hy h
  refine ⟨?_, fun h2 => ?_, fun h2 => ?_, fun h4 => ?_, fun h6 => ?_, fun hn => ?_⟩
  · unfold R4
    rw [hs.hq, hi, ey, ew]
    split
    · rw [pt_self t _ (by omega)]
    · rw [show min (t.val % 8) 1 = 1 by omega]; exact hq (by omega)
  · rw [hs.hkk, hi, ey, ew, eb]
    split
    · rw [pt_self t _ (by omega)]
    · rw [show min (t.val % 8) 3 = 3 by omega]; exact hkk (by omega)
  · rw [hs.hf, hi, ey, ew, eb]
    split
    · rw [pt_self t _ (by omega)]
    · rw [show min (t.val % 8) 3 = 3 by omega]; exact hf (by omega)
  · rw [hs.hv, hi, ey, ew]
    split
    · rw [pt_self t _ (by omega)]
    · rw [show min (t.val % 8) 5 = 5 by omega]; exact hv (by omega)
  · rw [hs.ho, hi, ey, ew, if_pos h6, pt_self t _ rfl]
  · rw [ey]; exact rows_congr m c _ _ (by omega)

/-- The outputs' windows are the ones whose contents the data leave unnamed. -/
def fgt0 : Fin 9 → Bool := fun w => decide (4 ≤ w.val)

/-- The proof data: the arrays as the region finds them, each input's block left as it is, the scratch known by `St`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
  Φ t := iprop((∃ d, ⌜St m c t.val d⌝ ∗ owns (c : Thread nD τ) sc0_0 fullShare d) ∗ (∃ r, prngReg c r))
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

/-- The relations as the library takes them, window by window. -/
abbrev Rw (c : Dev nD) : (w : Fin cfg0.W) → Fin cfg0.N → ((cfg0.win w).block.Idx → Elt F (cfg0.win w).elt) → Prop :=
  fun w t => match w with | ⟨4, _⟩ => R4 m c t | ⟨5, _⟩ => R5 m c t | ⟨6, _⟩ => R6 m c t | ⟨7, _⟩ => R7 m c t | ⟨8, _⟩ => R8 m c t | _ => fun _ => True

/-- The data with the outputs held to the relations. -/
abbrev rd (c : Dev nD) := (dats m 0 c).toRRel fgt0 (Rw m c)

/-- The points after an output's own last step but one do not write it back. -/
theorem flush4 : ∀ t : Fin cfg0.N, 1 ≤ t.val % 8 → t.val % 8 < 7 → (cfg0.win 4).flush t = false := (by decide +kernel : ∀ t : Fin grid0.N, 1 ≤ t.val % 8 → t.val % 8 < 7 → win0_4.flush t = false)
theorem flush5 : ∀ t : Fin cfg0.N, 3 ≤ t.val % 8 → t.val % 8 < 7 → (cfg0.win 5).flush t = false := (by decide +kernel : ∀ t : Fin grid0.N, 3 ≤ t.val % 8 → t.val % 8 < 7 → win0_5.flush t = false)
theorem flush6 : ∀ t : Fin cfg0.N, 3 ≤ t.val % 8 → t.val % 8 < 7 → (cfg0.win 6).flush t = false := (by decide +kernel : ∀ t : Fin grid0.N, 3 ≤ t.val % 8 → t.val % 8 < 7 → win0_6.flush t = false)
theorem flush7 : ∀ t : Fin cfg0.N, 5 ≤ t.val % 8 → t.val % 8 < 7 → (cfg0.win 7).flush t = false := (by decide +kernel : ∀ t : Fin grid0.N, 5 ≤ t.val % 8 → t.val % 8 < 7 → win0_7.flush t = false)

/-- What a point finds in an output's buffer where the point before did not write it back: what that point left. -/
theorem found (c : Dev nD) (w : Fin cfg0.W) (hw : fgt0 w = true) (t : Fin cfg0.N) (h0 : t.val ≠ 0) (hfe : (cfg0.win w).fetch t = false)
    (hfl : (cfg0.win w).flush ⟨t.val - 1, Nat.lt_of_le_of_lt (Nat.sub_le _ _) t.isLt⟩ = false) {Y} (h : (rd m c).Finds w t Y) :
    Rw m c w ⟨t.val - 1, Nat.lt_of_le_of_lt (Nat.sub_le _ _) t.isLt⟩ Y := by
  rcases ((rd m c).finds_of_pos hfe h0 Y).mp h with h | h
  · rw [hfl] at h; exact absurd h (by decide)
  · exact Dat.toRRel_leaves (dat := dats m 0 c) (fgt := fgt0) (Rl := Rw m c) hw h

theorem found4 (c : Dev nD) (t : Fin cfg0.N) {Y} (h : (rd m c).Finds 4 t Y) (h2 : 2 ≤ t.val % 8) : Y = qP (rows m c t.val) (iblk m c 2 (pt t.val 1)) := by
  have hr : R4 m c _ Y := found m c 4 rfl t (by omega) rfl (flush4 _ (by dsimp only; omega) (by dsimp only; omega)) h
  have e : (t.val - 1) / 8 = t.val / 8 := by omega
  refine Eq.trans hr ?_
  dsimp only
  rw [rows_congr m c _ _ e, pt_congr _ _ _ e, show min ((t.val - 1) % 8) 1 = 1 by omega]
theorem found5 (c : Dev nD) (t : Fin cfg0.N) {Y} (h : (rd m c).Finds 5 t Y) (h2 : 4 ≤ t.val % 8) :
    Y = kkP (rows m c t.val) (iblk m c 2 (pt t.val 3)) (iblk m c 3 (pt t.val 3)) := by
  have hr : R5 m c _ Y := found m c 5 rfl t (by omega) rfl (flush5 _ (by dsimp only; omega) (by dsimp only; omega)) h
  have e : (t.val - 1) / 8 = t.val / 8 := by omega
  refine Eq.trans (hr (by dsimp only; omega)) ?_
  dsimp only
  rw [rows_congr m c _ _ e, pt_congr _ _ _ e, show min ((t.val - 1) % 8) 3 = 3 by omega]
theorem found6 (c : Dev nD) (t : Fin cfg0.N) {Y} (h : (rd m c).Finds 6 t Y) (h2 : 4 ≤ t.val % 8) :
    Y = fP (rows m c t.val) (iblk m c 2 (pt t.val 3)) (iblk m c 3 (pt t.val 3)) := by
  have hr : R6 m c _ Y := found m c 6 rfl t (by omega) rfl (flush6 _ (by dsimp only; omega) (by dsimp only; omega)) h
  have e : (t.val - 1) / 8 = t.val / 8 := by omega
  refine Eq.trans (hr (by dsimp only; omega)) ?_
  dsimp only
  rw [rows_congr m c _ _ e, pt_congr _ _ _ e, show min ((t.val - 1) % 8) 3 = 3 by omega]
theorem found7 (c : Dev nD) (t : Fin cfg0.N) {Y} (h : (rd m c).Finds 7 t Y) (h2 : 6 ≤ t.val % 8) : Y = vP (rows m c t.val) (iblk m c 2 (pt t.val 5)) := by
  have hr : R7 m c _ Y := found m c 7 rfl t (by omega) rfl (flush7 _ (by dsimp only; omega) (by dsimp only; omega)) h
  have e : (t.val - 1) / 8 = t.val / 8 := by omega
  refine Eq.trans (hr (by dsimp only; omega)) ?_
  dsimp only
  rw [rows_congr m c _ _ e, pt_congr _ _ _ e, show min ((t.val - 1) % 8) 5 = 5 by omega]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rd m c).Finds 4 t Y⌝ ∗ owns (c : Thread nD τ) (ms0_4 t) fullShare Y)
    ∗ (∃ Y, ⌜(rd m c).Finds 5 t Y⌝ ∗ owns (c : Thread nD τ) (ms0_5 t) fullShare Y)
    ∗ (∃ Y, ⌜(rd m c).Finds 6 t Y⌝ ∗ owns (c : Thread nD τ) (ms0_6 t) fullShare Y)
    ∗ (∃ Y, ⌜(rd m c).Finds 7 t Y⌝ ∗ owns (c : Thread nD τ) (ms0_7 t) fullShare Y)
    ∗ (∃ Y, ⌜(rd m c).Finds 8 t Y⌝ ∗ owns (c : Thread nD τ) (ms0_8 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜R4 m c t X⌝ ∗ owns (c : Thread nD τ) (ms0_4 t) fullShare X)
    ∗ (∃ X, ⌜R5 m c t X⌝ ∗ owns (c : Thread nD τ) (ms0_5 t) fullShare X)
    ∗ (∃ X, ⌜R6 m c t X⌝ ∗ owns (c : Thread nD τ) (ms0_6 t) fullShare X)
    ∗ (∃ X, ⌜R7 m c t X⌝ ∗ owns (c : Thread nD τ) (ms0_7 t) fullShare X)
    ∗ (∃ X, ⌜R8 m c t X⌝ ∗ owns (c : Thread nD τ) (ms0_8 t) fullShare X))

set_option maxHeartbeats 3200000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3]
  rw [show (dats m 0 c).owesAt () t.succ = (dats m 0 c).owesAt () t.castSucc from rfl]
  rw [show (dats m 0 c).Φ t.succ = iprop((∃ d, ⌜St m c (t.val + 1) d⌝ ∗ owns (c : Thread nD τ) sc0_0 fullShare d) ∗ (∃ r, prngReg c r)) from rfl,
    show (dats m 0 c).Φ t.castSucc = iprop((∃ d, ⌜St m c t.val d⌝ ∗ owns (c : Thread nD τ) sc0_0 fullShare d) ∗ (∃ r, prngReg c r)) from rfl]
  unfold owns
  iintro ⟨⟨⟨%s0, %hs0, HS0⟩, Hg⟩, Ho, ⟨%d0, H0⟩, ⟨%d1, H1⟩, ⟨%d2, H2⟩, ⟨%d3, H3⟩, ⟨%d4, %h4, H4⟩, ⟨%d5, %h5, H5⟩, ⟨%d6, %h6, H6⟩, ⟨%d7, %h7, H7⟩, ⟨%d8, %h8, H8⟩⟩
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%f8, %e8, H8⟩
  icases HS0 with ⟨%g0, %k0, HS0⟩
  subst e4 e5 e6 e7 e8 k0
  iapply (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) sc0_0 (Memref.isWhole_whole _) f0 f1 f2 f3 f4 f5 f6 f7 f8 g0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  iintro ⟨%f4', %f5', %f6', %f7', %f8', %g0', %hst, H0, H1, H2, H3, H4, H5, H6, H7, H8, HS0⟩
  have hok := step_ok m c t (grid0.coords t) (coord1 t) hst e0 e1 e2 e3 hs0 (found4 m c t h4) (found5 m c t h5) (found6 m c t h6) (found7 m c t h7)
  isplitl [HS0 Hg]
  · isplitl [HS0]
    · iexists _; isplitr; swap
      · iexists _; isplitr; swap; · iexact HS0
        ipureintro; rfl
      ipureintro; exact hok.2.2.2.2.2
    iexact Hg
  isplitl [Ho]; · iexact Ho
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap
    · iexists _; isplitr; swap; · iexact H4
      ipureintro; rfl
    ipureintro; exact hok.1
  isplitl [H5]
  · iexists _; isplitr; swap
    · iexists _; isplitr; swap; · iexact H5
      ipureintro; rfl
    ipureintro; exact hok.2.1
  isplitl [H6]
  · iexists _; isplitr; swap
    · iexists _; isplitr; swap; · iexact H6
      ipureintro; rfl
    ipureintro; exact hok.2.2.1
  isplitl [H7]
  · iexists _; isplitr; swap
    · iexists _; isplitr; swap; · iexact H7
      ipureintro; rfl
    ipureintro; exact hok.2.2.2.1
  iexists _; isplitr; swap
  · iexists _; isplitr; swap; · iexact H8
    ipureintro; rfl
  ipureintro; exact hok.2.2.2.2.1

theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ fgt0 (Rw m c) := fun t => by
  rw [bigSep_W0, bigSep_W0, defs₀_row]
  exact triple_restated (sound_body m c t) rfl .rfl fun _ => .rfl

theorem hin0 (c : Dev nD) : Pipeline.ΦA spec0 c ⊢ (dats m 0 c).Φ 0 := by
  rw [PhiA0_eq]; dsimp only [dats]
  iintro ⟨⟨%d, H0⟩, Hg⟩
  isplitl [H0]
  · iexists _; isplitr; swap; · iexact H0
    ipureintro; exact fun h => absurd rfl h
  iexact Hg

theorem hout0 (c : Dev nD) : (dats m 0 c).Φ (Fin.last cfg0.N) ⊢ Pipeline.ΦA spec0 c := by
  rw [PhiA0_eq]; dsimp only [dats]
  iintro ⟨⟨%d, %hd, H0⟩, Hg⟩
  isplitl [H0]; · iexists _; iexact H0
  iexact Hg

set_option backward.isDefEq.respectTransparency.types false in
/-- The run of the whole program, its results' blocks related by the relations. -/
theorem run_main :
    θ_run defs (onTc (τ := τ) (main (F := F))) (s₀ m ρ)
      (fun r => Pipeline.RDat.FramePost (cfgs 0) (fun c => rd m c) (V m) r ∧ r.2.sem = fun _ => 0) :=
  Pipeline.RDat.θ_run_frame_track (Q' := _) cfgs (0 : Fin 1) launch0 defs₀ Variants.none (fun c => rd m c) m ρ main
    (hbody := fun c => (body_obligation m c).toRRel) (hshare := fun c => (dats m 0 c).share_full fun _ => rfl)
    (howed := fun _ _ => rfl) (V := V m) (hmain := hmain m Variants.none) (hA := A_eq m)
    (hin := hin0 m) (hout := hout0 m)

/-- The arguments after the run. -/
theorem args_kept {r : PUnit × MemSt nD τ sig (Elt F)}
    (h : Pipeline.RDat.FramePost (cfgs 0) (fun c => rd (F := F) m c) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c)⟩

end Cert.GatesIdeal.Hand

end
-- ==== Proof.GatesMath.lean ====
/-
  Facts of the extended reals for the gates of the odd layer's mixer, none of them about a program: the complementary gate
  written with a hyperbolic tangent, and the logarithm of the decay by either of two routes.
-/
module

public import proofs.«01_k».proof.Proof.Swish

@[expose] public section

noncomputable section

open Idealize.ShloMosaic

namespace Cert.GatesMath

open Cert.Swish

/-- The complementary gate as the kernel computes it, `½ - ½·tanh(½·z)`. -/
def co (z : EReal) : EReal := half - half * Ideal.tanh (half * z)

/-- The smallest positive normal number, below which the kernel does not let the decay fall. -/
abbrev tiny : EReal := Ideal.ofBits .f32 0x00800000#32

/-- That number is positive and real. -/
theorem tiny_eq : ∃ r : ℝ, 0 < r ∧ tiny = (r : EReal) := by
  refine ⟨(2 : ℝ) ^ (-126 : ℤ), by positivity, ?_⟩
  simp [tiny, Ideal.ofBits, Ideal.ieee, -EReal.coe_mul]
  norm_num

/-- The number one, as the precondition prints it. -/
theorem one_eq : Ideal.ofBits .f32 0x3F800000#32 = (1 : EReal) := by
  simp [Ideal.ofBits, Ideal.ieee, -EReal.coe_mul]
  norm_num

theorem co_bot : co ⊥ = 1 := by
  have hpos : (0 : ℝ) < 1 / 2 := by norm_num
  rw [co, half_eq, EReal.coe_mul_bot_of_pos hpos, Ideal.tanh_bot, ← EReal.coe_one, ← EReal.coe_neg, ← EReal.coe_mul, ← EReal.coe_sub]
  norm_num

theorem co_top : co ⊤ = 0 := by
  have hpos : (0 : ℝ) < 1 / 2 := by norm_num
  rw [co, half_eq, EReal.coe_mul_top_of_pos hpos, Ideal.tanh_top, ← EReal.coe_one, ← EReal.coe_mul, ← EReal.coe_sub]
  norm_num

theorem co_real (x : ℝ) : co (x : EReal) = (((1 + Real.exp x)⁻¹ : ℝ) : EReal) := by
  have h := real_gate (-x)
  rw [neg_neg] at h
  rw [co, half_eq, ← EReal.coe_mul, Ideal.tanh_coe, ← EReal.coe_mul, ← EReal.coe_sub, ← h, show (1 : ℝ) / 2 * -x = -(1 / 2 * x) by ring, Real.tanh_neg]
  congr 1
  ring

/-- The complementary gate is the logistic function of the negated argument, at every extended real. -/
theorem co_eq (z : EReal) : co z = Ideal.div 1 (1 + Ideal.exp (- -z)) := by
  change _ = Ideal.logistic (-z)
  induction z using EReal.rec with
  | bot => rw [co_bot, EReal.neg_bot, Ideal.logistic_top]
  | top => rw [co_top, EReal.neg_top, Ideal.logistic_bot]
  | coe x => rw [co_real, ← EReal.coe_neg, Ideal.logistic_coe, neg_neg]

/-- The logarithm of a sum of exponentials, by the larger of the two and the distance between them. -/
def lse (a b : EReal) : EReal := max a b + Ideal.log1p (Ideal.exp (-max (a - b) (-(a - b))))

/-- The logarithm of the logistic function, as the reference computes it. -/
def lsig (z : EReal) : EReal := -(max (-z) 0 + Ideal.log1p (Ideal.exp (-max (-z) (- -z))))

theorem log1p_zero : Ideal.log1p 0 = 0 := by
  rw [Ideal.log1p, add_zero, ← EReal.coe_one, Ideal.log_coe]
  norm_num

theorem log1p_real (x : ℝ) (h : -1 < x) : Ideal.log1p (x : EReal) = (Real.log (1 + x) : EReal) := by
  rw [Ideal.log1p, ← EReal.coe_one, ← EReal.coe_add, Ideal.log_coe, if_neg (by linarith)]

theorem coe_max (x y : ℝ) : max (x : EReal) (y : EReal) = ((max x y : ℝ) : EReal) :=
  (Monotone.map_max (f := fun r : ℝ => (r : EReal)) (fun _ _ h => EReal.coe_le_coe_iff.2 h)).symm

theorem lse_bot (x : ℝ) : lse (x : EReal) ⊥ = x := by
  rw [lse, EReal.coe_sub_bot, EReal.neg_top, max_eq_left bot_le, max_eq_left bot_le, EReal.neg_top, Ideal.exp_bot, log1p_zero, add_zero]

/-- On the reals it is the logarithm of the sum. -/
theorem real_lse (x y : ℝ) : max x y + Real.log (1 + Real.exp (-max (x - y) (-(x - y)))) = Real.log (Real.exp x + Real.exp y) := by
  have key : ∀ a b : ℝ, b ≤ a → a + Real.log (1 + Real.exp (-(a - b))) = Real.log (Real.exp a + Real.exp b) := fun a b _ => by
    have h : Real.exp a + Real.exp b = Real.exp a * (1 + Real.exp (-(a - b))) := by
      rw [mul_add, mul_one, ← Real.exp_add]; congr 2; ring
    rw [h, Real.log_mul (Real.exp_pos _).ne' (by positivity), Real.log_exp]
  rcases le_total y x with h | h
  · rw [max_eq_left h, max_eq_left (by linarith), key x y h]
  · rw [max_eq_right h, max_eq_right (by linarith), neg_sub, key y x h, add_comm]

theorem lse_real (x y : ℝ) : lse (x : EReal) (y : EReal) = (Real.log (Real.exp x + Real.exp y) : EReal) := by
  rw [lse, ← EReal.coe_sub, ← EReal.coe_neg, coe_max, coe_max, ← EReal.coe_neg, Ideal.exp_coe, log1p_real _ (by linarith [Real.exp_pos (-max (x - y) (-(x - y)))]), ← EReal.coe_add, real_lse]

theorem lsig_bot : lsig ⊥ = ⊥ := by
  rw [lsig, EReal.neg_bot, max_eq_left le_top, max_eq_left le_top, EReal.neg_top, Ideal.exp_bot, log1p_zero, add_zero, EReal.neg_top]

theorem lsig_top : lsig ⊤ = 0 := by
  rw [lsig, EReal.neg_top, EReal.neg_bot, max_eq_right bot_le, max_eq_right bot_le, EReal.neg_top, Ideal.exp_bot, log1p_zero, add_zero, neg_zero]

theorem lsig_real (x : ℝ) : lsig (x : EReal) = ((-Real.log (1 + Real.exp (-x)) : ℝ) : EReal) := by
  have h := lse_real (-x) 0
  rw [lse, EReal.coe_zero, EReal.coe_neg, sub_zero, Real.exp_zero, add_comm (Real.exp (-x))] at h
  rw [lsig, h, EReal.coe_neg]

/-- The two routes to the decay's logarithm agree: the kernel's takes the logarithm of one minus the complementary gate's
    share, held above the smallest normal number; the reference's adds in the logarithm. -/
theorem logf_eq (b : ℝ) (hb : tiny ≤ (b : EReal)) (h1 : b ≤ 1) (z : EReal) :
    Ideal.log (max (1 - (1 - (b : EReal)) * co z) tiny)
      = lse (Ideal.log (b : EReal)) (Ideal.log1p (-(b : EReal)) + lsig z) := by
  obtain ⟨τ, hτ, ht⟩ := tiny_eq
  rw [ht] at hb ⊢
  have hb : τ ≤ b := EReal.coe_le_coe_iff.1 hb
  have pb : 0 < b := lt_of_lt_of_le hτ hb
  have hl : Ideal.log (b : EReal) = (Real.log b : EReal) := by rw [Ideal.log_coe, if_neg (by linarith)]
  have fin : ∀ s : ℝ, b ≤ s → Ideal.log (max ((s : ℝ) : EReal) (τ : EReal)) = (Real.log s : EReal) := fun s hs => by
    rw [max_eq_left (EReal.coe_le_coe_iff.2 (hb.trans hs)), Ideal.log_coe, if_neg (by linarith)]
  rw [hl]
  rcases h1.lt_or_eq with h1 | rfl
  · have hq : Ideal.log1p (-(b : EReal)) = (Real.log (1 - b) : EReal) := by
      rw [← EReal.coe_neg, log1p_real _ (by linarith), sub_eq_add_neg]
    have hs : ∀ σ : ℝ, co z = (σ : EReal) → 1 - (1 - (b : EReal)) * co z = ((1 - (1 - b) * σ : ℝ) : EReal) := fun σ h => by
      rw [h, ← EReal.coe_one, ← EReal.coe_sub, ← EReal.coe_mul, ← EReal.coe_sub]
    rw [hq]
    induction z using EReal.rec with
    | bot =>
      rw [hs 1 (by rw [co_bot, EReal.coe_one]), fin _ (by linarith), lsig_bot, EReal.add_bot, lse_bot]
      congr 2; ring
    | top =>
      rw [hs 0 (by rw [co_top, EReal.coe_zero]), fin _ (by linarith), lsig_top, add_zero, lse_real, Real.exp_log pb, Real.exp_log (by linarith)]
      congr 2; ring
    | coe x =>
      have pe := Real.exp_pos x
      have pn := Real.exp_pos (-x)
      have hσ : (1 + Real.exp x)⁻¹ ≤ 1 := inv_le_one_of_one_le₀ (by linarith)
      rw [hs _ (co_real x), fin _ (by nlinarith), lsig_real, ← EReal.coe_add, lse_real, Real.exp_add, Real.exp_log pb, Real.exp_log (by linarith),
        Real.exp_neg, Real.exp_log (by linarith)]
      congr 2
      rw [Real.exp_neg x]
      generalize Real.exp x = u at pe
      have h0 : 1 + u ≠ 0 := by linarith
      have h1 : u ≠ 0 := pe.ne'
      field_simp
      ring
  · have hq : Ideal.log1p (-((1 : ℝ) : EReal)) = ⊥ := by
      rw [Ideal.log1p, ← EReal.coe_neg, ← EReal.coe_one, ← EReal.coe_add, Ideal.log_coe, if_pos (by norm_num)]
    have h0 : (1 : EReal) - ((1 : ℝ) : EReal) = 0 := by rw [← EReal.coe_one, ← EReal.coe_sub, sub_self, EReal.coe_zero]
    rw [hq, EReal.bot_add, lse_bot, h0, zero_mul, sub_zero, ← EReal.coe_one, fin 1 le_rfl]

end Cert.GatesMath

end
-- ==== Proof.GatesValue.lean ====
/-
  The gates of the odd layer's mixer, entry by entry: each row normalized, times layer 0's weights, and the four groups of
  columns turned into query gate, complementary gate with the decay's logarithm, value and output gate.
-/
module

public import proofs.«01_k».proof.Proof.GatesIdealRun
public import proofs.«01_k».proof.Proof.Gen.GatesRefIdeal.Read
public import proofs.«01_k».proof.Proof.GatesMath
public import proofs.«01_k».proof.Proof.Layer
public import Idealize.ShloMosaic.Lib.Claim
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem

namespace Cert.GatesMath

/-- A gated number: itself times its logistic function. -/
def swish (z : EReal) : EReal := z * Ideal.div 1 (1 + Ideal.exp (-z))

end Cert.GatesMath

namespace Cert.GatesIdeal.Row

open Idealize.ShloMosaic.Pipeline (Dat)
open Cert.GatesIdeal Cert.GatesIdeal.Gen Cert.GatesIdeal.Hand Cert.Layer Cert.GatesMath

/-- Which block each window reads or writes at a point: the row block `t / 8`, the column block `t % 8` of the weights, and of
    each output one of its two column blocks. -/
theorem idx : ∀ t : Fin cfg0.N, win0_0.index t = ![t.val / 8, 0] ∧ win0_1.index t = ![1, 0, 0] ∧ win0_2.index t = ![0, 0, t.val % 8] ∧ win0_3.index t = ![0, min (t.val % 8 - 2) 1]
    ∧ win0_4.index t = ![t.val / 8, min (t.val % 8) 1] ∧ win0_5.index t = ![t.val / 8, min (t.val % 8 - 2) 1] ∧ win0_6.index t = ![t.val / 8, min (t.val % 8 - 2) 1]
    ∧ win0_7.index t = ![t.val / 8, min (t.val % 8 - 4) 1] ∧ win0_8.index t = ![t.val / 8, min (t.val % 8 - 6) 1] :=
  (by decide +kernel : ∀ t : Fin grid0.N, _)

variable (m : (ℓ : Loc nD τ sig) → Buf (Elt Ideal) ℓ)

/-- The input block's row is the input's, its position split into batch and sequence. -/
theorem blk0 (c : Dev nD) (t : Fin cfg0.N) (r : Fin 1024) (d : Fin 2048) (b : Fin 4) (s : Fin 4096) (h : 1024 * (t.val / 8) + r.val = 4096 * b.val + s.val) :
   iblk m c 0 t (ix2 r d) = m ((c : Thread nD τ).loc main_arg0) (ix3 b s d) := by
  blk_ext! [iblk, V, (idx t).1]
/-- The gain block is layer 1 of the gains. -/
theorem blk1 (c : Dev nD) (t : Fin cfg0.N) (d : Fin 2048) :
   iblk m c 1 t (ix3 0 0 d) = m ((c : Thread nD τ).loc main_arg1) (ix2 1 d) := by
  blk_ext! [iblk, V, (idx t).2.1]
/-- The weights' block is the point's block of columns. -/
theorem blk2 (c : Dev nD) (t : Fin cfg0.N) (d : Fin 2048) (f : Fin 1024) (k : Fin 8192) (h : 1024 * (t.val % 8) + f.val = k.val) :
   iblk m c 2 t (ix3 0 d f) = m ((c : Thread nD τ).loc main_arg2) (ix3 0 d k) := by
  blk_ext [iblk, V, (idx t).2.2.1]
/-- The bounds' block is one of their two halves. -/
theorem blk3 (c : Dev nD) (t : Fin cfg0.N) (f : Fin 1024) (k : Fin 2048) (h : 1024 * min (t.val % 8 - 2) 1 + f.val = k.val) :
   iblk m c 3 t (ix2 0 f) = m ((c : Thread nD τ).loc main_arg3) (ix1 k) := by
  blk_ext! [iblk, V, (idx t).2.2.2.1]

/-- The normalized block at an index: one row normalized. -/
theorem xn_at (x : Vec Ideal S1024x2048 .f32) (g : Vec Ideal S1x1x2048 .f32) (r : Fin 1024) (d : Fin 2048) :
    xnP x g (ix2 r d) = normed (fun k => x (ix2 r k)) (fun k => g (ix3 0 0 k)) d := by
  pointwise [xnP]
  rfl

/-- The product at an index. -/
theorem z_at (y : Vec Ideal S1024x2048 .bf16) (w : Vec Ideal S1x2048x1024 .bf16) (r : Fin 1024) (q : Fin 1024) :
    zP y w (ix2 r q) = ∑ d : Fin 2048, y (ix2 r d) * w (ix3 0 d q) := by
  pointwise [zP]

/-- A gated block at an index. -/
theorem q_at (y : Vec Ideal S1024x2048 .bf16) (w : Vec Ideal S1x2048x1024 .bf16) (r : Fin 1024) (q : Fin 1024) :
    qP y w (ix2 r q) = swish (zP y w (ix2 r q)) := by
  generalize hz : zP y w = z
  pointwise [qP, hf]
  rw [hz]
  exact congrArg (z (ix2 r q) * ·) (Swish.gate_eq _)

/-- The complementary gate at an index. -/
theorem k_at (y : Vec Ideal S1024x2048 .bf16) (w : Vec Ideal S1x2048x1024 .bf16) (b : Vec Ideal S1x1024 .f32) (r : Fin 1024) (q : Fin 1024) :
    kkP y w b (ix2 r q) = (1 - b (ix2 0 q)) * co (zP y w (ix2 r q)) := by
  generalize hz : zP y w = z
  pointwise [kkP, kP, hf]
  rw [hz]
  rfl

/-- The decay's logarithm at an index. -/
theorem f_at (y : Vec Ideal S1024x2048 .bf16) (w : Vec Ideal S1x2048x1024 .bf16) (b : Vec Ideal S1x1024 .f32) (r : Fin 1024) (q : Fin 1024) :
    fP y w b (ix2 r q) = Ideal.log (max (1 - (1 - b (ix2 0 q)) * co (zP y w (ix2 r q))) tiny) := by
  generalize hz : zP y w = z
  pointwise [fP, kP, hf]
  rw [hz]
  rfl

/-- The value block at an index. -/
theorem v_at (y : Vec Ideal S1024x2048 .bf16) (w : Vec Ideal S1x2048x1024 .bf16) (r : Fin 1024) (q : Fin 1024) :
    vP y w (ix2 r q) = zP y w (ix2 r q) := by
  generalize hz : zP y w = z
  pointwise [vP]
  rw [hz]

/-- The row at batch `b` and position `s` of the input. -/
abbrev row (c : Dev nD) (b : Fin 4) (s : Fin 4096) : Fin 2048 → EReal := fun d => m ((c : Thread nD τ).loc main_arg0) (ix3 b s d)
/-- Layer 1's gain. -/
abbrev gain (c : Dev nD) : Fin 2048 → EReal := fun d => m ((c : Thread nD τ).loc main_arg1) (ix2 1 d)

/-- The normalized row times column `k` of the weights. -/
def Z (c : Dev nD) (b : Fin 4) (s : Fin 4096) (k : Fin 8192) : EReal :=
  ∑ d : Fin 2048, normed (row m c b s) (gain m c) d * m ((c : Thread nD τ).loc main_arg2) (ix3 0 d k)

theorem lt128 (t : Fin cfg0.N) : t.val < 128 := lt_of_lt_of_eq t.isLt N_0

/-- The product of a row block's rows with one of its points' columns. -/
theorem z_blk (c : Dev nD) (t : Fin cfg0.N) (j : ℕ) (hj : j < 8) (r q : Fin 1024) (b : Fin 4) (s : Fin 4096) (k : Fin 8192)
    (h : 1024 * (t.val / 8) + r.val = 4096 * b.val + s.val) (hk : 1024 * j + q.val = k.val) :
    zP (rows m c t.val) (iblk m c 2 (pt t.val j)) (ix2 r q) = Z m c b s k := by
  have ht := lt128 t
  have e0 : (pt t.val 0).val / 8 = t.val / 8 := by show (8 * (t.val / 8) + 0) % 128 / 8 = _; omega
  have ej : (pt t.val j).val % 8 = j := by show (8 * (t.val / 8) + j) % 128 % 8 = _; omega
  rw [z_at]
  refine Finset.sum_congr rfl fun d _ => ?_
  rw [blk2 m c (pt t.val j) d q k (by rw [ej]; exact hk)]
  unfold rows
  rw [xn_at, show (fun k => iblk m c 0 (pt t.val 0) (ix2 r k)) = row m c b s from funext fun k => blk0 m c _ r k b s (by rw [e0]; exact h),
    show (fun k => iblk m c 1 (pt t.val 0) (ix3 0 0 k)) = gain m c from funext fun k => blk1 m c _ k]

/-- The bounds' block at the point of the row block that uses it. -/
theorem b_blk (c : Dev nD) (t : Fin cfg0.N) (q : Fin 1024) (n : Fin 2048) (h2 : 2 ≤ t.val % 8) (hn : 1024 * min (t.val % 8 - 2) 1 + q.val = n.val) :
    iblk m c 3 (pt t.val (min (t.val % 8) 3)) (ix2 0 q) = m ((c : Thread nD τ).loc main_arg3) (ix1 n) := by
  have ht := lt128 t
  have ej : (pt t.val (min (t.val % 8) 3)).val % 8 = min (t.val % 8) 3 := by show (8 * (t.val / 8) + min (t.val % 8) 3) % 128 % 8 = _; omega
  exact blk3 m c _ q n (by rw [ej]; omega)

/-- Output 5 is written back only where its block has been computed. -/
theorem flush5 : ∀ t : Fin cfg0.N, (cfg0.win 5).flush t = true → 2 ≤ t.val % 8 := (by decide +kernel : ∀ t : Fin grid0.N, _)

/-- Output 6 is written back only where its block has been computed. -/
theorem flush6 : ∀ t : Fin cfg0.N, (cfg0.win 6).flush t = true → 2 ≤ t.val % 8 := (by decide +kernel : ∀ t : Fin grid0.N, _)

/-- Output 7 is written back only where its block has been computed. -/
theorem flush7 : ∀ t : Fin cfg0.N, (cfg0.win 7).flush t = true → 4 ≤ t.val % 8 := (by decide +kernel : ∀ t : Fin grid0.N, _)

/-- Output 8 is written back only where its block has been computed. -/
theorem flush8 : ∀ t : Fin cfg0.N, (cfg0.win 8).flush t = true → 6 ≤ t.val % 8 := (by decide +kernel : ∀ t : Fin grid0.N, _)

variable {m}

/-- The query gate after the run, entry by entry. -/
theorem value4 {r : PUnit × MemSt nD τ sig (Elt Ideal)} (hr : Pipeline.RDat.FramePost (cfgs 0) (fun c => rd m c) (V m) r) (c : Dev nD)
    (out : S16384x2048.Idx → Elt Ideal .bf16)
    (hout : ∀ (R : Fin 16384) (n : Fin 2048) (b : Fin 4) (s : Fin 4096) (k : Fin 8192), R.val = 4096 * b.val + s.val → k.val = 0 + n.val →
      out (ix2 R n) = swish (Z m c b s k)) :
    r.2.mem ((c.tc : Thread nD τ).loc main_v4_0) = out := by
  obtain ⟨after, hleaf, harr⟩ := Pipeline.RDat.FramePost.exists_exact hr c
  refine (harr 4).trans ?_
  refine Dat.arrAt_eq_of_covers _ 4 _ (by decide +kernel) fun t hf y => ?_
  have hR : R4 m c t (after 4 t) := Dat.toRRel_leaves (dat := dats m 0 c) (fgt := fgt0) (Rl := Rw m c) rfl (hleaf 4 t hf)
  have ht := lt128 t
  blk_simp
  obtain ⟨r, x, rfl⟩ : ∃ (r : Fin 1024) (x : Fin 1024), y = ix2 r x := ⟨y 0, y 1, eq_ix2 y⟩
  have hlt := r.isLt
  have hxt := x.isLt
  have he : ((cfg0.win 4).blk t).view.emb (ix2 r x) = ix2 (⟨1024 * (t.val / 8) + r.val, by omega⟩ : Fin 16384) (⟨1024 * min (t.val % 8) 1 + x.val, by omega⟩ : Fin 2048) := by
    funext a
    apply Fin.ext
    match a with
    | ⟨0, _⟩ =>
      show win0_4.index t (0 : Fin 2) * 1024 + 1 * r.val = 1024 * (t.val / 8) + r.val
      rw [(idx t).2.2.2.2.1]
      show t.val / 8 * 1024 + 1 * r.val = _
      omega
    | ⟨1, _⟩ =>
      show win0_4.index t (1 : Fin 2) * 1024 + 1 * x.val = 1024 * min (t.val % 8) 1 + x.val
      rw [(idx t).2.2.2.2.1]
      show min (t.val % 8) 1 * 1024 + 1 * x.val = _
      omega
  refine Eq.trans ?_ (congrArg _ he).symm
  have hs : 1024 * (t.val / 8) + r.val = 4096 * ((1024 * (t.val / 8) + r.val) / 4096) + (1024 * (t.val / 8) + r.val) % 4096 := by omega
  refine Eq.trans ?_ (hout _ _ ⟨(1024 * (t.val / 8) + r.val) / 4096, by omega⟩ ⟨(1024 * (t.val / 8) + r.val) % 4096, by omega⟩ ⟨0 + (1024 * min (t.val % 8) 1 + x.val), by omega⟩ hs rfl).symm
  refine (congrFun hR (ix2 r x)).trans ?_
  rw [q_at, z_blk m c t (min (t.val % 8) 1) (by omega) r x ⟨(1024 * (t.val / 8) + r.val) / 4096, by omega⟩ ⟨(1024 * (t.val / 8) + r.val) % 4096, by omega⟩ ⟨0 + (1024 * min (t.val % 8) 1 + x.val), by omega⟩ hs (by show _ = 0 + (1024 * min (t.val % 8) 1 + x.val); omega)]

/-- The complementary gate after the run, entry by entry. -/
theorem value5 {r : PUnit × MemSt nD τ sig (Elt Ideal)} (hr : Pipeline.RDat.FramePost (cfgs 0) (fun c => rd m c) (V m) r) (c : Dev nD)
    (out : S16384x2048.Idx → Elt Ideal .bf16)
    (hout : ∀ (R : Fin 16384) (n : Fin 2048) (b : Fin 4) (s : Fin 4096) (k : Fin 8192), R.val = 4096 * b.val + s.val → k.val = 2048 + n.val →
      out (ix2 R n) = (1 - m ((c : Thread nD τ).loc main_arg3) (ix1 n)) * co (Z m c b s k)) :
    r.2.mem ((c.tc : Thread nD τ).loc main_v4_1) = out := by
  obtain ⟨after, hleaf, harr⟩ := Pipeline.RDat.FramePost.exists_exact hr c
  refine (harr 5).trans ?_
  refine Dat.arrAt_eq_of_covers _ 5 _ (by decide +kernel) fun t hf y => ?_
  have hR : R5 m c t (after 5 t) := Dat.toRRel_leaves (dat := dats m 0 c) (fgt := fgt0) (Rl := Rw m c) rfl (hleaf 5 t hf)
  have h2 : 2 ≤ t.val % 8 := flush5 t hf
  have ht := lt128 t
  blk_simp
  obtain ⟨r, x, rfl⟩ : ∃ (r : Fin 1024) (x : Fin 1024), y = ix2 r x := ⟨y 0, y 1, eq_ix2 y⟩
  have hlt := r.isLt
  have hxt := x.isLt
  have he : ((cfg0.win 5).blk t).view.emb (ix2 r x) = ix2 (⟨1024 * (t.val / 8) + r.val, by omega⟩ : Fin 16384) (⟨1024 * min (t.val % 8 - 2) 1 + x.val, by omega⟩ : Fin 2048) := by
    funext a
    apply Fin.ext
    match a with
    | ⟨0, _⟩ =>
      show win0_5.index t (0 : Fin 2) * 1024 + 1 * r.val = 1024 * (t.val / 8) + r.val
      rw [(idx t).2.2.2.2.2.1]
      show t.val / 8 * 1024 + 1 * r.val = _
      omega
    | ⟨1, _⟩ =>
      show win0_5.index t (1 : Fin 2) * 1024 + 1 * x.val = 1024 * min (t.val % 8 - 2) 1 + x.val
      rw [(idx t).2.2.2.2.2.1]
      show min (t.val % 8 - 2) 1 * 1024 + 1 * x.val = _
      omega
  refine Eq.trans ?_ (congrArg _ he).symm
  have hs : 1024 * (t.val / 8) + r.val = 4096 * ((1024 * (t.val / 8) + r.val) / 4096) + (1024 * (t.val / 8) + r.val) % 4096 := by omega
  refine Eq.trans ?_ (hout _ _ ⟨(1024 * (t.val / 8) + r.val) / 4096, by omega⟩ ⟨(1024 * (t.val / 8) + r.val) % 4096, by omega⟩ ⟨2048 + (1024 * min (t.val % 8 - 2) 1 + x.val), by omega⟩ hs rfl).symm
  refine (congrFun (hR h2) (ix2 r x)).trans ?_
  rw [k_at, b_blk m c t x ⟨1024 * min (t.val % 8 - 2) 1 + x.val, by omega⟩ h2 rfl, z_blk m c t (min (t.val % 8) 3) (by omega) r x ⟨(1024 * (t.val / 8) + r.val) / 4096, by omega⟩ ⟨(1024 * (t.val / 8) + r.val) % 4096, by omega⟩ ⟨2048 + (1024 * min (t.val % 8 - 2) 1 + x.val), by omega⟩ hs (by show _ = 2048 + (1024 * min (t.val % 8 - 2) 1 + x.val); omega)]

/-- The decay's logarithm after the run, entry by entry. -/
theorem value6 {r : PUnit × MemSt nD τ sig (Elt Ideal)} (hr : Pipeline.RDat.FramePost (cfgs 0) (fun c => rd m c) (V m) r) (c : Dev nD)
    (out : S16384x2048.Idx → Elt Ideal .f32)
    (hout : ∀ (R : Fin 16384) (n : Fin 2048) (b : Fin 4) (s : Fin 4096) (k : Fin 8192), R.val = 4096 * b.val + s.val → k.val = 2048 + n.val →
      out (ix2 R n) = Ideal.log (max (1 - (1 - m ((c : Thread nD τ).loc main_arg3) (ix1 n)) * co (Z m c b s k)) tiny)) :
    r.2.mem ((c.tc : Thread nD τ).loc main_v4_2) = out := by
  obtain ⟨after, hleaf, harr⟩ := Pipeline.RDat.FramePost.exists_exact hr c
  refine (harr 6).trans ?_
  refine Dat.arrAt_eq_of_covers _ 6 _ (by decide +kernel) fun t hf y => ?_
  have hR : R6 m c t (after 6 t) := Dat.toRRel_leaves (dat := dats m 0 c) (fgt := fgt0) (Rl := Rw m c) rfl (hleaf 6 t hf)
  have h2 : 2 ≤ t.val % 8 := flush6 t hf
  have ht := lt128 t
  blk_simp
  obtain ⟨r, x, rfl⟩ : ∃ (r : Fin 1024) (x : Fin 1024), y = ix2 r x := ⟨y 0, y 1, eq_ix2 y⟩
  have hlt := r.isLt
  have hxt := x.isLt
  have he : ((cfg0.win 6).blk t).view.emb (ix2 r x) = ix2 (⟨1024 * (t.val / 8) + r.val, by omega⟩ : Fin 16384) (⟨1024 * min (t.val % 8 - 2) 1 + x.val, by omega⟩ : Fin 2048) := by
    funext a
    apply Fin.ext
    match a with
    | ⟨0, _⟩ =>
      show win0_6.index t (0 : Fin 2) * 1024 + 1 * r.val = 1024 * (t.val / 8) + r.val
      rw [(idx t).2.2.2.2.2.2.1]
      show t.val / 8 * 1024 + 1 * r.val = _
      omega
    | ⟨1, _⟩ =>
      show win0_6.index t (1 : Fin 2) * 1024 + 1 * x.val = 1024 * min (t.val % 8 - 2) 1 + x.val
      rw [(idx t).2.2.2.2.2.2.1]
      show min (t.val % 8 - 2) 1 * 1024 + 1 * x.val = _
      omega
  refine Eq.trans ?_ (congrArg _ he).symm
  have hs : 1024 * (t.val / 8) + r.val = 4096 * ((1024 * (t.val / 8) + r.val) / 4096) + (1024 * (t.val / 8) + r.val) % 4096 := by omega
  refine Eq.trans ?_ (hout _ _ ⟨(1024 * (t.val / 8) + r.val) / 4096, by omega⟩ ⟨(1024 * (t.val / 8) + r.val) % 4096, by omega⟩ ⟨2048 + (1024 * min (t.val % 8 - 2) 1 + x.val), by omega⟩ hs rfl).symm
  refine (congrFun (hR h2) (ix2 r x)).trans ?_
  rw [f_at, b_blk m c t x ⟨1024 * min (t.val % 8 - 2) 1 + x.val, by omega⟩ h2 rfl, z_blk m c t (min (t.val % 8) 3) (by omega) r x ⟨(1024 * (t.val / 8) + r.val) / 4096, by omega⟩ ⟨(1024 * (t.val / 8) + r.val) % 4096, by omega⟩ ⟨2048 + (1024 * min (t.val % 8 - 2) 1 + x.val), by omega⟩ hs (by show _ = 2048 + (1024 * min (t.val % 8 - 2) 1 + x.val); omega)]

/-- The value after the run, entry by entry. -/
theorem value7 {r : PUnit × MemSt nD τ sig (Elt Ideal)} (hr : Pipeline.RDat.FramePost (cfgs 0) (fun c => rd m c) (V m) r) (c : Dev nD)
    (out : S16384x2048.Idx → Elt Ideal .bf16)
    (hout : ∀ (R : Fin 16384) (n : Fin 2048) (b : Fin 4) (s : Fin 4096) (k : Fin 8192), R.val = 4096 * b.val + s.val → k.val = 4096 + n.val →
      out (ix2 R n) = Z m c b s k) :
    r.2.mem ((c.tc : Thread nD τ).loc main_v4_3) = out := by
  obtain ⟨after, hleaf, harr⟩ := Pipeline.RDat.FramePost.exists_exact hr c
  refine (harr 7).trans ?_
  refine Dat.arrAt_eq_of_covers _ 7 _ (by decide +kernel) fun t hf y => ?_
  have hR : R7 m c t (after 7 t) := Dat.toRRel_leaves (dat := dats m 0 c) (fgt := fgt0) (Rl := Rw m c) rfl (hleaf 7 t hf)
  have h4 : 4 ≤ t.val % 8 := flush7 t hf
  have ht := lt128 t
  blk_simp
  obtain ⟨r, x, rfl⟩ : ∃ (r : Fin 1024) (x : Fin 1024), y = ix2 r x := ⟨y 0, y 1, eq_ix2 y⟩
  have hlt := r.isLt
  have hxt := x.isLt
  have he : ((cfg0.win 7).blk t).view.emb (ix2 r x) = ix2 (⟨1024 * (t.val / 8) + r.val, by omega⟩ : Fin 16384) (⟨1024 * min (t.val % 8 - 4) 1 + x.val, by omega⟩ : Fin 2048) := by
    funext a
    apply Fin.ext
    match a with
    | ⟨0, _⟩ =>
      show win0_7.index t (0 : Fin 2) * 1024 + 1 * r.val = 1024 * (t.val / 8) + r.val
      rw [(idx t).2.2.2.2.2.2.2.1]
      show t.val / 8 * 1024 + 1 * r.val = _
      omega
    | ⟨1, _⟩ =>
      show win0_7.index t (1 : Fin 2) * 1024 + 1 * x.val = 1024 * min (t.val % 8 - 4) 1 + x.val
      rw [(idx t).2.2.2.2.2.2.2.1]
      show min (t.val % 8 - 4) 1 * 1024 + 1 * x.val = _
      omega
  refine Eq.trans ?_ (congrArg _ he).symm
  have hs : 1024 * (t.val / 8) + r.val = 4096 * ((1024 * (t.val / 8) + r.val) / 4096) + (1024 * (t.val / 8) + r.val) % 4096 := by omega
  refine Eq.trans ?_ (hout _ _ ⟨(1024 * (t.val / 8) + r.val) / 4096, by omega⟩ ⟨(1024 * (t.val / 8) + r.val) % 4096, by omega⟩ ⟨4096 + (1024 * min (t.val % 8 - 4) 1 + x.val), by omega⟩ hs rfl).symm
  refine (congrFun (hR h4) (ix2 r x)).trans ?_
  rw [v_at, z_blk m c t (min (t.val % 8) 5) (by omega) r x ⟨(1024 * (t.val / 8) + r.val) / 4096, by omega⟩ ⟨(1024 * (t.val / 8) + r.val) % 4096, by omega⟩ ⟨4096 + (1024 * min (t.val % 8 - 4) 1 + x.val), by omega⟩ hs (by show _ = 4096 + (1024 * min (t.val % 8 - 4) 1 + x.val); omega)]

/-- The output gate after the run, entry by entry. -/
theorem value8 {r : PUnit × MemSt nD τ sig (Elt Ideal)} (hr : Pipeline.RDat.FramePost (cfgs 0) (fun c => rd m c) (V m) r) (c : Dev nD)
    (out : S16384x2048.Idx → Elt Ideal .bf16)
    (hout : ∀ (R : Fin 16384) (n : Fin 2048) (b : Fin 4) (s : Fin 4096) (k : Fin 8192), R.val = 4096 * b.val + s.val → k.val = 6144 + n.val →
      out (ix2 R n) = swish (Z m c b s k)) :
    r.2.mem ((c.tc : Thread nD τ).loc main_v4_4) = out := by
  obtain ⟨after, hleaf, harr⟩ := Pipeline.RDat.FramePost.exists_exact hr c
  refine (harr 8).trans ?_
  refine Dat.arrAt_eq_of_covers _ 8 _ (by decide +kernel) fun t hf y => ?_
  have hR : R8 m c t (after 8 t) := Dat.toRRel_leaves (dat := dats m 0 c) (fgt := fgt0) (Rl := Rw m c) rfl (hleaf 8 t hf)
  have h6 : 6 ≤ t.val % 8 := flush8 t hf
  have ht := lt128 t
  blk_simp
  obtain ⟨r, x, rfl⟩ : ∃ (r : Fin 1024) (x : Fin 1024), y = ix2 r x := ⟨y 0, y 1, eq_ix2 y⟩
  have hlt := r.isLt
  have hxt := x.isLt
  have he : ((cfg0.win 8).blk t).view.emb (ix2 r x) = ix2 (⟨1024 * (t.val / 8) + r.val, by omega⟩ : Fin 16384) (⟨1024 * min (t.val % 8 - 6) 1 + x.val, by omega⟩ : Fin 2048) := by
    funext a
    apply Fin.ext
    match a with
    | ⟨0, _⟩ =>
      show win0_8.index t (0 : Fin 2) * 1024 + 1 * r.val = 1024 * (t.val / 8) + r.val
      rw [(idx t).2.2.2.2.2.2.2.2]
      show t.val / 8 * 1024 + 1 * r.val = _
      omega
    | ⟨1, _⟩ =>
      show win0_8.index t (1 : Fin 2) * 1024 + 1 * x.val = 1024 * min (t.val % 8 - 6) 1 + x.val
      rw [(idx t).2.2.2.2.2.2.2.2]
      show min (t.val % 8 - 6) 1 * 1024 + 1 * x.val = _
      omega
  refine Eq.trans ?_ (congrArg _ he).symm
  have hs : 1024 * (t.val / 8) + r.val = 4096 * ((1024 * (t.val / 8) + r.val) / 4096) + (1024 * (t.val / 8) + r.val) % 4096 := by omega
  refine Eq.trans ?_ (hout _ _ ⟨(1024 * (t.val / 8) + r.val) / 4096, by omega⟩ ⟨(1024 * (t.val / 8) + r.val) % 4096, by omega⟩ ⟨6144 + (1024 * min (t.val % 8 - 6) 1 + x.val), by omega⟩ hs rfl).symm
  refine (congrFun (hR h6) (ix2 r x)).trans ?_
  rw [q_at, z_blk m c t (t.val % 8) (by omega) r x ⟨(1024 * (t.val / 8) + r.val) / 4096, by omega⟩ ⟨(1024 * (t.val / 8) + r.val) % 4096, by omega⟩ ⟨6144 + (1024 * min (t.val % 8 - 6) 1 + x.val), by omega⟩ hs (by show _ = 6144 + (1024 * min (t.val % 8 - 6) 1 + x.val); omega)]

end Cert.GatesIdeal.Row

namespace Cert.GatesRefIdeal.Row

open Cert.GatesRefIdeal Cert.GatesRefIdeal.Gen Cert.GatesRefIdeal.Read Cert.Layer Cert.GatesMath

variable (x : (⟨S4x4096x2048, .f32⟩ : BufTy).Contents (Elt Ideal)) (g : (⟨S2x2048, .f32⟩ : BufTy).Contents (Elt Ideal))
  (w : (⟨S1x2048x8192, .f32⟩ : BufTy).Contents (Elt Ideal)) (l : (⟨S2048, .f32⟩ : BufTy).Contents (Elt Ideal))

/-- The reference normalizes each row. -/
theorem normed_at (b : Fin 4) (s : Fin 4096) (d : Fin 2048) :
    val_main_v14 (F := Ideal) x g (ix3 b s d) = normed (fun d => x (ix3 b s d)) (fun d => g (ix2 1 d)) d := by
  pointwise [val_main_v0, val_main_v1, val_main_v2, val_main_cst, val_main_v3, val_main_v4, val_main_cst_0, val_main_v5, val_main_v6, val_main_cst_1, val_main_v7,
    val_main_v8, val_main_v9, val_main_v10, val_main_v11, val_main_v12, val_main_v13, val_main_v14]
  rfl

/-- The reference's product at a position and a column. -/
theorem z_at (b : Fin 4) (s : Fin 4096) (k : Fin 8192) :
    val_main_v16 (F := Ideal) x g w (ix3 b s k) = ∑ d : Fin 2048, normed (fun d => x (ix3 b s d)) (fun d => g (ix2 1 d)) d * w (ix3 0 d k) := by
  pointwise [val_main_v15, val_main_v16]
  simp only [normed_at]

variable (R : Fin 16384) (n : Fin 2048) (b : Fin 4) (s : Fin 4096) (k : Fin 8192) (h : R.val = 4096 * b.val + s.val)
include h

/-- The reference's query gate. -/
theorem v56_at (hk : k.val = 0 + n.val) : val_main_v56 (F := Ideal) x g w (ix2 R n) = swish (val_main_v16 (F := Ideal) x g w (ix3 b s k)) := by
  have hb : (⟨R.val / 4096, by omega⟩ : Fin 4) = b := Fin.ext (by show R.val / 4096 = b.val; omega)
  have hs : (⟨R.val % 4096, by omega⟩ : Fin 4096) = s := Fin.ext (by show R.val % 4096 = s.val; omega)
  have hk : (⟨n.val, by omega⟩ : Fin 8192) = k := Fin.ext (by show n.val = k.val; omega)
  generalize hz : val_main_v16 (F := Ideal) x g w = z
  pointwise [val_main_v17, val_main_v18, val_main_v19, val_main_v20, val_main_call0_v0, val_main_call0_v1, val_main_call0_cst, val_main_call0_v2,
    val_main_call0_v3, val_main_call0_cst_0, val_main_call0_v4, val_main_call0_v5, val_main_v21, val_main_v22, val_main_v23, val_main_v24,
    val_main_call1_v0, val_main_call1_call0_cst, val_main_call1_call0_v0, val_main_call1_call0_v1, val_main_call1_call0_v2, val_main_call1_call0_v3,
    val_main_call1_call0_v4, val_main_call1_call0_v5, val_main_call1_call0_v6, val_main_call1_call0_v7, val_main_call1_call0_v8,
    val_main_call1_call0_v9, val_main_call1_call0_v10, val_main_call1_call0_v11, val_main_call1_v1, val_main_v25, val_main_v26, val_main_v27,
    val_main_v28, val_main_v29, val_main_v30, val_main_v31, val_main_v32, val_main_v33, val_main_v34, val_main_v35, val_main_v36, val_main_v37,
    val_main_v38, val_main_v39, val_main_v40, val_main_v41, val_main_v42, val_main_cst_2, val_main_v43, val_main_v44, val_main_v45, val_main_v46,
    val_main_v47, val_main_cst_3, val_main_v48, val_main_v49, val_main_cst_4, val_main_v50, val_main_v51, val_main_v52, val_main_v53, val_main_v54,
    val_main_v55, val_main_v56, val_main_v57, val_main_v58, val_main_v59, val_main_v60, val_main_v61, val_main_call2_v0, val_main_call2_v1,
    val_main_call2_cst, val_main_call2_v2, val_main_call2_v3, val_main_call2_cst_0, val_main_call2_v4, val_main_call2_v5, val_main_v62, val_main_v63,
    val_main_v64]
  rw [hz]
  try simp only [ne_eq, not_true_eq_false, if_false]
  rw [hb, hs, hk]
  rfl

/-- The reference's complementary gate. -/
theorem v58_at (hk : k.val = 2048 + n.val) : val_main_v58 (F := Ideal) x g w l (ix2 R n) = (1 - l (ix1 n)) * co (val_main_v16 (F := Ideal) x g w (ix3 b s k)) := by
  have hb : (⟨R.val / 4096, by omega⟩ : Fin 4) = b := Fin.ext (by show R.val / 4096 = b.val; omega)
  have hs : (⟨R.val % 4096, by omega⟩ : Fin 4096) = s := Fin.ext (by show R.val % 4096 = s.val; omega)
  have hk : (⟨2048 + n.val, by omega⟩ : Fin 8192) = k := Fin.ext hk.symm
  generalize hz : val_main_v16 (F := Ideal) x g w = z
  pointwise [val_main_v17, val_main_v18, val_main_v19, val_main_v20, val_main_call0_v0, val_main_call0_v1, val_main_call0_cst, val_main_call0_v2,
    val_main_call0_v3, val_main_call0_cst_0, val_main_call0_v4, val_main_call0_v5, val_main_v21, val_main_v22, val_main_v23, val_main_v24,
    val_main_call1_v0, val_main_call1_call0_cst, val_main_call1_call0_v0, val_main_call1_call0_v1, val_main_call1_call0_v2, val_main_call1_call0_v3,
    val_main_call1_call0_v4, val_main_call1_call0_v5, val_main_call1_call0_v6, val_main_call1_call0_v7, val_main_call1_call0_v8,
    val_main_call1_call0_v9, val_main_call1_call0_v10, val_main_call1_call0_v11, val_main_call1_v1, val_main_v25, val_main_v26, val_main_v27,
    val_main_v28, val_main_v29, val_main_v30, val_main_v31, val_main_v32, val_main_v33, val_main_v34, val_main_v35, val_main_v36, val_main_v37,
    val_main_v38, val_main_v39, val_main_v40, val_main_v41, val_main_v42, val_main_cst_2, val_main_v43, val_main_v44, val_main_v45, val_main_v46,
    val_main_v47, val_main_cst_3, val_main_v48, val_main_v49, val_main_cst_4, val_main_v50, val_main_v51, val_main_v52, val_main_v53, val_main_v54,
    val_main_v55, val_main_v56, val_main_v57, val_main_v58, val_main_v59, val_main_v60, val_main_v61, val_main_call2_v0, val_main_call2_v1,
    val_main_call2_cst, val_main_call2_v2, val_main_call2_v3, val_main_call2_cst_0, val_main_call2_v4, val_main_call2_v5, val_main_v62, val_main_v63,
    val_main_v64]
  rw [hz]
  try simp only [ne_eq, not_true_eq_false, if_false]
  rw [hb, hs, hk]
  rw [co_eq]

/-- The reference's logarithm of the decay. -/
theorem v59_at (hk : k.val = 2048 + n.val) : val_main_v59 (F := Ideal) x g w l (ix2 R n) = lse (Ideal.log (l (ix1 n))) (Ideal.log1p (-l (ix1 n)) + lsig (val_main_v16 (F := Ideal) x g w (ix3 b s k))) := by
  have hb : (⟨R.val / 4096, by omega⟩ : Fin 4) = b := Fin.ext (by show R.val / 4096 = b.val; omega)
  have hs : (⟨R.val % 4096, by omega⟩ : Fin 4096) = s := Fin.ext (by show R.val % 4096 = s.val; omega)
  have hk : (⟨2048 + n.val, by omega⟩ : Fin 8192) = k := Fin.ext hk.symm
  generalize hz : val_main_v16 (F := Ideal) x g w = z
  pointwise [val_main_v17, val_main_v18, val_main_v19, val_main_v20, val_main_call0_v0, val_main_call0_v1, val_main_call0_cst, val_main_call0_v2,
    val_main_call0_v3, val_main_call0_cst_0, val_main_call0_v4, val_main_call0_v5, val_main_v21, val_main_v22, val_main_v23, val_main_v24,
    val_main_call1_v0, val_main_call1_call0_cst, val_main_call1_call0_v0, val_main_call1_call0_v1, val_main_call1_call0_v2, val_main_call1_call0_v3,
    val_main_call1_call0_v4, val_main_call1_call0_v5, val_main_call1_call0_v6, val_main_call1_call0_v7, val_main_call1_call0_v8,
    val_main_call1_call0_v9, val_main_call1_call0_v10, val_main_call1_call0_v11, val_main_call1_v1, val_main_v25, val_main_v26, val_main_v27,
    val_main_v28, val_main_v29, val_main_v30, val_main_v31, val_main_v32, val_main_v33, val_main_v34, val_main_v35, val_main_v36, val_main_v37,
    val_main_v38, val_main_v39, val_main_v40, val_main_v41, val_main_v42, val_main_cst_2, val_main_v43, val_main_v44, val_main_v45, val_main_v46,
    val_main_v47, val_main_cst_3, val_main_v48, val_main_v49, val_main_cst_4, val_main_v50, val_main_v51, val_main_v52, val_main_v53, val_main_v54,
    val_main_v55, val_main_v56, val_main_v57, val_main_v58, val_main_v59, val_main_v60, val_main_v61, val_main_call2_v0, val_main_call2_v1,
    val_main_call2_cst, val_main_call2_v2, val_main_call2_v3, val_main_call2_cst_0, val_main_call2_v4, val_main_call2_v5, val_main_v62, val_main_v63,
    val_main_v64]
  rw [hz]
  try simp only [ne_eq, not_true_eq_false, if_false]
  rw [hb, hs, hk]
  rfl

/-- The reference's value. -/
theorem v61_at (hk : k.val = 4096 + n.val) : val_main_v61 (F := Ideal) x g w (ix2 R n) = (val_main_v16 (F := Ideal) x g w (ix3 b s k)) := by
  have hb : (⟨R.val / 4096, by omega⟩ : Fin 4) = b := Fin.ext (by show R.val / 4096 = b.val; omega)
  have hs : (⟨R.val % 4096, by omega⟩ : Fin 4096) = s := Fin.ext (by show R.val % 4096 = s.val; omega)
  have hk : (⟨4096 + n.val, by omega⟩ : Fin 8192) = k := Fin.ext hk.symm
  generalize hz : val_main_v16 (F := Ideal) x g w = z
  pointwise [val_main_v17, val_main_v18, val_main_v19, val_main_v20, val_main_call0_v0, val_main_call0_v1, val_main_call0_cst, val_main_call0_v2,
    val_main_call0_v3, val_main_call0_cst_0, val_main_call0_v4, val_main_call0_v5, val_main_v21, val_main_v22, val_main_v23, val_main_v24,
    val_main_call1_v0, val_main_call1_call0_cst, val_main_call1_call0_v0, val_main_call1_call0_v1, val_main_call1_call0_v2, val_main_call1_call0_v3,
    val_main_call1_call0_v4, val_main_call1_call0_v5, val_main_call1_call0_v6, val_main_call1_call0_v7, val_main_call1_call0_v8,
    val_main_call1_call0_v9, val_main_call1_call0_v10, val_main_call1_call0_v11, val_main_call1_v1, val_main_v25, val_main_v26, val_main_v27,
    val_main_v28, val_main_v29, val_main_v30, val_main_v31, val_main_v32, val_main_v33, val_main_v34, val_main_v35, val_main_v36, val_main_v37,
    val_main_v38, val_main_v39, val_main_v40, val_main_v41, val_main_v42, val_main_cst_2, val_main_v43, val_main_v44, val_main_v45, val_main_v46,
    val_main_v47, val_main_cst_3, val_main_v48, val_main_v49, val_main_cst_4, val_main_v50, val_main_v51, val_main_v52, val_main_v53, val_main_v54,
    val_main_v55, val_main_v56, val_main_v57, val_main_v58, val_main_v59, val_main_v60, val_main_v61, val_main_call2_v0, val_main_call2_v1,
    val_main_call2_cst, val_main_call2_v2, val_main_call2_v3, val_main_call2_cst_0, val_main_call2_v4, val_main_call2_v5, val_main_v62, val_main_v63,
    val_main_v64]
  rw [hz]
  try simp only [ne_eq, not_true_eq_false, if_false]
  rw [hb, hs, hk]

/-- The reference's output gate. -/
theorem v64_at (hk : k.val = 6144 + n.val) : val_main_v64 (F := Ideal) x g w (ix2 R n) = swish (val_main_v16 (F := Ideal) x g w (ix3 b s k)) := by
  have hb : (⟨R.val / 4096, by omega⟩ : Fin 4) = b := Fin.ext (by show R.val / 4096 = b.val; omega)
  have hs : (⟨R.val % 4096, by omega⟩ : Fin 4096) = s := Fin.ext (by show R.val % 4096 = s.val; omega)
  have hk : (⟨6144 + n.val, by omega⟩ : Fin 8192) = k := Fin.ext hk.symm
  generalize hz : val_main_v16 (F := Ideal) x g w = z
  pointwise [val_main_v17, val_main_v18, val_main_v19, val_main_v20, val_main_call0_v0, val_main_call0_v1, val_main_call0_cst, val_main_call0_v2,
    val_main_call0_v3, val_main_call0_cst_0, val_main_call0_v4, val_main_call0_v5, val_main_v21, val_main_v22, val_main_v23, val_main_v24,
    val_main_call1_v0, val_main_call1_call0_cst, val_main_call1_call0_v0, val_main_call1_call0_v1, val_main_call1_call0_v2, val_main_call1_call0_v3,
    val_main_call1_call0_v4, val_main_call1_call0_v5, val_main_call1_call0_v6, val_main_call1_call0_v7, val_main_call1_call0_v8,
    val_main_call1_call0_v9, val_main_call1_call0_v10, val_main_call1_call0_v11, val_main_call1_v1, val_main_v25, val_main_v26, val_main_v27,
    val_main_v28, val_main_v29, val_main_v30, val_main_v31, val_main_v32, val_main_v33, val_main_v34, val_main_v35, val_main_v36, val_main_v37,
    val_main_v38, val_main_v39, val_main_v40, val_main_v41, val_main_v42, val_main_cst_2, val_main_v43, val_main_v44, val_main_v45, val_main_v46,
    val_main_v47, val_main_cst_3, val_main_v48, val_main_v49, val_main_cst_4, val_main_v50, val_main_v51, val_main_v52, val_main_v53, val_main_v54,
    val_main_v55, val_main_v56, val_main_v57, val_main_v58, val_main_v59, val_main_v60, val_main_v61, val_main_call2_v0, val_main_call2_v1,
    val_main_call2_cst, val_main_call2_v2, val_main_call2_v3, val_main_call2_cst_0, val_main_call2_v4, val_main_call2_v5, val_main_v62, val_main_v63,
    val_main_v64]
  rw [hz]
  try simp only [ne_eq, not_true_eq_false, if_false]
  rw [hb, hs, hk]
  rfl

end Cert.GatesRefIdeal.Row

end
-- ==== Proof.GatesPre.lean ====
/-
  What the gates' precondition says: every lower bound lies between the smallest normal number and one.
-/
module

public import proofs.«01_k».proof.Defs
public import proofs.«01_k».proof.Proof.GatesMath
public import Idealize.ShloMosaic.Lib.ReduceAll
public import Idealize.ShloMosaic.Lib.Pointwise

@[expose] public section

set_option maxRecDepth 16384

noncomputable section

namespace Cert.Pre_lb_range

open Idealize.ShloMosaic Cert.GatesMath

/-- The shape relations the precondition's operations take. -/
instance facts : Facts where
  bcast_S_S2048 := by decide
  reducesTo_S2048_S_d0 := by decide
  h_S_ := by decide

instance : Subsingleton S_.Idx := ⟨fun a b => funext fun i => i.elim0⟩

theorem le_of_oge {x y : EReal} (h : Ideal.cmp .oge x y = 1#1) : y ≤ x := by
  by_contra hn
  simp [Ideal.cmp, hn] at h
theorem le_of_ole {x y : EReal} (h : Ideal.cmp .ole x y = 1#1) : x ≤ y := by
  by_contra hn
  simp [Ideal.cmp, hn] at h

/-- The precondition makes every bound a real number between the smallest normal number and one. -/
theorem range_of_fn (a0 : FVec Ideal S4x4096x2048 .f32) (a1 : FVec Ideal S2x2048 .f32) (a2 : FVec Ideal S1x2048x8192 .f32) (a3 : FVec Ideal S2048 .f32)
    (h : fn (F := Ideal) a0 a1 a2 a3 = fun _ => 1#1) (i : S2048.Idx) :
    ∃ b : ℝ, a3 i = (b : EReal) ∧ tiny ≤ (b : EReal) ∧ b ≤ 1 := by
  have h := congrFun h ix0
  unfold fn at h
  dsimp only at h
  obtain ⟨h0, h1⟩ := IntOp.andi_eq_one.1 h
  have g0 : tiny ≤ a3 i := le_of_oge (Host.reduce_andi_all _ _ _ _ _ h0 i)
  have g1 : a3 i ≤ Ideal.ofBits .f32 0x3F800000#32 := le_of_ole (Host.reduce_andi_all _ _ _ _ _ h1 i)
  rw [one_eq] at g1
  obtain ⟨τ, hτ, ht⟩ := tiny_eq
  revert g0 g1
  generalize a3 i = x
  intro g0 g1
  induction x using EReal.rec with
  | bot => rw [ht] at g0; exact absurd g0 (not_le.2 (EReal.bot_lt_coe τ))
  | top => exact absurd g1 (not_le.2 (EReal.coe_lt_top 1))
  | coe b => exact ⟨b, rfl, g0, EReal.coe_le_coe_iff.1 g1⟩

end Cert.Pre_lb_range

end
-- ==== Proof.ConvIdealRun.lean ====
/-
  The convolution module (idealized): what one run of the body leaves in each buffer, and the run of the whole
  program with every block that is written back named.
-/
module

public import proofs.«01_k».proof.Proof.Gen.ConvIdeal.Frame.Runs
public import Idealize.ShloMosaic.Lib.Pipeline.Value
public import Idealize.ShloMosaic.Lib.WritesUnit
public import Idealize.ShloMosaic.Lib.Tactic

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A store of a whole block leaves what it stores. -/
theorem put_whole {κ : Kind} {sp : Space} {S : Shape} {e : EltTy} (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  funext y
  exact View.read_writes_cons_unit_of_mem v f inb w [] y y h fun a => (Nat.zero_add _).symm

/-- The gated rows as stored: the halo, then the block. -/
def bufL (i : grid0.Coords) (x0 x1 : Vec F S1x512x1024 .bf16) (x2 x3 : Vec F S1x32x1024 .bf16) : List (View.Piece (Elt F) S544x1024 .f32) :=
  [⟨Rect.unit ![32, 0] S512x1024.size inb_S544x1024_S512x1024_32_0, k0_pay111 x0 x1⟩,
    ⟨Rect.unit ![0, 0] S32x1024.size inb_S544x1024_S32x1024_0_0, k0_pay110 (k0_pay109 i x2 x3)⟩]

/-- The seven copies of the gated rows, each shifted by one row more than the one before. -/
def shL (v : View sig .tc .vmem S544x1024 .f32) (L : List (View.Piece (Elt F) S544x1024 .f32)) : List (View.Piece (Elt F) S7x536x1024 .f32) :=
  [⟨Rect.unit ![6, 0, 0] S1x536x1024.size inb_S7x536x1024_S1x536x1024_6_0_0, k0_pay5 (v.readCov L (Rect.unit (s := S544x1024) ![7, 0] S536x1024.size inb_S544x1024_S536x1024_7_0).toLoadRect)⟩,
    ⟨Rect.unit ![5, 0, 0] S1x536x1024.size inb_S7x536x1024_S1x536x1024_5_0_0, k0_pay4 (v.readCov L (Rect.unit (s := S544x1024) ![6, 0] S536x1024.size inb_S544x1024_S536x1024_6_0).toLoadRect)⟩,
    ⟨Rect.unit ![4, 0, 0] S1x536x1024.size inb_S7x536x1024_S1x536x1024_4_0_0, k0_pay3 (v.readCov L (Rect.unit (s := S544x1024) ![5, 0] S536x1024.size inb_S544x1024_S536x1024_5_0).toLoadRect)⟩,
    ⟨Rect.unit ![3, 0, 0] S1x536x1024.size inb_S7x536x1024_S1x536x1024_3_0_0, k0_pay2 (v.readCov L (Rect.unit (s := S544x1024) ![4, 0] S536x1024.size inb_S544x1024_S536x1024_4_0).toLoadRect)⟩,
    ⟨Rect.unit ![2, 0, 0] S1x536x1024.size inb_S7x536x1024_S1x536x1024_2_0_0, k0_pay1 (v.readCov L (Rect.unit (s := S544x1024) ![3, 0] S536x1024.size inb_S544x1024_S536x1024_3_0).toLoadRect)⟩,
    ⟨Rect.unit ![1, 0, 0] S1x536x1024.size inb_S7x536x1024_S1x536x1024_1_0_0, k0_pay113 (v.readCov L (Rect.unit (s := S544x1024) ![2, 0] S536x1024.size inb_S544x1024_S536x1024_2_0).toLoadRect)⟩,
    ⟨Rect.unit ![0, 0, 0] S1x536x1024.size inb_S7x536x1024_S1x536x1024_0_0_0, k0_pay112 (v.readCov L (Rect.unit (s := S544x1024) ![1, 0] S536x1024.size inb_S544x1024_S536x1024_1_0).toLoadRect)⟩]

section
variable (c : Dev nD) (i : grid0.Coords) {arg2 : Memref sig .tc .vmem S1x512x1024 .bf16} (harg2 : arg2.IsWhole) {arg3 : Memref sig .tc .vmem S1x512x1024 .bf16} (harg3 : arg3.IsWhole) {arg4 : Memref sig .tc .vmem S1x32x1024 .bf16} (harg4 : arg4.IsWhole) {arg5 : Memref sig .tc .vmem S1x32x1024 .bf16} (harg5 : arg5.IsWhole) {arg6 : Memref sig .tc .vmem S1x31x1024 .f32} (harg6 : arg6.IsWhole) {arg7 : Memref sig .tc .vmem S1x1x1024 .f32} (harg7 : arg7.IsWhole) {arg8 : Memref sig .tc .vmem S1x1x1024 .f32} (harg8 : arg8.IsWhole) {arg9 : Memref sig .tc .vmem S1x1x1024 .f32} (harg9 : arg9.IsWhole) {arg10 : Memref sig .tc .vmem S64x5632 .f32} (harg10 : arg10.IsWhole) {arg11 : Memref sig .tc .vmem S64x5632 .f32} (harg11 : arg11.IsWhole) {arg12 : Memref sig .tc .vmem S64x8192 .f32} (harg12 : arg12.IsWhole) {arg13 : Memref sig .tc .vmem S1x512x1024 .bf16} (harg13 : arg13.IsWhole) {arg14 : Memref sig .tc .vmem S64x5632 .bf16} (harg14 : arg14.IsWhole) {arg15 : Memref sig .tc .vmem S64x5632 .bf16} (harg15 : arg15.IsWhole) {arg16 : Memref sig .tc .vmem S64x8192 .bf16} (harg16 : arg16.IsWhole) {arg17 : Memref sig .tc .vmem S544x1024 .f32} (harg17 : arg17.IsWhole) {arg18 : Memref sig .tc .vmem S7x536x1024 .f32} (harg18 : arg18.IsWhole) {arg19 : Memref sig .tc .vmem S512x1024 .f32} (harg19 : arg19.IsWhole)
  (x0 : Vec F S1x512x1024 .bf16) (x1 : Vec F S1x512x1024 .bf16) (x2 : Vec F S1x32x1024 .bf16) (x3 : Vec F S1x32x1024 .bf16) (x4 : Vec F S1x31x1024 .f32) (x5 : Vec F S1x1x1024 .f32) (x6 : Vec F S1x1x1024 .f32) (x7 : Vec F S1x1x1024 .f32)

/-- The gated rows' buffer. -/
def bufX : BufTy.Contents (Elt F) arg17.view.ty := arg17.view.writes (Elt F) arg17.view.junk (bufL i x0 x1 x2 x3)

/-- The copies' buffer. -/
def shX (v : View sig .tc .vmem S544x1024 .f32) : BufTy.Contents (Elt F) arg18.view.ty := arg18.view.writes (Elt F) arg18.view.junk (shL v (bufL i x0 x1 x2 x3))

/-- What the taps' loop stores. -/
def cvL : List (View.Piece (Elt F) S512x1024 .f32) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg6.unread x4) (harg7.unread x5) (bufX (arg17 := arg17) i x0 x1 x2 x3) (shX (arg18 := arg18) i x0 x1 x2 x3 arg17.view) k0_t1_loop.trips

local notation "cvS" => cvL c i harg2 harg3 harg4 harg5 harg6 harg7 harg8 harg9 harg10 harg11 harg12 harg13 harg14 harg15 harg16 harg17 harg18 harg19 x0 x1 x2 x3 x4 x5

theorem cvL_cover (y : S512x1024.Idx) : ∃ pc ∈ cvS, y ∈ pc.1.set :=
  View.cover_of_tiledL (cvS) S16x128.size (by sl_kernel_rfl) y

/-- What the buffer held before the taps' loop does not matter. -/
theorem cv_eq (f : BufTy.Contents (Elt F) arg19.view.ty) : arg19.view.writes (Elt F) f (cvS) = arg19.view.writes (Elt F) arg19.view.junk (cvS) :=
  (harg19.eq_unread rfl).trans ((congrArg _ (View.read_writes_of_cover _ _ _ _ _ (cvL_cover c i harg2 harg3 harg4 harg5 harg6 harg7 harg8 harg9 harg10 harg11 harg12 harg13 harg14 harg15 harg16 harg17 harg18 harg19 x0 x1 x2 x3 x4 x5))).trans (harg19.eq_unread rfl).symm)

/-- What the normalization's loop stores. -/
def outL : List (View.Piece (Elt F) S1x512x1024 .bf16) :=
  pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg8.unread x6) (harg9.unread x7) (arg19.view.writes (Elt F) arg19.view.junk (cvS)) k0_t2_loop.trips

local notation "outS" => outL c i harg2 harg3 harg4 harg5 harg6 harg7 harg8 harg9 harg10 harg11 harg12 harg13 harg14 harg15 harg16 harg17 harg18 harg19 x0 x1 x2 x3 x4 x5 x6 x7

theorem outL_cover (y : S1x512x1024.Idx) : ∃ pc ∈ outS, y ∈ pc.1.set :=
  View.cover_of_tiledL (outS) S1x128x1024.size (by sl_kernel_rfl) y

/-- The block of the module's result. -/
def out : Vec F S1x512x1024 .bf16 := VO0_11.read (Elt F) (VO0_11.writes (Elt F) VO0_11.junk (outS))

set_option maxHeartbeats 40000000 in
/-- The body at any point. -/
theorem run (x8 : Vec F S64x5632 .f32) (x9 : Vec F S64x5632 .f32) (x10 : Vec F S64x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out c i harg2 harg3 harg4 harg5 harg6 harg7 harg8 harg9 harg10 harg11 harg12 harg13 harg14 harg15 harg16 harg17 harg18 harg19 x0 x1 x2 x3 x4 x5 x6 x7) ∗ owns (c : Thread nD τ) arg14 fullShare (k0_pay106 x8) ∗ owns (c : Thread nD τ) arg15 fullShare (k0_pay107 x9) ∗ owns (c : Thread nD τ) arg16 fullShare (k0_pay108 x10) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_conv_module i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_conv_module_eq_skeleton]; unfold cc0_conv_module_skel
  simp only [k0_part65_eq_skeleton, k0_part66_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro
    sl_unfold_words
    simp only [View.readAt_eq_ld, harg2.read_unread, harg3.read_unread, harg4.read_unread, harg5.read_unread, harg10.read_unread, harg11.read_unread, harg12.read_unread, View.ld_unit_zero (S := S1x512x1024) hz3, View.ld_unit_zero (S := S1x32x1024) hz3, View.ld_unit_zero (S := S64x5632) hz2, View.ld_unit_zero (S := S64x8192) hz2]
    exact (congrArg (fun z => arg13.view.read (Elt F) (arg13.view.writes (Elt F) f13 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg8.unread x6) (harg9.unread x7) z k0_t2_loop.trips))) (cv_eq c i harg2 harg3 harg4 harg5 harg6 harg7 harg8 harg9 harg10 harg11 harg12 harg13 harg14 harg15 harg16 harg17 harg18 harg19 x0 x1 x2 x3 x4 x5 f19)).trans
      (View.read_writes_of_cover _ _ _ _ _ (outL_cover c i harg2 harg3 harg4 harg5 harg6 harg7 harg8 harg9 harg10 harg11 harg12 harg13 harg14 harg15 harg16 harg17 harg18 harg19 x0 x1 x2 x3 x4 x5 x6 x7))
  isplitl [H14]
  · iexists _; isplitr; swap; · iexact H14
    ipureintro
    sl_unfold_words
    rw [put_whole arg14.view _ hz2]
    simp only [View.readAt_eq_ld, harg2.read_unread, harg3.read_unread, harg4.read_unread, harg5.read_unread, harg10.read_unread, harg11.read_unread, harg12.read_unread, View.ld_unit_zero (S := S1x512x1024) hz3, View.ld_unit_zero (S := S1x32x1024) hz3, View.ld_unit_zero (S := S64x5632) hz2, View.ld_unit_zero (S := S64x8192) hz2]
  isplitl [H15]
  · iexists _; isplitr; swap; · iexact H15
    ipureintro
    sl_unfold_words
    rw [put_whole arg15.view _ hz2]
    simp only [View.readAt_eq_ld, harg2.read_unread, harg3.read_unread, harg4.read_unread, harg5.read_unread, harg10.read_unread, harg11.read_unread, harg12.read_unread, View.ld_unit_zero (S := S1x512x1024) hz3, View.ld_unit_zero (S := S1x32x1024) hz3, View.ld_unit_zero (S := S64x5632) hz2, View.ld_unit_zero (S := S64x8192) hz2]
  isplitl [H16]
  · iexists _; isplitr; swap; · iexact H16
    ipureintro
    sl_unfold_words
    rw [put_whole arg16.view _ hz2]
    simp only [View.readAt_eq_ld, harg2.read_unread, harg3.read_unread, harg4.read_unread, harg5.read_unread, harg10.read_unread, harg11.read_unread, harg12.read_unread, View.ld_unit_zero (S := S1x512x1024) hz3, View.ld_unit_zero (S := S1x32x1024) hz3, View.ld_unit_zero (S := S64x5632) hz2, View.ld_unit_zero (S := S64x8192) hz2]
  isplitl [H17]
  · iexists _, _; isplitr; swap; · iexact H17
    ipureintro; rfl
  isplitl [H18]
  · iexists _, _; isplitr; swap; · iexact H18
    ipureintro; rfl
  iexists _, _; isplitr; swap; · iexact H19
  ipureintro; rfl
end

end Cert.ConvIdeal.Hand

end
-- ==== Proof.ConvMath.lean ====
/-
  The convolution module as plain functions of extended reals, naming no program: the gated value, the rows with zeros in
  front, the sum over the 31 taps, the normalization of a row of 1024 and the gate after it.
-/
module

public import proofs.«01_k».proof.Proof.Swish

@[expose] public section

noncomputable section

open Idealize.ShloMosaic

namespace Cert.ConvMath

open Cert.Swish

/-- A number times its logistic function. -/
def swish (z : EReal) : EReal := z * Ideal.div 1 (1 + Ideal.exp (-z))

/-- A value through the logistic gate of another. -/
def glu (v g : EReal) : EReal := v * Ideal.div 1 (1 + Ideal.exp (-g))

/-- The first `n` taps added, one after the other, to `b`. -/
def taps (W u : ℕ → EReal) (b : EReal) : ℕ → EReal
  | 0 => b
  | n + 1 => taps W u b n + W n * u n

/-- The start may be added last. -/
theorem taps_start (W u : ℕ → EReal) (b : EReal) (n : ℕ) : taps W u b n = taps W u 0 n + b := by
  induction n with
  | zero => simp [taps]
  | succ n ih => rw [taps, ih, taps, add_assoc, add_assoc, add_comm b]

/-- The first `n + 1` taps as the reference adds them: the first product alone, each product its factors the other way
    around. -/
def sumTaps (W u : ℕ → EReal) : ℕ → EReal
  | 0 => u 0 * W 0
  | n + 1 => sumTaps W u n + u (n + 1) * W (n + 1)

theorem sumTaps_eq (W u : ℕ → EReal) (n : ℕ) : sumTaps W u n = taps W u 0 (n + 1) := by
  induction n with
  | zero => simp [sumTaps, taps, mul_comm]
  | succ n ih => rw [sumTaps, ih, mul_comm (u (n + 1))]; rfl

/-- All 31 taps and the bias, in either order. -/
theorem taps31 (W u : ℕ → EReal) (b : EReal) : taps W u b 31 = sumTaps W u 30 + b := by
  rw [taps_start, sumTaps_eq]

/-- The taps depend on the first values alone. -/
theorem taps_congr {W W' u u' : ℕ → EReal} (b : EReal) (n : ℕ) (h : ∀ k, k < n → W k = W' k) (h' : ∀ k, k < n → u k = u' k) :
    taps W u b n = taps W' u' b n := by
  induction n with
  | zero => rfl
  | succ n ih =>
    rw [taps, taps, ih (fun k hk => h k (by omega)) (fun k hk => h' k (by omega)), h n (by omega), h' n (by omega)]

/-- The mean of 1024 numbers. -/
def mean (x : Fin 1024 → EReal) : EReal := Ideal.div (∑ k : Fin 1024, x k) (Ideal.ofBits .f32 0x44800000#32)

/-- One row less its mean, by the reciprocal root of its variance (with the printed small constant), times gain, plus bias. -/
def lnorm (x g b : Fin 1024 → EReal) (d : Fin 1024) : EReal :=
  (x d - mean x) * Ideal.rsqrt (mean (fun k => (x k - mean x) * (x k - mean x)) + Ideal.ofBits .f32 0x358637BD#32) * g d + b d

end Cert.ConvMath

end
-- ==== Proof.ConvTaps.lean ====
/-
  The convolution module's loop over the 31 taps: what its 32 trips, each of 16 rows, leave in the scratch.
-/
module

public import proofs.«01_k».proof.Proof.Gen.ConvIdeal.Loops
public import proofs.«01_k».proof.Proof.ConvMath
public import Idealize.ShloMosaic.Lib.Claim
public import Idealize.ShloMosaic.Lib.Tactic
public import Idealize.ShloMosaic.Lib.Pipeline.ValueKit.Point
public import Idealize.ShloMosaic.Lib.Pipeline.ValueKit.Tiles

@[expose] public section

set_option maxRecDepth 16384

noncomputable section

open Idealize.ShloMosaic Idealize.ShloMosaic.TcCoe Idealize.SL.Sem Idealize.ShloMosaic.Tactic

namespace Cert.ConvIdeal.Taps

open Cert.ConvIdeal Cert.ConvIdeal.Gen Cert.ConvMath

/-- The first row a trip of the tap loop reads, and the same some rows on. -/
theorem row (k : Fin k0_t1_loop.trips) : (Scalar.indexCast (Scalar.muli (Scf.iv 0#32 1#32 k) 16#32)).toNat = 16 * k.val :=
  (by decide +kernel : ∀ k : Fin k0_t1_loop.trips, (Scalar.indexCast (Scalar.muli (Scf.iv 0#32 1#32 k) 16#32)).toNat = 16 * k.val) k
theorem row0 (k : Fin k0_t1_loop.trips) : (Scalar.indexCast (Scalar.addi (Scalar.muli (Scf.iv 0#32 1#32 k) 16#32) 0#32)).toNat = 16 * k.val :=
  (by decide +kernel : ∀ k : Fin k0_t1_loop.trips, (Scalar.indexCast (Scalar.addi (Scalar.muli (Scf.iv 0#32 1#32 k) 16#32) 0#32)).toNat = 16 * k.val) k
theorem row8 (k : Fin k0_t1_loop.trips) : (Scalar.indexCast (Scalar.addi (Scalar.muli (Scf.iv 0#32 1#32 k) 16#32) 8#32)).toNat = 16 * k.val + 8 :=
  (by decide +kernel : ∀ k : Fin k0_t1_loop.trips, (Scalar.indexCast (Scalar.addi (Scalar.muli (Scf.iv 0#32 1#32 k) 16#32) 8#32)).toNat = 16 * k.val + 8) k
theorem row16 (k : Fin k0_t1_loop.trips) : (Scalar.indexCast (Scalar.addi (Scalar.muli (Scf.iv 0#32 1#32 k) 16#32) 16#32)).toNat = 16 * k.val + 16 :=
  (by decide +kernel : ∀ k : Fin k0_t1_loop.trips, (Scalar.indexCast (Scalar.addi (Scalar.muli (Scf.iv 0#32 1#32 k) 16#32) 16#32)).toNat = 16 * k.val + 16) k
theorem row24 (k : Fin k0_t1_loop.trips) : (Scalar.indexCast (Scalar.addi (Scalar.muli (Scf.iv 0#32 1#32 k) 16#32) 24#32)).toNat = 16 * k.val + 24 :=
  (by decide +kernel : ∀ k : Fin k0_t1_loop.trips, (Scalar.indexCast (Scalar.addi (Scalar.muli (Scf.iv 0#32 1#32 k) 16#32) 24#32)).toNat = 16 * k.val + 24) k
theorem row32 (k : Fin k0_t1_loop.trips) : (Scalar.indexCast (Scalar.addi (Scalar.muli (Scf.iv 0#32 1#32 k) 16#32) 32#32)).toNat = 16 * k.val + 32 :=
  (by decide +kernel : ∀ k : Fin k0_t1_loop.trips, (Scalar.indexCast (Scalar.addi (Scalar.muli (Scf.iv 0#32 1#32 k) 16#32) 32#32)).toNat = 16 * k.val + 32) k

/-- A store's payload agrees with a function of the place when it does entry by entry. -/
theorem piece_ok (off : Fin 2 → ℕ) (inb : ∀ a, off a + S16x128.size a ≤ S512x1024.size a) (P : S16x128.Idx → EReal) (G : ℕ → ℕ → EReal)
    (H : ∀ (a : Fin 16) (b : Fin 128), P (ix2 a b) = G (off 0 + a.val) (off 1 + b.val)) (x : (Rect.unit (s := S512x1024) off S16x128.size inb).shape.Idx) :
    P x = (fun i : S512x1024.Idx => G (i 0).val (i 1).val) ((Rect.unit (s := S512x1024) off S16x128.size inb).emb x) := by
  obtain ⟨a, b, rfl⟩ : ∃ (a : Fin 16) (b : Fin 128), x = ix2 a b := ⟨x 0, x 1, eq_ix2 x⟩
  refine (H a b).trans ?_
  show G _ _ = G (off 0 + 1 * a.val) (off 1 + 1 * b.val)
  rw [one_mul, one_mul]

section Reads

variable {sig' : RefSig} {κ : Kind} {sp : Space}

/-- A load of 16 rows of 128 columns out of the rows. -/
theorem ld17 (v : View sig' κ sp S544x1024 .f32) (X : v.ty.Contents (Elt Ideal)) (U : ℕ → ℕ → EReal) (hU : ∀ (j : Fin 544) (d : Fin 1024), v.read (Elt Ideal) X (ix2 j d) = U j.val d.val)
    (off : Fin 2 → ℕ) (inb : ∀ a, off a + S16x128.size a ≤ S544x1024.size a) (a : Fin 16) (b : Fin 128) :
    v.readAt (Elt Ideal) (Rect.unit (s := S544x1024) off S16x128.size inb).toLoadRect X (ix2 a b) = U (off 0 + a.val) (off 1 + b.val) := by
  have h0 := inb 0
  have h1 := inb 1
  change off 0 + 16 ≤ 544 at h0
  change off 1 + 128 ≤ 1024 at h1
  refine Eq.trans ?_ (hU ⟨off 0 + a.val, by omega⟩ ⟨off 1 + b.val, by omega⟩)
  refine congrArg (v.read (Elt Ideal) X) (funext fun x => Fin.ext ?_)
  match x with
  | ⟨0, _⟩ => show off 0 + 1 * a.val = off 0 + a.val; omega
  | ⟨1, _⟩ => show off 1 + 1 * b.val = off 1 + b.val; omega

/-- A load of 16 rows of 128 columns out of a shifted copy of the rows. -/
theorem ld18 (v : View sig' κ sp S7x536x1024 .f32) (X : v.ty.Contents (Elt Ideal)) (U : ℕ → ℕ → EReal)
    (hU : ∀ (s : Fin 7) (j : Fin 536) (d : Fin 1024), v.read (Elt Ideal) X (ix3 s j d) = U (j.val + 1 + s.val) d.val)
    (off : Fin 3 → ℕ) (inb : ∀ a, off a + S1x16x128.size a ≤ S7x536x1024.size a) (a : Fin 16) (b : Fin 128) :
    v.readAt (Elt Ideal) (Rect.unit (s := S7x536x1024) off S1x16x128.size inb).toLoadRect X (ix3 0 a b) = U (off 1 + a.val + 1 + off 0) (off 2 + b.val) := by
  have h0 := inb 0
  have h1 := inb 1
  have h2 := inb 2
  change off 0 + 1 ≤ 7 at h0
  change off 1 + 16 ≤ 536 at h1
  change off 2 + 128 ≤ 1024 at h2
  refine Eq.trans ?_ (hU ⟨off 0, by omega⟩ ⟨off 1 + a.val, by omega⟩ ⟨off 2 + b.val, by omega⟩)
  refine congrArg (v.read (Elt Ideal) X) (funext fun x => Fin.ext ?_)
  match x with
  | ⟨0, _⟩ => show off 0 + 1 * 0 = off 0; omega
  | ⟨1, _⟩ => show off 1 + 1 * a.val = off 1 + a.val; omega
  | ⟨2, _⟩ => show off 2 + 1 * b.val = off 2 + b.val; omega

/-- A load of one tap's weights. -/
theorem ld6 (v : View sig' κ sp S1x31x1024 .f32) (X : v.ty.Contents (Elt Ideal)) (W : ℕ → ℕ → EReal)
    (hW : ∀ (j : Fin 31) (d : Fin 1024), v.read (Elt Ideal) X (ix3 0 j d) = W j.val d.val)
    (off : Fin 3 → ℕ) (inb : ∀ a, off a + S1x1x128.size a ≤ S1x31x1024.size a) (b : Fin 128) :
    v.readAt (Elt Ideal) (Rect.unit (s := S1x31x1024) off S1x1x128.size inb).toLoadRect X (ix3 0 0 b) = W (off 1) (off 2 + b.val) := by
  have h0 := inb 0
  have h1 := inb 1
  have h2 := inb 2
  change off 0 + 1 ≤ 1 at h0
  change off 1 + 1 ≤ 31 at h1
  change off 2 + 128 ≤ 1024 at h2
  refine Eq.trans ?_ (hW ⟨off 1, by omega⟩ ⟨off 2 + b.val, by omega⟩)
  refine congrArg (v.read (Elt Ideal) X) (funext fun x => Fin.ext ?_)
  match x with
  | ⟨0, _⟩ => show off 0 + 1 * 0 = 0; omega
  | ⟨1, _⟩ => show off 1 + 1 * 0 = off 1; omega
  | ⟨2, _⟩ => show off 2 + 1 * b.val = off 2 + b.val; omega

/-- A load of the bias. -/
theorem ld7 (v : View sig' κ sp S1x1x1024 .f32) (X : v.ty.Contents (Elt Ideal)) (B : ℕ → EReal)
    (hB : ∀ d : Fin 1024, v.read (Elt Ideal) X (ix3 0 0 d) = B d.val)
    (off : Fin 3 → ℕ) (inb : ∀ a, off a + S1x1x128.size a ≤ S1x1x1024.size a) (b : Fin 128) :
    v.readAt (Elt Ideal) (Rect.unit (s := S1x1x1024) off S1x1x128.size inb).toLoadRect X (ix3 0 0 b) = B (off 2 + b.val) := by
  have h0 := inb 0
  have h1 := inb 1
  have h2 := inb 2
  change off 0 + 1 ≤ 1 at h0
  change off 1 + 1 ≤ 1 at h1
  change off 2 + 128 ≤ 1024 at h2
  refine Eq.trans ?_ (hB ⟨off 2 + b.val, by omega⟩)
  refine congrArg (v.read (Elt Ideal) X) (funext fun x => Fin.ext ?_)
  match x with
  | ⟨0, _⟩ => show off 0 + 1 * 0 = 0; omega
  | ⟨1, _⟩ => show off 1 + 1 * 0 = 0; omega
  | ⟨2, _⟩ => show off 2 + 1 * b.val = off 2 + b.val; omega

end Reads

/-- Row `j` of the convolution at column `d`: the bias, then the 31 taps at the rows from `j + 2` on. -/
def conv (W : ℕ → ℕ → EReal) (B : ℕ → EReal) (U : ℕ → ℕ → EReal) (j d : ℕ) : EReal :=
  taps (fun k => W k d) (fun k => U (j + 2 + k) d) (B d) 31

/-- Every store of one trip of the tap loop is the convolution at its place. -/
theorem trip_ok (𝒱 : Variants) (c : Dev nD) (bd : Option 𝒱.V) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x32x1024 .bf16) (harg4 : arg4.IsWhole) (arg5 : Memref sig .tc .vmem S1x32x1024 .bf16) (harg5 : arg5.IsWhole) (arg6 : Memref sig .tc .vmem S1x31x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S64x5632 .f32) (harg10 : arg10.IsWhole) (arg11 : Memref sig .tc .vmem S64x5632 .f32) (harg11 : arg11.IsWhole) (arg12 : Memref sig .tc .vmem S64x8192 .f32) (harg12 : arg12.IsWhole) (arg13 : Memref sig .tc .vmem S1x512x1024 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S64x8192 .bf16) (harg16 : arg16.IsWhole) (arg17 : Memref sig .tc .vmem S544x1024 .f32) (harg17 : arg17.IsWhole) (arg18 : Memref sig .tc .vmem S7x536x1024 .f32) (harg18 : arg18.IsWhole) (arg19 : Memref sig .tc .vmem S512x1024 .f32) (harg19 : arg19.IsWhole) (X6 : BufTy.Contents (Elt Ideal) arg6.view.ty) (X7 : BufTy.Contents (Elt Ideal) arg7.view.ty) (X17 : BufTy.Contents (Elt Ideal) arg17.view.ty) (X18 : BufTy.Contents (Elt Ideal) arg18.view.ty) (k : Fin k0_t1_loop.trips)
    (W : ℕ → ℕ → EReal) (B : ℕ → EReal) (U : ℕ → ℕ → EReal)
    (h6 : ∀ (j : Fin 31) (d : Fin 1024), arg6.view.read (Elt Ideal) X6 (ix3 0 j d) = W j.val d.val)
    (h7 : ∀ d : Fin 1024, arg7.view.read (Elt Ideal) X7 (ix3 0 0 d) = B d.val)
    (h17 : ∀ (j : Fin 544) (d : Fin 1024), arg17.view.read (Elt Ideal) X17 (ix2 j d) = U j.val d.val)
    (h18 : ∀ (s : Fin 7) (j : Fin 536) (d : Fin 1024), arg18.view.read (Elt Ideal) X18 (ix3 s j d) = U (j.val + 1 + s.val) d.val) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X6 X7 X17 X18 k,
      ∀ x : p.1.shape.Idx, p.2 x = (fun y : S512x1024.Idx => conv W B U (y 0).val (y 1).val) (p.1.emb x) := by
  unfold tripL_k0_t1 trip_k0_t1
  dsimp only
  sl_unfold_words
  simp only [List.forall_mem_cons]
  refine ⟨?_, ?_, ?_, ?_, ?_, ?_, ?_, ?_, fun _ h => absurd h List.not_mem_nil⟩ <;> refine piece_ok _ _ _ (conv W B U) fun a b => ?_
  all_goals
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]
    simp only [conv, taps]
    iterate 31
      refine congrArg₂ HAdd.hAdd ?_ (congrArg₂ HMul.hMul ((ld6 _ _ W h6 _ _ b).trans (congrArg₂ W rfl (by simp only [Matrix.cons_val, Nat.zero_add]))) ?_)
      on_goal 2 =>
        first
          | refine (ld18 _ _ U h18 _ _ a b).trans (congrArg₂ U ?_ ?_)
          | refine (ld17 _ _ U h17 _ _ a b).trans (congrArg₂ U ?_ ?_)
        · simp only [Matrix.cons_val, row, row0, row8, row16, row24, row32]
          try omega
        · simp only [Matrix.cons_val, Nat.zero_add]
    exact (ld7 _ _ B h7 _ _ b).trans (congrArg B (by simp only [Matrix.cons_val, Nat.zero_add]))

end Cert.ConvIdeal.Taps

end
-- ==== Proof.ConvBlock.lean ====
/-
  The convolution's block entry by entry: the gated rows, their shifted copies, the taps summed, each row normalized and gated.
-/
module

public import proofs.«01_k».proof.Proof.ConvIdealRun
public import proofs.«01_k».proof.Proof.ConvTaps
public import proofs.«01_k».proof.Proof.ConvMath
public import proofs.«01_k».proof.Proof.Swish
public import Idealize.ShloMosaic.Lib.Claim
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem

namespace Cert.ConvIdeal.Block

open Cert.ConvIdeal Cert.ConvIdeal.Gen Cert.ConvIdeal.Hand Cert.ConvIdeal.Taps Cert.ConvMath

/-- A block's gated rows at an index. -/
theorem glu_at (x0 x1 : Vec Ideal S1x512x1024 .bf16) (j : Fin 512) (d : Fin 1024) : k0_pay111 (F := Ideal) x0 x1 (ix2 j d) = glu (x0 (ix3 0 j d)) (x1 (ix3 0 j d)) := by
  pointwise [k0_pay111]
  exact congrArg (x0 (ix3 0 j d) * ·) (Swish.gate_eq _)

/-- Of the rows before the first block the select keeps zero. -/
theorem first_rows : ∀ i : grid0.Coords, Scalar.cmpi .sgt (BitVec.ofNat 32 (i 1).val) 0#32 = if 0 < (i 1).val then 1#1 else 0#1 := by
  decide +kernel

/-- The gated rows before a block at an index; zero before the first. -/
theorem halo_at (i : grid0.Coords) (x2 x3 : Vec Ideal S1x32x1024 .bf16) (j : Fin 32) (d : Fin 1024) :
    k0_pay110 (F := Ideal) (k0_pay109 i x2 x3) (ix2 j d) = if 0 < (i 1).val then glu (x2 (ix3 0 j d)) (x3 (ix3 0 j d)) else 0 := by
  pointwise [k0_pay110, k0_pay109]
  rw [first_rows]
  refine if_congr ?_ (congrArg (x2 (ix3 0 j d) * ·) (Swish.gate_eq _)) rfl
  by_cases h : 0 < (i 1).val <;> simp [h]

/-- The normalized and gated block at an index. -/
theorem norm_at (z : Vec Ideal S128x1024 .f32) (g b : Vec Ideal S1x1x1024 .f32) (j : Fin 128) (d : Fin 1024) :
    k0_pay105 (F := Ideal) z g b (ix3 0 j d) = swish (lnorm (fun k => z (ix2 j k)) (fun k => g (ix3 0 0 k)) (fun k => b (ix3 0 0 k)) d) := by
  pointwise [k0_pay105]
  exact congrArg (_ * ·) (Swish.gate_eq _)

/-- A buffer's piece agrees with a function of the place when it does entry by entry. -/
theorem piece2 {n : ℕ} (off : Fin 2 → ℕ) (inb : ∀ a, off a + (⟨2, ![n, 1024]⟩ : Shape).size a ≤ S544x1024.size a) (P : (⟨2, ![n, 1024]⟩ : Shape).Idx → EReal) (G : ℕ → ℕ → EReal)
    (H : ∀ (a : Fin n) (b : Fin 1024), P (ix2 a b) = G (off 0 + a.val) (off 1 + b.val)) (x : (⟨2, ![n, 1024]⟩ : Shape).Idx) :
    P x = (fun i : S544x1024.Idx => G (i 0).val (i 1).val) ((Rect.unit (s := S544x1024) off (⟨2, ![n, 1024]⟩ : Shape).size inb).emb x) := by
  obtain ⟨a, b, rfl⟩ : ∃ (a : Fin n) (b : Fin 1024), x = ix2 a b := ⟨x 0, x 1, eq_ix2 x⟩
  refine (H a b).trans ?_
  show G _ _ = G (off 0 + 1 * a.val) (off 1 + 1 * b.val)
  rw [one_mul, one_mul]

/-- The same for a buffer of three axes and a piece of one slab. -/
theorem piece3 {p q n : ℕ} (off : Fin 3 → ℕ) (inb : ∀ a, off a + (⟨3, ![1, n, 1024]⟩ : Shape).size a ≤ (⟨3, ![p, q, 1024]⟩ : Shape).size a) (P : (⟨3, ![1, n, 1024]⟩ : Shape).Idx → EReal) (G : ℕ → ℕ → ℕ → EReal)
    (H : ∀ (a : Fin n) (b : Fin 1024), P (ix3 0 a b) = G (off 0) (off 1 + a.val) (off 2 + b.val)) (x : (⟨3, ![1, n, 1024]⟩ : Shape).Idx) :
    P x = (fun i : (⟨3, ![p, q, 1024]⟩ : Shape).Idx => G (i 0).val (i 1).val (i 2).val) ((Rect.unit (s := ⟨3, ![p, q, 1024]⟩) off (⟨3, ![1, n, 1024]⟩ : Shape).size inb).emb x) := by
  obtain ⟨z, a, b, rfl⟩ : ∃ (z : Fin 1) (a : Fin n) (b : Fin 1024), x = ix3 z a b := ⟨x 0, x 1, x 2, eq_ix3 x⟩
  obtain rfl : z = 0 := Subsingleton.elim _ _
  refine (H a b).trans ?_
  show G _ _ _ = G (off 0 + 1 * 0) (off 1 + 1 * a.val) (off 2 + 1 * b.val)
  simp only [one_mul, Nat.mul_zero, Nat.add_zero]

section Reads

variable {sig' : RefSig} {κ : Kind} {sp : Space}

/-- A load of whole rows. -/
theorem ldr {p n : ℕ} (v : View sig' κ sp (⟨2, ![p, 1024]⟩ : Shape) .f32) (X : v.ty.Contents (Elt Ideal)) (U : ℕ → ℕ → EReal) (hU : ∀ (j : Fin p) (d : Fin 1024), v.read (Elt Ideal) X (ix2 j d) = U j.val d.val)
    (off : Fin 2 → ℕ) (inb : ∀ a, off a + (⟨2, ![n, 1024]⟩ : Shape).size a ≤ (⟨2, ![p, 1024]⟩ : Shape).size a) (a : Fin n) (b : Fin 1024) :
    v.readAt (Elt Ideal) (Rect.unit (s := ⟨2, ![p, 1024]⟩) off (⟨2, ![n, 1024]⟩ : Shape).size inb).toLoadRect X (ix2 a b) = U (off 0 + a.val) (off 1 + b.val) := by
  have h0 := inb 0
  have h1 := inb 1
  change off 0 + n ≤ p at h0
  change off 1 + 1024 ≤ 1024 at h1
  refine Eq.trans ?_ (hU ⟨off 0 + a.val, by omega⟩ ⟨off 1 + b.val, by omega⟩)
  refine congrArg (v.read (Elt Ideal) X) (funext fun x => Fin.ext ?_)
  match x with
  | ⟨0, _⟩ => show off 0 + 1 * a.val = off 0 + a.val; omega
  | ⟨1, _⟩ => show off 1 + 1 * b.val = off 1 + b.val; omega

end Reads

section Body

variable (c : Dev nD) (i : grid0.Coords) {arg2 : Memref sig .tc .vmem S1x512x1024 .bf16} (harg2 : arg2.IsWhole) {arg3 : Memref sig .tc .vmem S1x512x1024 .bf16} (harg3 : arg3.IsWhole) {arg4 : Memref sig .tc .vmem S1x32x1024 .bf16} (harg4 : arg4.IsWhole) {arg5 : Memref sig .tc .vmem S1x32x1024 .bf16} (harg5 : arg5.IsWhole) {arg6 : Memref sig .tc .vmem S1x31x1024 .f32} (harg6 : arg6.IsWhole) {arg7 : Memref sig .tc .vmem S1x1x1024 .f32} (harg7 : arg7.IsWhole) {arg8 : Memref sig .tc .vmem S1x1x1024 .f32} (harg8 : arg8.IsWhole) {arg9 : Memref sig .tc .vmem S1x1x1024 .f32} (harg9 : arg9.IsWhole) {arg10 : Memref sig .tc .vmem S64x5632 .f32} (harg10 : arg10.IsWhole) {arg11 : Memref sig .tc .vmem S64x5632 .f32} (harg11 : arg11.IsWhole) {arg12 : Memref sig .tc .vmem S64x8192 .f32} (harg12 : arg12.IsWhole) {arg13 : Memref sig .tc .vmem S1x512x1024 .bf16} (harg13 : arg13.IsWhole) {arg14 : Memref sig .tc .vmem S64x5632 .bf16} (harg14 : arg14.IsWhole) {arg15 : Memref sig .tc .vmem S64x5632 .bf16} (harg15 : arg15.IsWhole) {arg16 : Memref sig .tc .vmem S64x8192 .bf16} (harg16 : arg16.IsWhole) {arg17 : Memref sig .tc .vmem S544x1024 .f32} (harg17 : arg17.IsWhole) {arg18 : Memref sig .tc .vmem S7x536x1024 .f32} (harg18 : arg18.IsWhole) {arg19 : Memref sig .tc .vmem S512x1024 .f32} (harg19 : arg19.IsWhole)
  (x0 x1 : Vec Ideal S1x512x1024 .bf16) (x2 x3 : Vec Ideal S1x32x1024 .bf16) (x4 : Vec Ideal S1x31x1024 .f32) (x5 x6 x7 : Vec Ideal S1x1x1024 .f32) (U : ℕ → ℕ → EReal)
  (hU0 : ∀ (j : Fin 32) (d : Fin 1024), (if 0 < (i 1).val then glu (x2 (ix3 0 j d)) (x3 (ix3 0 j d)) else 0) = U j.val d.val)
  (hU1 : ∀ (j : Fin 512) (d : Fin 1024), glu (x0 (ix3 0 j d)) (x1 (ix3 0 j d)) = U (32 + j.val) d.val)

/-- The two pieces fill the rows' buffer. -/
theorem buf_cover (y : S544x1024.Idx) : ∃ p ∈ bufL (F := Ideal) i x0 x1 x2 x3, y ∈ p.1.set := by
  obtain ⟨j, d, rfl⟩ : ∃ (j : Fin 544) (d : Fin 1024), y = ix2 j d := ⟨y 0, y 1, eq_ix2 y⟩
  by_cases h : 32 ≤ j.val
  · refine ⟨_, List.mem_cons_self, (Rect.mem_set_unit (inb := inb_S544x1024_S512x1024_32_0)).mpr fun a => ?_⟩
    match a with
    | ⟨0, _⟩ => exact ⟨h, j.isLt⟩
    | ⟨1, _⟩ => exact ⟨Nat.zero_le _, lt_of_lt_of_eq d.isLt rfl⟩
  · refine ⟨_, List.mem_cons_of_mem _ List.mem_cons_self, (Rect.mem_set_unit (inb := inb_S544x1024_S32x1024_0_0)).mpr fun a => ?_⟩
    match a with
    | ⟨0, _⟩ => exact ⟨Nat.zero_le _, lt_of_lt_of_eq (not_le.mp h) rfl⟩
    | ⟨1, _⟩ => exact ⟨Nat.zero_le _, lt_of_lt_of_eq d.isLt rfl⟩

include hU0 hU1 in
/-- The rows' buffer. -/
theorem buf_read (v : View sig .tc .vmem S544x1024 .f32) (j : Fin 544) (d : Fin 1024) : v.read (Elt Ideal) (v.writes (Elt Ideal) v.junk (bufL (F := Ideal) i x0 x1 x2 x3)) (ix2 j d) = U j.val d.val := by
  refine View.read_writes_apply_of_pieces (Val := Elt Ideal) v v.junk (fun y : S544x1024.Idx => U (y 0).val (y 1).val) _ ?_ (ix2 j d) (buf_cover i x0 x1 x2 x3 (ix2 j d))
  simp only [bufL, List.forall_mem_cons]
  refine ⟨?_, ?_, fun _ h => absurd h List.not_mem_nil⟩
  · refine piece2 (n := 512) ![32, 0] _ _ U fun a b => (glu_at x0 x1 a b).trans ((hU1 a b).trans ?_)
    simp only [Matrix.cons_val, Nat.zero_add]
  · refine piece2 (n := 32) ![0, 0] _ _ U fun a b => (halo_at i x2 x3 a b).trans ((hU0 a b).trans ?_)
    simp only [Matrix.cons_val, Nat.zero_add]

include hU0 hU1 in
/-- The shifted copies' buffer. -/
theorem sh_read (w : View sig .tc .vmem S544x1024 .f32) (v : View sig .tc .vmem S7x536x1024 .f32) (s : Fin 7) (j : Fin 536) (d : Fin 1024) :
    v.read (Elt Ideal) (v.writes (Elt Ideal) v.junk (shL (F := Ideal) w (bufL (F := Ideal) i x0 x1 x2 x3))) (ix3 s j d) = U (j.val + 1 + s.val) d.val := by
  have hb := buf_read i x0 x1 x2 x3 U hU0 hU1 w
  refine View.read_writes_apply_of_pieces (Val := Elt Ideal) v v.junk (fun y : S7x536x1024.Idx => U ((y 1).val + 1 + (y 0).val) (y 2).val) _ ?_ (ix3 s j d) (View.cover_of_tiledL (shL (F := Ideal) w (bufL (F := Ideal) i x0 x1 x2 x3)) S1x536x1024.size (by sl_kernel_rfl) _)
  simp only [shL, List.forall_mem_cons]
  refine ⟨?_, ?_, ?_, ?_, ?_, ?_, ?_, fun _ h => absurd h List.not_mem_nil⟩ <;> refine piece3 (p := 7) (q := 536) (n := 536) _ _ _ (fun s j d => U (j + 1 + s) d) fun a b => ?_
  all_goals
    pointwise [k0_pay1, k0_pay2, k0_pay3, k0_pay4, k0_pay5, k0_pay112, k0_pay113]
    refine (ldr (p := 544) (n := 536) w _ U hb _ _ a b).trans (congrArg₂ U ?_ ?_) <;> simp only [Matrix.cons_val, Nat.zero_add]
    try omega

variable (W : ℕ → ℕ → EReal) (B : ℕ → EReal) (hW : ∀ (k : Fin 31) (d : Fin 1024), x4 (ix3 0 k d) = W k.val d.val) (hB : ∀ d : Fin 1024, x5 (ix3 0 0 d) = B d.val)

include hU0 hU1 hW hB in
/-- Every store of the taps' loop. -/
theorem cv_pieces : ∀ p ∈ cvL (F := Ideal) c i harg2 harg3 harg4 harg5 harg6 harg7 harg8 harg9 harg10 harg11 harg12 harg13 harg14 harg15 harg16 harg17 harg18 harg19 x0 x1 x2 x3 x4 x5, ∀ x : p.1.shape.Idx, p.2 x = (fun y : S512x1024.Idx => conv W B U (y 0).val (y 1).val) (p.1.emb x) := by
  unfold cvL
  have key : ∀ n, n ≤ k0_t1_loop.trips → ∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg6.unread x4) (harg7.unread x5) (bufX (arg17 := arg17) i x0 x1 x2 x3) (shX (arg18 := arg18) i x0 x1 x2 x3 arg17.view) n, ∀ x : p.1.shape.Idx, p.2 x = (fun y : S512x1024.Idx => conv W B U (y 0).val (y 1).val) (p.1.emb x) := by
    intro n
    induction n with
    | zero => intro _ p hp; exact absurd hp List.not_mem_nil
    | succ n ih =>
      intro hn p hp
      rw [show n + 1 = (⟨n, hn⟩ : Fin k0_t1_loop.trips).val + 1 from rfl, pb_k0_t1_succ] at hp
      rcases List.mem_append.mp hp with hp | hp
      · refine trip_ok Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ ⟨n, hn⟩ W B U (fun j d => ?_) (fun d => ?_) (fun j d => ?_) (fun s j d => ?_) p hp
        · rw [harg6.read_unread]; exact hW j d
        · rw [harg7.read_unread]; exact hB d
        · exact buf_read i x0 x1 x2 x3 U hU0 hU1 arg17.view j d
        · exact sh_read i x0 x1 x2 x3 U hU0 hU1 arg17.view arg18.view s j d
      · exact ih (by omega) p hp
  exact key _ le_rfl

include hU0 hU1 hW hB in
/-- The convolved rows' buffer. -/
theorem cv_read (j : Fin 512) (d : Fin 1024) : arg19.view.read (Elt Ideal) (arg19.view.writes (Elt Ideal) arg19.view.junk (cvL (F := Ideal) c i harg2 harg3 harg4 harg5 harg6 harg7 harg8 harg9 harg10 harg11 harg12 harg13 harg14 harg15 harg16 harg17 harg18 harg19 x0 x1 x2 x3 x4 x5)) (ix2 j d) = conv W B U j.val d.val :=
  View.read_writes_apply_of_pieces (Val := Elt Ideal) arg19.view arg19.view.junk (fun y : S512x1024.Idx => conv W B U (y 0).val (y 1).val) _ (cv_pieces c i harg2 harg3 harg4 harg5 harg6 harg7 harg8 harg9 harg10 harg11 harg12 harg13 harg14 harg15 harg16 harg17 harg18 harg19 x0 x1 x2 x3 x4 x5 U hU0 hU1 W B hW hB) (ix2 j d) (cvL_cover c i harg2 harg3 harg4 harg5 harg6 harg7 harg8 harg9 harg10 harg11 harg12 harg13 harg14 harg15 harg16 harg17 harg18 harg19 x0 x1 x2 x3 x4 x5 _)

/-- The result block's entry: the convolved row normalized, times the gain, plus the shift, gated. -/
def res (x6 x7 : Vec Ideal S1x1x1024 .f32) (W : ℕ → ℕ → EReal) (B : ℕ → EReal) (U : ℕ → ℕ → EReal) (j d : ℕ) : EReal :=
  if h : d < 1024 then swish (lnorm (fun k => conv W B U j k.val) (fun k => x6 (ix3 0 0 k)) (fun k => x7 (ix3 0 0 k)) ⟨d, h⟩) else 0

/-- Where the second loop's trips read and write. -/
theorem offs : ∀ k : Fin k0_t2_loop.trips, k0_off73 k = ![128 * k.val, 0] ∧ k0_off74 k = ![0, 128 * k.val, 0] := by decide +kernel

/-- One trip's store. -/
theorem trip2 (X8 : BufTy.Contents (Elt Ideal) arg8.view.ty) (X9 : BufTy.Contents (Elt Ideal) arg9.view.ty) (X19 : BufTy.Contents (Elt Ideal) arg19.view.ty) (k : Fin k0_t2_loop.trips) :
    tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X9 X19 k
      = [⟨Rect.unit (s := S1x512x1024) (k0_off74 k) S1x128x1024.size (k0_off74_inb k), k0_pay105 (F := Ideal) (arg19.view.readAt (Elt Ideal) (Rect.unit (s := S512x1024) (k0_off73 k) S128x1024.size (k0_off73_inb k)).toLoadRect X19)
          (arg8.view.readAt (Elt Ideal) (Rect.unit (s := S1x1x1024) ![0, 0, 0] S1x1x1024.size inb_S1x1x1024_S1x1x1024_0_0_0).toLoadRect X8)
          (arg9.view.readAt (Elt Ideal) (Rect.unit (s := S1x1x1024) ![0, 0, 0] S1x1x1024.size inb_S1x1x1024_S1x1x1024_0_0_0).toLoadRect X9)⟩] := by
  unfold tripL_k0_t2 trip_k0_t2
  rfl

/-- One trip's store is the row's result at its place. -/
theorem trip2_ok (X19 : BufTy.Contents (Elt Ideal) arg19.view.ty) (hc : ∀ (j : Fin 512) (d : Fin 1024), arg19.view.read (Elt Ideal) X19 (ix2 j d) = conv W B U j.val d.val) (k : Fin k0_t2_loop.trips) :
    ∀ p ∈ tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg8.unread x6) (harg9.unread x7) X19 k, ∀ x : p.1.shape.Idx, p.2 x = (fun y : S1x512x1024.Idx => res x6 x7 W B U (y 1).val (y 2).val) (p.1.emb x) := by
  intro p hp
  rw [trip2] at hp
  obtain rfl := List.mem_singleton.mp hp
  clear hp
  obtain ⟨e73, e74⟩ := offs k
  have hrow : ∀ a : Fin 128, (fun e => arg19.view.readAt (Elt Ideal) (Rect.unit (s := S512x1024) (k0_off73 k) S128x1024.size (k0_off73_inb k)).toLoadRect X19 (ix2 a e)) = fun e : Fin 1024 => conv W B U (k0_off74 k 1 + a.val) e.val := by
    intro a
    funext e
    refine (ldr (p := 512) (n := 128) arg19.view _ (conv W B U) hc _ _ a e).trans ?_
    rw [e73, e74]
    simp only [Matrix.cons_val, Nat.zero_add]
  dsimp only
  refine piece3 (p := 1) (q := 512) (n := 128) (k0_off74 k) (k0_off74_inb k) _ (fun _ j d => res x6 x7 W B U j d) fun a b => ?_
  refine (norm_at _ _ _ a b).trans ?_
  have hb : k0_off74 k 2 + b.val = b.val := by rw [e74]; simp only [Matrix.cons_val, Nat.zero_add]
  simp only [hb]
  rw [View.readAt_eq_ld arg8.view, View.readAt_eq_ld arg9.view, harg8.read_unread, harg9.read_unread, View.ld_unit_zero (S := S1x1x1024) hz3, View.ld_unit_zero (S := S1x1x1024) hz3]
  unfold res
  rw [dif_pos b.isLt]
  exact congrArg swish (congrArg (fun f => lnorm f _ _ b) (hrow a))

include hU0 hU1 hW hB in
/-- Every store of the rows' loop. -/
theorem out_pieces : ∀ p ∈ outL (F := Ideal) c i harg2 harg3 harg4 harg5 harg6 harg7 harg8 harg9 harg10 harg11 harg12 harg13 harg14 harg15 harg16 harg17 harg18 harg19 x0 x1 x2 x3 x4 x5 x6 x7, ∀ x : p.1.shape.Idx, p.2 x = (fun y : S1x512x1024.Idx => res x6 x7 W B U (y 1).val (y 2).val) (p.1.emb x) := by
  unfold outL
  have hc := cv_read c i harg2 harg3 harg4 harg5 harg6 harg7 harg8 harg9 harg10 harg11 harg12 harg13 harg14 harg15 harg16 harg17 harg18 harg19 x0 x1 x2 x3 x4 x5 U hU0 hU1 W B hW hB
  have key : ∀ n, n ≤ k0_t2_loop.trips → ∀ p ∈ pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg8.unread x6) (harg9.unread x7) (arg19.view.writes (Elt Ideal) arg19.view.junk (cvL (F := Ideal) c i harg2 harg3 harg4 harg5 harg6 harg7 harg8 harg9 harg10 harg11 harg12 harg13 harg14 harg15 harg16 harg17 harg18 harg19 x0 x1 x2 x3 x4 x5)) n, ∀ x : p.1.shape.Idx, p.2 x = (fun y : S1x512x1024.Idx => res x6 x7 W B U (y 1).val (y 2).val) (p.1.emb x) := by
    intro n
    induction n with
    | zero => intro _ p hp; exact absurd hp List.not_mem_nil
    | succ n ih =>
      intro hn p hp
      rw [show n + 1 = (⟨n, hn⟩ : Fin k0_t2_loop.trips).val + 1 from rfl, pb_k0_t2_succ] at hp
      rcases List.mem_append.mp hp with hp | hp
      · exact trip2_ok c i harg2 harg3 harg4 harg5 harg6 harg7 harg8 harg9 harg10 harg11 harg12 harg13 harg14 harg15 harg16 harg17 harg18 harg19 x6 x7 U W B _ hc ⟨n, hn⟩ p hp
      · exact ih (by omega) p hp
  exact key _ le_rfl

include hU0 hU1 hW hB in
/-- The result block entry by entry. -/
theorem out_at (j : Fin 512) (d : Fin 1024) : out (F := Ideal) c i harg2 harg3 harg4 harg5 harg6 harg7 harg8 harg9 harg10 harg11 harg12 harg13 harg14 harg15 harg16 harg17 harg18 harg19 x0 x1 x2 x3 x4 x5 x6 x7 (ix3 0 j d) = swish (lnorm (fun k => conv W B U j.val k.val) (fun k => x6 (ix3 0 0 k)) (fun k => x7 (ix3 0 0 k)) d) :=
  (View.read_writes_apply_of_pieces (Val := Elt Ideal) VO0_11 VO0_11.junk (fun y : S1x512x1024.Idx => res x6 x7 W B U (y 1).val (y 2).val) _ (out_pieces c i harg2 harg3 harg4 harg5 harg6 harg7 harg8 harg9 harg10 harg11 harg12 harg13 harg14 harg15 harg16 harg17 harg18 harg19 x0 x1 x2 x3 x4 x5 x6 x7 U hU0 hU1 W B hW hB) (ix3 0 j d) (outL_cover c i harg2 harg3 harg4 harg5 harg6 harg7 harg8 harg9 harg10 harg11 harg12 harg13 harg14 harg15 harg16 harg17 harg18 harg19 x0 x1 x2 x3 x4 x5 x6 x7 _)).trans (dif_pos d.isLt)

end Body

end Cert.ConvIdeal.Block

end
-- ==== Proof.ConvIdealFrame.lean ====
/-
  The convolution module: the run of the whole program from the run of the body.
-/

module

public import proofs.«01_k».proof.Proof.ConvIdealRun
public import Idealize.ShloMosaic.Lib.Claim
public import Idealize.ShloMosaic.Lib.Pipeline.Value
public import Idealize.ShloMosaic.Lib.WritesUnit
public import Idealize.ShloMosaic.Lib.Tactic

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the module's result at a point. -/
def outAt (c : Dev nD) (t : Fin cfg0.N) : Vec F S1x512x1024 .bf16 :=
  out c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (iblk m c 0 t) (iblk m c 1 t) (iblk m c 2 t) (iblk m c 3 t) (iblk m c 4 t) (iblk m c 5 t) (iblk m c 6 t) (iblk m c 7 t)

/-- What every window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
    | ⟨12, _⟩ => k0_pay106 (iblk m c 8 t)
    | ⟨13, _⟩ => k0_pay107 (iblk m c 9 t)
    | ⟨14, _⟩ => k0_pay108 (iblk m c 10 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outAt m c t := by dsimp only [dats]
theorem after12 (c : Dev nD) (t : Fin cfg0.N) : (dats m 0 c).after 12 t = k0_pay106 (iblk m c 8 t) := by dsimp only [dats]
theorem after13 (c : Dev nD) (t : Fin cfg0.N) : (dats m 0 c).after 13 t = k0_pay107 (iblk m c 9 t) := by dsimp only [dats]
theorem after14 (c : Dev nD) (t : Fin cfg0.N) : (dats m 0 c).after 14 t = k0_pay108 (iblk m c 10 t) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t))

set_option maxHeartbeats 3200000 in
/-- The body at any point takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  rw [show (dats m 0 c).Φ t.castSucc = Pipeline.ΦA spec0 c from rfl, PhiA0_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (Memref.isWhole_whole cc0_scratch0) (Memref.isWhole_whole cc0_scratch1) (Memref.isWhole_whole cc0_scratch2) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.ConvIdeal.Hand

end
-- ==== Proof.ConvRefValue.lean ====
/-
  The convolution module's reference entry by entry: the gated rows padded in front, 31 shifted products summed, the bias, each
  row normalized, times the gain, plus the shift, gated.
-/
module

public import proofs.«01_k».proof.Proof.Gen.ConvRefIdeal.Read
public import proofs.«01_k».proof.Proof.ConvMath
public import Idealize.ShloMosaic.Lib.KernelVsHost
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem

namespace Cert.ConvRefIdeal.Row

open Cert.ConvRefIdeal Cert.ConvRefIdeal.Gen Cert.ConvRefIdeal.Read Cert.ConvMath

variable (x0 : (⟨S4x4096x5120, .bf16⟩ : BufTy).Contents (Elt Ideal)) (x1 : (⟨S1x31x1024, .f32⟩ : BufTy).Contents (Elt Ideal)) (x2 x3 x4 : (⟨S1x1024, .f32⟩ : BufTy).Contents (Elt Ideal))

/-- The gated rows with 32 zero rows in front. -/
def A (b : Fin 4) (n d : ℕ) : EReal :=
  if h : (32 ≤ n ∧ n < 4128) ∧ d < 1024 then glu (x0 (ix3 b ⟨n - 32, by omega⟩ ⟨d, by omega⟩)) (x0 (ix3 b ⟨n - 32, by omega⟩ ⟨1024 + d, by omega⟩)) else 0

/-- The gated rows. -/
theorem glu_at (b : Fin 4) (s : Fin 4096) (d : Fin 1024) :
    val_main_v9 (F := Ideal) x0 (ix3 b s d) = glu (x0 (ix3 b s ⟨d.val, by omega⟩)) (x0 (ix3 b s ⟨1024 + d.val, by omega⟩)) := by
  pointwise [val_main_v9, val_main_v0, val_main_v1, val_main_v2, val_main_v3, val_main_v4, val_main_v5, val_main_v6, val_main_v7, val_main_v8, val_main_cst, val_main_cst_0]
  rfl

/-- The padded rows. -/
theorem pad_at (b : Fin 4) (r : Fin 4126) (d : Fin 1024) : val_main_v10 (F := Ideal) x0 (ix3 b r d) = A x0 b (r.val + 2) d.val := by
  unfold val_main_v10 A
  by_cases h : 30 ≤ r.val
  · rw [dif_pos (by omega)]
    refine (pad_apply_of_inside _ _ _ (val_main_v9 (F := Ideal) x0) _ _ _ _ (ix3 b ⟨r.val - 30, by omega⟩ d) ?_).trans ((glu_at x0 b _ d).trans ?_)
    · intro a
      match a with
      | ⟨0, _⟩ => show b.val = 0 + b.val * (0 + 1); omega
      | ⟨1, _⟩ => show r.val = 30 + (r.val - 30) * (0 + 1); omega
      | ⟨2, _⟩ => show d.val = 0 + d.val * (0 + 1); omega
    · have e : (⟨r.val - 30, by omega⟩ : Fin 4096) = ⟨r.val + 2 - 32, by omega⟩ := Fin.ext (by show r.val - 30 = r.val + 2 - 32; omega)
      rw [e]
  · rw [dif_neg (by omega)]
    refine (pad_apply_of_not_inside _ _ _ (val_main_v9 (F := Ideal) x0) _ _ _ _ (1 : Fin 3) ?_).trans ?_
    · rintro ⟨h1, _⟩
      exact h h1
    · pointwise [val_main_call0_v0, val_main_c]
      exact sitofp_zero (φ := .f32)

/-- The convolved rows. -/
theorem conv_at (b : Fin 4) (s : Fin 4096) (d : Fin 1024) :
    val_main_v226 (F := Ideal) x0 x1 (ix3 b s d) = sumTaps (fun k => if h : k < 31 then x1 (ix3 0 ⟨k, h⟩ d) else 0) (fun k => A x0 b (s.val + k + 2) d.val) 30 := by
  pointwise [val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226]
  simp only [sumTaps]
  iterate 30 refine congrArg₂ HAdd.hAdd ?_ (congrArg₂ HMul.hMul ((pad_at x0 b _ d).trans ?_) ?_)
  refine congrArg₂ HMul.hMul ((pad_at x0 b _ d).trans ?_) ?_
  all_goals
    first
      | refine congrArg₂ (A x0 b) ?_ rfl
        dsimp only
        omega
      | rfl

/-- The results but the weights'. -/
theorem res_at (b : Fin 4) (s : Fin 4096) (d : Fin 1024) :
    val_main_v256 (F := Ideal) x0 x1 x2 x3 x4 (ix3 b s d)
      = swish (lnorm (fun k => val_main_v226 (F := Ideal) x0 x1 (ix3 b s k) + x2 (ix2 0 k)) (fun k => x3 (ix2 0 k)) (fun k => x4 (ix2 0 k)) d) := by
  pointwise [val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_call1_v0, val_main_call1_v1, val_main_call1_v2, val_main_call1_v3, val_main_call1_v4, val_main_call1_v5, val_main_call1_cst, val_main_call1_cst_0, val_main_cst_1, val_main_cst_2, val_main_cst_3, val_main_cst_4, val_main_cst_5]
  rfl

/-- A weight's result: layer 1's matrix. -/
theorem w5_at (x5 : (⟨S2x2048x5632, .f32⟩ : BufTy).Contents (Elt Ideal)) (r : Fin 2048) (k : Fin 5632) : val_main_v259 (F := Ideal) x5 (ix2 r k) = x5 (ix3 1 r k) := by
  pointwise [val_main_v259, val_main_v258, val_main_v257]
/-- The same for the second. -/
theorem w6_at (x6 : (⟨S2x2048x5632, .f32⟩ : BufTy).Contents (Elt Ideal)) (r : Fin 2048) (k : Fin 5632) : val_main_v262 (F := Ideal) x6 (ix2 r k) = x6 (ix3 1 r k) := by
  pointwise [val_main_v262, val_main_v261, val_main_v260]
/-- And for the third. -/
theorem w7_at (x7 : (⟨S1x2048x8192, .f32⟩ : BufTy).Contents (Elt Ideal)) (r : Fin 2048) (k : Fin 8192) : val_main_v264 (F := Ideal) x7 (ix2 r k) = x7 (ix3 0 r k) := by
  pointwise [val_main_v264, val_main_v263]

end Cert.ConvRefIdeal.Row

end
-- ==== Proof.ConvValue.lean ====
/-
  The convolution module's four results: every block written back is the reference's block.
-/
module

public import proofs.«01_k».proof.Proof.ConvBlock
public import proofs.«01_k».proof.Proof.ConvIdealFrame
public import proofs.«01_k».proof.Proof.ConvRefValue

@[expose] public section

set_option maxRecDepth 16384

noncomputable section

open Idealize.ShloMosaic Idealize.ShloMosaic.TcCoe Idealize.SL.Sem

namespace Cert.ConvIdeal.Block

open Idealize.ShloMosaic.Pipeline (Dat)
open Cert.ConvIdeal Cert.ConvIdeal.Gen Cert.ConvIdeal.Hand Cert.ConvIdeal.Taps Cert.ConvMath

/-- Which block each window reads or writes at a point: batch `t / 8` and rows `t % 8` of the input and the result, the 32 rows
    before them, and block `t` of each weight. -/
theorem idx : ∀ t : Fin cfg0.N, win0_0.index t = ![t.val / 8, t.val % 8, 0] ∧ win0_1.index t = ![t.val / 8, t.val % 8, 1] ∧ win0_2.index t = ![t.val / 8, 16 * (t.val % 8) - 1, 0]
    ∧ win0_3.index t = ![t.val / 8, 16 * (t.val % 8) - 1, 1] ∧ win0_4.index t = ![0, 0, 0] ∧ win0_5.index t = ![0, 0, 0] ∧ win0_6.index t = ![0, 0, 0] ∧ win0_7.index t = ![0, 0, 0]
    ∧ win0_8.index t = ![32 + t.val, 0] ∧ win0_9.index t = ![32 + t.val, 0] ∧ win0_10.index t = ![t.val, 0] ∧ win0_11.index t = ![t.val / 8, t.val % 8, 0]
    ∧ win0_12.index t = ![t.val, 0] ∧ win0_13.index t = ![t.val, 0] ∧ win0_14.index t = ![t.val, 0] :=
  (by decide +kernel : ∀ t : Fin grid0.N, _)

/-- A point's second coordinate. -/
theorem coord1 : ∀ t : Fin cfg0.N, (grid0.coords t 1).val = t.val % 8 := (by decide +kernel : ∀ t : Fin grid0.N, _)

theorem lt32 (t : Fin cfg0.N) : t.val < 32 := lt_of_lt_of_eq t.isLt (by decide)

variable (m : (ℓ : Loc nD τ sig) → Buf (Elt Ideal) ℓ)

abbrev a0 (c : Dev nD) : (⟨Cert.ConvRefIdeal.S4x4096x5120, .bf16⟩ : BufTy).Contents (Elt Ideal) := m ((c.tc : Thread nD τ).loc main_arg0)
abbrev a1 (c : Dev nD) : (⟨Cert.ConvRefIdeal.S1x31x1024, .f32⟩ : BufTy).Contents (Elt Ideal) := m ((c.tc : Thread nD τ).loc main_arg1)
abbrev a2 (c : Dev nD) : (⟨Cert.ConvRefIdeal.S1x1024, .f32⟩ : BufTy).Contents (Elt Ideal) := m ((c.tc : Thread nD τ).loc main_arg2)
abbrev a3 (c : Dev nD) : (⟨Cert.ConvRefIdeal.S1x1024, .f32⟩ : BufTy).Contents (Elt Ideal) := m ((c.tc : Thread nD τ).loc main_arg3)
abbrev a4 (c : Dev nD) : (⟨Cert.ConvRefIdeal.S1x1024, .f32⟩ : BufTy).Contents (Elt Ideal) := m ((c.tc : Thread nD τ).loc main_arg4)
abbrev a5 (c : Dev nD) : (⟨Cert.ConvRefIdeal.S2x2048x5632, .f32⟩ : BufTy).Contents (Elt Ideal) := m ((c.tc : Thread nD τ).loc main_arg5)
abbrev a6 (c : Dev nD) : (⟨Cert.ConvRefIdeal.S2x2048x5632, .f32⟩ : BufTy).Contents (Elt Ideal) := m ((c.tc : Thread nD τ).loc main_arg6)
abbrev a7 (c : Dev nD) : (⟨Cert.ConvRefIdeal.S1x2048x8192, .f32⟩ : BufTy).Contents (Elt Ideal) := m ((c.tc : Thread nD τ).loc main_arg7)

theorem blk0 (c : Dev nD) (t : Fin cfg0.N) (j : Fin 512) (d : Fin 1024) (b : Fin 4) (s : Fin 4096) (k : Fin 5120) (hb : t.val / 8 = b.val) (hs : 512 * (t.val % 8) + j.val = s.val) (hk : d.val = k.val) :
    iblk m c 0 t (ix3 0 j d) = m ((c : Thread nD τ).loc main_arg0) (ix3 b s k) := by
  blk_ext [iblk, V, (idx t).1]
theorem blk1 (c : Dev nD) (t : Fin cfg0.N) (j : Fin 512) (d : Fin 1024) (b : Fin 4) (s : Fin 4096) (k : Fin 5120) (hb : t.val / 8 = b.val) (hs : 512 * (t.val % 8) + j.val = s.val) (hk : 1024 + d.val = k.val) :
    iblk m c 1 t (ix3 0 j d) = m ((c : Thread nD τ).loc main_arg0) (ix3 b s k) := by
  blk_ext [iblk, V, (idx t).2.1]
theorem blk2 (c : Dev nD) (t : Fin cfg0.N) (j : Fin 32) (d : Fin 1024) (b : Fin 4) (s : Fin 4096) (k : Fin 5120) (hb : t.val / 8 = b.val) (hs : 32 * (16 * (t.val % 8) - 1) + j.val = s.val) (hk : d.val = k.val) :
    iblk m c 2 t (ix3 0 j d) = m ((c : Thread nD τ).loc main_arg0) (ix3 b s k) := by
  blk_ext [iblk, V, (idx t).2.2.1]
theorem blk3 (c : Dev nD) (t : Fin cfg0.N) (j : Fin 32) (d : Fin 1024) (b : Fin 4) (s : Fin 4096) (k : Fin 5120) (hb : t.val / 8 = b.val) (hs : 32 * (16 * (t.val % 8) - 1) + j.val = s.val) (hk : 1024 + d.val = k.val) :
    iblk m c 3 t (ix3 0 j d) = m ((c : Thread nD τ).loc main_arg0) (ix3 b s k) := by
  blk_ext [iblk, V, (idx t).2.2.2.1]
theorem blk4 (c : Dev nD) (t : Fin cfg0.N) (k : Fin 31) (d : Fin 1024) : iblk m c 4 t (ix3 0 k d) = m ((c : Thread nD τ).loc main_arg1) (ix3 0 k d) := by
  blk_ext [iblk, V, (idx t).2.2.2.2.1]
theorem blk5 (c : Dev nD) (t : Fin cfg0.N) (d : Fin 1024) : iblk m c 5 t (ix3 0 0 d) = m ((c : Thread nD τ).loc main_arg2) (ix2 0 d) := by
  blk_ext! [iblk, V, (idx t).2.2.2.2.2.1]
theorem blk6 (c : Dev nD) (t : Fin cfg0.N) (d : Fin 1024) : iblk m c 6 t (ix3 0 0 d) = m ((c : Thread nD τ).loc main_arg3) (ix2 0 d) := by
  blk_ext! [iblk, V, (idx t).2.2.2.2.2.2.1]
theorem blk7 (c : Dev nD) (t : Fin cfg0.N) (d : Fin 1024) : iblk m c 7 t (ix3 0 0 d) = m ((c : Thread nD τ).loc main_arg4) (ix2 0 d) := by
  blk_ext! [iblk, V, (idx t).2.2.2.2.2.2.2.1]
theorem blk8 (c : Dev nD) (t : Fin cfg0.N) (r : Fin 64) (k : Fin 5632) (s : Fin 2048) (h : 64 * t.val + r.val = s.val) : iblk m c 8 t (ix2 r k) = m ((c : Thread nD τ).loc main_arg5) (ix3 1 s k) := by
  blk_ext! [iblk, V, (idx t).2.2.2.2.2.2.2.2.1]
theorem blk9 (c : Dev nD) (t : Fin cfg0.N) (r : Fin 64) (k : Fin 5632) (s : Fin 2048) (h : 64 * t.val + r.val = s.val) : iblk m c 9 t (ix2 r k) = m ((c : Thread nD τ).loc main_arg6) (ix3 1 s k) := by
  blk_ext! [iblk, V, (idx t).2.2.2.2.2.2.2.2.2.1]
theorem blk10 (c : Dev nD) (t : Fin cfg0.N) (r : Fin 64) (k : Fin 8192) (s : Fin 2048) (h : 64 * t.val + r.val = s.val) : iblk m c 10 t (ix2 r k) = m ((c : Thread nD τ).loc main_arg7) (ix3 0 s k) := by
  blk_ext! [iblk, V, (idx t).2.2.2.2.2.2.2.2.2.2.1]

/-- The taps by number and column. -/
def WW (x : (⟨Cert.ConvRefIdeal.S1x31x1024, .f32⟩ : BufTy).Contents (Elt Ideal)) (n k : ℕ) : EReal := if h : n < 31 then if hk : k < 1024 then x (ix3 0 ⟨n, h⟩ ⟨k, hk⟩) else 0 else 0
/-- The bias by column. -/
def BB (x : (⟨Cert.ConvRefIdeal.S1x1024, .f32⟩ : BufTy).Contents (Elt Ideal)) (k : ℕ) : EReal := if hk : k < 1024 then x (ix2 0 ⟨k, hk⟩) else 0

/-- The reference's result, its convolution the taps' running sum. -/
theorem ref_at (x0 : (⟨Cert.ConvRefIdeal.S4x4096x5120, .bf16⟩ : BufTy).Contents (Elt Ideal)) (x1 : (⟨Cert.ConvRefIdeal.S1x31x1024, .f32⟩ : BufTy).Contents (Elt Ideal))
    (x2 x3 x4 : (⟨Cert.ConvRefIdeal.S1x1024, .f32⟩ : BufTy).Contents (Elt Ideal)) (b : Fin 4) (s : Fin 4096) (d : Fin 1024) (o j : ℕ) (h : o + j = s.val) :
    Cert.ConvRefIdeal.Read.val_main_v256 (F := Ideal) x0 x1 x2 x3 x4 (ix3 b s d)
      = swish (lnorm (fun k => conv (WW x1) (BB x2) (fun n e => Cert.ConvRefIdeal.Row.A x0 b (o + n) e) j k.val) (fun k => x3 (ix2 0 k)) (fun k => x4 (ix2 0 k)) d) := by
  refine (Cert.ConvRefIdeal.Row.res_at x0 x1 x2 x3 x4 b s d).trans (congrArg (fun f => swish (lnorm f _ _ d)) (funext fun k => ?_))
  rw [Cert.ConvRefIdeal.Row.conv_at]
  unfold conv
  rw [taps31]
  refine congrArg₂ HAdd.hAdd (congrArg₂ (fun f g => sumTaps f g 30) (funext fun n => ?_) (funext fun n => ?_)) ?_
  · unfold WW
    by_cases hn : n < 31
    · rw [dif_pos hn, dif_pos hn, dif_pos k.isLt]
    · rw [dif_neg hn, dif_neg hn]
  · exact congrArg (fun q => Cert.ConvRefIdeal.Row.A x0 b q k.val) (by omega)
  · unfold BB
    rw [dif_pos k.isLt]

/-- The rows before a block. -/
theorem halo_rows (c : Dev nD) (t : Fin cfg0.N) (b : Fin 4) (hb : t.val / 8 = b.val) (j : Fin 32) (d : Fin 1024) :
    (if 0 < (grid0.coords t 1).val then glu (iblk m c 2 t (ix3 0 j d)) (iblk m c 3 t (ix3 0 j d)) else 0) = Cert.ConvRefIdeal.Row.A (a0 m c) b (512 * (t.val % 8) + j.val) d.val := by
  have hj := j.isLt
  rw [coord1 t]
  unfold Cert.ConvRefIdeal.Row.A
  by_cases h : 0 < t.val % 8
  · rw [if_pos h, dif_pos ⟨by omega, d.isLt⟩]
    exact congrArg₂ glu (blk2 m c t j d b _ _ hb (by show _ = 512 * (t.val % 8) + j.val - 32; omega) rfl) (blk3 m c t j d b _ _ hb (by show _ = 512 * (t.val % 8) + j.val - 32; omega) rfl)
  · rw [if_neg h, dif_neg (by omega)]

/-- A block's rows. -/
theorem rows (c : Dev nD) (t : Fin cfg0.N) (b : Fin 4) (hb : t.val / 8 = b.val) (j : Fin 512) (d : Fin 1024) :
    glu (iblk m c 0 t (ix3 0 j d)) (iblk m c 1 t (ix3 0 j d)) = Cert.ConvRefIdeal.Row.A (a0 m c) b (512 * (t.val % 8) + (32 + j.val)) d.val := by
  have hj := j.isLt
  unfold Cert.ConvRefIdeal.Row.A
  rw [dif_pos ⟨by omega, d.isLt⟩]
  exact congrArg₂ glu (blk0 m c t j d b _ _ hb (by show _ = 512 * (t.val % 8) + (32 + j.val) - 32; omega) rfl) (blk1 m c t j d b _ _ hb (by show _ = 512 * (t.val % 8) + (32 + j.val) - 32; omega) rfl)

/-- The result block at a point is the reference's. -/
theorem outAt_eq (c : Dev nD) (t : Fin cfg0.N) (b : Fin 4) (hb : t.val / 8 = b.val) (j : Fin 512) (d : Fin 1024) (s : Fin 4096) (hs : 512 * (t.val % 8) + j.val = s.val) :
    outAt m c t (ix3 0 j d) = Cert.ConvRefIdeal.Read.val_main_v256 (F := Ideal) (a0 m c) (a1 m c) (a2 m c) (a3 m c) (a4 m c) (ix3 b s d) := by
  rw [ref_at _ _ _ _ _ b s d _ _ hs]
  unfold outAt
  refine (out_at _ _ _ _ _ _ _ _ _ _ _ _ _ _ _ _ _ _ _ _ _ _ _ _ _ _ _ _ (fun n e => Cert.ConvRefIdeal.Row.A (a0 m c) b (512 * (t.val % 8) + n) e) (halo_rows m c t b hb) (rows m c t b hb)
    (WW (a1 m c)) (BB (a2 m c)) (fun k e => ?_) (fun e => ?_) j d).trans ?_
  · unfold WW
    rw [dif_pos k.isLt, dif_pos e.isLt]
    exact blk4 m c t k e
  · unfold BB
    rw [dif_pos e.isLt]
    exact blk5 m c t e
  · exact congrArg₂ (fun f g => swish (lnorm _ f g d)) (funext fun k => blk6 m c t k) (funext fun k => blk7 m c t k)

/-- The module's result. -/
theorem value11 {r : PUnit × MemSt nD τ sig (Elt Ideal)} (h : Pipeline.FramePost cfgs (dats m) 0 (V m) r) (c : Dev nD) :
    r.2.mem ((c.tc : Thread nD τ).loc main_v6_0) = Cert.ConvRefIdeal.Read.val_main_v256 (F := Ideal) (a0 m c) (a1 m c) (a2 m c) (a3 m c) (a4 m c) := by
  refine ((h c).1 11).trans ?_
  refine Dat.arrAt_eq_of_covers _ 11 _ (by decide +kernel) fun t hf y => ?_
  have ht := lt32 t
  blk_simp
  obtain ⟨z, j, d, rfl⟩ : ∃ (z : Fin 1) (j : Fin 512) (d : Fin 1024), y = ix3 z j d := ⟨y 0, y 1, y 2, eq_ix3 y⟩
  obtain rfl : z = 0 := Subsingleton.elim _ _
  have hj := j.isLt
  have he : ((cfg0.win 11).blk t).view.emb (ix3 0 j d) = ix3 (⟨t.val / 8, by omega⟩ : Fin 4) (⟨512 * (t.val % 8) + j.val, by omega⟩ : Fin 4096) d := by
    funext a
    apply Fin.ext
    match a with
    | ⟨0, _⟩ =>
      show win0_11.index t (0 : Fin 3) * 1 + 1 * 0 = t.val / 8
      rw [(idx t).2.2.2.2.2.2.2.2.2.2.2.1]
      show t.val / 8 * 1 + 1 * 0 = _
      omega
    | ⟨1, _⟩ =>
      show win0_11.index t (1 : Fin 3) * 512 + 1 * j.val = 512 * (t.val % 8) + j.val
      rw [(idx t).2.2.2.2.2.2.2.2.2.2.2.1]
      show t.val % 8 * 512 + 1 * j.val = _
      omega
    | ⟨2, _⟩ =>
      show win0_11.index t (2 : Fin 3) * 1024 + 1 * d.val = d.val
      rw [(idx t).2.2.2.2.2.2.2.2.2.2.2.1]
      show 0 * 1024 + 1 * d.val = _
      omega
  refine Eq.trans ?_ (congrArg _ he).symm
  exact outAt_eq m c t _ rfl j d _ rfl

/-- A weight's result: its rows cast. -/
theorem value12 {r : PUnit × MemSt nD τ sig (Elt Ideal)} (h : Pipeline.FramePost cfgs (dats m) 0 (V m) r) (c : Dev nD) :
    r.2.mem ((c.tc : Thread nD τ).loc main_v6_1) = Cert.ConvRefIdeal.Read.val_main_v259 (F := Ideal) (a5 m c) := by
  refine ((h c).1 12).trans ?_
  refine Dat.arrAt_eq_of_covers _ 12 _ (by decide +kernel) fun t hf y => ?_
  have ht := lt32 t
  blk_simp
  obtain ⟨j, d, rfl⟩ : ∃ (j : Fin 64) (d : Fin 5632), y = ix2 j d := ⟨y 0, y 1, eq_ix2 y⟩
  have hj := j.isLt
  have he : ((cfg0.win 12).blk t).view.emb (ix2 j d) = ix2 (⟨64 * t.val + j.val, by omega⟩ : Fin 2048) d := by
    funext a
    apply Fin.ext
    match a with
    | ⟨0, _⟩ =>
      show win0_12.index t (0 : Fin 2) * 64 + 1 * j.val = 64 * t.val + j.val
      rw [(idx t).2.2.2.2.2.2.2.2.2.2.2.2.1]
      show t.val * 64 + 1 * j.val = _
      omega
    | ⟨1, _⟩ =>
      show win0_12.index t (1 : Fin 2) * 5632 + 1 * d.val = d.val
      rw [(idx t).2.2.2.2.2.2.2.2.2.2.2.2.1]
      show 0 * 5632 + 1 * d.val = _
      omega
  refine Eq.trans ?_ (congrArg _ he).symm
  refine Eq.trans ?_ (Cert.ConvRefIdeal.Row.w5_at (a5 m c) _ d).symm
  refine Eq.trans ?_ (blk8 m c t j d _ rfl)
  show k0_pay106 (F := Ideal) (iblk m c 8 t) (ix2 j d) = _
  pointwise [k0_pay106]

/-- A weight's result: its rows cast. -/
theorem value13 {r : PUnit × MemSt nD τ sig (Elt Ideal)} (h : Pipeline.FramePost cfgs (dats m) 0 (V m) r) (c : Dev nD) :
    r.2.mem ((c.tc : Thread nD τ).loc main_v6_2) = Cert.ConvRefIdeal.Read.val_main_v262 (F := Ideal) (a6 m c) := by
  refine ((h c).1 13).trans ?_
  refine Dat.arrAt_eq_of_covers _ 13 _ (by decide +kernel) fun t hf y => ?_
  have ht := lt32 t
  blk_simp
  obtain ⟨j, d, rfl⟩ : ∃ (j : Fin 64) (d : Fin 5632), y = ix2 j d := ⟨y 0, y 1, eq_ix2 y⟩
  have hj := j.isLt
  have he : ((cfg0.win 13).blk t).view.emb (ix2 j d) = ix2 (⟨64 * t.val + j.val, by omega⟩ : Fin 2048) d := by
    funext a
    apply Fin.ext
    match a with
    | ⟨0, _⟩ =>
      show win0_13.index t (0 : Fin 2) * 64 + 1 * j.val = 64 * t.val + j.val
      rw [(idx t).2.2.2.2.2.2.2.2.2.2.2.2.2.1]
      show t.val * 64 + 1 * j.val = _
      omega
    | ⟨1, _⟩ =>
      show win0_13.index t (1 : Fin 2) * 5632 + 1 * d.val = d.val
      rw [(idx t).2.2.2.2.2.2.2.2.2.2.2.2.2.1]
      show 0 * 5632 + 1 * d.val = _
      omega
  refine Eq.trans ?_ (congrArg _ he).symm
  refine Eq.trans ?_ (Cert.ConvRefIdeal.Row.w6_at (a6 m c) _ d).symm
  refine Eq.trans ?_ (blk9 m c t j d _ rfl)
  show k0_pay107 (F := Ideal) (iblk m c 9 t) (ix2 j d) = _
  pointwise [k0_pay107]

/-- A weight's result: its rows cast. -/
theorem value14 {r : PUnit × MemSt nD τ sig (Elt Ideal)} (h : Pipeline.FramePost cfgs (dats m) 0 (V m) r) (c : Dev nD) :
    r.2.mem ((c.tc : Thread nD τ).loc main_v6_3) = Cert.ConvRefIdeal.Read.val_main_v264 (F := Ideal) (a7 m c) := by
  refine ((h c).1 14).trans ?_
  refine Dat.arrAt_eq_of_covers _ 14 _ (by decide +kernel) fun t hf y => ?_
  have ht := lt32 t
  blk_simp
  obtain ⟨j, d, rfl⟩ : ∃ (j : Fin 64) (d : Fin 8192), y = ix2 j d := ⟨y 0, y 1, eq_ix2 y⟩
  have hj := j.isLt
  have he : ((cfg0.win 14).blk t).view.emb (ix2 j d) = ix2 (⟨64 * t.val + j.val, by omega⟩ : Fin 2048) d := by
    funext a
    apply Fin.ext
    match a with
    | ⟨0, _⟩ =>
      show win0_14.index t (0 : Fin 2) * 64 + 1 * j.val = 64 * t.val + j.val
      rw [(idx t).2.2.2.2.2.2.2.2.2.2.2.2.2.2]
      show t.val * 64 + 1 * j.val = _
      omega
    | ⟨1, _⟩ =>
      show win0_14.index t (1 : Fin 2) * 8192 + 1 * d.val = d.val
      rw [(idx t).2.2.2.2.2.2.2.2.2.2.2.2.2.2]
      show 0 * 8192 + 1 * d.val = _
      omega
  refine Eq.trans ?_ (congrArg _ he).symm
  refine Eq.trans ?_ (Cert.ConvRefIdeal.Row.w7_at (a7 m c) _ d).symm
  refine Eq.trans ?_ (blk10 m c t j d _ rfl)
  show k0_pay108 (F := Ideal) (iblk m c 10 t) (ix2 j d) = _
  pointwise [k0_pay108]

end Cert.ConvIdeal.Block

end
-- ==== Proof.lean ====
/-
  Every claim of `Cert.Claim`, assembled: the frames are the generated ones, and each kernel's value is read in the
  modules beside this one.
-/
module

public import proofs.«01_k».proof.Defs
public import proofs.«01_k».proof.Proof.Gen.Ffn.Frame
public import proofs.«01_k».proof.Proof.Gen.FfnIdeal.Value
public import proofs.«01_k».proof.Proof.Gen.FfnRefIdeal.Read
public import proofs.«01_k».proof.Proof.Gen.InProj.Frame
public import proofs.«01_k».proof.Proof.Gen.InProjIdeal.Value
public import proofs.«01_k».proof.Proof.Gen.InProjRefIdeal.Read
public import proofs.«01_k».proof.Proof.Gen.OutTwo.Frame
public import proofs.«01_k».proof.Proof.Gen.OutTwoIdeal.Value
public import proofs.«01_k».proof.Proof.Gen.OutTwoRefIdeal.Read
public import proofs.«01_k».proof.Proof.Gen.OutOne.Frame
public import proofs.«01_k».proof.Proof.Gen.OutOneIdeal.Value
public import proofs.«01_k».proof.Proof.Gen.OutOneRefIdeal.Read
public import proofs.«01_k».proof.Proof.FfnValue
public import proofs.«01_k».proof.Proof.FfnRefValue
public import proofs.«01_k».proof.Proof.InProjValue
public import proofs.«01_k».proof.Proof.OutValue
public import proofs.«01_k».proof.Proof.Gen.Hgrn.Frame
public import proofs.«01_k».proof.Proof.Gen.Hgrn.Loops
public import proofs.«01_k».proof.Proof.Gen.HgrnIdeal.Loops
public import proofs.«01_k».proof.Proof.Gen.HgrnIdeal.Frame
public import proofs.«01_k».proof.Proof.Gen.HgrnRefIdeal.Run
public import proofs.«01_k».proof.Proof.Gen.HgrnRefIdeal.Step
public import proofs.«01_k».proof.Proof.HgrnFrame
public import proofs.«01_k».proof.Proof.HgrnIdealRun
public import proofs.«01_k».proof.Proof.HgrnValue
public import proofs.«01_k».proof.Proof.HgrnRefRun
public import proofs.«01_k».proof.Proof.HgrnRefValue
public import proofs.«01_k».proof.Proof.HgrnPre
public import proofs.«01_k».proof.Proof.Gen.Gates.Frame
public import proofs.«01_k».proof.Proof.Gen.GatesIdeal.Frame
public import proofs.«01_k».proof.Proof.Gen.GatesRefIdeal.Read
public import proofs.«01_k».proof.Proof.GatesFrame
public import proofs.«01_k».proof.Proof.GatesIdealRun
public import proofs.«01_k».proof.Proof.GatesValue
public import proofs.«01_k».proof.Proof.GatesPre
public import proofs.«01_k».proof.Proof.Gen.Conv.Frame.Runs
public import proofs.«01_k».proof.Proof.Gen.ConvIdeal.Frame.Runs
public import proofs.«01_k».proof.Proof.Gen.ConvRefIdeal.Read
public import proofs.«01_k».proof.Proof.ConvFrame
public import proofs.«01_k».proof.Proof.ConvValue
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- A row of the flattened result is one position of one sequence. -/
theorem split_row (R : Fin 16384) : ∃ (b : Fin 4) (s : Fin 4096), R.val = 4096 * b.val + s.val :=
  ⟨⟨R.val / 4096, by omega⟩, ⟨R.val % 4096, by omega⟩, (Nat.div_add_mod _ _).symm⟩

/-- The feed-forward's reference runs to its end and leaves arguments and semaphores as they were. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The input projection's reference runs to its end and leaves arguments and semaphores as they were. -/
theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The two-part output projection's reference runs to its end and leaves arguments and semaphores as they were. -/
theorem quiescent_OutTwoRefIdeal : quiescent_OutTwoRefIdeal := fun m ρ _ =>
  (θ_run Cert.OutTwoRefIdeal.defs _ _).mono (fun r h => ⟨fun c => (h c).2, sem_eq_zero_of_no_sems (by decide) r.2⟩)
    (Cert.OutTwoRefIdeal.Value.run (F := Ideal) m ρ)

/-- The one-part output projection's reference runs to its end and leaves arguments and semaphores as they were. -/
theorem quiescent_OutOneRefIdeal : quiescent_OutOneRefIdeal := fun m ρ _ =>
  (θ_run Cert.OutOneRefIdeal.defs _ _).mono (fun r h => ⟨fun c => (h c).2, sem_eq_zero_of_no_sems (by decide) r.2⟩)
    (Cert.OutOneRefIdeal.Value.run (F := Ideal) m ρ)

/-- The feed-forward kernel's result is the reference's. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  simp only [hagree c]
  rw [Cert.FfnRefIdeal.Read.val_main_v29_eq]
  funext i
  obtain ⟨R, n, rfl⟩ : ∃ (R : Fin 16384) (n : Fin 2048), i = ix2 R n := ⟨i 0, i 1, eq_ix2 i⟩
  obtain ⟨b, s, h⟩ := split_row R
  exact (Cert.FfnRefIdeal.Row.result_at _ _ _ _ _ R n b s h).trans (Cert.FfnIdeal.Row.result_at m c R n b s h).symm

/-- The input projection kernel's result is the reference's. -/
theorem algebraic_InProjIdeal_InProjRefIdeal : algebraic_InProjIdeal_InProjRefIdeal := by
  intro m ρ m' ρ' _ hagree
  refine ⟨_, Cert.InProjIdeal.Value.run (F := Ideal) m ρ, ?_⟩
  refine (θ_run Cert.InProjRefIdeal.defs _ _).mono (fun _ h c => ⟨?_, (h c).2⟩) (Cert.InProjRefIdeal.Value.run (F := Ideal) m' ρ')
  rw [(h c).1]
  simp only [hagree c]
  rw [Cert.InProjRefIdeal.Read.val_main_v18_eq]
  funext i
  obtain ⟨R, n, rfl⟩ : ∃ (R : Fin 16384) (n : Fin 5120), i = ix2 R n := ⟨i 0, i 1, eq_ix2 i⟩
  obtain ⟨b, s, h⟩ := split_row R
  exact (Cert.InProjRefIdeal.Row.result_at _ _ _ R n b s h).trans (Cert.InProjIdeal.Row.result_at m c R n b s h).symm

/-- The two-part output projection kernel's result is the reference's. -/
theorem algebraic_OutTwoIdeal_OutTwoRefIdeal : algebraic_OutTwoIdeal_OutTwoRefIdeal := by
  intro m ρ m' ρ' _ hagree
  refine ⟨_, Cert.OutTwoIdeal.Value.run_blocks (F := Ideal) m ρ, ?_⟩
  refine (θ_run Cert.OutTwoRefIdeal.defs _ _).mono (fun _ h c => ⟨?_, (h c).2⟩) (Cert.OutTwoRefIdeal.Value.run (F := Ideal) m' ρ')
  rw [(h c).1]
  simp only [hagree c]
  rw [Cert.OutTwoRefIdeal.Read.val_main_v6_eq, Cert.OutTwoIdeal.Row.final, (hagree c).2.1, (hagree c).2.2.1]

/-- The one-part output projection kernel's result is the reference's. -/
theorem algebraic_OutOneIdeal_OutOneRefIdeal : algebraic_OutOneIdeal_OutOneRefIdeal := by
  intro m ρ m' ρ' _ hagree
  refine ⟨_, Cert.OutOneIdeal.Value.run_blocks (F := Ideal) m ρ, ?_⟩
  refine (θ_run Cert.OutOneRefIdeal.defs _ _).mono (fun _ h c => ⟨?_, (h c).2⟩) (Cert.OutOneRefIdeal.Value.run (F := Ideal) m' ρ')
  rw [(h c).1]
  simp only [hagree c]
  rw [Cert.OutOneRefIdeal.Read.val_main_v4_eq, Cert.OutOneIdeal.Row.final]

/-- The recurrence kernel runs to its end and leaves arguments and semaphores as they were. -/
theorem quiescent_Hgrn : quiescent_Hgrn := fun m ρ _ =>
  (θ_run Cert.Hgrn.defs _ _).mono (fun r h => ⟨fun c => Cert.Hgrn.Hand.args_kept m h.1 c, h.2⟩) (Cert.Hgrn.Hand.run_main m ρ)

/-- So does its idealized form. -/
theorem quiescent_HgrnIdeal : quiescent_HgrnIdeal := fun m ρ _ =>
  (θ_run Cert.HgrnIdeal.defs _ _).mono (fun r h => ⟨fun c => Cert.HgrnIdeal.Hand.args_kept m (fun _ _ _ => True) (fun _ _ _ => True) h.1 c, h.2⟩)
    (Cert.HgrnIdeal.Hand.run_main m ρ (fun _ _ _ => True) (fun _ _ _ => True) (by unfold Cert.HgrnIdeal.Hand.StepOk; intros; exact ⟨trivial, trivial⟩) fun _ _ => trivial)

/-- And under the precondition. -/
theorem quiescent_HgrnIdeal_pre_finite_inputs : quiescent_HgrnIdeal_pre_finite_inputs := fun m ρ _ => quiescent_HgrnIdeal m ρ trivial

/-- The recurrence's reference runs to its end and leaves arguments and semaphores as they were. -/
theorem quiescent_HgrnRefIdeal : quiescent_HgrnRefIdeal := fun m ρ _ =>
  (θ_run Cert.HgrnRefIdeal.defs _ _).mono (fun r h => ⟨fun c => (h c).2, sem_eq_zero_of_no_sems (by decide) r.2⟩)
    (Cert.HgrnRefIdeal.Hand.run_states (F := Ideal) m ρ)

/-- And under the precondition. -/
theorem quiescent_HgrnRefIdeal_pre_finite_inputs : quiescent_HgrnRefIdeal_pre_finite_inputs := fun m ρ _ => quiescent_HgrnRefIdeal m ρ trivial

/-- The named constant is the logarithm's base change. -/
theorem preserves_Hgrn_HgrnIdeal : preserves_Hgrn_HgrnIdeal := IdealRules.named_const.statement Cert.HgrnIdeal.κ "log2e" _ _ _ rfl

/-- The recurrence kernel's result is the reference's, over finite inputs. -/
theorem algebraic_HgrnIdeal_HgrnRefIdeal_pre_finite_inputs : algebraic_HgrnIdeal_HgrnRefIdeal_pre_finite_inputs := by
  intro m ρ m' ρ' hpre hagree
  have hc : ∀ c c' : Dev Cert.HgrnIdeal.nD, c = c' := by decide
  have hreal := fun b n y => Cert.Pre_finite_inputs.real_of_fn _ _ _ _ _ _ (hpre 0) (ix3 (b : Fin 4) (n : Fin 4096) (y : Fin 2048))
  choose Q hQ using fun b n y => (hreal b n y).1
  choose K hK using fun b n y => (hreal b n y).2.1
  choose G hG using fun b n y => (hreal b n y).2.2.1
  choose V hV using fun b n y => (hreal b n y).2.2.2
  have hq : ∀ c : Dev Cert.HgrnIdeal.nD, ∀ b n y, m (c.tc.loc Cert.HgrnIdeal.main_arg0) (ix3 b n y) = (Q b n y : EReal) := fun c b n y => hc 0 c ▸ hQ b n y
  have hk : ∀ c : Dev Cert.HgrnIdeal.nD, ∀ b n y, m (c.tc.loc Cert.HgrnIdeal.main_arg1) (ix3 b n y) = (K b n y : EReal) := fun c b n y => hc 0 c ▸ hK b n y
  have hg : ∀ c : Dev Cert.HgrnIdeal.nD, ∀ b n y, m (c.tc.loc Cert.HgrnIdeal.main_arg2) (ix3 b n y) = (G b n y : EReal) := fun c b n y => hc 0 c ▸ hG b n y
  have hv : ∀ c : Dev Cert.HgrnIdeal.nD, ∀ b n y, m (c.tc.loc Cert.HgrnIdeal.main_arg3) (ix3 b n y) = (V b n y : EReal) := fun c b n y => hc 0 c ▸ hV b n y
  refine ⟨fun c => Cert.HgrnRefIdeal.Step.R_main_v36 (F := Ideal) (Cert.HgrnRefIdeal.Hand.states m' c 64) (m' (c.tc.loc Cert.HgrnRefIdeal.main_arg4)) (m' (c.tc.loc Cert.HgrnRefIdeal.main_arg5)), ?_, Cert.HgrnRefIdeal.Hand.run_states (F := Ideal) m' ρ'⟩
  refine (θ_run Cert.HgrnIdeal.defs _ _).mono (fun r h c => ⟨?_, Cert.HgrnIdeal.Hand.args_kept m _ _ h.1 c⟩)
    (Cert.HgrnIdeal.Hand.run_main m ρ _ _ (Cert.HgrnIdeal.Head.step_ok hq hk hg hv) fun c d => (fun h0 => absurd h0 (by decide)))
  refine Cert.HgrnIdeal.Head.value hq hk hg hv h.1 c _ fun b n H e y hy => ?_
  obtain ⟨a0, a1, a2, a3, a4, a5⟩ := hagree c
  refine (Cert.HgrnRefIdeal.Hand.value m' c Q K G V (fun b n y => (congrFun a0 _).trans (hq c b n y)) (fun b n y => (congrFun a1 _).trans (hk c b n y))
    (fun b n y => (congrFun a2 _).trans (hg c b n y)) (fun b n y => (congrFun a3 _).trans (hv c b n y)) b n H e y hy).trans ?_
  rw [a4, a5]

/-- The gates' kernel runs to its end and leaves arguments and semaphores as they were. -/
theorem quiescent_Gates : quiescent_Gates := fun m ρ _ =>
  (θ_run Cert.Gates.defs _ _).mono (fun r h => ⟨fun c => Cert.Gates.Hand.args_kept m h.1 c, h.2⟩) (Cert.Gates.Hand.run_main m ρ)

/-- So does its idealized form. -/
theorem quiescent_GatesIdeal : quiescent_GatesIdeal := fun m ρ _ =>
  (θ_run Cert.GatesIdeal.defs _ _).mono (fun r h => ⟨fun c => Cert.GatesIdeal.Hand.args_kept m h.1 c, h.2⟩) (Cert.GatesIdeal.Hand.run_main m ρ)

/-- And under the precondition. -/
theorem quiescent_GatesIdeal_pre_lb_range : quiescent_GatesIdeal_pre_lb_range := fun m ρ _ => quiescent_GatesIdeal m ρ trivial

/-- The gates' reference runs to its end and leaves arguments and semaphores as they were. -/
theorem quiescent_GatesRefIdeal : quiescent_GatesRefIdeal := fun m ρ _ =>
  (θ_run Cert.GatesRefIdeal.defs _ _).mono (fun r h => ⟨fun c => (h c).2.2.2.2.2, sem_eq_zero_of_no_sems (by decide) r.2⟩)
    (Cert.GatesRefIdeal.Value.run (F := Ideal) m ρ)

/-- And under the precondition. -/
theorem quiescent_GatesRefIdeal_pre_lb_range : quiescent_GatesRefIdeal_pre_lb_range := fun m ρ _ => quiescent_GatesRefIdeal m ρ trivial

section Gates

open Cert.GatesIdeal Cert.GatesIdeal.Gen

variable (m : (ℓ : Loc nD τ sig) → Buf (Elt Ideal) ℓ) (c : Dev nD)

/-- The gates' input, gains, weights and bounds. -/
abbrev gx : (⟨Cert.GatesRefIdeal.S4x4096x2048, .f32⟩ : BufTy).Contents (Elt Ideal) := m ((c.tc : Thread nD τ).loc main_arg0)
abbrev gg : (⟨Cert.GatesRefIdeal.S2x2048, .f32⟩ : BufTy).Contents (Elt Ideal) := m ((c.tc : Thread nD τ).loc main_arg1)
abbrev gw : (⟨Cert.GatesRefIdeal.S1x2048x8192, .f32⟩ : BufTy).Contents (Elt Ideal) := m ((c.tc : Thread nD τ).loc main_arg2)
abbrev gl : (⟨Cert.GatesRefIdeal.S2048, .f32⟩ : BufTy).Contents (Elt Ideal) := m ((c.tc : Thread nD τ).loc main_arg3)

/-- The reference's product is the kernel's. -/
theorem gates_z (b : Fin 4) (s : Fin 4096) (k : Fin 8192) :
    Cert.GatesRefIdeal.Read.val_main_v16 (F := Ideal) (gx m c) (gg m c) (gw m c) (ix3 b s k) = Cert.GatesIdeal.Row.Z m c b s k :=
  Cert.GatesRefIdeal.Row.z_at _ _ _ b s k

end Gates

/-- The gates' kernel's five results are the reference's, over bounds in range. -/
theorem algebraic_GatesIdeal_GatesRefIdeal_pre_lb_range : algebraic_GatesIdeal_GatesRefIdeal_pre_lb_range := by
  intro m ρ m' ρ' hpre hagree
  refine ⟨fun c => Cert.GatesRefIdeal.Read.val_main_v56 (F := Ideal) (gx m c) (gg m c) (gw m c),
    fun c => Cert.GatesRefIdeal.Read.val_main_v58 (F := Ideal) (gx m c) (gg m c) (gw m c) (gl m c),
    fun c => Cert.GatesRefIdeal.Read.val_main_v59 (F := Ideal) (gx m c) (gg m c) (gw m c) (gl m c),
    fun c => Cert.GatesRefIdeal.Read.val_main_v61 (F := Ideal) (gx m c) (gg m c) (gw m c),
    fun c => Cert.GatesRefIdeal.Read.val_main_v64 (F := Ideal) (gx m c) (gg m c) (gw m c), ?_, ?_⟩
  · refine (θ_run Cert.GatesIdeal.defs _ _).mono (fun r h c => ⟨?_, ?_, ?_, ?_, ?_, Cert.GatesIdeal.Hand.args_kept m h.1 c⟩) (Cert.GatesIdeal.Hand.run_main m ρ)
    · refine Cert.GatesIdeal.Row.value4 h.1 c _ fun R n b s k hR hk => ?_
      refine (Cert.GatesRefIdeal.Row.v56_at _ _ _ R n b s k hR hk).trans ?_
      rw [gates_z]
    · refine Cert.GatesIdeal.Row.value5 h.1 c _ fun R n b s k hR hk => ?_
      refine (Cert.GatesRefIdeal.Row.v58_at _ _ _ _ R n b s k hR hk).trans ?_
      rw [gates_z]
    · refine Cert.GatesIdeal.Row.value6 h.1 c _ fun R n b s k hR hk => ?_
      obtain ⟨β, hb, h0, h1⟩ := Cert.Pre_lb_range.range_of_fn _ _ _ _ (hpre c) (ix1 n)
      refine (Cert.GatesRefIdeal.Row.v59_at _ _ _ _ R n b s k hR hk).trans ?_
      rw [gates_z, hb, show gl m c (ix1 n) = (β : EReal) from hb]
      exact (Cert.GatesMath.logf_eq β h0 h1 _).symm
    · refine Cert.GatesIdeal.Row.value7 h.1 c _ fun R n b s k hR hk => ?_
      refine (Cert.GatesRefIdeal.Row.v61_at _ _ _ R n b s k hR hk).trans ?_
      rw [gates_z]
    · refine Cert.GatesIdeal.Row.value8 h.1 c _ fun R n b s k hR hk => ?_
      refine (Cert.GatesRefIdeal.Row.v64_at _ _ _ R n b s k hR hk).trans ?_
      rw [gates_z]
  · refine (θ_run Cert.GatesRefIdeal.defs _ _).mono (fun r h c => ?_) (Cert.GatesRefIdeal.Value.run (F := Ideal) m' ρ')
    obtain ⟨a0, a1, a2, a3⟩ := hagree c
    obtain ⟨h0, h1, h2, h3, h4, hk⟩ := h c
    refine ⟨h0.trans ((Cert.GatesRefIdeal.Read.val_main_v56_eq _ _ _).trans ?_), h1.trans ((Cert.GatesRefIdeal.Read.val_main_v58_eq _ _ _ _).trans ?_),
      h2.trans ((Cert.GatesRefIdeal.Read.val_main_v59_eq _ _).trans ?_), h3.trans ((Cert.GatesRefIdeal.Read.val_main_v61_eq _ _ _).trans ?_),
      h4.trans ((Cert.GatesRefIdeal.Read.val_main_v64_eq _ _ _).trans ?_), hk⟩
    · rw [a0, a1, a2]
    · rw [a0, a1, a2, a3]
    · rw [a0, a1, a2, a3]
    · rw [a0, a1, a2]
    · rw [a0, a1, a2]

/-- The convolution module runs to its end and leaves arguments and semaphores as they were. -/
theorem quiescent_Conv : quiescent_Conv := fun m ρ _ => Cert.Conv.Hand.frame m ρ

/-- The idealized convolution runs to its end and leaves arguments and semaphores as they were. -/
theorem quiescent_ConvIdeal : quiescent_ConvIdeal := fun m ρ _ => Cert.ConvIdeal.Hand.frame m ρ

/-- So does its reference. -/
theorem quiescent_ConvRefIdeal : quiescent_ConvRefIdeal := fun m ρ _ =>
  (θ_run Cert.ConvRefIdeal.defs _ _).mono (fun r h => ⟨fun c => (h c).2.2.2.2, sem_eq_zero_of_no_sems (by decide) r.2⟩)
    (Cert.ConvRefIdeal.Value.run (F := Ideal) m ρ)

open Cert.ConvIdeal.Block in
/-- The idealized convolution module computes its reference. -/
theorem algebraic_ConvIdeal_ConvRefIdeal : algebraic_ConvIdeal_ConvRefIdeal := by
  intro m ρ m' ρ' _ hagree
  refine ⟨fun c => Cert.ConvRefIdeal.Read.val_main_v256 (F := Ideal) (a0 m c) (a1 m c) (a2 m c) (a3 m c) (a4 m c), fun c => Cert.ConvRefIdeal.Read.val_main_v259 (F := Ideal) (a5 m c),
    fun c => Cert.ConvRefIdeal.Read.val_main_v262 (F := Ideal) (a6 m c), fun c => Cert.ConvRefIdeal.Read.val_main_v264 (F := Ideal) (a7 m c), ?_, ?_⟩
  · refine (θ_run Cert.ConvIdeal.defs _ _).mono (fun r h c => ⟨?_, ?_, ?_, ?_, h.2.1 c⟩) (θ_run_and (Cert.ConvIdeal.Hand.run_main m ρ) (Cert.ConvIdeal.Hand.frame m ρ))
    · exact value11 m h.1.1 c
    · exact value12 m h.1.1 c
    · exact value13 m h.1.1 c
    · exact value14 m h.1.1 c
  · refine (θ_run Cert.ConvRefIdeal.defs _ _).mono (fun r h c => ?_) (Cert.ConvRefIdeal.Value.run (F := Ideal) m' ρ')
    obtain ⟨e0, e1, e2, e3, e4, e5, e6, e7⟩ := hagree c
    obtain ⟨h0, h1, h2, h3, hk⟩ := h c
    exact ⟨h0.trans ((Cert.ConvRefIdeal.Read.val_main_v256_eq _).trans (congr (congr (congr (congr (congrArg (Cert.ConvRefIdeal.Read.val_main_v256 (F := Ideal)) e0) e1) e2) e3) e4)), h1.trans ((Cert.ConvRefIdeal.Read.val_main_v259_eq _).trans (congrArg (Cert.ConvRefIdeal.Read.val_main_v259 (F := Ideal)) e5)), h2.trans ((Cert.ConvRefIdeal.Read.val_main_v262_eq _).trans (congrArg (Cert.ConvRefIdeal.Read.val_main_v262 (F := Ideal)) e6)), h3.trans ((Cert.ConvRefIdeal.Read.val_main_v264_eq _).trans (congrArg (Cert.ConvRefIdeal.Read.val_main_v264 (F := Ideal)) e7)), hk⟩

/-- The directory's claim. -/
theorem claim : Cert.Claim := ⟨Cert.Ffn.Gen.facts, Cert.FfnIdeal.Gen.facts, Cert.FfnRefIdeal.Gen.facts,
  Cert.InProj.Gen.facts, Cert.InProjIdeal.Gen.facts, Cert.InProjRefIdeal.Gen.facts,
  Cert.OutTwo.Gen.facts, Cert.OutTwoIdeal.Gen.facts, Cert.OutTwoRefIdeal.Gen.facts,
  Cert.OutOne.Gen.facts, Cert.OutOneIdeal.Gen.facts, Cert.OutOneRefIdeal.Gen.facts,
  Cert.Hgrn.Gen.facts, Cert.HgrnIdeal.Gen.facts, Cert.HgrnRefIdeal.Gen.facts,
  Cert.Gates.Gen.facts, Cert.GatesIdeal.Gen.facts, Cert.GatesRefIdeal.Gen.facts, Cert.Conv.Gen.facts, Cert.ConvIdeal.Gen.facts, Cert.ConvRefIdeal.Gen.facts, Cert.Pre_finite_inputs.facts, Cert.Pre_lb_range.facts,
  fun m ρ _ => Cert.Ffn.Gen.frame m ρ, fun m ρ _ => Cert.FfnIdeal.Gen.frame m ρ, quiescent_FfnRefIdeal,
  fun m ρ _ => Cert.InProj.Gen.frame m ρ, fun m ρ _ => Cert.InProjIdeal.Gen.frame m ρ, quiescent_InProjRefIdeal,
  fun m ρ _ => Cert.OutTwo.Gen.frame m ρ, fun m ρ _ => Cert.OutTwoIdeal.Gen.frame m ρ, quiescent_OutTwoRefIdeal,
  fun m ρ _ => Cert.OutOne.Gen.frame m ρ, fun m ρ _ => Cert.OutOneIdeal.Gen.frame m ρ, quiescent_OutOneRefIdeal,
  quiescent_Hgrn, quiescent_HgrnIdeal, quiescent_HgrnIdeal_pre_finite_inputs, quiescent_HgrnRefIdeal, quiescent_HgrnRefIdeal_pre_finite_inputs,
  quiescent_Gates, quiescent_GatesIdeal, quiescent_GatesIdeal_pre_lb_range, quiescent_GatesRefIdeal, quiescent_GatesRefIdeal_pre_lb_range,
  quiescent_Conv, quiescent_ConvIdeal, quiescent_ConvRefIdeal,
  (trivial : preserves_Ffn_FfnIdeal), algebraic_FfnIdeal_FfnRefIdeal,
  (trivial : preserves_InProj_InProjIdeal), algebraic_InProjIdeal_InProjRefIdeal,
  (trivial : preserves_OutTwo_OutTwoIdeal), algebraic_OutTwoIdeal_OutTwoRefIdeal,
  (trivial : preserves_OutOne_OutOneIdeal), algebraic_OutOneIdeal_OutOneRefIdeal,
  preserves_Hgrn_HgrnIdeal, algebraic_HgrnIdeal_HgrnRefIdeal_pre_finite_inputs,
  (trivial : preserves_Gates_GatesIdeal), algebraic_GatesIdeal_GatesRefIdeal_pre_lb_range,
  (trivial : preserves_Conv_ConvIdeal), algebraic_ConvIdeal_ConvRefIdeal⟩

end Cert.Proof

end
